-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v3) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_v8) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Kernel.lean ====
abbrev S8192x256 : Shape := ⟨2, ![8192, 256]⟩
abbrev S8192x1536 : Shape := ⟨2, ![8192, 1536]⟩
abbrev S128x256 : Shape := ⟨2, ![128, 256]⟩
abbrev S8192x512 : Shape := ⟨2, ![8192, 512]⟩
abbrev S128x128x256 : Shape := ⟨3, ![128, 128, 256]⟩
abbrev S512x256 : Shape := ⟨2, ![512, 256]⟩
abbrev S512x512 : Shape := ⟨2, ![512, 512]⟩
abbrev S8x256 : Shape := ⟨2, ![8, 256]⟩
abbrev S8x128x256 : Shape := ⟨3, ![8, 128, 256]⟩
abbrev S64x256 : Shape := ⟨2, ![64, 256]⟩
abbrev S64x512 : Shape := ⟨2, ![64, 512]⟩
abbrev S64x128 : Shape := ⟨2, ![64, 128]⟩
abbrev S64x64 : Shape := ⟨2, ![64, 64]⟩
abbrev S128x64 : Shape := ⟨2, ![128, 64]⟩
abbrev S1x256 : Shape := ⟨2, ![1, 256]⟩
abbrev S1x128x256 : Shape := ⟨3, ![1, 128, 256]⟩
abbrev S256 : Shape := ⟨1, ![256]⟩

abbrev nBuf : Space → Nat
  | .hbm => 11
  | .vmem => 36
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x1536, .bf16⟩
  | .hbm, ⟨3, _⟩ => ⟨S128x256, .f32⟩
  | .hbm, ⟨4, _⟩ => ⟨S8192x512, .f32⟩
  | .hbm, ⟨5, _⟩ => ⟨S8192x512, .f32⟩
  | .hbm, ⟨6, _⟩ => ⟨S128x128x256, .f32⟩
  | .hbm, ⟨7, _⟩ => ⟨S8192x256, .f32⟩
  | .hbm, ⟨8, _⟩ => ⟨S8192x256, .f32⟩
  | .hbm, ⟨9, _⟩ => ⟨S8192x512, .f32⟩
  | .hbm, ⟨10, _⟩ => ⟨S128x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S8x256, .f32⟩
  | .local _ .vmem, ⟨7, _⟩ => ⟨S8x256, .f32⟩
  | .local _ .vmem, ⟨8, _⟩ => ⟨S512x512, .f32⟩
  | .local _ .vmem, ⟨9, _⟩ => ⟨S512x512, .f32⟩
  | .local _ .vmem, ⟨10, _⟩ => ⟨S8x128x256, .f32⟩
  | .local _ .vmem, ⟨11, _⟩ => ⟨S8x128x256, .f32⟩
  | .local _ .vmem, ⟨12, _⟩ => ⟨S128x256, .f32⟩
  | .local _ .vmem, ⟨13, _⟩ => ⟨S512x512, .f32⟩
  | .local _ .vmem, ⟨14, _⟩ => ⟨S512x512, .f32⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x512, .bf16⟩
  | .local _ .vmem, ⟨20, _⟩ => ⟨S512x512, .bf16⟩
  | .local _ .vmem, ⟨21, _⟩ => ⟨S8x256, .f32⟩
  | .local _ .vmem, ⟨22, _⟩ => ⟨S8x256, .f32⟩
  | .local _ .vmem, ⟨23, _⟩ => ⟨S8x128x256, .f32⟩
  | .local _ .vmem, ⟨24, _⟩ => ⟨S8x128x256, .f32⟩
  | .local _ .vmem, ⟨25, _⟩ => ⟨S1x128x256, .f32⟩
  | .local _ .vmem, ⟨26, _⟩ => ⟨S1x128x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x512, .f32⟩
  | .local _ .vmem, ⟨32, _⟩ => ⟨S512x512, .f32⟩
  | .local _ .vmem, ⟨33, _⟩ => ⟨S8x256, .f32⟩
  | .local _ .vmem, ⟨34, _⟩ => ⟨S8x256, .f32⟩
  | .local _ .vmem, ⟨35, _⟩ => ⟨S128x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc1_transform_7 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S8192x256 : Shape := ⟨2, ![8192, 256]⟩
abbrev S8192x1536 : Shape := ⟨2, ![8192, 1536]⟩
abbrev S128x256 : Shape := ⟨2, ![128, 256]⟩
abbrev S8192x512 : Shape := ⟨2, ![8192, 512]⟩
abbrev S_ : Shape := ⟨0, ![]⟩
abbrev S4x64x128 : Shape := ⟨3, ![4, 64, 128]⟩
abbrev S128x64x4x64 : Shape := ⟨4, ![128, 64, 4, 64]⟩
abbrev S128x64x4x128 : Shape := ⟨4, ![128, 64, 4, 128]⟩
abbrev S128x4x64 : Shape := ⟨3, ![128, 4, 64]⟩
abbrev S128x4x64x128 : Shape := ⟨4, ![128, 4, 64, 128]⟩
abbrev S128x4x64x1 : Shape := ⟨4, ![128, 4, 64, 1]⟩
abbrev S1x64x4x64 : Shape := ⟨4, ![1, 64, 4, 64]⟩
abbrev S64x4x64 : Shape := ⟨3, ![64, 4, 64]⟩
abbrev S1x64x4x128 : Shape := ⟨4, ![1, 64, 4, 128]⟩
abbrev S64x4x128 : Shape := ⟨3, ![64, 4, 128]⟩
abbrev S1x4x64 : Shape := ⟨3, ![1, 4, 64]⟩
abbrev S4x64 : Shape := ⟨2, ![4, 64]⟩
abbrev S4x64x1 : Shape := ⟨3, ![4, 64, 1]⟩
abbrev S4x128x64 : Shape := ⟨3, ![4, 128, 64]⟩
abbrev S1x4x64x128 : Shape := ⟨4, ![1, 4, 64, 128]⟩
abbrev S1x4x64x1 : Shape := ⟨4, ![1, 4, 64, 1]⟩
abbrev S4x64x64 : Shape := ⟨3, ![4, 64, 64]⟩

abbrev nBuf : Space → Nat
  | .hbm => 196
  | .vmem => 0
  | .smem => 0
  | _ => 0

abbrev hbmTy0_0 (i : Nat) : BufTy := match i % 128 with
  | 0 => ⟨S8192x256, .bf16⟩
  | 1 => ⟨S8192x256, .bf16⟩
  | 2 => ⟨S8192x1536, .bf16⟩
  | 3 => ⟨S128x256, .f32⟩
  | 4 => ⟨S8192x512, .f32⟩
  | 5 => ⟨S8192x512, .bf16⟩
  | 6 => ⟨S8192x256, .f32⟩
  | 7 => ⟨S8192x256, .f32⟩
  | 8 => ⟨S8192x512, .f32⟩
  | 9 => ⟨S_, .f32⟩
  | 10 => ⟨S4x64x128, .f32⟩
  | 11 => ⟨S128x64x4x64, .f32⟩
  | 12 => ⟨S128x64x4x64, .f32⟩
  | 13 => ⟨S128x64x4x128, .f32⟩
  | 14 => ⟨S128x4x64, .f32⟩
  | 15 => ⟨S_, .f32⟩
  | 16 => ⟨S128x64x4x128, .f32⟩
  | 17 => ⟨S_, .f32⟩
  | 18 => ⟨S128x4x64x128, .f32⟩
  | 19 => ⟨S_, .f32⟩
  | 20 => ⟨S128x4x64x1, .f32⟩
  | 21 => ⟨S_, .f32⟩
  | 22 => ⟨S128x4x64x128, .f32⟩
  | 23 => ⟨S_, .i32⟩
  | 24 => ⟨S128x64x4x64, .f32⟩
  | 25 => ⟨S128x64x4x64, .f32⟩
  | 26 => ⟨S128x64x4x128, .f32⟩
  | 27 => ⟨S128x4x64, .f32⟩
  | 28 => ⟨S_, .i32⟩
  | 29 => ⟨S4x64x128, .f32⟩
  | 30 => ⟨S128x64x4x128, .f32⟩
  | 31 => ⟨S128x4x64x128, .f32⟩
  | 32 => ⟨S128x4x64x1, .f32⟩
  | 33 => ⟨S128x4x64x128, .f32⟩
  | 34 => ⟨S_, .i32⟩
  | 35 => ⟨S_, .i1⟩
  | 36 => ⟨S_, .i32⟩
  | 37 => ⟨S_, .i32⟩
  | 38 => ⟨S_, .i32⟩
  | 39 => ⟨S1x64x4x64, .f32⟩
  | 40 => ⟨S64x4x64, .f32⟩
  | 41 => ⟨S_, .i32⟩
  | 42 => ⟨S_, .i32⟩
  | 43 => ⟨S_, .i32⟩
  | 44 => ⟨S1x64x4x64, .f32⟩
  | 45 => ⟨S64x4x64, .f32⟩
  | 46 => ⟨S_, .i32⟩
  | 47 => ⟨S_, .i32⟩
  | 48 => ⟨S_, .i32⟩
  | 49 => ⟨S1x64x4x128, .f32⟩
  | 50 => ⟨S64x4x128, .f32⟩
  | 51 => ⟨S_, .i32⟩
  | 52 => ⟨S_, .i32⟩
  | 53 => ⟨S1x4x64, .f32⟩
  | 54 => ⟨S4x64, .f32⟩
  | 55 => ⟨S4x64x1, .f32⟩
  | 56 => ⟨S4x64x128, .f32⟩
  | 57 => ⟨S4x64x128, .f32⟩
  | 58 => ⟨S4x64x128, .f32⟩
  | 59 => ⟨S4x64x128, .f32⟩
  | 60 => ⟨S4x128x64, .f32⟩
  | 61 => ⟨S64x4x128, .f32⟩
  | 62 => ⟨S1x64x4x128, .f32⟩
  | 63 => ⟨S_, .i32⟩
  | 64 => ⟨S_, .i32⟩
  | 65 => ⟨S_, .i32⟩
  | 66 => ⟨S128x64x4x128, .f32⟩
  | 67 => ⟨S1x4x64x128, .f32⟩
  | 68 => ⟨S_, .i32⟩
  | 69 => ⟨S_, .i32⟩
  | 70 => ⟨S_, .i32⟩
  | 71 => ⟨S128x4x64x128, .f32⟩
  | 72 => ⟨S1x4x64x1, .f32⟩
  | 73 => ⟨S_, .i32⟩
  | 74 => ⟨S_, .i32⟩
  | 75 => ⟨S_, .i32⟩
  | 76 => ⟨S128x4x64x1, .f32⟩
  | 77 => ⟨S1x4x64x128, .f32⟩
  | 78 => ⟨S_, .i32⟩
  | 79 => ⟨S_, .i32⟩
  | 80 => ⟨S_, .i32⟩
  | 81 => ⟨S128x4x64x128, .f32⟩
  | 82 => ⟨S_, .i32⟩
  | 83 => ⟨S_, .i32⟩
  | 84 => ⟨S8192x512, .f32⟩
  | 85 => ⟨S_, .f32⟩
  | 86 => ⟨S4x64x128, .f32⟩
  | 87 => ⟨S128x64x4x128, .f32⟩
  | 88 => ⟨S_, .f32⟩
  | 89 => ⟨S4x64x128, .f32⟩
  | 90 => ⟨S_, .f32⟩
  | 91 => ⟨S128x64x4x64, .f32⟩
  | 92 => ⟨S_, .f32⟩
  | 93 => ⟨S128x64x4x64, .f32⟩
  | 94 => ⟨S_, .f32⟩
  | 95 => ⟨S128x64x4x128, .f32⟩
  | 96 => ⟨S_, .f32⟩
  | 97 => ⟨S128x4x64, .f32⟩
  | 98 => ⟨S_, .i32⟩
  | 99 => ⟨S128x64x4x128, .f32⟩
  | 100 => ⟨S128x4x64x128, .f32⟩
  | 101 => ⟨S128x4x64x1, .f32⟩
  | 102 => ⟨S128x64x4x128, .f32⟩
  | 103 => ⟨S128x64x4x64, .f32⟩
  | 104 => ⟨S128x64x4x64, .f32⟩
  | 105 => ⟨S128x4x64x128, .f32⟩
  | 106 => ⟨S_, .i32⟩
  | 107 => ⟨S4x64x128, .f32⟩
  | 108 => ⟨S128x64x4x64, .f32⟩
  | 109 => ⟨S128x64x4x64, .f32⟩
  | 110 => ⟨S128x64x4x128, .f32⟩
  | 111 => ⟨S128x4x64, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S1x64x4x128, .f32⟩
  | 122 => ⟨S64x4x128, .f32⟩
  | 123 => ⟨S_, .i32⟩
  | 124 => ⟨S_, .i32⟩
  | 125 => ⟨S_, .i32⟩
  | 126 => ⟨S1x4x64x128, .f32⟩
  | 127 => ⟨S4x64x128, .f32⟩
  | _ => ⟨S8192x256, .bf16⟩

abbrev hbmTy0_1 (i : Nat) : BufTy := match i % 128 with
  | 0 => ⟨S_, .i32⟩
  | 1 => ⟨S_, .i32⟩
  | 2 => ⟨S_, .i32⟩
  | 3 => ⟨S1x4x64x1, .f32⟩
  | 4 => ⟨S4x64x1, .f32⟩
  | 5 => ⟨S_, .i32⟩
  | 6 => ⟨S_, .i32⟩
  | 7 => ⟨S_, .i32⟩
  | 8 => ⟨S1x64x4x128, .f32⟩
  | 9 => ⟨S64x4x128, .f32⟩
  | 10 => ⟨S_, .i32⟩
  | 11 => ⟨S_, .i32⟩
  | 12 => ⟨S_, .i32⟩
  | 13 => ⟨S1x64x4x64, .f32⟩
  | 14 => ⟨S64x4x64, .f32⟩
  | 15 => ⟨S_, .i32⟩
  | 16 => ⟨S_, .i32⟩
  | 17 => ⟨S_, .i32⟩
  | 18 => ⟨S1x64x4x64, .f32⟩
  | 19 => ⟨S64x4x64, .f32⟩
  | 20 => ⟨S_, .i32⟩
  | 21 => ⟨S_, .i32⟩
  | 22 => ⟨S_, .i32⟩
  | 23 => ⟨S1x4x64x128, .f32⟩
  | 24 => ⟨S4x64x128, .f32⟩
  | 25 => ⟨S4x128x64, .f32⟩
  | 26 => ⟨S4x64x64, .f32⟩
  | 27 => ⟨S64x4x64, .f32⟩
  | 28 => ⟨S4x128x64, .f32⟩
  | 29 => ⟨S4x64x128, .f32⟩
  | 30 => ⟨S4x64x128, .f32⟩
  | 31 => ⟨S4x128x64, .f32⟩
  | 32 => ⟨S64x4x128, .f32⟩
  | 33 => ⟨S4x64x64, .f32⟩
  | 34 => ⟨S64x4x64, .f32⟩
  | 35 => ⟨S4x64x128, .f32⟩
  | 36 => ⟨S4x64x128, .f32⟩
  | 37 => ⟨S4x64x128, .f32⟩
  | 38 => ⟨S_, .f32⟩
  | 39 => ⟨S4x64, .f32⟩
  | 40 => ⟨S4x64x1, .f32⟩
  | 41 => ⟨S_, .f32⟩
  | 42 => ⟨S4x64, .f32⟩
  | 43 => ⟨S1x64x4x64, .f32⟩
  | 44 => ⟨S_, .i32⟩
  | 45 => ⟨S_, .i32⟩
  | 46 => ⟨S_, .i32⟩
  | 47 => ⟨S128x64x4x64, .f32⟩
  | 48 => ⟨S1x64x4x64, .f32⟩
  | 49 => ⟨S_, .i32⟩
  | 50 => ⟨S_, .i32⟩
  | 51 => ⟨S_, .i32⟩
  | 52 => ⟨S128x64x4x64, .f32⟩
  | 53 => ⟨S1x64x4x128, .f32⟩
  | 54 => ⟨S_, .i32⟩
  | 55 => ⟨S_, .i32⟩
  | 56 => ⟨S_, .i32⟩
  | 57 => ⟨S128x64x4x128, .f32⟩
  | 58 => ⟨S1x4x64, .f32⟩
  | 59 => ⟨S_, .i32⟩
  | 60 => ⟨S_, .i32⟩
  | 61 => ⟨S128x4x64, .f32⟩
  | 62 => ⟨S_, .i32⟩
  | 63 => ⟨S_, .i32⟩
  | 64 => ⟨S128x256, .f32⟩
  | 65 => ⟨S8192x512, .f32⟩
  | 66 => ⟨S8192x256, .f32⟩
  | 67 => ⟨S8192x256, .f32⟩
  | _ => ⟨S8192x256, .bf16⟩

abbrev hbmTy (i : Nat) : BufTy := match i / 128 with
  | 0 => hbmTy0_0 i
  | 1 => hbmTy0_1 i
  | _ => ⟨S8192x256, .bf16⟩

abbrev bufTy : (tb : Table) → Fin (tcTables nBuf tb) → BufTy
  | .hbm, ⟨i, _⟩ => hbmTy i
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_c : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev main_v13_7 : Ref sig .tc := ⟨.hbm, 31, rfl⟩
abbrev main_v13_8 : Ref sig .tc := ⟨.hbm, 32, rfl⟩
abbrev main_v13_9 : Ref sig .tc := ⟨.hbm, 33, rfl⟩
abbrev main_while0c_c_20 : Ref sig .tc := ⟨.hbm, 34, rfl⟩
abbrev main_while0c_v27 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_v0 : Ref sig .tc := ⟨.hbm, 39, rfl⟩
abbrev main_while0b_v27 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v28 : Ref sig .tc := ⟨.hbm, 45, rfl⟩
abbrev main_while0b_call2_c : Ref sig .tc := ⟨.hbm, 46, rfl⟩
abbrev main_while0b_call2_c_0 : Ref sig .tc := ⟨.hbm, 47, rfl⟩
abbrev main_while0b_call2_c_1 : Ref sig .tc := ⟨.hbm, 48, rfl⟩
abbrev main_while0b_call2_v0 : Ref sig .tc := ⟨.hbm, 49, rfl⟩
abbrev main_while0b_v29 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_v0 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_v33 : Ref sig .tc := ⟨.hbm, 57, rfl⟩
abbrev main_while0b_v34 : Ref sig .tc := ⟨.hbm, 58, rfl⟩
abbrev main_while0b_v35 : Ref sig .tc := ⟨.hbm, 59, rfl⟩
abbrev main_while0b_v36 : Ref sig .tc := ⟨.hbm, 60, rfl⟩
abbrev main_while0b_v37 : Ref sig .tc := ⟨.hbm, 61, rfl⟩
abbrev main_while0b_call4_v0 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_v38 : Ref sig .tc := ⟨.hbm, 66, rfl⟩
abbrev main_while0b_call5_v0 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_c_1 : Ref sig .tc := ⟨.hbm, 70, rfl⟩
abbrev main_while0b_v39 : Ref sig .tc := ⟨.hbm, 71, rfl⟩
abbrev main_while0b_call6_v0 : Ref sig .tc := ⟨.hbm, 72, rfl⟩
abbrev main_while0b_call6_c : Ref sig .tc := ⟨.hbm, 73, rfl⟩
abbrev main_while0b_call6_c_0 : Ref sig .tc := ⟨.hbm, 74, rfl⟩
abbrev main_while0b_call6_c_1 : Ref sig .tc := ⟨.hbm, 75, rfl⟩
abbrev main_while0b_v40 : Ref sig .tc := ⟨.hbm, 76, rfl⟩
abbrev main_while0b_call7_v0 : Ref sig .tc := ⟨.hbm, 77, rfl⟩
abbrev main_while0b_call7_c : Ref sig .tc := ⟨.hbm, 78, rfl⟩
abbrev main_while0b_call7_c_0 : Ref sig .tc := ⟨.hbm, 79, rfl⟩
abbrev main_while0b_call7_c_1 : Ref sig .tc := ⟨.hbm, 80, rfl⟩
abbrev main_while0b_v41 : Ref sig .tc := ⟨.hbm, 81, rfl⟩
abbrev main_while0b_c_20 : Ref sig .tc := ⟨.hbm, 82, rfl⟩
abbrev main_while0b_v42 : Ref sig .tc := ⟨.hbm, 83, rfl⟩
abbrev main_v14 : Ref sig .tc := ⟨.hbm, 84, rfl⟩
abbrev main_cst_4 : Ref sig .tc := ⟨.hbm, 85, rfl⟩
abbrev main_v15 : Ref sig .tc := ⟨.hbm, 86, rfl⟩
abbrev main_v16 : Ref sig .tc := ⟨.hbm, 87, rfl⟩
abbrev main_cst_5 : Ref sig .tc := ⟨.hbm, 88, rfl⟩
abbrev main_v17 : Ref sig .tc := ⟨.hbm, 89, rfl⟩
abbrev main_cst_6 : Ref sig .tc := ⟨.hbm, 90, rfl⟩
abbrev main_v18 : Ref sig .tc := ⟨.hbm, 91, rfl⟩
abbrev main_cst_7 : Ref sig .tc := ⟨.hbm, 92, rfl⟩
abbrev main_v19 : Ref sig .tc := ⟨.hbm, 93, rfl⟩
abbrev main_cst_8 : Ref sig .tc := ⟨.hbm, 94, rfl⟩
abbrev main_v20 : Ref sig .tc := ⟨.hbm, 95, rfl⟩
abbrev main_cst_9 : Ref sig .tc := ⟨.hbm, 96, rfl⟩
abbrev main_v21 : Ref sig .tc := ⟨.hbm, 97, rfl⟩
abbrev main_c_10 : Ref sig .tc := ⟨.hbm, 98, rfl⟩
abbrev main_v22_0 : Ref sig .tc := ⟨.hbm, 99, rfl⟩
abbrev main_v22_1 : Ref sig .tc := ⟨.hbm, 100, rfl⟩
abbrev main_v22_2 : Ref sig .tc := ⟨.hbm, 101, rfl⟩
abbrev main_v22_3 : Ref sig .tc := ⟨.hbm, 102, rfl⟩
abbrev main_v22_4 : Ref sig .tc := ⟨.hbm, 103, rfl⟩
abbrev main_v22_5 : Ref sig .tc := ⟨.hbm, 104, rfl⟩
abbrev main_v22_6 : Ref sig .tc := ⟨.hbm, 105, rfl⟩
abbrev main_v22_7 : Ref sig .tc := ⟨.hbm, 106, rfl⟩
abbrev main_v22_8 : Ref sig .tc := ⟨.hbm, 107, rfl⟩
abbrev main_v22_9 : Ref sig .tc := ⟨.hbm, 108, rfl⟩
abbrev main_v22_10 : Ref sig .tc := ⟨.hbm, 109, rfl⟩
abbrev main_v22_11 : Ref sig .tc := ⟨.hbm, 110, rfl⟩
abbrev main_v22_12 : Ref sig .tc := ⟨.hbm, 111, rfl⟩
abbrev main_while1c_c_23 : Ref sig .tc := ⟨.hbm, 112, rfl⟩
abbrev main_while1c_v27 : Ref sig .tc := ⟨.hbm, 113, rfl⟩
abbrev main_while1b_c_23 : Ref sig .tc := ⟨.hbm, 114, rfl⟩
abbrev main_while1b_v27 : Ref sig .tc := ⟨.hbm, 115, rfl⟩
abbrev main_while1b_c_24 : Ref sig .tc := ⟨.hbm, 116, rfl⟩
abbrev main_while1b_v28 : Ref sig .tc := ⟨.hbm, 117, rfl⟩
abbrev main_while1b_call8_c : Ref sig .tc := ⟨.hbm, 118, rfl⟩
abbrev main_while1b_call8_c_0 : Ref sig .tc := ⟨.hbm, 119, rfl⟩
abbrev main_while1b_call8_c_1 : Ref sig .tc := ⟨.hbm, 120, rfl⟩
abbrev main_while1b_call8_v0 : Ref sig .tc := ⟨.hbm, 121, rfl⟩
abbrev main_while1b_v29 : Ref sig .tc := ⟨.hbm, 122, rfl⟩
abbrev main_while1b_call9_c : Ref sig .tc := ⟨.hbm, 123, rfl⟩
abbrev main_while1b_call9_c_0 : Ref sig .tc := ⟨.hbm, 124, rfl⟩
abbrev main_while1b_call9_c_1 : Ref sig .tc := ⟨.hbm, 125, rfl⟩
abbrev main_while1b_call9_v0 : Ref sig .tc := ⟨.hbm, 126, rfl⟩
abbrev main_while1b_v30 : Ref sig .tc := ⟨.hbm, 127, rfl⟩
abbrev main_while1b_call10_c : Ref sig .tc := ⟨.hbm, 128, rfl⟩
abbrev main_while1b_call10_c_0 : Ref sig .tc := ⟨.hbm, 129, rfl⟩
abbrev main_while1b_call10_c_1 : Ref sig .tc := ⟨.hbm, 130, rfl⟩
abbrev main_while1b_call10_v0 : Ref sig .tc := ⟨.hbm, 131, rfl⟩
abbrev main_while1b_v31 : Ref sig .tc := ⟨.hbm, 132, rfl⟩
abbrev main_while1b_call11_c : Ref sig .tc := ⟨.hbm, 133, rfl⟩
abbrev main_while1b_call11_c_0 : Ref sig .tc := ⟨.hbm, 134, rfl⟩
abbrev main_while1b_call11_c_1 : Ref sig .tc := ⟨.hbm, 135, rfl⟩
abbrev main_while1b_call11_v0 : Ref sig .tc := ⟨.hbm, 136, rfl⟩
abbrev main_while1b_v32 : Ref sig .tc := ⟨.hbm, 137, rfl⟩
abbrev main_while1b_call12_c : Ref sig .tc := ⟨.hbm, 138, rfl⟩
abbrev main_while1b_call12_c_0 : Ref sig .tc := ⟨.hbm, 139, rfl⟩
abbrev main_while1b_call12_c_1 : Ref sig .tc := ⟨.hbm, 140, rfl⟩
abbrev main_while1b_call12_v0 : Ref sig .tc := ⟨.hbm, 141, rfl⟩
abbrev main_while1b_v33 : Ref sig .tc := ⟨.hbm, 142, rfl⟩
abbrev main_while1b_call13_c : Ref sig .tc := ⟨.hbm, 143, rfl⟩
abbrev main_while1b_call13_c_0 : Ref sig .tc := ⟨.hbm, 144, rfl⟩
abbrev main_while1b_call13_c_1 : Ref sig .tc := ⟨.hbm, 145, rfl⟩
abbrev main_while1b_call13_v0 : Ref sig .tc := ⟨.hbm, 146, rfl⟩
abbrev main_while1b_v34 : Ref sig .tc := ⟨.hbm, 147, rfl⟩
abbrev main_while1b_call14_c : Ref sig .tc := ⟨.hbm, 148, rfl⟩
abbrev main_while1b_call14_c_0 : Ref sig .tc := ⟨.hbm, 149, rfl⟩
abbrev main_while1b_call14_c_1 : Ref sig .tc := ⟨.hbm, 150, rfl⟩
abbrev main_while1b_call14_v0 : Ref sig .tc := ⟨.hbm, 151, rfl⟩
abbrev main_while1b_v35 : Ref sig .tc := ⟨.hbm, 152, rfl⟩
abbrev main_while1b_v36 : Ref sig .tc := ⟨.hbm, 153, rfl⟩
abbrev main_while1b_v37 : Ref sig .tc := ⟨.hbm, 154, rfl⟩
abbrev main_while1b_v38 : Ref sig .tc := ⟨.hbm, 155, rfl⟩
abbrev main_while1b_v39 : Ref sig .tc := ⟨.hbm, 156, rfl⟩
abbrev main_while1b_v40 : Ref sig .tc := ⟨.hbm, 157, rfl⟩
abbrev main_while1b_v41 : Ref sig .tc := ⟨.hbm, 158, rfl⟩
abbrev main_while1b_v42 : Ref sig .tc := ⟨.hbm, 159, rfl⟩
abbrev main_while1b_v43 : Ref sig .tc := ⟨.hbm, 160, rfl⟩
abbrev main_while1b_v44 : Ref sig .tc := ⟨.hbm, 161, rfl⟩
abbrev main_while1b_v45 : Ref sig .tc := ⟨.hbm, 162, rfl⟩
abbrev main_while1b_v46 : Ref sig .tc := ⟨.hbm, 163, rfl⟩
abbrev main_while1b_v47 : Ref sig .tc := ⟨.hbm, 164, rfl⟩
abbrev main_while1b_v48 : Ref sig .tc := ⟨.hbm, 165, rfl⟩
abbrev main_while1b_cst_25 : Ref sig .tc := ⟨.hbm, 166, rfl⟩
abbrev main_while1b_v49 : Ref sig .tc := ⟨.hbm, 167, rfl⟩
abbrev main_while1b_v50 : Ref sig .tc := ⟨.hbm, 168, rfl⟩
abbrev main_while1b_cst_26 : Ref sig .tc := ⟨.hbm, 169, rfl⟩
abbrev main_while1b_v51 : Ref sig .tc := ⟨.hbm, 170, rfl⟩
abbrev main_while1b_call15_v0 : Ref sig .tc := ⟨.hbm, 171, rfl⟩
abbrev main_while1b_call15_c : Ref sig .tc := ⟨.hbm, 172, rfl⟩
abbrev main_while1b_call15_c_0 : Ref sig .tc := ⟨.hbm, 173, rfl⟩
abbrev main_while1b_call15_c_1 : Ref sig .tc := ⟨.hbm, 174, rfl⟩
abbrev main_while1b_v52 : Ref sig .tc := ⟨.hbm, 175, rfl⟩
abbrev main_while1b_call16_v0 : Ref sig .tc := ⟨.hbm, 176, rfl⟩
abbrev main_while1b_call16_c : Ref sig .tc := ⟨.hbm, 177, rfl⟩
abbrev main_while1b_call16_c_0 : Ref sig .tc := ⟨.hbm, 178, rfl⟩
abbrev main_while1b_call16_c_1 : Ref sig .tc := ⟨.hbm, 179, rfl⟩
abbrev main_while1b_v53 : Ref sig .tc := ⟨.hbm, 180, rfl⟩
abbrev main_while1b_call17_v0 : Ref sig .tc := ⟨.hbm, 181, rfl⟩
abbrev main_while1b_call17_c : Ref sig .tc := ⟨.hbm, 182, rfl⟩
abbrev main_while1b_call17_c_0 : Ref sig .tc := ⟨.hbm, 183, rfl⟩
abbrev main_while1b_call17_c_1 : Ref sig .tc := ⟨.hbm, 184, rfl⟩
abbrev main_while1b_v54 : Ref sig .tc := ⟨.hbm, 185, rfl⟩
abbrev main_while1b_call18_v0 : Ref sig .tc := ⟨.hbm, 186, rfl⟩
abbrev main_while1b_call18_c : Ref sig .tc := ⟨.hbm, 187, rfl⟩
abbrev main_while1b_call18_c_0 : Ref sig .tc := ⟨.hbm, 188, rfl⟩
abbrev main_while1b_v55 : Ref sig .tc := ⟨.hbm, 189, rfl⟩
abbrev main_while1b_c_27 : Ref sig .tc := ⟨.hbm, 190, rfl⟩
abbrev main_while1b_v56 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x1024 : Shape := ⟨2, ![8192, 1024]⟩
abbrev S4x6x4x704x1024 : Shape := ⟨5, ![4, 6, 4, 704, 1024]⟩
abbrev S2x4x8192x704 : Shape := ⟨4, ![2, 4, 8192, 704]⟩
abbrev S1024x1024 : Shape := ⟨2, ![1024, 1024]⟩
abbrev S1x1x1x704x1024 : Shape := ⟨5, ![1, 1, 1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x6x4x704x1024, .bf16⟩
  | .hbm, ⟨2, _⟩ => ⟨S2x4x8192x704, .bf16⟩
  | .hbm, ⟨3, _⟩ => ⟨S2x4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1x704x1024, .bf16⟩
  | .local _ .vmem, ⟨3, _⟩ => ⟨S1x1x1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  let c0_i32_2 : BitVec 32 := 0#32
  ![arg1.toNat, c4_i32.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x1024 : Shape := ⟨2, ![8192, 1024]⟩
abbrev S4x6x4x704x1024 : Shape := ⟨5, ![4, 6, 4, 704, 1024]⟩
abbrev S2x4x8192x704 : Shape := ⟨4, ![2, 4, 8192, 704]⟩
abbrev S1x4x8192x704 : Shape := ⟨4, ![1, 4, 8192, 704]⟩
abbrev S4x8192x704 : Shape := ⟨3, ![4, 8192, 704]⟩
abbrev S8192x4x704 : Shape := ⟨3, ![8192, 4, 704]⟩
abbrev S8192x2816 : Shape := ⟨2, ![8192, 2816]⟩
abbrev S4x1x1x704x1024 : Shape := ⟨5, ![4, 1, 1, 704, 1024]⟩
abbrev S4x704x1024 : Shape := ⟨3, ![4, 704, 1024]⟩
abbrev S2816x1024 : Shape := ⟨2, ![2816, 1024]⟩
abbrev S_ : Shape := ⟨0, ![]⟩
abbrev S1x8192x2816 : Shape := ⟨3, ![1, 8192, 2816]⟩
abbrev S2x8192x2816 : Shape := ⟨3, ![2, 8192, 2816]⟩
abbrev S2x8192x4x704 : Shape := ⟨4, ![2, 8192, 4, 704]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x6x4x704x1024, .bf16⟩
  | .hbm, ⟨2, _⟩ => ⟨S2x4x8192x704, .bf16⟩
  | .hbm, ⟨3, _⟩ => ⟨S1x4x8192x704, .bf16⟩
  | .hbm, ⟨4, _⟩ => ⟨S4x8192x704, .bf16⟩
  | .hbm, ⟨5, _⟩ => ⟨S1x4x8192x704, .bf16⟩
  | .hbm, ⟨6, _⟩ => ⟨S4x8192x704, .bf16⟩
  | .hbm, ⟨7, _⟩ => ⟨S8192x4x704, .bf16⟩
  | .hbm, ⟨8, _⟩ => ⟨S8192x2816, .bf16⟩
  | .hbm, ⟨9, _⟩ => ⟨S8192x2816, .f32⟩
  | .hbm, ⟨10, _⟩ => ⟨S8192x4x704, .bf16⟩
  | .hbm, ⟨11, _⟩ => ⟨S8192x2816, .bf16⟩
  | .hbm, ⟨12, _⟩ => ⟨S8192x2816, .f32⟩
  | .hbm, ⟨13, _⟩ => ⟨S4x1x1x704x1024, .bf16⟩
  | .hbm, ⟨14, _⟩ => ⟨S4x704x1024, .bf16⟩
  | .hbm, ⟨15, _⟩ => ⟨S4x704x1024, .f32⟩
  | .hbm, ⟨16, _⟩ => ⟨S2816x1024, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x1024, .f32⟩
  | .hbm, ⟨32, _⟩ => ⟨S8192x1024, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S1x8192x2816, .f32⟩
  | .hbm, ⟨41, _⟩ => ⟨S1x8192x2816, .f32⟩
  | .hbm, ⟨42, _⟩ => ⟨S2x8192x2816, .f32⟩
  | .hbm, ⟨43, _⟩ => ⟨S2x8192x4x704, .f32⟩
  | .hbm, ⟨44, _⟩ => ⟨S2x4x8192x704, .f32⟩
  | .hbm, ⟨45, _⟩ => ⟨S2x4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v14_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v14_1 : Ref sig .tc := ⟨.hbm, 28, rfl⟩
abbrev main_v14_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel3.lean ====
abbrev S2x4x8192x704 : Shape := ⟨4, ![2, 4, 8192, 704]⟩
abbrev S8192x1024 : Shape := ⟨2, ![8192, 1024]⟩
abbrev S4x6x4x704x1024 : Shape := ⟨5, ![4, 6, 4, 704, 1024]⟩
abbrev S2x1x1024x704 : Shape := ⟨4, ![2, 1, 1024, 704]⟩
abbrev S1024x1024 : Shape := ⟨2, ![1024, 1024]⟩
abbrev S1x1x1x704x1024 : Shape := ⟨5, ![1, 1, 1, 704, 1024]⟩
abbrev S704x1024 : Shape := ⟨2, ![704, 1024]⟩
abbrev S1x1x1024x704 : Shape := ⟨4, ![1, 1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S2x4x8192x704, .bf16⟩
  | .hbm, ⟨1, _⟩ => ⟨S8192x1024, .bf16⟩
  | .hbm, ⟨2, _⟩ => ⟨S4x6x4x704x1024, .f32⟩
  | .hbm, ⟨3, _⟩ => ⟨S4x6x4x704x1024, .f32⟩
  | .local _ .vmem, ⟨0, _⟩ => ⟨S2x1x1024x704, .bf16⟩
  | .local _ .vmem, ⟨1, _⟩ => ⟨S2x1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1x704x1024, .f32⟩
  | .local _ .vmem, ⟨5, _⟩ => ⟨S1x1x1x704x1024, .f32⟩
  | .local _ .vmem, ⟨6, _⟩ => ⟨S704x1024, .f32⟩
  | _, _ => ⟨S2x4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_14 : BitVec 32 := 0#32
  let v26 : BitVec 1 := Scalar.cmpi .ne v25 c0_i32_14
  v26

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32_10 : BitVec 32 := 4#32
  let v27 : BitVec 32 := Scalar.addi c4_i32_10 v26
  let c0_i32_11 : BitVec 32 := 0#32
  let c0_i32_12 : BitVec 32 := 0#32
  let c0_i32_13 : BitVec 32 := 0#32
  let c0_i32_14 : BitVec 32 := 0#32
  ![v9.toNat, v27.toNat, c0_i32_11.toNat, c0_i32_12.toNat, c0_i32_13.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2x4x8192x704 : Shape := ⟨4, ![2, 4, 8192, 704]⟩
abbrev S8192x1024 : Shape := ⟨2, ![8192, 1024]⟩
abbrev S4x6x4x704x1024 : Shape := ⟨5, ![4, 6, 4, 704, 1024]⟩
abbrev S1x4x8192x704 : Shape := ⟨4, ![1, 4, 8192, 704]⟩
abbrev S4x8192x704 : Shape := ⟨3, ![4, 8192, 704]⟩
abbrev S8192x4x704 : Shape := ⟨3, ![8192, 4, 704]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩
abbrev S4x1x704x1024 : Shape := ⟨4, ![4, 1, 704, 1024]⟩
abbrev S4x1x1x704x1024 : Shape := ⟨5, ![4, 1, 1, 704, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x4x8192x704, .bf16⟩
  | .hbm, ⟨1, _⟩ => ⟨S8192x1024, .bf16⟩
  | .hbm, ⟨2, _⟩ => ⟨S4x6x4x704x1024, .f32⟩
  | .hbm, ⟨3, _⟩ => ⟨S1x4x8192x704, .bf16⟩
  | .hbm, ⟨4, _⟩ => ⟨S4x8192x704, .bf16⟩
  | .hbm, ⟨5, _⟩ => ⟨S1x4x8192x704, .bf16⟩
  | .hbm, ⟨6, _⟩ => ⟨S4x8192x704, .bf16⟩
  | .hbm, ⟨7, _⟩ => ⟨S8192x4x704, .bf16⟩
  | .hbm, ⟨8, _⟩ => ⟨S8192x2816, .bf16⟩
  | .hbm, ⟨9, _⟩ => ⟨S8192x2816, .f32⟩
  | .hbm, ⟨10, _⟩ => ⟨S8192x4x704, .bf16⟩
  | .hbm, ⟨11, _⟩ => ⟨S8192x2816, .bf16⟩
  | .hbm, ⟨12, _⟩ => ⟨S8192x2816, .f32⟩
  | .hbm, ⟨13, _⟩ => ⟨S_, .f32⟩
  | .hbm, ⟨14, _⟩ => ⟨S2816x1024, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S8192x1024, .f32⟩
  | .hbm, ⟨27, _⟩ => ⟨S1024x2816, .f32⟩
  | .hbm, ⟨28, _⟩ => ⟨S2816x1024, .f32⟩
  | .hbm, ⟨29, _⟩ => ⟨S4x704x1024, .f32⟩
  | .hbm, ⟨30, _⟩ => ⟨S4x1x704x1024, .f32⟩
  | .hbm, ⟨31, _⟩ => ⟨S4x1x1x704x1024, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4x6x4x704x1024, .f32⟩
  | _, _ => ⟨S2x4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_c_0 : Ref sig .tc := ⟨.hbm, 33, rfl⟩
abbrev main_c_1 : Ref sig .tc := ⟨.hbm, 34, rfl⟩
abbrev main_c_2 : Ref sig .tc := ⟨.hbm, 35, rfl⟩
abbrev main_c_3 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel4.lean ====
abbrev S8x8192x704 : Shape := ⟨3, ![8, 8192, 704]⟩
abbrev S4x6x4x704x1024 : Shape := ⟨5, ![4, 6, 4, 704, 1024]⟩
abbrev S8192x1024 : Shape := ⟨2, ![8192, 1024]⟩
abbrev S1x1024 : Shape := ⟨2, ![1, 1024]⟩
abbrev S1x1024x704 : Shape := ⟨3, ![1, 1024, 704]⟩
abbrev S1x1x1x704x1024 : Shape := ⟨5, ![1, 1, 1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8x8192x704, .bf16⟩
  | .hbm, ⟨1, _⟩ => ⟨S4x6x4x704x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x1x704x1024, .bf16⟩
  | .local _ .vmem, ⟨3, _⟩ => ⟨S1x1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_10 : BitVec 32 := 0#32
  let v13 : BitVec 1 := Scalar.cmpi .ne v12 c0_i32_10
  v13

def k0_cond4 (i : grid0.Coords) : BitVec 1 :=
  let arg0 : BitVec 32 := BitVec.ofNat 32 (i 0).val
  let c0_i32_29 : BitVec 32 := 0#32
  let v53 : BitVec 1 := Scalar.cmpi .eq arg0 c0_i32_29
  let v54 : BitVec 32 := Scalar.extui v53
  let c0_i32_30 : BitVec 32 := 0#32
  let v55 : BitVec 1 := Scalar.cmpi .ne v54 c0_i32_30
  v55

def k0_cond5 (i : grid0.Coords) : BitVec 1 :=
  let arg0 : BitVec 32 := BitVec.ofNat 32 (i 0).val
  let c0_i32_31 : BitVec 32 := 0#32
  let v56 : BitVec 1 := Scalar.cmpi .sgt arg0 c0_i32_31
  let v57 : BitVec 32 := Scalar.extui v56
  let c0_i32_32 : BitVec 32 := 0#32
  let v58 : BitVec 1 := Scalar.cmpi .ne v57 c0_i32_32
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  let c0_i32_12 : BitVec 32 := 0#32
  let c0_i32_13 : BitVec 32 := 0#32
  let c0_i32_14 : BitVec 32 := 0#32
  ![v9.toNat, v27.toNat, c0_i32_11.toNat, c0_i32_12.toNat, c0_i32_13.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference4Ideal.lean ====
abbrev S8x8192x704 : Shape := ⟨3, ![8, 8192, 704]⟩
abbrev S4x6x4x704x1024 : Shape := ⟨5, ![4, 6, 4, 704, 1024]⟩
abbrev S8192x1024 : Shape := ⟨2, ![8192, 1024]⟩
abbrev S1x1024 : Shape := ⟨2, ![1, 1024]⟩
abbrev S4x8192x704 : Shape := ⟨3, ![4, 8192, 704]⟩
abbrev S8192x4x704 : Shape := ⟨3, ![8192, 4, 704]⟩
abbrev S8192x2816 : Shape := ⟨2, ![8192, 2816]⟩
abbrev S4x1x1x704x1024 : Shape := ⟨5, ![4, 1, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S4x6x4x704x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x8192x704, .bf16⟩
  | .hbm, ⟨6, _⟩ => ⟨S4x8192x704, .bf16⟩
  | .hbm, ⟨7, _⟩ => ⟨S8192x4x704, .bf16⟩
  | .hbm, ⟨8, _⟩ => ⟨S8192x2816, .bf16⟩
  | .hbm, ⟨9, _⟩ => ⟨S8192x2816, .f32⟩
  | .hbm, ⟨10, _⟩ => ⟨S8192x4x704, .bf16⟩
  | .hbm, ⟨11, _⟩ => ⟨S8192x2816, .bf16⟩
  | .hbm, ⟨12, _⟩ => ⟨S8192x2816, .f32⟩
  | .hbm, ⟨13, _⟩ => ⟨S4x1x1x704x1024, .bf16⟩
  | .hbm, ⟨14, _⟩ => ⟨S4x704x1024, .bf16⟩
  | .hbm, ⟨15, _⟩ => ⟨S4x704x1024, .f32⟩
  | .hbm, ⟨16, _⟩ => ⟨S2816x1024, .f32⟩
  | .hbm, ⟨17, _⟩ => ⟨S1024x2816, .f32⟩
  | .hbm, ⟨18, _⟩ => ⟨S4x1x1x704x1024, .bf16⟩
  | .hbm, ⟨19, _⟩ => ⟨S4x704x1024, .bf16⟩
  | .hbm, ⟨20, _⟩ => ⟨S4x704x1024, .f32⟩
  | .hbm, ⟨21, _⟩ => ⟨S2816x1024, .f32⟩
  | .hbm, ⟨22, _⟩ => ⟨S1024x2816, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel5.lean ====
abbrev S8x8192x704 : Shape := ⟨3, ![8, 8192, 704]⟩
abbrev S8192x1024 : Shape := ⟨2, ![8192, 1024]⟩
abbrev S4x6x4x704x1024 : Shape := ⟨5, ![4, 6, 4, 704, 1024]⟩
abbrev S1x1024x704 : Shape := ⟨3, ![1, 1024, 704]⟩
abbrev S1024x1024 : Shape := ⟨2, ![1024, 1024]⟩
abbrev S1x1x1x704x1024 : Shape := ⟨5, ![1, 1, 1, 704, 1024]⟩
abbrev S704x1024 : Shape := ⟨2, ![704, 1024]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S8x8192x704, .bf16⟩
  | .hbm, ⟨1, _⟩ => ⟨S8192x1024, .bf16⟩
  | .hbm, ⟨2, _⟩ => ⟨S4x6x4x704x1024, .f32⟩
  | .hbm, ⟨3, _⟩ => ⟨S4x6x4x704x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1x704x1024, .f32⟩
  | .local _ .vmem, ⟨5, _⟩ => ⟨S1x1x1x704x1024, .f32⟩
  | .local _ .vmem, ⟨6, _⟩ => ⟨S704x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  let c0_i32_12 : BitVec 32 := 0#32
  let c0_i32_13 : BitVec 32 := 0#32
  let c0_i32_14 : BitVec 32 := 0#32
  ![v9.toNat, v27.toNat, c0_i32_11.toNat, c0_i32_12.toNat, c0_i32_13.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8x8192x704 : Shape := ⟨3, ![8, 8192, 704]⟩
abbrev S8192x1024 : Shape := ⟨2, ![8192, 1024]⟩
abbrev S4x6x4x704x1024 : Shape := ⟨5, ![4, 6, 4, 704, 1024]⟩
abbrev S4x8192x704 : Shape := ⟨3, ![4, 8192, 704]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x2x704x1024 : Shape := ⟨4, ![4, 2, 704, 1024]⟩
abbrev S4x2x1x704x1024 : Shape := ⟨5, ![4, 2, 1, 704, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8192x1024, .bf16⟩
  | .hbm, ⟨2, _⟩ => ⟨S4x6x4x704x1024, .f32⟩
  | .hbm, ⟨3, _⟩ => ⟨S4x8192x704, .bf16⟩
  | .hbm, ⟨4, _⟩ => ⟨S4x8192x704, .bf16⟩
  | .hbm, ⟨5, _⟩ => ⟨S8192x4x704, .bf16⟩
  | .hbm, ⟨6, _⟩ => ⟨S8192x2816, .bf16⟩
  | .hbm, ⟨7, _⟩ => ⟨S8192x2816, .f32⟩
  | .hbm, ⟨8, _⟩ => ⟨S8192x4x704, .bf16⟩
  | .hbm, ⟨9, _⟩ => ⟨S8192x2816, .bf16⟩
  | .hbm, ⟨10, _⟩ => ⟨S8192x2816, .f32⟩
  | .hbm, ⟨11, _⟩ => ⟨S_, .f32⟩
  | .hbm, ⟨12, _⟩ => ⟨S1024x2816, .f32⟩
  | .hbm, ⟨13, _⟩ => ⟨S8192x1024, .f32⟩
  | .hbm, ⟨14, _⟩ => ⟨S8192x2816, .f32⟩
  | .hbm, ⟨15, _⟩ => ⟨S8192x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S2816x1024, .f32⟩
  | .hbm, ⟨22, _⟩ => ⟨S4x704x1024, .f32⟩
  | .hbm, ⟨23, _⟩ => ⟨S4x704x1024, .f32⟩
  | .hbm, ⟨24, _⟩ => ⟨S4x1x704x1024, .f32⟩
  | .hbm, ⟨25, _⟩ => ⟨S4x1x704x1024, .f32⟩
  | .hbm, ⟨26, _⟩ => ⟨S4x2x704x1024, .f32⟩
  | .hbm, ⟨27, _⟩ => ⟨S4x2x1x704x1024, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4x6x4x704x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_c_0 : Ref sig .tc := ⟨.hbm, 29, rfl⟩
abbrev main_c_1 : Ref sig .tc := ⟨.hbm, 30, rfl⟩
abbrev main_c_2 : Ref sig .tc := ⟨.hbm, 31, rfl⟩
abbrev main_c_3 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel6.lean ====
abbrev S8192x1024 : Shape := ⟨2, ![8192, 1024]⟩
abbrev S4x6x4x704x1024 : Shape := ⟨5, ![4, 6, 4, 704, 1024]⟩
abbrev S8x8192x704 : Shape := ⟨3, ![8, 8192, 704]⟩
abbrev S2048x1024 : Shape := ⟨2, ![2048, 1024]⟩
abbrev S1x1x1x704x1024 : Shape := ⟨5, ![1, 1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x6x4x704x1024, .bf16⟩
  | .hbm, ⟨2, _⟩ => ⟨S8x8192x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1x704x1024, .bf16⟩
  | .local _ .vmem, ⟨3, _⟩ => ⟨S1x1x1x704x1024, .bf16⟩
  | .local _ .vmem, ⟨4, _⟩ => ⟨S1x2048x704, .bf16⟩
  | .local _ .vmem, ⟨5, _⟩ => ⟨S1x2048x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  let c0_i32_12 : BitVec 32 := 0#32
  let c0_i32_13 : BitVec 32 := 0#32
  let c0_i32_14 : BitVec 32 := 0#32
  ![v9.toNat, v27.toNat, c0_i32_11.toNat, c0_i32_12.toNat, c0_i32_13.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S4x6x4x704x1024 : Shape := ⟨5, ![4, 6, 4, 704, 1024]⟩
abbrev S4x1x1x704x1024 : Shape := ⟨5, ![4, 1, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S8x8192x704 : Shape := ⟨3, ![8, 8192, 704]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x6x4x704x1024, .bf16⟩
  | .hbm, ⟨2, _⟩ => ⟨S4x1x1x704x1024, .bf16⟩
  | .hbm, ⟨3, _⟩ => ⟨S4x704x1024, .bf16⟩
  | .hbm, ⟨4, _⟩ => ⟨S4x704x1024, .f32⟩
  | .hbm, ⟨5, _⟩ => ⟨S2816x1024, .f32⟩
  | .hbm, ⟨6, _⟩ => ⟨S1024x2816, .f32⟩
  | .hbm, ⟨7, _⟩ => ⟨S4x1x1x704x1024, .bf16⟩
  | .hbm, ⟨8, _⟩ => ⟨S4x704x1024, .bf16⟩
  | .hbm, ⟨9, _⟩ => ⟨S4x704x1024, .f32⟩
  | .hbm, ⟨10, _⟩ => ⟨S2816x1024, .f32⟩
  | .hbm, ⟨11, _⟩ => ⟨S1024x2816, .f32⟩
  | .hbm, ⟨12, _⟩ => ⟨S8192x1024, .f32⟩
  | .hbm, ⟨13, _⟩ => ⟨S8192x2816, .f32⟩
  | .hbm, ⟨14, _⟩ => ⟨S8192x2816, .f32⟩
  | .hbm, ⟨15, _⟩ => ⟨S8192x4x704, .f32⟩
  | .hbm, ⟨16, _⟩ => ⟨S4x8192x704, .f32⟩
  | .hbm, ⟨17, _⟩ => ⟨S8192x4x704, .f32⟩
  | .hbm, ⟨18, _⟩ => ⟨S4x8192x704, .f32⟩
  | .hbm, ⟨19, _⟩ => ⟨S8x8192x704, .f32⟩
  | .hbm, ⟨20, _⟩ => ⟨S8x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Kernel7.lean ====
abbrev S2x4x8192x704 : Shape := ⟨4, ![2, 4, 8192, 704]⟩
abbrev S4x6x4x704x1024 : Shape := ⟨5, ![4, 6, 4, 704, 1024]⟩
abbrev S8192x1024 : Shape := ⟨2, ![8192, 1024]⟩
abbrev S1x1024 : Shape := ⟨2, ![1, 1024]⟩
abbrev S2x1x1024x704 : Shape := ⟨4, ![2, 1, 1024, 704]⟩
abbrev S1x1x1x704x1024 : Shape := ⟨5, ![1, 1, 1, 704, 1024]⟩
abbrev S1024x1024 : Shape := ⟨2, ![1024, 1024]⟩
abbrev S1x1x1024x704 : Shape := ⟨4, ![1, 1, 1024, 704]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x4x8192x704, .bf16⟩
  | .hbm, ⟨1, _⟩ => ⟨S4x6x4x704x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S2x1x1024x704, .bf16⟩
  | .local _ .vmem, ⟨1, _⟩ => ⟨S2x1x1024x704, .bf16⟩
  | .local _ .vmem, ⟨2, _⟩ => ⟨S1x1x1x704x1024, .bf16⟩
  | .local _ .vmem, ⟨3, _⟩ => ⟨S1x1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S2x4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_17 : BitVec 32 := 0#32
  let v27 : BitVec 1 := Scalar.cmpi .ne v26 c0_i32_17
  v27

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32_10 : BitVec 32 := 4#32
  let v27 : BitVec 32 := Scalar.addi c4_i32_10 v26
  let c0_i32_11 : BitVec 32 := 0#32
  let c0_i32_12 : BitVec 32 := 0#32
  let c0_i32_13 : BitVec 32 := 0#32
  let c0_i32_14 : BitVec 32 := 0#32
  ![v9.toNat, v27.toNat, c0_i32_11.toNat, c0_i32_12.toNat, c0_i32_13.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S2x4x8192x704 : Shape := ⟨4, ![2, 4, 8192, 704]⟩
abbrev S4x6x4x704x1024 : Shape := ⟨5, ![4, 6, 4, 704, 1024]⟩
abbrev S8192x1024 : Shape := ⟨2, ![8192, 1024]⟩
abbrev S1x1024 : Shape := ⟨2, ![1, 1024]⟩
abbrev S1x4x8192x704 : Shape := ⟨4, ![1, 4, 8192, 704]⟩
abbrev S4x8192x704 : Shape := ⟨3, ![4, 8192, 704]⟩
abbrev S8192x4x704 : Shape := ⟨3, ![8192, 4, 704]⟩
abbrev S8192x2816 : Shape := ⟨2, ![8192, 2816]⟩
abbrev S4x1x1x704x1024 : Shape := ⟨5, ![4, 1, 1, 704, 1024]⟩
abbrev S4x704x1024 : Shape := ⟨3, ![4, 704, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x4x8192x704, .bf16⟩
  | .hbm, ⟨1, _⟩ => ⟨S4x6x4x704x1024, .bf16⟩
  | .hbm, ⟨2, _⟩ => ⟨S8192x1024, .f32⟩
  | .hbm, ⟨3, _⟩ => ⟨S1x1024, .f32⟩
  | .hbm, ⟨4, _⟩ => ⟨S1x4x8192x704, .bf16⟩
  | .hbm, ⟨5, _⟩ => ⟨S4x8192x704, .bf16⟩
  | .hbm, ⟨6, _⟩ => ⟨S1x4x8192x704, .bf16⟩
  | .hbm, ⟨7, _⟩ => ⟨S4x8192x704, .bf16⟩
  | .hbm, ⟨8, _⟩ => ⟨S8192x4x704, .bf16⟩
  | .hbm, ⟨9, _⟩ => ⟨S8192x2816, .bf16⟩
  | .hbm, ⟨10, _⟩ => ⟨S8192x2816, .f32⟩
  | .hbm, ⟨11, _⟩ => ⟨S8192x4x704, .bf16⟩
  | .hbm, ⟨12, _⟩ => ⟨S8192x2816, .bf16⟩
  | .hbm, ⟨13, _⟩ => ⟨S8192x2816, .f32⟩
  | .hbm, ⟨14, _⟩ => ⟨S4x1x1x704x1024, .bf16⟩
  | .hbm, ⟨15, _⟩ => ⟨S4x704x1024, .bf16⟩
  | .hbm, ⟨16, _⟩ => ⟨S4x704x1024, .f32⟩
  | .hbm, ⟨17, _⟩ => ⟨S2816x1024, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S2x4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel8.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x1024, .f32⟩
  | .hbm, ⟨3, _⟩ => ⟨S8192x1536, .f32⟩
  | .hbm, ⟨4, _⟩ => ⟨S_, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S_, .f32⟩
  | .hbm, ⟨5, _⟩ => ⟨S1024x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩
abbrev S8192x128 : Shape := ⟨2, ![8192, 128]⟩
abbrev S1024x128 : Shape := ⟨2, ![1024, 128]⟩
abbrev S8192x3072 : Shape := ⟨2, ![8192, 3072]⟩
abbrev S1024x3072 : Shape := ⟨2, ![1024, 3072]⟩
abbrev S1024x512 : Shape := ⟨2, ![1024, 512]⟩

abbrev nBuf : Space → Nat
  | .hbm => 11
  | .vmem => 23
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .bf16⟩
  | .hbm, ⟨3, _⟩ => ⟨S1024x1024, .bf16⟩
  | .hbm, ⟨4, _⟩ => ⟨S8192x1536, .bf16⟩
  | .hbm, ⟨5, _⟩ => ⟨S1024x1536, .bf16⟩
  | .hbm, ⟨6, _⟩ => ⟨S8192x128, .bf16⟩
  | .hbm, ⟨7, _⟩ => ⟨S1024x128, .bf16⟩
  | .hbm, ⟨8, _⟩ => ⟨S8192x3072, .bf16⟩
  | .hbm, ⟨9, _⟩ => ⟨S1024x3072, .bf16⟩
  | .hbm, ⟨10, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 15], ![false, false]⟩

def k0_cond7 (i : grid0.Coords) : BitVec 1 :=
  let arg1 : BitVec 32 := BitVec.ofNat 32 (i 1).val
  let c14_i32 : BitVec 32 := 14#32
  let v28 : BitVec 1 := Scalar.cmpi .eq arg1 c14_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference19Ideal.lean ====
abbrev S8192x1536 : Shape := ⟨2, ![8192, 1536]⟩
abbrev S1024x1536 : Shape := ⟨2, ![1024, 1536]⟩
abbrev S8192x1024 : Shape := ⟨2, ![8192, 1024]⟩
abbrev S1024x1024 : Shape := ⟨2, ![1024, 1024]⟩
abbrev S8192x128 : Shape := ⟨2, ![8192, 128]⟩
abbrev S1024x128 : Shape := ⟨2, ![1024, 128]⟩
abbrev S8192x3072 : Shape := ⟨2, ![8192, 3072]⟩
abbrev S1024x3072 : Shape := ⟨2, ![1024, 3072]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .bf16⟩
  | .hbm, ⟨3, _⟩ => ⟨S1024x1024, .bf16⟩
  | .hbm, ⟨4, _⟩ => ⟨S8192x1536, .bf16⟩
  | .hbm, ⟨5, _⟩ => ⟨S1024x1536, .bf16⟩
  | .hbm, ⟨6, _⟩ => ⟨S8192x128, .bf16⟩
  | .hbm, ⟨7, _⟩ => ⟨S1024x128, .bf16⟩
  | .hbm, ⟨8, _⟩ => ⟨S8192x3072, .bf16⟩
  | .hbm, ⟨9, _⟩ => ⟨S1024x3072, .bf16⟩
  | .hbm, ⟨10, _⟩ => ⟨S8192x1536, .f32⟩
  | .hbm, ⟨11, _⟩ => ⟨S8192x1024, .f32⟩
  | .hbm, ⟨12, _⟩ => ⟨S8192x1536, .f32⟩
  | .hbm, ⟨13, _⟩ => ⟨S8192x128, .f32⟩
  | .hbm, ⟨14, _⟩ => ⟨S8192x3072, .f32⟩
  | .hbm, ⟨15, _⟩ => ⟨S1024x1536, .f32⟩
  | .hbm, ⟨16, _⟩ => ⟨S1024x1024, .f32⟩
  | .hbm, ⟨17, _⟩ => ⟨S1024x1536, .f32⟩
  | .hbm, ⟨18, _⟩ => ⟨S1024x128, .f32⟩
  | .hbm, ⟨19, _⟩ => ⟨S1024x3072, .f32⟩
  | .hbm, ⟨20, _⟩ => ⟨S_, .f32⟩
  | .hbm, ⟨21, _⟩ => ⟨S8192x1024, .f32⟩
  | .hbm, ⟨22, _⟩ => ⟨S8192x1536, .f32⟩
  | .hbm, ⟨23, _⟩ => ⟨S8192x1024, .f32⟩
  | .hbm, ⟨24, _⟩ => ⟨S8192x1536, .f32⟩
  | .hbm, ⟨25, _⟩ => ⟨S8192x128, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel20.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S4x704x1024 : Shape := ⟨3, ![4, 704, 1024]⟩
abbrev S2816x1024 : Shape := ⟨2, ![2816, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S4x1024x1796 : Shape := ⟨3, ![4, 1024, 1796]⟩
abbrev S4096x1796 : Shape := ⟨2, ![4096, 1796]⟩
abbrev S128x1796 : Shape := ⟨2, ![128, 1796]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1796, .f32⟩
  | .hbm, ⟨1, _⟩ => ⟨S4x1024x1796, .f32⟩
  | .hbm, ⟨2, _⟩ => ⟨S4x1024x1796, .f32⟩
  | .hbm, ⟨3, _⟩ => ⟨S4x1024x1796, .f32⟩
  | .hbm, ⟨4, _⟩ => ⟨S4096x1796, .f32⟩
  | .hbm, ⟨5, _⟩ => ⟨S4096x1796, .f32⟩
  | .hbm, ⟨6, _⟩ => ⟨S4096x1796, .f32⟩
  | .hbm, ⟨7, _⟩ => ⟨S4096x1796, .f32⟩
  | .hbm, ⟨8, _⟩ => ⟨S4096x1796, .f32⟩
  | .hbm, ⟨9, _⟩ => ⟨S4096x1796, .f32⟩
  | .hbm, ⟨10, _⟩ => ⟨S4096x1796, .f32⟩
  | .local _ .vmem, ⟨0, _⟩ => ⟨S128x1796, .f32⟩
  | .local _ .vmem, ⟨1, _⟩ => ⟨S128x1796, .f32⟩
  | .local _ .vmem, ⟨2, _⟩ => ⟨S128x1796, .f32⟩
  | .local _ .vmem, ⟨3, _⟩ => ⟨S128x1796, .f32⟩
  | .local _ .vmem, ⟨4, _⟩ => ⟨S128x1796, .f32⟩
  | .local _ .vmem, ⟨5, _⟩ => ⟨S128x1796, .f32⟩
  | .local _ .vmem, ⟨6, _⟩ => ⟨S128x1796, .f32⟩
  | .local _ .vmem, ⟨7, _⟩ => ⟨S128x1796, .f32⟩
  | .local _ .vmem, ⟨8, _⟩ => ⟨S128x1796, .f32⟩
  | .local _ .vmem, ⟨9, _⟩ => ⟨S128x1796, .f32⟩
  | .local _ .vmem, ⟨10, _⟩ => ⟨S128x1796, .f32⟩
  | .local _ .vmem, ⟨11, _⟩ => ⟨S128x1796, .f32⟩
  | .local _ .vmem, ⟨12, _⟩ => ⟨S128x1796, .f32⟩
  | .local _ .vmem, ⟨13, _⟩ => ⟨S128x1796, .f32⟩
  | _, _ => ⟨S4x1024x1796, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1796 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1796 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S4x1024x1796 : Shape := ⟨3, ![4, 1024, 1796]⟩
abbrev S_ : Shape := ⟨0, ![]⟩
abbrev S4096x1796 : Shape := ⟨2, ![4096, 1796]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1796, .f32⟩
  | .hbm, ⟨1, _⟩ => ⟨S4x1024x1796, .f32⟩
  | .hbm, ⟨2, _⟩ => ⟨S4x1024x1796, .f32⟩
  | .hbm, ⟨3, _⟩ => ⟨S4x1024x1796, .f32⟩
  | .hbm, ⟨4, _⟩ => ⟨S_, .f32⟩
  | .hbm, ⟨5, _⟩ => ⟨S4x1024x1796, .f32⟩
  | .hbm, ⟨6, _⟩ => ⟨S4x1024x1796, .f32⟩
  | .hbm, ⟨7, _⟩ => ⟨S_, .f32⟩
  | .hbm, ⟨8, _⟩ => ⟨S4x1024x1796, .f32⟩
  | .hbm, ⟨9, _⟩ => ⟨S4x1024x1796, .f32⟩
  | .hbm, ⟨10, _⟩ => ⟨S4x1024x1796, .f32⟩
  | .hbm, ⟨11, _⟩ => ⟨S_, .f32⟩
  | .hbm, ⟨12, _⟩ => ⟨S4x1024x1796, .f32⟩
  | .hbm, ⟨13, _⟩ => ⟨S4x1024x1796, .f32⟩
  | .hbm, ⟨14, _⟩ => ⟨S4x1024x1796, .f32⟩
  | .hbm, ⟨15, _⟩ => ⟨S_, .f32⟩
  | .hbm, ⟨16, _⟩ => ⟨S4x1024x1796, .f32⟩
  | .hbm, ⟨17, _⟩ => ⟨S4x1024x1796, .f32⟩
  | .hbm, ⟨18, _⟩ => ⟨S4x1024x1796, .f32⟩
  | .hbm, ⟨19, _⟩ => ⟨S_, .f32⟩
  | .hbm, ⟨20, _⟩ => ⟨S4x1024x1796, .f32⟩
  | .hbm, ⟨21, _⟩ => ⟨S4x1024x1796, .f32⟩
  | .hbm, ⟨22, _⟩ => ⟨S_, .f32⟩
  | .hbm, ⟨23, _⟩ => ⟨S4x1024x1796, .f32⟩
  | .hbm, ⟨24, _⟩ => ⟨S4x1024x1796, .f32⟩
  | .hbm, ⟨25, _⟩ => ⟨S4x1024x1796, .f32⟩
  | .hbm, ⟨26, _⟩ => ⟨S_, .f32⟩
  | .hbm, ⟨27, _⟩ => ⟨S4x1024x1796, .f32⟩
  | .hbm, ⟨28, _⟩ => ⟨S4x1024x1796, .f32⟩
  | .hbm, ⟨29, _⟩ => ⟨S4x1024x1796, .f32⟩
  | .hbm, ⟨30, _⟩ => ⟨S_, .f32⟩
  | .hbm, ⟨31, _⟩ => ⟨S4x1024x1796, .f32⟩
  | .hbm, ⟨32, _⟩ => ⟨S4x1024x1796, .f32⟩
  | .hbm, ⟨33, _⟩ => ⟨S4x1024x1796, .f32⟩
  | .hbm, ⟨34, _⟩ => ⟨S_, .f32⟩
  | .hbm, ⟨35, _⟩ => ⟨S4x1024x1796, .f32⟩
  | .hbm, ⟨36, _⟩ => ⟨S4x1024x1796, .f32⟩
  | .hbm, ⟨37, _⟩ => ⟨S4096x1796, .f32⟩
  | .hbm, ⟨38, _⟩ => ⟨S4096x1796, .f32⟩
  | .hbm, ⟨39, _⟩ => ⟨S4096x1796, .f32⟩
  | _, _ => ⟨S4x1024x1796, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S4x3x512x256 : Shape := ⟨4, ![4, 3, 512, 256]⟩
abbrev S6144x256 : Shape := ⟨2, ![6144, 256]⟩
abbrev S768x256 : Shape := ⟨2, ![768, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x3x512x256, .f32⟩
  | .hbm, ⟨1, _⟩ => ⟨S4x3x512x256, .f32⟩
  | .hbm, ⟨2, _⟩ => ⟨S4x3x512x256, .f32⟩
  | .hbm, ⟨3, _⟩ => ⟨S4x3x512x256, .f32⟩
  | .hbm, ⟨4, _⟩ => ⟨S6144x256, .f32⟩
  | .hbm, ⟨5, _⟩ => ⟨S6144x256, .f32⟩
  | .hbm, ⟨6, _⟩ => ⟨S6144x256, .f32⟩
  | .hbm, ⟨7, _⟩ => ⟨S6144x256, .f32⟩
  | .hbm, ⟨8, _⟩ => ⟨S6144x256, .f32⟩
  | .hbm, ⟨9, _⟩ => ⟨S6144x256, .f32⟩
  | .hbm, ⟨10, _⟩ => ⟨S6144x256, .f32⟩
  | .local _ .vmem, ⟨0, _⟩ => ⟨S768x256, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S768x256, .f32⟩
  | .local _ .vmem, ⟨5, _⟩ => ⟨S768x256, .f32⟩
  | .local _ .vmem, ⟨6, _⟩ => ⟨S768x256, .f32⟩
  | .local _ .vmem, ⟨7, _⟩ => ⟨S768x256, .f32⟩
  | .local _ .vmem, ⟨8, _⟩ => ⟨S768x256, .f32⟩
  | .local _ .vmem, ⟨9, _⟩ => ⟨S768x256, .f32⟩
  | .local _ .vmem, ⟨10, _⟩ => ⟨S768x256, .f32⟩
  | .local _ .vmem, ⟨11, _⟩ => ⟨S768x256, .f32⟩
  | .local _ .vmem, ⟨12, _⟩ => ⟨S768x256, .f32⟩
  | .local _ .vmem, ⟨13, _⟩ => ⟨S768x256, .f32⟩
  | _, _ => ⟨S4x3x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4x3x512x256 : Shape := ⟨4, ![4, 3, 512, 256]⟩
abbrev S_ : Shape := ⟨0, ![]⟩
abbrev S6144x256 : Shape := ⟨2, ![6144, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x3x512x256, .f32⟩
  | .hbm, ⟨1, _⟩ => ⟨S4x3x512x256, .f32⟩
  | .hbm, ⟨2, _⟩ => ⟨S4x3x512x256, .f32⟩
  | .hbm, ⟨3, _⟩ => ⟨S4x3x512x256, .f32⟩
  | .hbm, ⟨4, _⟩ => ⟨S_, .f32⟩
  | .hbm, ⟨5, _⟩ => ⟨S4x3x512x256, .f32⟩
  | .hbm, ⟨6, _⟩ => ⟨S4x3x512x256, .f32⟩
  | .hbm, ⟨7, _⟩ => ⟨S_, .f32⟩
  | .hbm, ⟨8, _⟩ => ⟨S4x3x512x256, .f32⟩
  | .hbm, ⟨9, _⟩ => ⟨S4x3x512x256, .f32⟩
  | .hbm, ⟨10, _⟩ => ⟨S4x3x512x256, .f32⟩
  | .hbm, ⟨11, _⟩ => ⟨S_, .f32⟩
  | .hbm, ⟨12, _⟩ => ⟨S4x3x512x256, .f32⟩
  | .hbm, ⟨13, _⟩ => ⟨S4x3x512x256, .f32⟩
  | .hbm, ⟨14, _⟩ => ⟨S4x3x512x256, .f32⟩
  | .hbm, ⟨15, _⟩ => ⟨S_, .f32⟩
  | .hbm, ⟨16, _⟩ => ⟨S4x3x512x256, .f32⟩
  | .hbm, ⟨17, _⟩ => ⟨S4x3x512x256, .f32⟩
  | .hbm, ⟨18, _⟩ => ⟨S4x3x512x256, .f32⟩
  | .hbm, ⟨19, _⟩ => ⟨S_, .f32⟩
  | .hbm, ⟨20, _⟩ => ⟨S4x3x512x256, .f32⟩
  | .hbm, ⟨21, _⟩ => ⟨S4x3x512x256, .f32⟩
  | .hbm, ⟨22, _⟩ => ⟨S_, .f32⟩
  | .hbm, ⟨23, _⟩ => ⟨S4x3x512x256, .f32⟩
  | .hbm, ⟨24, _⟩ => ⟨S4x3x512x256, .f32⟩
  | .hbm, ⟨25, _⟩ => ⟨S4x3x512x256, .f32⟩
  | .hbm, ⟨26, _⟩ => ⟨S_, .f32⟩
  | .hbm, ⟨27, _⟩ => ⟨S4x3x512x256, .f32⟩
  | .hbm, ⟨28, _⟩ => ⟨S4x3x512x256, .f32⟩
  | .hbm, ⟨29, _⟩ => ⟨S4x3x512x256, .f32⟩
  | .hbm, ⟨30, _⟩ => ⟨S_, .f32⟩
  | .hbm, ⟨31, _⟩ => ⟨S4x3x512x256, .f32⟩
  | .hbm, ⟨32, _⟩ => ⟨S4x3x512x256, .f32⟩
  | .hbm, ⟨33, _⟩ => ⟨S4x3x512x256, .f32⟩
  | .hbm, ⟨34, _⟩ => ⟨S_, .f32⟩
  | .hbm, ⟨35, _⟩ => ⟨S4x3x512x256, .f32⟩
  | .hbm, ⟨36, _⟩ => ⟨S4x3x512x256, .f32⟩
  | .hbm, ⟨37, _⟩ => ⟨S6144x256, .f32⟩
  | .hbm, ⟨38, _⟩ => ⟨S6144x256, .f32⟩
  | .hbm, ⟨39, _⟩ => ⟨S6144x256, .f32⟩
  | _, _ => ⟨S4x3x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S4x3x256 : Shape := ⟨3, ![4, 3, 256]⟩
abbrev S12x256 : Shape := ⟨2, ![12, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S12x256, .f32⟩
  | .hbm, ⟨5, _⟩ => ⟨S12x256, .f32⟩
  | .hbm, ⟨6, _⟩ => ⟨S12x256, .f32⟩
  | .hbm, ⟨7, _⟩ => ⟨S12x256, .f32⟩
  | .hbm, ⟨8, _⟩ => ⟨S12x256, .f32⟩
  | .hbm, ⟨9, _⟩ => ⟨S12x256, .f32⟩
  | .hbm, ⟨10, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x3x256 : Shape := ⟨3, ![4, 3, 256]⟩
abbrev S_ : Shape := ⟨0, ![]⟩
abbrev S12x256 : Shape := ⟨2, ![12, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x3x256, .f32⟩
  | .hbm, ⟨1, _⟩ => ⟨S4x3x256, .f32⟩
  | .hbm, ⟨2, _⟩ => ⟨S4x3x256, .f32⟩
  | .hbm, ⟨3, _⟩ => ⟨S4x3x256, .f32⟩
  | .hbm, ⟨4, _⟩ => ⟨S_, .f32⟩
  | .hbm, ⟨5, _⟩ => ⟨S4x3x256, .f32⟩
  | .hbm, ⟨6, _⟩ => ⟨S4x3x256, .f32⟩
  | .hbm, ⟨7, _⟩ => ⟨S_, .f32⟩
  | .hbm, ⟨8, _⟩ => ⟨S4x3x256, .f32⟩
  | .hbm, ⟨9, _⟩ => ⟨S4x3x256, .f32⟩
  | .hbm, ⟨10, _⟩ => ⟨S4x3x256, .f32⟩
  | .hbm, ⟨11, _⟩ => ⟨S_, .f32⟩
  | .hbm, ⟨12, _⟩ => ⟨S4x3x256, .f32⟩
  | .hbm, ⟨13, _⟩ => ⟨S4x3x256, .f32⟩
  | .hbm, ⟨14, _⟩ => ⟨S4x3x256, .f32⟩
  | .hbm, ⟨15, _⟩ => ⟨S_, .f32⟩
  | .hbm, ⟨16, _⟩ => ⟨S4x3x256, .f32⟩
  | .hbm, ⟨17, _⟩ => ⟨S4x3x256, .f32⟩
  | .hbm, ⟨18, _⟩ => ⟨S4x3x256, .f32⟩
  | .hbm, ⟨19, _⟩ => ⟨S_, .f32⟩
  | .hbm, ⟨20, _⟩ => ⟨S4x3x256, .f32⟩
  | .hbm, ⟨21, _⟩ => ⟨S4x3x256, .f32⟩
  | .hbm, ⟨22, _⟩ => ⟨S_, .f32⟩
  | .hbm, ⟨23, _⟩ => ⟨S4x3x256, .f32⟩
  | .hbm, ⟨24, _⟩ => ⟨S4x3x256, .f32⟩
  | .hbm, ⟨25, _⟩ => ⟨S4x3x256, .f32⟩
  | .hbm, ⟨26, _⟩ => ⟨S_, .f32⟩
  | .hbm, ⟨27, _⟩ => ⟨S4x3x256, .f32⟩
  | .hbm, ⟨28, _⟩ => ⟨S4x3x256, .f32⟩
  | .hbm, ⟨29, _⟩ => ⟨S4x3x256, .f32⟩
  | .hbm, ⟨30, _⟩ => ⟨S_, .f32⟩
  | .hbm, ⟨31, _⟩ => ⟨S4x3x256, .f32⟩
  | .hbm, ⟨32, _⟩ => ⟨S4x3x256, .f32⟩
  | .hbm, ⟨33, _⟩ => ⟨S4x3x256, .f32⟩
  | .hbm, ⟨34, _⟩ => ⟨S_, .f32⟩
  | .hbm, ⟨35, _⟩ => ⟨S4x3x256, .f32⟩
  | .hbm, ⟨36, _⟩ => ⟨S4x3x256, .f32⟩
  | .hbm, ⟨37, _⟩ => ⟨S12x256, .f32⟩
  | .hbm, ⟨38, _⟩ => ⟨S12x256, .f32⟩
  | .hbm, ⟨39, _⟩ => ⟨S12x256, .f32⟩
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S4x31x128 : Shape := ⟨3, ![4, 31, 128]⟩
abbrev S124x128 : Shape := ⟨2, ![124, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S124x128, .f32⟩
  | .hbm, ⟨5, _⟩ => ⟨S124x128, .f32⟩
  | .hbm, ⟨6, _⟩ => ⟨S124x128, .f32⟩
  | .hbm, ⟨7, _⟩ => ⟨S124x128, .f32⟩
  | .hbm, ⟨8, _⟩ => ⟨S124x128, .f32⟩
  | .hbm, ⟨9, _⟩ => ⟨S124x128, .f32⟩
  | .hbm, ⟨10, _⟩ => ⟨S124x128, .f32⟩
  | .local _ .vmem, ⟨0, _⟩ => ⟨S124x128, .f32⟩
  | .local _ .vmem, ⟨1, _⟩ => ⟨S124x128, .f32⟩
  | .local _ .vmem, ⟨2, _⟩ => ⟨S124x128, .f32⟩
  | .local _ .vmem, ⟨3, _⟩ => ⟨S124x128, .f32⟩
  | .local _ .vmem, ⟨4, _⟩ => ⟨S124x128, .f32⟩
  | .local _ .vmem, ⟨5, _⟩ => ⟨S124x128, .f32⟩
  | .local _ .vmem, ⟨6, _⟩ => ⟨S124x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S4x31x128 : Shape := ⟨3, ![4, 31, 128]⟩
abbrev S_ : Shape := ⟨0, ![]⟩
abbrev S124x128 : Shape := ⟨2, ![124, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S_, .f32⟩
  | .hbm, ⟨5, _⟩ => ⟨S4x31x128, .f32⟩
  | .hbm, ⟨6, _⟩ => ⟨S4x31x128, .f32⟩
  | .hbm, ⟨7, _⟩ => ⟨S_, .f32⟩
  | .hbm, ⟨8, _⟩ => ⟨S4x31x128, .f32⟩
  | .hbm, ⟨9, _⟩ => ⟨S4x31x128, .f32⟩
  | .hbm, ⟨10, _⟩ => ⟨S4x31x128, .f32⟩
  | .hbm, ⟨11, _⟩ => ⟨S_, .f32⟩
  | .hbm, ⟨12, _⟩ => ⟨S4x31x128, .f32⟩
  | .hbm, ⟨13, _⟩ => ⟨S4x31x128, .f32⟩
  | .hbm, ⟨14, _⟩ => ⟨S4x31x128, .f32⟩
  | .hbm, ⟨15, _⟩ => ⟨S_, .f32⟩
  | .hbm, ⟨16, _⟩ => ⟨S4x31x128, .f32⟩
  | .hbm, ⟨17, _⟩ => ⟨S4x31x128, .f32⟩
  | .hbm, ⟨18, _⟩ => ⟨S4x31x128, .f32⟩
  | .hbm, ⟨19, _⟩ => ⟨S_, .f32⟩
  | .hbm, ⟨20, _⟩ => ⟨S4x31x128, .f32⟩
  | .hbm, ⟨21, _⟩ => ⟨S4x31x128, .f32⟩
  | .hbm, ⟨22, _⟩ => ⟨S_, .f32⟩
  | .hbm, ⟨23, _⟩ => ⟨S4x31x128, .f32⟩
  | .hbm, ⟨24, _⟩ => ⟨S4x31x128, .f32⟩
  | .hbm, ⟨25, _⟩ => ⟨S4x31x128, .f32⟩
  | .hbm, ⟨26, _⟩ => ⟨S_, .f32⟩
  | .hbm, ⟨27, _⟩ => ⟨S4x31x128, .f32⟩
  | .hbm, ⟨28, _⟩ => ⟨S4x31x128, .f32⟩
  | .hbm, ⟨29, _⟩ => ⟨S4x31x128, .f32⟩
  | .hbm, ⟨30, _⟩ => ⟨S_, .f32⟩
  | .hbm, ⟨31, _⟩ => ⟨S4x31x128, .f32⟩
  | .hbm, ⟨32, _⟩ => ⟨S4x31x128, .f32⟩
  | .hbm, ⟨33, _⟩ => ⟨S4x31x128, .f32⟩
  | .hbm, ⟨34, _⟩ => ⟨S_, .f32⟩
  | .hbm, ⟨35, _⟩ => ⟨S4x31x128, .f32⟩
  | .hbm, ⟨36, _⟩ => ⟨S4x31x128, .f32⟩
  | .hbm, ⟨37, _⟩ => ⟨S124x128, .f32⟩
  | .hbm, ⟨38, _⟩ => ⟨S124x128, .f32⟩
  | .hbm, ⟨39, _⟩ => ⟨S124x128, .f32⟩
  | _, _ => ⟨S4x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S4x16x64 : Shape := ⟨3, ![4, 16, 64]⟩
abbrev S64x64 : Shape := ⟨2, ![64, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16x64, .f32⟩
  | .hbm, ⟨3, _⟩ => ⟨S4x16x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S4x16x64 : Shape := ⟨3, ![4, 16, 64]⟩
abbrev S_ : Shape := ⟨0, ![]⟩
abbrev S64x64 : Shape := ⟨2, ![64, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16x64, .f32⟩
  | .hbm, ⟨3, _⟩ => ⟨S4x16x64, .f32⟩
  | .hbm, ⟨4, _⟩ => ⟨S_, .f32⟩
  | .hbm, ⟨5, _⟩ => ⟨S4x16x64, .f32⟩
  | .hbm, ⟨6, _⟩ => ⟨S4x16x64, .f32⟩
  | .hbm, ⟨7, _⟩ => ⟨S_, .f32⟩
  | .hbm, ⟨8, _⟩ => ⟨S4x16x64, .f32⟩
  | .hbm, ⟨9, _⟩ => ⟨S4x16x64, .f32⟩
  | .hbm, ⟨10, _⟩ => ⟨S4x16x64, .f32⟩
  | .hbm, ⟨11, _⟩ => ⟨S_, .f32⟩
  | .hbm, ⟨12, _⟩ => ⟨S4x16x64, .f32⟩
  | .hbm, ⟨13, _⟩ => ⟨S4x16x64, .f32⟩
  | .hbm, ⟨14, _⟩ => ⟨S4x16x64, .f32⟩
  | .hbm, ⟨15, _⟩ => ⟨S_, .f32⟩
  | .hbm, ⟨16, _⟩ => ⟨S4x16x64, .f32⟩
  | .hbm, ⟨17, _⟩ => ⟨S4x16x64, .f32⟩
  | .hbm, ⟨18, _⟩ => ⟨S4x16x64, .f32⟩
  | .hbm, ⟨19, _⟩ => ⟨S_, .f32⟩
  | .hbm, ⟨20, _⟩ => ⟨S4x16x64, .f32⟩
  | .hbm, ⟨21, _⟩ => ⟨S4x16x64, .f32⟩
  | .hbm, ⟨22, _⟩ => ⟨S_, .f32⟩
  | .hbm, ⟨23, _⟩ => ⟨S4x16x64, .f32⟩
  | .hbm, ⟨24, _⟩ => ⟨S4x16x64, .f32⟩
  | .hbm, ⟨25, _⟩ => ⟨S4x16x64, .f32⟩
  | .hbm, ⟨26, _⟩ => ⟨S_, .f32⟩
  | .hbm, ⟨27, _⟩ => ⟨S4x16x64, .f32⟩
  | .hbm, ⟨28, _⟩ => ⟨S4x16x64, .f32⟩
  | .hbm, ⟨29, _⟩ => ⟨S4x16x64, .f32⟩
  | .hbm, ⟨30, _⟩ => ⟨S_, .f32⟩
  | .hbm, ⟨31, _⟩ => ⟨S4x16x64, .f32⟩
  | .hbm, ⟨32, _⟩ => ⟨S4x16x64, .f32⟩
  | .hbm, ⟨33, _⟩ => ⟨S4x16x64, .f32⟩
  | .hbm, ⟨34, _⟩ => ⟨S_, .f32⟩
  | .hbm, ⟨35, _⟩ => ⟨S4x16x64, .f32⟩
  | .hbm, ⟨36, _⟩ => ⟨S4x16x64, .f32⟩
  | .hbm, ⟨37, _⟩ => ⟨S64x64, .f32⟩
  | .hbm, ⟨38, _⟩ => ⟨S64x64, .f32⟩
  | .hbm, ⟨39, _⟩ => ⟨S64x64, .f32⟩
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32_7 : BitVec 32 := 0#32
  let v12 : BitVec 1 := Scalar.cmpi .sgt arg0 c0_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference30Ideal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.Same.lean ====
module

public import Idealize.ShloMosaic.Lib.Pipeline.Value

/-! # What the claims share

A kernel and its idealised program print the same bodies, so their tables of bodies are equal, entry by entry. Kernel and
reference compute the same function, from equal arguments in different memories. -/

@[expose] public section

namespace Cert

open Idealize.ShloMosaic Idealize.SL.Sem

/-- Two tables of bodies are equal where the bodies are. -/
theorem onTc_congr {nD : Nat} {τ : Topo} {sig : RefSig} {Val : EltTy → Type} {Λ : Labels}
    {f g : (l : Λ.Label) → Λ.Args l → Prog (TpuEff nD τ sig Val Λ .tc) (Λ.Result l)} (h : ∀ l x, f l x = g l x) :
    (Defs.onTc f : Defs nD τ sig Val Λ) = Defs.onTc g :=
  congrArg Defs.onTc (funext fun l => funext (h l))

/-- A reference's result `d` is a kernel's, `D`, where both are `f` of their own two arguments and these are equal. `P` is
what else the reference's run leaves. -/
theorem agree {A B C : Type} (f : A → B → C) {a a' : A} {b b' : B} {d D : C} {P : Prop} (e : a' = a ∧ b' = b) (r : D = f a b)
    (k : d = f a' b' ∧ P) : d = D ∧ P := by
  obtain ⟨rfl, rfl⟩ := e
  exact ⟨k.1.trans r.symm, k.2⟩

end Cert
-- ==== Proof.Ffn.Silu.lean ====
module

public import Idealize.ShloMosaic.Lib.Pipeline.ValueKit

/-! # The derivative of the gate

`sg` is the logistic function as both programs write it, `1 / (1 + exp (-x))`. The reference differentiates it as
`s (1 - s)`, the kernel as `-((-(1 / d²)) e)` with `e = exp (-x)` and `d = 1 + e`. The two agree at every extended real. -/

@[expose] public section

noncomputable section

namespace Cert.Ffn

open Idealize.ShloMosaic

/-- The logistic function. -/
def sg (x : EReal) : EReal := Ideal.div 1 (1 + Ideal.exp (-x))

/-- The gated product at row `r`, column `j` of block `s`. -/
def act (A : (⟨4, ![2, 4, 8192, 704]⟩ : Shape).Idx → EReal) (s : Fin 4) (r : Fin 8192) (j : Fin 704) : EReal :=
  A (ix4 (0 : Fin 2) s r j) * sg (A (ix4 (0 : Fin 2) s r j)) * A (ix4 (1 : Fin 2) s r j)

/-- Gradient of the gate: `dz` the cotangent of the product, `u` the other factor, `g` the gate before `silu`. -/
def dGate (dz u g : EReal) : EReal := dz * u * sg g + g * (dz * u) * (sg g * (1 - sg g))

/-- Gradient of the other factor. -/
def dUp (dz g : EReal) : EReal := g * sg g * dz

/-- The derivative of the logistic function, in the kernel's form. -/
theorem sg_deriv (x : EReal) :
    Ideal.div 1 ((1 + Ideal.exp (-x)) * (1 + Ideal.exp (-x))) * Ideal.exp (-x) = sg x * (1 - sg x) := by
  induction x with
  | bot =>
    have e1 : Ideal.exp ⊤ = ⊤ := rfl
    have d1 : (1 : EReal) + ⊤ = ⊤ := rfl
    simp [sg, Ideal.div, e1, d1]
  | top =>
    have e1 : Ideal.exp ⊥ = 0 := rfl
    have d1 : (1 : EReal) - 1 = 0 := by rw [← EReal.coe_one, ← EReal.coe_sub, sub_self]; rfl
    simp [sg, Ideal.div, e1, d1]
  | coe r =>
    have hp : (0 : ℝ) < Real.exp (-r) := Real.exp_pos _
    have hd : (1 + Real.exp (-r) : ℝ) ≠ 0 := by positivity
    have e1 : Ideal.exp (-(r : EReal)) = ((Real.exp (-r) : ℝ) : EReal) := rfl
    have d1 : (1 : EReal) + ((Real.exp (-r) : ℝ) : EReal) = ((1 + Real.exp (-r) : ℝ) : EReal) := by
      rw [EReal.coe_add]; rfl
    have q (z : ℝ) (hz : z ≠ 0) : Ideal.div 1 (z : EReal) = ((z⁻¹ : ℝ) : EReal) := by
      have : (z : EReal) ≠ 0 := by exact_mod_cast hz
      simp [Ideal.div, this, EReal.coe_inv]
    unfold sg
    rw [e1, d1, ← EReal.coe_mul, q _ (mul_ne_zero hd hd), q _ hd]
    have one : (1 : EReal) = ((1 : ℝ) : EReal) := rfl
    rw [one, ← EReal.coe_mul, ← EReal.coe_sub, ← EReal.coe_mul]
    congr 1
    field_simp
    ring

/-- The kernel's gradient of the gate is the reference's. -/
theorem dGate_eq (dz u g : EReal) :
    dz * u * Ideal.div 1 (1 + Ideal.exp (0 - g))
      + (0 - (0 - g * (dz * u) * Ideal.div 1 ((1 + Ideal.exp (0 - g)) * (1 + Ideal.exp (0 - g)))) * Ideal.exp (0 - g))
    = dGate dz u g := by
  simp only [zero_sub]
  rw [EReal.neg_mul, neg_neg, mul_assoc (g * (dz * u)), sg_deriv]
  rfl

/-- The kernel's gradient of the other factor is the reference's. -/
theorem dUp_eq (dz g : EReal) : g * Ideal.div 1 (1 + Ideal.exp (0 - g)) * dz = dUp dz g := by
  rw [zero_sub]; rfl

end Cert.Ffn

end
-- ==== Proof.Ffn.Grad.lean ====
module

public import proofs.«01_k».proof.Proof.Ffn.Silu
public import proofs.«01_k».proof.Proof.Gen.Kernel2Ideal.Value
public import proofs.«01_k».proof.Proof.Gen.Reference2Ideal.Run

/-! # The gradient of the feed-forward layer's gated product

Second program. The cotangent of the gated product is `df · w_downᵀ`; the result holds the gradients of the gate
(slot 0) and of the other factor (slot 1), each in four column blocks of 704. -/

@[expose] public section

set_option maxRecDepth 16384

noncomputable section

namespace Cert.Ffn

open Idealize.ShloMosaic

/-- The cotangent of the gated product at row `r`, column `j` of block `s`. -/
def dz (D : (⟨2, ![8192, 1024]⟩ : Shape).Idx → EReal) (W : (⟨5, ![4, 6, 4, 704, 1024]⟩ : Shape).Idx → EReal)
    (s : Fin 4) (r : Fin 8192) (j : Fin 704) : EReal :=
  ∑ x : Fin 1024, D (ix2 r x) * W (ix5 s (4 : Fin 6) (0 : Fin 4) j x)

/-- Both gradients, by slot. -/
def grad (D : (⟨2, ![8192, 1024]⟩ : Shape).Idx → EReal) (W : (⟨5, ![4, 6, 4, 704, 1024]⟩ : Shape).Idx → EReal)
    (A : (⟨4, ![2, 4, 8192, 704]⟩ : Shape).Idx → EReal) (a : Fin 2) (s : Fin 4) (r : Fin 8192) (j : Fin 704) : EReal :=
  if a = 0 then dGate (dz D W s r j) (A (ix4 (1 : Fin 2) s r j)) (A (ix4 (0 : Fin 2) s r j))
  else dUp (dz D W s r j) (A (ix4 (0 : Fin 2) s r j))

end Cert.Ffn

namespace Cert.Reference2Ideal.Ffn

open Idealize.ShloMosaic Idealize.SL.Sem Cert.Ffn Cert.Reference2Ideal Cert.Reference2Ideal.Gen

variable (m : (ℓ : Loc nD τ sig) → Buf (Elt Ideal) ℓ) (c : Dev nD)

/-- The reference's result is the two gradients. -/
theorem result : Value.res_main_v27 m c
    = fun y : S2x4x8192x704.Idx => (grad (m (c.tc.loc main_arg0)) (m (c.tc.loc main_arg1))
        (m (c.tc.loc main_arg2)) (y 0) (y 1) (y 2) (y 3) : EReal) := by
  have gate (s : Fin 4) (r : Fin 8192) (j : Fin 704) : Value.res_main_v27 m c (ix4 (0 : Fin 2) s r j)
      = (grad (m (c.tc.loc main_arg0)) (m (c.tc.loc main_arg1))
        (m (c.tc.loc main_arg2)) 0 s r j : EReal) := by
    unfold Value.res_main_v27
    pointwise
    rfl
  have up (s : Fin 4) (r : Fin 8192) (j : Fin 704) : Value.res_main_v27 m c (ix4 (1 : Fin 2) s r j)
      = (grad (m (c.tc.loc main_arg0)) (m (c.tc.loc main_arg1))
        (m (c.tc.loc main_arg2)) 1 s r j : EReal) := by
    unfold Value.res_main_v27
    pointwise
    rfl
  funext y
  obtain ⟨a, s, r, j, rfl⟩ : ∃ (a : Fin 2) (s : Fin 4) (r : Fin 8192) (j : Fin 704), y = ix4 a s r j :=
    ⟨y 0, y 1, y 2, y 3, eq_ix4 y⟩
  match a with
  | 0 => exact gate s r j
  | 1 => exact up s r j

end Cert.Reference2Ideal.Ffn

namespace Cert.Kernel2Ideal.Ffn

open Idealize.ShloMosaic Idealize.SL.Sem Cert.Ffn Cert.Kernel2Ideal Cert.Kernel2Ideal.Gen

variable (m : (ℓ : Loc nD τ sig) → Buf (Elt Ideal) ℓ) (c : Dev nD)

/-- The blocks of a grid point: row block `t / 4`, column block `t % 4`. -/
theorem idx : ∀ t : Fin cfg0.N, win0_0.index t = ![t.val / 4, 0] ∧ win0_1.index t = ![t.val % 4, 4, 0, 0, 0]
    ∧ win0_2.index t = ![0, t.val % 4, t.val / 4, 0] ∧ win0_3.index t = ![0, t.val % 4, t.val / 4, 0] ∧ t.val / 4 < 8 :=
  (by decide +kernel : ∀ t : Fin grid0.N, _)

/-- The kernel's result is the two gradients. -/
theorem result : (dats m 0 c).arrAt 3 cfg0.N
    = fun y : S2x4x8192x704.Idx => (grad (m (c.tc.loc main_arg0)) (m (c.tc.loc main_arg1))
        (m (c.tc.loc main_arg2)) (y 0) (y 1) (y 2) (y 3) : EReal) := by
  refine (dats m 0 c).arrAt_eq_of_covers 3 _ (by decide +kernel) fun t hf y => ?_
  have ht := (idx t).2.2.2.2
  blk_simp
  rw [after0_3]
  show out0_3 (F := Ideal) _ _ _ y = _
  canon_tiles x h
  · pointwise [k0_pay1, k0_pay2, k0_pay3, k0_pay4, k0_pay5, k0_pay6, k0_pay7, k0_pay8, k0_pay9, k0_pay10, k0_pay11]
    have e : ((View.whole main_v0).slice (win0_3.rect t)).emb y
        = ix4 (1 : Fin 2) (⟨t.val % 4, by omega⟩ : Fin 4) (⟨t.val / 4 * 1024 + (x 2).val, by omega⟩ : Fin 8192) (⟨x 3, by omega⟩ : Fin 704) := by
      blk_ext [idx t]
    rw [e]
    refine (dUp_eq _ _).trans ?_
    dsimp only [grad, dz]
    blk_point [iblk, V, idx t]
  · pointwise [k0_pay1, k0_pay2, k0_pay3, k0_pay4, k0_pay5, k0_pay6, k0_pay7, k0_pay8, k0_pay9, k0_pay10, k0_pay11]
    have e : ((View.whole main_v0).slice (win0_3.rect t)).emb y
        = ix4 (0 : Fin 2) (⟨t.val % 4, by omega⟩ : Fin 4) (⟨t.val / 4 * 1024 + (x 2).val, by omega⟩ : Fin 8192) (⟨x 3, by omega⟩ : Fin 704) := by
      blk_ext [idx t]
    rw [e]
    refine (dGate_eq _ _ _).trans ?_
    dsimp only [grad, dz]
    blk_point [iblk, V, idx t]

end Cert.Kernel2Ideal.Ffn

end
-- ==== Proof.Ffn.Claims2.lean ====
module

public import proofs.«01_k».proof.Defs
public import proofs.«01_k».proof.Proof.Same
public import proofs.«01_k».proof.Proof.Ffn.Grad
public import Idealize.ShloMosaic.Lib.Quiescent

/-! # Through the gate (second program): the claims -/

@[expose] public section

set_option maxRecDepth 16384

noncomputable section

namespace Cert.Ffn2

open Idealize.ShloMosaic Idealize.SL.Sem

/-- The kernel's side conditions are those of its idealised program. -/
theorem facts : Cert.Kernel2.Facts := { Cert.Kernel2Ideal.Gen.facts with }

attribute [local instance] facts

/-- The kernel and its idealised program have the same bodies. -/
theorem defs_eq {F : FTy → Type} [FloatOps F] : Cert.Kernel2.defs (F := F) = Cert.Kernel2Ideal.defs :=
  congrArg (Pipeline.defs Cert.Kernel2Ideal.pcfgs) (onTc_congr fun | 0, (_, _) => rfl)

/-- The kernel's frame is that of its idealised program, over bits. -/
theorem frame : Cert.quiescent_Kernel2 := fun m ρ _ => by
  rw [defs_eq]; exact Cert.Kernel2Ideal.Gen.frame m ρ

/-- The idealised kernel's frame. -/
theorem frameIdeal : Cert.quiescent_Kernel2Ideal := fun m ρ _ => Cert.Kernel2Ideal.Gen.frame (F := Ideal) m ρ

/-- The reference's frame. -/
theorem frameReference : Cert.quiescent_Reference2Ideal := fun m ρ _ =>
  (θ_run _ _ _).mono (fun r h => ⟨fun c => (h c).2, sem_eq_zero_of_no_sems rfl _⟩) (Cert.Reference2Ideal.Value.run (F := Ideal) m ρ)

/-- Kernel and reference end with the same values. -/
theorem algebraic : Cert.algebraic_Kernel2Ideal_Reference2Ideal := fun m g m' g' _ h => by
  refine ⟨_, (θ_run _ _ _).mono (fun r h c => ⟨(h c).1.trans (Cert.Kernel2Ideal.Ffn.result m c), (h c).2⟩) (Cert.Kernel2Ideal.Value.run_blocks (F := Ideal) m g), ?_⟩
  refine (θ_run _ _ _).mono (fun r hr c => ?_) (Cert.Reference2Ideal.Value.run m' g')
  obtain ⟨eq0, eq1, eq2⟩ := h c
  have k := hr c
  rw [Cert.Reference2Ideal.Ffn.result m' c] at k
  refine ⟨k.1.trans ?_, k.2⟩
  rw [eq0, eq1, eq2]

end Cert.Ffn2

end
-- ==== Proof.Ffn.Put.lean ====
module

public import Idealize.ShloMosaic.Lib.Pipeline.ValueKit

/-! # Setting slabs of the stacked gradients

The stacked array has four column blocks, six tensors and four layers; one slab is one tensor of layer 0. -/

@[expose] public section

set_option maxRecDepth 16384

noncomputable section

namespace Cert.Ffn

open Idealize.ShloMosaic

/-- The stacked array with the slab of tensor `n`, layer 0, set: that slab at its cells, the array elsewhere. -/
theorem put_apply (X : (⟨5, ![4, 6, 4, 704, 1024]⟩ : Shape).Idx → EReal) (U : (⟨5, ![4, 1, 1, 704, 1024]⟩ : Shape).Idx → EReal)
    (start : Fin 5 → Int) (h : (⟨5, ![4, 6, 4, 704, 1024]⟩ : Shape).Slices (fun _ => 0) ⟨5, ![4, 1, 1, 704, 1024]⟩)
    (n : ℕ) (hn : n < 6) (h0 : start 0 = 0) (h1 : start 1 = (n : Int)) (h2 : start 2 = 0) (h3 : start 3 = 0) (h4 : start 4 = 0)
    (i : (⟨5, ![4, 6, 4, 704, 1024]⟩ : Shape).Idx) :
    Host.dynamicUpdateSlice (s := ⟨5, ![4, 6, 4, 704, 1024]⟩) X U start h i
      = if (i 1 : ℕ) = n ∧ (i 2 : ℕ) = 0 then U (ix5 (i 0) (0 : Fin 1) (0 : Fin 1) (i 3) (i 4)) else X i := by
  have c0 : Host.clampedStart ⟨5, ![4, 6, 4, 704, 1024]⟩ ⟨5, ![4, 1, 1, 704, 1024]⟩ h.1 start 0 = 0 := by
    unfold Host.clampedStart; rw [h0]; rfl
  have c1 : Host.clampedStart ⟨5, ![4, 6, 4, 704, 1024]⟩ ⟨5, ![4, 1, 1, 704, 1024]⟩ h.1 start 1 = n := by
    unfold Host.clampedStart; rw [h1]; simp; omega
  have c2 : Host.clampedStart ⟨5, ![4, 6, 4, 704, 1024]⟩ ⟨5, ![4, 1, 1, 704, 1024]⟩ h.1 start 2 = 0 := by
    unfold Host.clampedStart; rw [h2]; rfl
  have c3 : Host.clampedStart ⟨5, ![4, 6, 4, 704, 1024]⟩ ⟨5, ![4, 1, 1, 704, 1024]⟩ h.1 start 3 = 0 := by
    unfold Host.clampedStart; rw [h3]; rfl
  have c4 : Host.clampedStart ⟨5, ![4, 6, 4, 704, 1024]⟩ ⟨5, ![4, 1, 1, 704, 1024]⟩ h.1 start 4 = 0 := by
    unfold Host.clampedStart; rw [h4]; rfl
  rw [Host.dynamicUpdateSlice_apply]
  have b0 := (i 0).isLt
  have b3 := (i 3).isLt
  have b4 := (i 4).isLt
  by_cases hc : (i 1 : ℕ) = n ∧ (i 2 : ℕ) = 0
  · rw [if_pos hc, dif_pos]
    · congr 1
      funext b
      fin_cases b <;> apply Fin.ext
      · exact congrArg (fun z => (i 0 : ℕ) - z) c0
      · exact (congrArg (fun z => (i 1 : ℕ) - z) c1).trans (by have := hc.1; show (i 1 : ℕ) - n = 0; omega)
      · exact (congrArg (fun z => (i 2 : ℕ) - z) c2).trans (by have := hc.2; show (i 2 : ℕ) - 0 = 0; omega)
      · exact congrArg (fun z => (i 3 : ℕ) - z) c3
      · exact congrArg (fun z => (i 4 : ℕ) - z) c4
    · intro a
      fin_cases a
      · rw [show (⟨0, _⟩ : Fin 5) = 0 from rfl, c0]; exact ⟨Nat.zero_le _, by rw [Nat.zero_add]; exact b0⟩
      · rw [show (⟨1, _⟩ : Fin 5) = 1 from rfl, c1]; exact ⟨hc.1.ge, by rw [hc.1]; exact Nat.lt_succ_self n⟩
      · rw [show (⟨2, _⟩ : Fin 5) = 2 from rfl, c2]; exact ⟨Nat.zero_le _, by rw [hc.2]; exact Nat.one_pos⟩
      · rw [show (⟨3, _⟩ : Fin 5) = 3 from rfl, c3]; exact ⟨Nat.zero_le _, by rw [Nat.zero_add]; exact b3⟩
      · rw [show (⟨4, _⟩ : Fin 5) = 4 from rfl, c4]; exact ⟨Nat.zero_le _, by rw [Nat.zero_add]; exact b4⟩
  · rw [if_neg hc, dif_neg]
    intro ha
    apply hc
    have a1 := ha 1
    have a2 := ha 2
    rw [c1] at a1
    rw [c2] at a2
    exact ⟨Nat.le_antisymm (Nat.lt_succ_iff.mp a1.2) a1.1, Nat.lt_one_iff.mp (by simpa using a2.2)⟩

/-- The stacked array with the slabs of tensors 0 and 1, layer 0, set: those slabs at their cells, the array elsewhere. -/
theorem put2_apply (X : (⟨5, ![4, 6, 4, 704, 1024]⟩ : Shape).Idx → EReal) (U : (⟨5, ![4, 2, 1, 704, 1024]⟩ : Shape).Idx → EReal)
    (start : Fin 5 → Int) (h : (⟨5, ![4, 6, 4, 704, 1024]⟩ : Shape).Slices (fun _ => 0) ⟨5, ![4, 2, 1, 704, 1024]⟩)
    (h0 : start 0 = 0) (h1 : start 1 = 0) (h2 : start 2 = 0) (h3 : start 3 = 0) (h4 : start 4 = 0)
    (i : (⟨5, ![4, 6, 4, 704, 1024]⟩ : Shape).Idx) :
    Host.dynamicUpdateSlice (s := ⟨5, ![4, 6, 4, 704, 1024]⟩) X U start h i
      = if hc : (i 1 : ℕ) < 2 ∧ (i 2 : ℕ) = 0 then U (ix5 (i 0) (⟨i 1, hc.1⟩ : Fin 2) (0 : Fin 1) (i 3) (i 4)) else X i := by
  have c0 : Host.clampedStart ⟨5, ![4, 6, 4, 704, 1024]⟩ ⟨5, ![4, 2, 1, 704, 1024]⟩ h.1 start 0 = 0 := by
    unfold Host.clampedStart; rw [h0]; rfl
  have c1 : Host.clampedStart ⟨5, ![4, 6, 4, 704, 1024]⟩ ⟨5, ![4, 2, 1, 704, 1024]⟩ h.1 start 1 = 0 := by
    unfold Host.clampedStart; rw [h1]; rfl
  have c2 : Host.clampedStart ⟨5, ![4, 6, 4, 704, 1024]⟩ ⟨5, ![4, 2, 1, 704, 1024]⟩ h.1 start 2 = 0 := by
    unfold Host.clampedStart; rw [h2]; rfl
  have c3 : Host.clampedStart ⟨5, ![4, 6, 4, 704, 1024]⟩ ⟨5, ![4, 2, 1, 704, 1024]⟩ h.1 start 3 = 0 := by
    unfold Host.clampedStart; rw [h3]; rfl
  have c4 : Host.clampedStart ⟨5, ![4, 6, 4, 704, 1024]⟩ ⟨5, ![4, 2, 1, 704, 1024]⟩ h.1 start 4 = 0 := by
    unfold Host.clampedStart; rw [h4]; rfl
  rw [Host.dynamicUpdateSlice_apply]
  have b0 := (i 0).isLt
  have b3 := (i 3).isLt
  have b4 := (i 4).isLt
  by_cases hc : (i 1 : ℕ) < 2 ∧ (i 2 : ℕ) = 0
  · rw [dif_pos hc, dif_pos]
    · congr 1
      funext b
      fin_cases b <;> apply Fin.ext
      · exact congrArg (fun z => (i 0 : ℕ) - z) c0
      · exact congrArg (fun z => (i 1 : ℕ) - z) c1
      · exact (congrArg (fun z => (i 2 : ℕ) - z) c2).trans (by have := hc.2; show (i 2 : ℕ) - 0 = 0; omega)
      · exact congrArg (fun z => (i 3 : ℕ) - z) c3
      · exact congrArg (fun z => (i 4 : ℕ) - z) c4
    · intro a
      fin_cases a
      · rw [show (⟨0, _⟩ : Fin 5) = 0 from rfl, c0]; exact ⟨Nat.zero_le _, by rw [Nat.zero_add]; exact b0⟩
      · rw [show (⟨1, _⟩ : Fin 5) = 1 from rfl, c1]; exact ⟨Nat.zero_le _, by rw [Nat.zero_add]; exact hc.1⟩
      · rw [show (⟨2, _⟩ : Fin 5) = 2 from rfl, c2]; exact ⟨Nat.zero_le _, by rw [hc.2]; exact Nat.one_pos⟩
      · rw [show (⟨3, _⟩ : Fin 5) = 3 from rfl, c3]; exact ⟨Nat.zero_le _, by rw [Nat.zero_add]; exact b3⟩
      · rw [show (⟨4, _⟩ : Fin 5) = 4 from rfl, c4]; exact ⟨Nat.zero_le _, by rw [Nat.zero_add]; exact b4⟩
  · rw [dif_neg hc, dif_neg]
    intro ha
    apply hc
    have a1 := ha 1
    have a2 := ha 2
    rw [c1] at a1
    rw [c2] at a2
    exact ⟨by simpa using a1.2, Nat.lt_one_iff.mp (by simpa using a2.2)⟩

end Cert.Ffn

end
-- ==== Proof.Ffn.DownWeight.lean ====
module

public import proofs.«01_k».proof.Proof.Ffn.Silu
public import proofs.«01_k».proof.Proof.Ffn.Put
public import proofs.«01_k».proof.Proof.Gen.Kernel3Ideal.Value
public import proofs.«01_k».proof.Proof.Gen.Reference3Ideal.Run
public import Idealize.ShloMosaic.Lib.Pipeline.ReadBack

/-! # The gradient of the feed-forward layer's second weight

Third program. The gradient is the gated product, transposed, times the cotangent of the layer's output: a sum over
8192 rows. The kernel adds it up in eight blocks of 1024 rows and stores it in the slab of tensor 4, layer 0. -/

@[expose] public section

set_option maxRecDepth 16384

noncomputable section

namespace Cert.Ffn

open Idealize.ShloMosaic

/-- The gradient of the second weight at row `j` of block `s`, column `k`. -/
def wDown (A : (⟨4, ![2, 4, 8192, 704]⟩ : Shape).Idx → EReal) (D : (⟨2, ![8192, 1024]⟩ : Shape).Idx → EReal)
    (s : Fin 4) (j : Fin 704) (k : Fin 1024) : EReal :=
  ∑ r : Fin 8192, act A s r j * D (ix2 r k)

/-- The stacked gradients with that slab set. -/
def putDown (A : (⟨4, ![2, 4, 8192, 704]⟩ : Shape).Idx → EReal) (D : (⟨2, ![8192, 1024]⟩ : Shape).Idx → EReal)
    (X : (⟨5, ![4, 6, 4, 704, 1024]⟩ : Shape).Idx → EReal) (i : (⟨5, ![4, 6, 4, 704, 1024]⟩ : Shape).Idx) : EReal :=
  if (i 1 : ℕ) = 4 ∧ (i 2 : ℕ) = 0 then wDown A D (i 0) (i 3) (i 4) else X i

end Cert.Ffn

namespace Cert.Reference3Ideal.Ffn

open Idealize.ShloMosaic Idealize.SL.Sem Cert.Ffn Cert.Reference3Ideal Cert.Reference3Ideal.Gen

variable (m : (ℓ : Loc nD τ sig) → Buf (Elt Ideal) ℓ) (ρ : Dev nD → PrngReg)

/-- A run of the reference ends with the slab set, and with the arguments as they were. -/
theorem values : θ_run (defs (F := Ideal)) (onTc (τ := τ) (main (F := Ideal))) ⟨m, fun _ => 0, ρ⟩ (fun r => ∀ c : Dev nD,
      r.2.mem (c.tc.loc main_v20) = putDown (m (c.tc.loc main_arg0))
        (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) := by
  refine (θ_run defs _ _).mono (fun r h c => ⟨(h c).1.trans ?_, (h c).2⟩) (Value.run m ρ)
  funext y
  refine (put_apply _ _ _ _ 4 (by decide) rfl rfl rfl rfl rfl y).trans ?_
  unfold putDown
  refine if_congr Iff.rfl ?_ rfl
  obtain ⟨a, b, d, j, k, rfl⟩ : ∃ (a : Fin 4) (b : Fin 6) (d : Fin 4) (j : Fin 704) (k : Fin 1024), y = ix5 a b d j k :=
    ⟨y 0, y 1, y 2, y 3, y 4, eq_ix5 y⟩
  show _ = wDown _ _ a j k
  pointwise
  unfold wDown act sg
  refine Finset.sum_congr rfl fun x _ => ?_
  exact mul_comm _ _

end Cert.Reference3Ideal.Ffn

namespace Cert.Kernel3Ideal.Ffn

open Idealize.ShloMosaic Idealize.SL.Sem Cert.Ffn Cert.Kernel3Ideal Cert.Kernel3Ideal.Gen

variable (m : (ℓ : Loc nD τ sig) → Buf (Elt Ideal) ℓ) (c : Dev nD)

/-- The blocks of a grid point: column block `t / 8`, row block `t % 8`. -/
theorem idx : ∀ t : Fin cfg0.N, win0_0.index t = ![0, t.val / 8, t.val % 8, 0] ∧ win0_1.index t = ![t.val % 8, 0]
    ∧ win0_2.index t = ![t.val / 8, 4, 0, 0, 0] ∧ t.val / 8 < 4 :=
  (by decide +kernel : ∀ t : Fin grid0.N, _)

/-- What one point adds. -/
def part (t : Fin cfg0.N) (y : S704x1024.Idx) : EReal :=
  ∑ x : Fin 1024, (show FVec Ideal S2x1x1024x704 .bf16 from iblk m c 0 t) (ix4 (0 : Fin 2) (0 : Fin 1) x (y 0))
      * sg ((show FVec Ideal S2x1x1024x704 .bf16 from iblk m c 0 t) (ix4 (0 : Fin 2) (0 : Fin 1) x (y 0)))
      * (show FVec Ideal S2x1x1024x704 .bf16 from iblk m c 0 t) (ix4 (1 : Fin 2) (0 : Fin 1) x (y 0))
      * (show FVec Ideal S1024x1024 .bf16 from iblk m c 1 t) (ix2 x (y 1))

/-- A run's first point starts the sum. -/
theorem reset (t : Fin cfg0.N) (h : t.val % 8 = 0) (y : S704x1024.Idx) : (outsAt0 m c t.val t.isLt).2 y = part m c t y := by
  rw [outsAt0_A m c t (by omega) (by omega) (by omega)]
  dsimp only
  frame_out
  pointwise [k0_pay1, k0_pay2, k0_pay3]
  simp only [zero_sub]
  rfl

/-- Every other point adds to it. -/
theorem step (t : Fin cfg0.N) (h : ¬t.val % 8 = 0) (y : S704x1024.Idx) :
    (outsAt0 m c t.val t.isLt).2 y = (outsAt0 m c (t.val - 1) (by omega)).2 y + part m c t y := by
  by_cases h7 : t.val % 8 = 7
  · rw [outsAt0_C m c t (by omega) (by omega) (by omega)]
    dsimp only
    frame_out
    pointwise [k0_pay1, k0_pay2, k0_pay3]
    rw [read_unread_whole]
    simp only [zero_sub]
    rfl
  · rw [outsAt0_B m c t (by omega) (by omega) (by omega)]
    dsimp only
    frame_out
    pointwise [k0_pay1, k0_pay2, k0_pay3]
    rw [read_unread_whole]
    simp only [zero_sub]
    rfl

/-- A run's last point stores the sum. -/
theorem store (t : Fin cfg0.N) (h : t.val % 8 = 7) (y : S1x1x1x704x1024.Idx) :
    (outsAt0 m c t.val t.isLt).1 y = (outsAt0 m c t.val t.isLt).2 (ix2 (y 3) (y 4)) := by
  rw [outsAt0_C m c t (by omega) (by omega) h]
  dsimp only
  frame_out
  pointwise [k0_pay4]

/-- The stored sum is the gradient. -/
theorem total (t : Fin cfg0.N) (h : t.val % 8 = 7) (y : S704x1024.Idx) (s : Fin 4) (hs : (s : ℕ) = t.val / 8) :
    (outsAt0 m c t.val t.isLt).2 y = wDown (m (c.tc.loc main_arg0)) (m (c.tc.loc main_arg1)) s (y 0) (y 1) := by
  rw [Pipeline.eq_sum_fin_of_reset_step_apply_of_flush (fun n h => (outsAt0 m c n h).2) 8 (fun _ => (0 : EReal)) (part m c)
    (fun t h j => (reset m c t h j).trans (zero_add _).symm) (fun t h j => step m c t h j) t h y, zero_add]
  unfold wDown part act
  refine Fin.sum_mul_add_congr fun q k hl => ?_
  blk_point [iblk, V, idx ⟨_, Pipeline.run_point_lt_of_flush t h q⟩]

/-- The result array starts as the stacked gradients given. -/
theorem kept : (dats m 0 c).A 2 = m (c.tc.loc main_arg2) := by
  refine (A_eq m c 2).trans ?_
  show V m c main_v0 = _
  unfold V
  after_results
  try rfl

/-- The kernel's result is the stacked gradients with the slab set. -/
theorem result : (dats m 0 c).arrAt 2 cfg0.N = putDown (m (c.tc.loc main_arg0))
        (m (c.tc.loc main_arg1)) (m (c.tc.loc main_arg2)) := by
  refine (dats m 0 c).arrAt_eq_of_coversWhere_of_agree 2 _ (fun β => β 1 = 4 ∧ β 2 = 0) (by decide +kernel) (fun t hf y => ?_) (fun j hj => ?_)
  · have h7 := (flush0_2 t).mp hf
    have ht := (idx t).2.2.2
    blk_simp
    rw [after0_2]
    refine (store m c t h7 y).trans ((total m c t h7 _ ⟨t.val / 8, ht⟩ rfl).trans ?_)
    have e : (win0_2.blk t).view.emb y = ix5 (⟨t.val / 8, ht⟩ : Fin 4) (4 : Fin 6) (0 : Fin 4) (⟨y 3, (y 3).isLt⟩ : Fin 704) (⟨y 4, (y 4).isLt⟩ : Fin 1024) := by
      blk_ext [idx t]
    rw [e]
    exact (if_pos ⟨rfl, rfl⟩).symm
  · blk_simp [Pipeline.Window.cell_apply] at hj
    blk_simp
    refine Eq.trans ?_ (if_neg (fun h => hj ⟨by rw [h.1], by rw [h.2]⟩)).symm
    exact congrFun (kept m c) j

end Cert.Kernel3Ideal.Ffn

end
-- ==== Proof.Ffn.Claims3.lean ====
module

public import proofs.«01_k».proof.Defs
public import proofs.«01_k».proof.Proof.Same
public import proofs.«01_k».proof.Proof.Ffn.DownWeight
public import Idealize.ShloMosaic.Lib.Quiescent

/-! # The second weight's gradient (third program): the claims -/

@[expose] public section

set_option maxRecDepth 16384

noncomputable section

namespace Cert.Ffn3

open Idealize.ShloMosaic Idealize.SL.Sem

/-- The kernel's side conditions are those of its idealised program. -/
theorem facts : Cert.Kernel3.Facts := { Cert.Kernel3Ideal.Gen.facts with }

attribute [local instance] facts

/-- The kernel and its idealised program have the same bodies. -/
theorem defs_eq {F : FTy → Type} [FloatOps F] : Cert.Kernel3.defs (F := F) = Cert.Kernel3Ideal.defs :=
  congrArg (Pipeline.defs Cert.Kernel3Ideal.pcfgs) (onTc_congr fun | 0, (_, _) => rfl)

/-- The kernel's frame is that of its idealised program, over bits. -/
theorem frame : Cert.quiescent_Kernel3 := fun m ρ _ => by
  rw [defs_eq]; exact Cert.Kernel3Ideal.Gen.frame m ρ

/-- The idealised kernel's frame. -/
theorem frameIdeal : Cert.quiescent_Kernel3Ideal := fun m ρ _ => Cert.Kernel3Ideal.Gen.frame (F := Ideal) m ρ

/-- The reference's frame. -/
theorem frameReference : Cert.quiescent_Reference3Ideal := fun m ρ _ =>
  (θ_run _ _ _).mono (fun r h => ⟨fun c => (h c).2, sem_eq_zero_of_no_sems rfl _⟩) (Cert.Reference3Ideal.Value.run (F := Ideal) m ρ)

/-- Kernel and reference end with the same values. -/
theorem algebraic : Cert.algebraic_Kernel3Ideal_Reference3Ideal := fun m g m' g' _ h => by
  refine ⟨_, (θ_run _ _ _).mono (fun r h c => ⟨(h c).1.trans (Cert.Kernel3Ideal.Ffn.result m c), (h c).2⟩) (Cert.Kernel3Ideal.Value.run_blocks (F := Ideal) m g), ?_⟩
  refine (θ_run _ _ _).mono (fun r hr c => ?_) (Cert.Reference3Ideal.Ffn.values m' g')
  obtain ⟨eq0, eq1, eq2⟩ := h c
  have k := hr c
  refine ⟨k.1.trans ?_, k.2⟩
  rw [eq0, eq1, eq2]

end Cert.Ffn3

end
-- ==== Proof.Ffn.Back.lean ====
module

public import proofs.«01_k».proof.Proof.Ffn.Silu
public import proofs.«01_k».proof.Proof.Gen.Kernel4Ideal.Value
public import proofs.«01_k».proof.Proof.Gen.Reference4Ideal.Run
public import Idealize.ShloMosaic.Lib.Pipeline.ReadBack

/-! # Back through the feed-forward layer's first weights and its normalisation

Fourth program. The gradients of gate and up, times their weights, give the gradient of the normalised rows; the kernel
adds the eight products up block by block. The last block of a row block goes back through the normalisation, and adds
the row block's share to the gradient of the normalisation's scale. -/

@[expose] public section

set_option maxRecDepth 16384

noncomputable section

namespace Cert.Ffn

open Idealize.ShloMosaic

/-- The gradient of the normalised rows at row `r`, column `k`: through the second weight, and through the first. -/
def dh (D : (⟨3, ![8, 8192, 704]⟩ : Shape).Idx → EReal) (W : (⟨5, ![4, 6, 4, 704, 1024]⟩ : Shape).Idx → EReal)
    (r : Fin 8192) (k : Fin 1024) : EReal :=
  (∑ n : Fin 2816, D (ix3 (⟨4 + n / 704, by omega⟩ : Fin 8) r (⟨n % 704, by omega⟩ : Fin 704))
      * W (ix5 (⟨n / 704, by omega⟩ : Fin 4) (1 : Fin 6) (0 : Fin 4) (⟨n % 704, by omega⟩ : Fin 704) k))
    + ∑ n : Fin 2816, D (ix3 (⟨n / 704, by omega⟩ : Fin 8) r (⟨n % 704, by omega⟩ : Fin 704))
      * W (ix5 (⟨n / 704, by omega⟩ : Fin 4) (0 : Fin 6) (0 : Fin 4) (⟨n % 704, by omega⟩ : Fin 704) k)

/-- The mean of a row's squares, and the constant added to it. -/
def meanSq (x : Fin 1024 → EReal) : EReal :=
  Ideal.div (∑ q : Fin 1024, x q * x q) (Ideal.ofBits FTy.f32 0x44800000#32) + Ideal.ofBits FTy.f32 0x358637BD#32

/-- The gradient of a row's mean square, over the row's length. -/
def dMean (x g d : Fin 1024 → EReal) : EReal :=
  ∑ _n : Fin 1, Ideal.div ((∑ q : Fin 1024, x q * (d q * g q)) * (Ideal.ofBits FTy.f32 0xBF000000#32
    * Ideal.div (Ideal.rsqrt (meanSq x)) (meanSq x))) (Ideal.ofBits FTy.f32 0x44800000#32)

/-- The gradient of a row through its normalisation, added to `e`. -/
def dNorm (x g d e : Fin 1024 → EReal) (k : Fin 1024) : EReal :=
  e k + d k * g k * Ideal.rsqrt (meanSq x) + x k * dMean x g d + dMean x g d * x k

/-- One row's share of the gradient of the scale. -/
def dScale (x d : Fin 1024 → EReal) (k : Fin 1024) : EReal := x k * Ideal.rsqrt (meanSq x) * d k

end Cert.Ffn

namespace Cert.Reference4Ideal.Ffn

open Idealize.ShloMosaic Idealize.SL.Sem Cert.Ffn Cert.Reference4Ideal Cert.Reference4Ideal.Gen

variable (m : (ℓ : Loc nD τ sig) → Buf (Elt Ideal) ℓ) (ρ : Dev nD → PrngReg)

/-- The first result. -/
theorem first (c : Dev nD) : Value.res_main_v57 m c = (fun y : S8192x1024.Idx => (dNorm (fun k => m (c.tc.loc main_arg2) (ix2 (y 0) k)) (fun k => m (c.tc.loc main_arg3) (ix2 (0 : Fin 1) k))
    (fun k => dh (m (c.tc.loc main_arg0)) (m (c.tc.loc main_arg1)) (y 0) k) (fun k => m (c.tc.loc main_arg4) (ix2 (y 0) k)) (y 1) : EReal)) := by
  funext y
  obtain ⟨r, k, rfl⟩ : ∃ (r : Fin 8192) (k : Fin 1024), y = ix2 r k := ⟨y 0, y 1, eq_ix2 y⟩
  unfold Value.res_main_v57
  pointwise
  rfl

/-- A run of the reference ends with both gradients, and with the arguments as they were. -/
theorem values : θ_run (defs (F := Ideal)) (onTc (τ := τ) (main (F := Ideal))) ⟨m, fun _ => 0, ρ⟩ (fun r => ∀ c : Dev nD,
      r.2.mem (c.tc.loc main_v57) = (fun y : S8192x1024.Idx => (dNorm (fun k => m (c.tc.loc main_arg2) (ix2 (y 0) k)) (fun k => m (c.tc.loc main_arg3) (ix2 (0 : Fin 1) k))
    (fun k => dh (m (c.tc.loc main_arg0)) (m (c.tc.loc main_arg1)) (y 0) k) (fun k => m (c.tc.loc main_arg4) (ix2 (y 0) k)) (y 1) : EReal))
      ∧ r.2.mem (c.tc.loc main_v40) = (fun y : S1x1024.Idx => (∑ r : Fin 8192, dScale (fun k => m (c.tc.loc main_arg2) (ix2 r k))
    (fun k => dh (m (c.tc.loc main_arg0)) (m (c.tc.loc main_arg1)) r k) (y 1) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) := by
  refine (θ_run defs _ _).mono (fun r h c => ⟨(h c).1.trans (first m c), (h c).2.1.trans ?_, (h c).2.2⟩) (Value.run m ρ)
  clear h
  funext y
  obtain ⟨r, k, rfl⟩ : ∃ (r : Fin 1) (k : Fin 1024), y = ix2 r k := ⟨y 0, y 1, eq_ix2 y⟩
  pointwise
  rfl

end Cert.Reference4Ideal.Ffn

namespace Cert.Kernel4Ideal.Ffn

open Idealize.ShloMosaic Idealize.SL.Sem Cert.Ffn Cert.Kernel4Ideal Cert.Kernel4Ideal.Gen

variable (m : (ℓ : Loc nD τ sig) → Buf (Elt Ideal) ℓ) (c : Dev nD)

/-- The blocks of a grid point: row block `t / 8`, product `t % 8`. -/
theorem idx : ∀ t : Fin cfg0.N, win0_0.index t = ![t.val % 8, t.val / 8, 0] ∧ win0_1.index t = ![t.val % 4, t.val % 8 / 4, 0, 0, 0]
    ∧ win0_2.index t = ![t.val / 8, 0] ∧ win0_3.index t = ![0, 0] ∧ win0_4.index t = ![t.val / 8, 0]
    ∧ win0_5.index t = ![t.val / 8, 0] ∧ win0_6.index t = ![0, 0] ∧ t.val / 8 < 8 :=
  (by decide +kernel : ∀ t : Fin grid0.N, _)

/-- What one point adds. -/
def part (t : Fin cfg0.N) (y : S1024x1024.Idx) : EReal :=
  ∑ x : Fin 704, (show FVec Ideal S1x1024x704 .bf16 from iblk m c 0 t) (ix3 (0 : Fin 1) (y 0) x)
      * (show FVec Ideal S1x1x1x704x1024 .bf16 from iblk m c 1 t) (ix5 (0 : Fin 1) (0 : Fin 1) (0 : Fin 1) x (y 1))

/-- A run's first point starts the sum. -/
theorem reset (t : Fin cfg0.N) (h : t.val % 8 = 0) (y : S1024x1024.Idx) : (outsAt0 m c t.val t.isLt).2.2 y = part m c t y := by
  rw [outsAt0_A m c t (by omega) (by omega) (by omega)]
  dsimp only
  frame_out
  pointwise [k0_pay1, k0_pay2, k0_pay3]
  rfl

/-- Every other point adds to it. -/
theorem step (t : Fin cfg0.N) (h : ¬t.val % 8 = 0) (y : S1024x1024.Idx) :
    (outsAt0 m c t.val t.isLt).2.2 y = (outsAt0 m c (t.val - 1) (by omega)).2.2 y + part m c t y := by
  by_cases h7 : t.val % 8 = 7
  · by_cases h8 : t.val < 8
    · rw [outsAt0_C m c t (by omega) (by omega) h7 h8 (by omega)]
      dsimp only
      frame_out
      pointwise [k0_pay1, k0_pay2, k0_pay3]
      rw [read_unread_whole]
      rfl
    · rw [outsAt0_D m c t (by omega) (by omega) h7 h8 (by omega)]
      dsimp only
      frame_out
      pointwise [k0_pay1, k0_pay2, k0_pay3]
      rw [read_unread_whole]
      rfl
  · rw [outsAt0_B m c t (by omega) (by omega) (by omega)]
    dsimp only
    frame_out
    pointwise [k0_pay1, k0_pay2, k0_pay3]
    rw [read_unread_whole]
    rfl

/-- The sum after a row block's last point is the gradient of the normalised rows. -/
theorem total (t : Fin cfg0.N) (h : t.val % 8 = 7) (y : S1024x1024.Idx) (r : Fin 8192) (hr : (r : ℕ) = t.val / 8 * 1024 + (y 0).val) :
    (outsAt0 m c t.val t.isLt).2.2 y = dh (m (c.tc.loc main_arg0)) (m (c.tc.loc main_arg1)) r (y 1) := by
  rw [Pipeline.eq_sum_fin_of_reset_step_apply_of_flush (fun n h => (outsAt0 m c n h).2.2) 8 (fun _ => (0 : EReal)) (part m c)
    (fun t h j => (reset m c t h j).trans (zero_add _).symm) (fun t h j => step m c t h j) t h y, zero_add]
  refine (Fin.sum_univ_add (a := 4) (b := 4) _).trans ((add_comm _ _).trans ?_)
  unfold dh part
  refine congrArg₂ (· + ·) ?_ ?_
  · refine Fin.sum_mul_add_congr fun q k hl => ?_
    blk_point [iblk, V, idx ⟨_, Pipeline.run_point_lt_of_flush t h (Fin.natAdd 4 q)⟩]
    all_goals
      simp only [Fin.val_natAdd, Fin.val_castAdd]
      omega
  · refine Fin.sum_mul_add_congr fun q k hl => ?_
    blk_point [iblk, V, idx ⟨_, Pipeline.run_point_lt_of_flush t h (Fin.castAdd 4 q)⟩]
    all_goals
      simp only [Fin.val_natAdd, Fin.val_castAdd]
      omega

/-- A row of a window's block. -/
def rowAt (t : Fin cfg0.N) (r k : Fin 1024) : EReal := (show FVec Ideal S1024x1024 .f32 from iblk m c 2 t) (ix2 r k)

/-- A row block's last point stores the gradient of its rows. -/
theorem storeX (t : Fin cfg0.N) (h : t.val % 8 = 7) (r k : Fin 1024) : (outsAt0 m c t.val t.isLt).1 (ix2 r k)
    = (dNorm (rowAt m c t r) (fun q => (show FVec Ideal S1x1024 .f32 from iblk m c 3 t) (ix2 (0 : Fin 1) q))
      (fun q => (outsAt0 m c t.val t.isLt).2.2 (ix2 r q)) (fun q => (show FVec Ideal S1024x1024 .f32 from iblk m c 4 t) (ix2 r q)) k : EReal) := by
  unfold dNorm
  rw [add_assoc, add_assoc, add_comm, ← add_assoc]
  by_cases h8 : t.val < 8
  · rw [outsAt0_C m c t (by omega) (by omega) h h8 (by omega)]
    dsimp only
    frame_out
    pointwise [k0_pay8, k0_pay6, k0_pay5]
    rfl
  · rw [outsAt0_D m c t (by omega) (by omega) h h8 (by omega)]
    dsimp only
    frame_out
    pointwise [k0_pay8, k0_pay6, k0_pay5]
    rfl

/-- A row block's share of the gradient of the scale. -/
def share (t : Fin cfg0.N) (k : Fin 1024) : EReal :=
  ∑ r : Fin 1024, dScale (rowAt m c t r) (fun q => (outsAt0 m c t.val t.isLt).2.2 (ix2 r q)) k

/-- The first row block stores its share. -/
theorem first (t : Fin cfg0.N) (h : t.val % 8 = 7) (h8 : t.val < 8) (r : Fin 1) (k : Fin 1024) :
    (outsAt0 m c t.val t.isLt).2.1 (ix2 r k) = share m c t k := by
  unfold share
  rw [outsAt0_C m c t (by omega) (by omega) h h8 (by omega)]
  dsimp only
  frame_out
  pointwise [k0_pay4, k0_pay5, k0_pay6, k0_pay7]
  rfl

/-- Every later row block adds its share. -/
theorem later (t : Fin cfg0.N) (h : t.val % 8 = 7) (h8 : ¬t.val < 8) (r : Fin 1) (k : Fin 1024) :
    (outsAt0 m c t.val t.isLt).2.1 (ix2 r k) = (outsAt0 m c (t.val - 1) (by omega)).2.1 (ix2 r k) + share m c t k := by
  unfold share
  rw [outsAt0_D m c t (by omega) (by omega) h h8 (by omega)]
  dsimp only
  frame_out
  pointwise [k0_pay4, k0_pay5, k0_pay6, k0_pay7]
  rfl

/-- The other points leave the gradient of the scale as it was. -/
theorem keep (t : Fin cfg0.N) (h : ¬t.val % 8 = 7) :
    (outsAt0 m c t.val t.isLt).2.1 = (outsAt0 m c (t.val - 1) (by omega)).2.1 := by
  by_cases h0 : t.val % 8 = 0
  · rw [outsAt0_A m c t (by omega) (by omega) (by omega)]
    rfl
  · rw [outsAt0_B m c t (by omega) (by omega) (by omega)]
    rfl

/-- So do several of them in a row. -/
theorem keeps (b j : ℕ) (hj : j < 8) : ∀ (n : ℕ) (hn : n < cfg0.N) (_ : n = 8 * b + 7 + j) (hb : 8 * b + 7 < cfg0.N),
    (outsAt0 m c n hn).2.1 = (outsAt0 m c (8 * b + 7) hb).2.1 := by
  induction j with
  | zero => intro n hn e hb; subst e; rfl
  | succ j ih => exact fun n hn e hb => (keep m c ⟨n, hn⟩ (by dsimp only; omega)).trans (ih (by omega) (n - 1) (by omega) (by omega) hb)

/-- A row's share of the gradient of the scale, from the arguments. -/
def rowShare (k : Fin 1024) (r : Fin 8192) : EReal :=
  dScale (fun k => m (c.tc.loc main_arg2) (ix2 r k))
    (fun k => dh (m (c.tc.loc main_arg0)) (m (c.tc.loc main_arg1)) r k) k

/-- A row block's share of the gradient of the scale, from the arguments; nothing for the row blocks that do not exist. -/
def blockShare (k : Fin 1024) (b : ℕ) : EReal :=
  ∑ r : Fin 1024, if h : b * 1024 + r.val < 8192 then rowShare m c k ⟨b * 1024 + r.val, h⟩ else 0

/-- The rows of a row block. -/
theorem rowAt_eq (t : Fin cfg0.N) (r : Fin 1024) (h : t.val / 8 * 1024 + r.val < 8192) :
    rowAt m c t r = fun k => m (c.tc.loc main_arg2) (ix2 (⟨t.val / 8 * 1024 + r.val, h⟩ : Fin 8192) k) := by
  funext k
  unfold rowAt
  blk_point [iblk, V, idx t]

/-- A row block's share is that from the arguments. -/
theorem share_eq (t : Fin cfg0.N) (h : t.val % 8 = 7) (k : Fin 1024) : share m c t k = blockShare m c k (t.val / 8) := by
  have ht := (idx t).2.2.2.2.2.2.2
  unfold share blockShare
  refine Finset.sum_congr rfl fun r _ => ?_
  have hr : t.val / 8 * 1024 + r.val < 8192 := by omega
  have tot (q : Fin 1024) := total m c t h (ix2 r q) ⟨t.val / 8 * 1024 + r.val, hr⟩ rfl
  rw [dif_pos hr, rowAt_eq m c t r hr]
  simp only [tot]
  rfl

/-- After row block `b`, the shares of it and of those before it are added up. -/
theorem scale (r : Fin 1) (k : Fin 1024) (b : ℕ) : ∀ (n : ℕ) (hn : n < cfg0.N) (_ : n = 8 * b + 7),
    (outsAt0 m c n hn).2.1 (ix2 r k) = ∑ q ∈ Finset.range (b + 1), blockShare m c k q := by
  induction b with
  | zero =>
    intro n hn e
    rw [Finset.sum_range_one]
    refine (first m c ⟨n, hn⟩ (by dsimp only; omega) (by dsimp only; omega) r k).trans ?_
    rw [share_eq m c ⟨n, hn⟩ (by dsimp only; omega) k]
    dsimp only
    rw [e]
  | succ b ih =>
    intro n hn e
    rw [Finset.sum_range_succ, ← ih (8 * b + 7) (by omega) rfl]
    refine (later m c ⟨n, hn⟩ (by dsimp only; omega) (by dsimp only; omega) r k).trans ?_
    refine congrArg₂ (· + ·) (congrFun (keeps m c b 7 (by omega) (n - 1) (by omega) (by omega) (by omega)) _) ?_
    rw [share_eq m c ⟨n, hn⟩ (by dsimp only; omega) k]
    refine congrArg _ ?_
    dsimp only
    omega

/-- The kernel's first result is the gradient of the rows. -/
theorem result : (dats m 0 c).arrAt 5 cfg0.N = (fun y : S8192x1024.Idx => (dNorm (fun k => m (c.tc.loc main_arg2) (ix2 (y 0) k)) (fun k => m (c.tc.loc main_arg3) (ix2 (0 : Fin 1) k))
    (fun k => dh (m (c.tc.loc main_arg0)) (m (c.tc.loc main_arg1)) (y 0) k) (fun k => m (c.tc.loc main_arg4) (ix2 (y 0) k)) (y 1) : EReal)) := by
  refine (dats m 0 c).arrAt_eq_of_covers 5 _ (by decide +kernel) fun t hf y => ?_
  have h := (flush0_5 t).mp hf
  have ht := (idx t).2.2.2.2.2.2.2
  blk_simp
  rw [after0_5]
  have hy : (y 0).val < 1024 := (y 0).isLt
  have hr : t.val / 8 * 1024 + (y 0).val < 8192 := by omega
  have e : (win0_5.blk t).view.emb y = ix2 (⟨t.val / 8 * 1024 + (y 0).val, hr⟩ : Fin 8192) (⟨y 1, (y 1).isLt⟩ : Fin 1024) := by
    blk_ext [idx t]
  rw [e]
  have s := storeX m c t h ⟨y 0, hy⟩ ⟨y 1, (y 1).isLt⟩
  have tot (q : Fin 1024) := total m c t h (ix2 (⟨y 0, hy⟩ : Fin 1024) q) ⟨t.val / 8 * 1024 + (y 0).val, hr⟩ rfl
  simp only [tot] at s
  rw [rowAt_eq m c t ⟨y 0, hy⟩ hr] at s
  refine (congrArg _ (eq_ix2 y)).trans (s.trans ?_)
  show dNorm _ _ _ _ _ = dNorm _ (fun k => m (c.tc.loc main_arg3) (ix2 (0 : Fin 1) k)) _
    (fun k => m (c.tc.loc main_arg4) (ix2 (⟨t.val / 8 * 1024 + (y 0).val, hr⟩ : Fin 8192) k)) _
  congr 1
  · funext q
    blk_point [iblk, V, idx t]
  · funext q
    blk_point [iblk, V, idx t]

/-- The kernel's second result is the gradient of the scale. -/
theorem resultScale : (dats m 0 c).arrAt 6 cfg0.N = (fun y : S1x1024.Idx => (∑ r : Fin 8192, dScale (fun k => m (c.tc.loc main_arg2) (ix2 r k))
    (fun k => dh (m (c.tc.loc main_arg0)) (m (c.tc.loc main_arg1)) r k) (y 1) : EReal)) := by
  refine (dats m 0 c).arrAt_eq_of_covers 6 _ (by decide +kernel) fun t hf y => ?_
  have h := (flush0_6 t).mp hf
  have ht := (idx t).2.2.2.2.2.2.2
  blk_simp
  rw [after0_6]
  have e : (win0_6.blk t).view.emb y = ix2 (0 : Fin 1) (⟨y 1, (y 1).isLt⟩ : Fin 1024) := by
    blk_ext [idx t]
  rw [e]
  obtain ⟨t, hN⟩ := t
  obtain rfl : t = 63 := by dsimp only at h ht; omega
  refine (congrArg _ (eq_ix2 y)).trans ((scale m c _ ⟨y 1, (y 1).isLt⟩ 7 63 hN rfl).trans ?_)
  rw [Finset.sum_range]
  unfold blockShare
  refine Fin.sum_mul_add_congr fun q r hl => ?_
  rw [dif_pos hl]
  rfl

end Cert.Kernel4Ideal.Ffn

end
-- ==== Proof.Ffn.Claims4.lean ====
module

public import proofs.«01_k».proof.Defs
public import proofs.«01_k».proof.Proof.Same
public import proofs.«01_k».proof.Proof.Ffn.Back
public import Idealize.ShloMosaic.Lib.Quiescent

/-! # Back through the first weights and the normalisation (fourth program): the claims -/

@[expose] public section

set_option maxRecDepth 16384

noncomputable section

namespace Cert.Ffn4

open Idealize.ShloMosaic Idealize.SL.Sem

/-- The kernel's side conditions are those of its idealised program. -/
theorem facts : Cert.Kernel4.Facts := { Cert.Kernel4Ideal.Gen.facts with }

attribute [local instance] facts

/-- The kernel and its idealised program have the same bodies. -/
theorem defs_eq {F : FTy → Type} [FloatOps F] : Cert.Kernel4.defs (F := F) = Cert.Kernel4Ideal.defs :=
  congrArg (Pipeline.defs Cert.Kernel4Ideal.pcfgs) (onTc_congr fun | 0, (_, _) => rfl)

/-- The kernel's frame is that of its idealised program, over bits. -/
theorem frame : Cert.quiescent_Kernel4 := fun m ρ _ => by
  rw [defs_eq]; exact Cert.Kernel4Ideal.Gen.frame m ρ

/-- The idealised kernel's frame. -/
theorem frameIdeal : Cert.quiescent_Kernel4Ideal := fun m ρ _ => Cert.Kernel4Ideal.Gen.frame (F := Ideal) m ρ

/-- The reference's frame. -/
theorem frameReference : Cert.quiescent_Reference4Ideal := fun m ρ _ =>
  (θ_run _ _ _).mono (fun r h => ⟨fun c => (h c).2.2, sem_eq_zero_of_no_sems rfl _⟩) (Cert.Reference4Ideal.Value.run (F := Ideal) m ρ)

/-- Kernel and reference end with the same values. -/
theorem algebraic : Cert.algebraic_Kernel4Ideal_Reference4Ideal := fun m g m' g' _ h => by
  refine ⟨_, _, (θ_run _ _ _).mono (fun r h c => ⟨(h c).1.trans (Cert.Kernel4Ideal.Ffn.result m c), (h c).2.1.trans (Cert.Kernel4Ideal.Ffn.resultScale m c), (h c).2.2⟩) (Cert.Kernel4Ideal.Value.run_blocks (F := Ideal) m g), ?_⟩
  refine (θ_run _ _ _).mono (fun r hr c => ?_) (Cert.Reference4Ideal.Ffn.values m' g')
  obtain ⟨eq0, eq1, eq2, eq3, eq4⟩ := h c
  have k := hr c
  refine ⟨k.1.trans ?_, k.2.1.trans ?_, k.2.2⟩
  · simp only [eq0, eq1, eq2, eq3, eq4]
  · simp only [eq0, eq1, eq2, eq3, eq4]

end Cert.Ffn4

end
-- ==== Proof.Ffn.InWeight.lean ====
module

public import proofs.«01_k».proof.Proof.Ffn.Silu
public import proofs.«01_k».proof.Proof.Ffn.Put
public import proofs.«01_k».proof.Proof.Gen.Kernel5Ideal.Value
public import proofs.«01_k».proof.Proof.Gen.Reference5Ideal.Run
public import Idealize.ShloMosaic.Lib.Pipeline.ReadBack

/-! # The gradients of the feed-forward layer's first two weights

Fifth program. Each gradient is the cotangent of the gate or of the other factor, transposed, times the layer's input: a
sum over 8192 rows. The kernel adds it up in eight blocks of 1024 rows and stores it in the slabs of tensors 0 and 1,
layer 0. The cotangents come as eight column blocks, four of the gate and four of the other factor. -/

@[expose] public section

set_option maxRecDepth 16384

noncomputable section

namespace Cert.Ffn

open Idealize.ShloMosaic

/-- The gradient at row `j` of block `q`, column `k`. -/
def wIn (A : (⟨3, ![8, 8192, 704]⟩ : Shape).Idx → EReal) (D : (⟨2, ![8192, 1024]⟩ : Shape).Idx → EReal)
    (q : Fin 8) (j : Fin 704) (k : Fin 1024) : EReal :=
  ∑ r : Fin 8192, A (ix3 q r j) * D (ix2 r k)

/-- The stacked gradients with those slabs set. -/
def putIn (A : (⟨3, ![8, 8192, 704]⟩ : Shape).Idx → EReal) (D : (⟨2, ![8192, 1024]⟩ : Shape).Idx → EReal)
    (X : (⟨5, ![4, 6, 4, 704, 1024]⟩ : Shape).Idx → EReal) (i : (⟨5, ![4, 6, 4, 704, 1024]⟩ : Shape).Idx) : EReal :=
  if hc : (i 1 : ℕ) < 2 ∧ (i 2 : ℕ) = 0 then
    wIn A D ⟨4 * (i 1 : ℕ) + (i 0 : ℕ), by have h0 : (i 0 : ℕ) < 4 := (i 0).isLt; omega⟩ (i 3) (i 4)
  else X i

end Cert.Ffn

namespace Cert.Reference5Ideal.Ffn

open Idealize.ShloMosaic Idealize.SL.Sem Cert.Ffn Cert.Reference5Ideal Cert.Reference5Ideal.Gen

variable (m : (ℓ : Loc nD τ sig) → Buf (Elt Ideal) ℓ) (ρ : Dev nD → PrngReg)

/-- A run of the reference ends with the slabs set, and with the arguments as they were. -/
theorem values : θ_run (defs (F := Ideal)) (onTc (τ := τ) (main (F := Ideal))) ⟨m, fun _ => 0, ρ⟩ (fun r => ∀ c : Dev nD,
      r.2.mem (c.tc.loc main_v24) = putIn (m (c.tc.loc main_arg0))
        (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) := by
  refine (θ_run defs _ _).mono (fun r h c => ⟨(h c).1.trans ?_, (h c).2⟩) (Value.run m ρ)
  funext y
  refine (put2_apply _ _ _ _ rfl rfl rfl rfl rfl y).trans ?_
  obtain ⟨a, b, d, j, k, rfl⟩ : ∃ (a : Fin 4) (b : Fin 6) (d : Fin 4) (j : Fin 704) (k : Fin 1024), y = ix5 a b d j k :=
    ⟨y 0, y 1, y 2, y 3, y 4, eq_ix5 y⟩
  unfold putIn
  by_cases hc : (b : ℕ) < 2 ∧ (d : ℕ) = 0
  · refine (dif_pos hc).trans (Eq.trans ?_ (dif_pos hc).symm)
    obtain ⟨hb, hd⟩ := hc
    match b, hb with
    | 0, _ =>
      show _ = wIn _ _ _ j k
      pointwise
      rfl
    | 1, _ =>
      show _ = wIn _ _ _ j k
      pointwise
      rfl
  · refine (dif_neg hc).trans ?_
    symm
    exact dif_neg hc

end Cert.Reference5Ideal.Ffn

namespace Cert.Kernel5Ideal.Ffn

open Idealize.ShloMosaic Idealize.SL.Sem Cert.Ffn Cert.Kernel5Ideal Cert.Kernel5Ideal.Gen

variable (m : (ℓ : Loc nD τ sig) → Buf (Elt Ideal) ℓ) (c : Dev nD)

/-- The blocks of a grid point: column block `t / 8`, row block `t % 8`. -/
theorem idx : ∀ t : Fin cfg0.N, win0_0.index t = ![t.val / 8, t.val % 8, 0] ∧ win0_1.index t = ![t.val % 8, 0]
    ∧ win0_2.index t = ![t.val / 8 % 4, t.val / 8 / 4, 0, 0, 0] ∧ t.val / 8 < 8 :=
  (by decide +kernel : ∀ t : Fin grid0.N, _)

/-- What one point adds. -/
def part (t : Fin cfg0.N) (y : S704x1024.Idx) : EReal :=
  ∑ x : Fin 1024, (show FVec Ideal S1x1024x704 .bf16 from iblk m c 0 t) (ix3 (0 : Fin 1) x (y 0))
      * (show FVec Ideal S1024x1024 .bf16 from iblk m c 1 t) (ix2 x (y 1))

/-- A run's first point starts the sum. -/
theorem reset (t : Fin cfg0.N) (h : t.val % 8 = 0) (y : S704x1024.Idx) : (outsAt0 m c t.val t.isLt).2 y = part m c t y := by
  rw [outsAt0_A m c t (by omega) (by omega) (by omega)]
  dsimp only
  frame_out
  pointwise [k0_pay1, k0_pay2, k0_pay3]
  rfl

/-- Every other point adds to it. -/
theorem step (t : Fin cfg0.N) (h : ¬t.val % 8 = 0) (y : S704x1024.Idx) :
    (outsAt0 m c t.val t.isLt).2 y = (outsAt0 m c (t.val - 1) (by omega)).2 y + part m c t y := by
  by_cases h7 : t.val % 8 = 7
  · rw [outsAt0_C m c t (by omega) (by omega) (by omega)]
    dsimp only
    frame_out
    pointwise [k0_pay1, k0_pay2, k0_pay3]
    rw [read_unread_whole]
    rfl
  · rw [outsAt0_B m c t (by omega) (by omega) (by omega)]
    dsimp only
    frame_out
    pointwise [k0_pay1, k0_pay2, k0_pay3]
    rw [read_unread_whole]
    rfl

/-- A run's last point stores the sum. -/
theorem store (t : Fin cfg0.N) (h : t.val % 8 = 7) (y : S1x1x1x704x1024.Idx) :
    (outsAt0 m c t.val t.isLt).1 y = (outsAt0 m c t.val t.isLt).2 (ix2 (y 3) (y 4)) := by
  rw [outsAt0_C m c t (by omega) (by omega) h]
  dsimp only
  frame_out
  pointwise [k0_pay4]

/-- The stored sum is the gradient. -/
theorem total (t : Fin cfg0.N) (h : t.val % 8 = 7) (y : S704x1024.Idx) (s : Fin 8) (hs : (s : ℕ) = t.val / 8) :
    (outsAt0 m c t.val t.isLt).2 y = wIn (m (c.tc.loc main_arg0)) (m (c.tc.loc main_arg1)) s (y 0) (y 1) := by
  rw [Pipeline.eq_sum_fin_of_reset_step_apply_of_flush (fun n h => (outsAt0 m c n h).2) 8 (fun _ => (0 : EReal)) (part m c)
    (fun t h j => (reset m c t h j).trans (zero_add _).symm) (fun t h j => step m c t h j) t h y, zero_add]
  unfold wIn part
  refine Fin.sum_mul_add_congr fun q k hl => ?_
  blk_point [iblk, V, idx ⟨_, Pipeline.run_point_lt_of_flush t h q⟩]

/-- The result array starts as the stacked gradients given. -/
theorem kept : (dats m 0 c).A 2 = m (c.tc.loc main_arg2) := by
  refine (A_eq m c 2).trans ?_
  show V m c main_v0 = _
  unfold V
  after_results
  try rfl

/-- The kernel's result is the stacked gradients with the slabs set. -/
theorem result : (dats m 0 c).arrAt 2 cfg0.N = putIn (m (c.tc.loc main_arg0))
        (m (c.tc.loc main_arg1)) (m (c.tc.loc main_arg2)) := by
  refine (dats m 0 c).arrAt_eq_of_coversWhere_of_agree 2 _ (fun β => β 1 < 2 ∧ β 2 = 0) (by decide +kernel) (fun t hf y => ?_) (fun j hj => ?_)
  · have h7 := (flush0_2 t).mp hf
    have ht := (idx t).2.2.2
    blk_simp
    rw [after0_2]
    refine (store m c t h7 y).trans ((total m c t h7 _ ⟨t.val / 8, ht⟩ rfl).trans ?_)
    have e : (win0_2.blk t).view.emb y = ix5 (⟨t.val / 8 % 4, by omega⟩ : Fin 4) (⟨t.val / 8 / 4, by omega⟩ : Fin 6) (0 : Fin 4) (⟨y 3, (y 3).isLt⟩ : Fin 704) (⟨y 4, (y 4).isLt⟩ : Fin 1024) := by
      blk_ext [idx t]
    rw [e]
    refine Eq.trans ?_ (dif_pos (⟨by show t.val / 8 / 4 < 2; omega, rfl⟩ : t.val / 8 / 4 < 2 ∧ (0 : ℕ) = 0)).symm
    have q : (⟨4 * (t.val / 8 / 4) + t.val / 8 % 4, by omega⟩ : Fin 8) = ⟨t.val / 8, ht⟩ := Fin.ext (by show 4 * (t.val / 8 / 4) + t.val / 8 % 4 = t.val / 8; omega)
    exact congrArg (fun z : Fin 8 => wIn _ _ z _ _) q.symm
  · blk_simp [Pipeline.Window.cell_apply] at hj
    blk_simp
    refine Eq.trans ?_ (dif_neg (fun h => hj ⟨by have := h.1; omega, by rw [h.2]⟩)).symm
    exact congrFun (kept m c) j

end Cert.Kernel5Ideal.Ffn

end
-- ==== Proof.Ffn.Claims5.lean ====
module

public import proofs.«01_k».proof.Defs
public import proofs.«01_k».proof.Proof.Same
public import proofs.«01_k».proof.Proof.Ffn.InWeight
public import Idealize.ShloMosaic.Lib.Quiescent

/-! # The first weights' gradients (fifth program): the claims -/

@[expose] public section

set_option maxRecDepth 16384

noncomputable section

namespace Cert.Ffn5

open Idealize.ShloMosaic Idealize.SL.Sem

/-- The kernel's side conditions are those of its idealised program. -/
theorem facts : Cert.Kernel5.Facts := { Cert.Kernel5Ideal.Gen.facts with }

attribute [local instance] facts

/-- The kernel and its idealised program have the same bodies. -/
theorem defs_eq {F : FTy → Type} [FloatOps F] : Cert.Kernel5.defs (F := F) = Cert.Kernel5Ideal.defs :=
  congrArg (Pipeline.defs Cert.Kernel5Ideal.pcfgs) (onTc_congr fun | 0, (_, _) => rfl)

/-- The kernel's frame is that of its idealised program, over bits. -/
theorem frame : Cert.quiescent_Kernel5 := fun m ρ _ => by
  rw [defs_eq]; exact Cert.Kernel5Ideal.Gen.frame m ρ

/-- The idealised kernel's frame. -/
theorem frameIdeal : Cert.quiescent_Kernel5Ideal := fun m ρ _ => Cert.Kernel5Ideal.Gen.frame (F := Ideal) m ρ

/-- The reference's frame. -/
theorem frameReference : Cert.quiescent_Reference5Ideal := fun m ρ _ =>
  (θ_run _ _ _).mono (fun r h => ⟨fun c => (h c).2, sem_eq_zero_of_no_sems rfl _⟩) (Cert.Reference5Ideal.Value.run (F := Ideal) m ρ)

/-- Kernel and reference end with the same values. -/
theorem algebraic : Cert.algebraic_Kernel5Ideal_Reference5Ideal := fun m g m' g' _ h => by
  refine ⟨_, (θ_run _ _ _).mono (fun r h c => ⟨(h c).1.trans (Cert.Kernel5Ideal.Ffn.result m c), (h c).2⟩) (Cert.Kernel5Ideal.Value.run_blocks (F := Ideal) m g), ?_⟩
  refine (θ_run _ _ _).mono (fun r hr c => ?_) (Cert.Reference5Ideal.Ffn.values m' g')
  obtain ⟨eq0, eq1, eq2⟩ := h c
  have k := hr c
  refine ⟨k.1.trans ?_, k.2⟩
  rw [eq0, eq1, eq2]

end Cert.Ffn5

end
-- ==== Proof.Ffn.In.lean ====
module

public import proofs.«01_k».proof.Proof.Gen.Kernel6Ideal.Value
public import proofs.«01_k».proof.Proof.Gen.Reference6Ideal.Run
public import Idealize.ShloMosaic.Lib.Pipeline.ValueKit

/-! # The feed-forward layer's first two products

Sixth program. The layer's input times the first two weights, in eight column blocks of 704: four of the gate, then four
of the other factor. -/

@[expose] public section

set_option maxRecDepth 16384

noncomputable section

namespace Cert.Ffn

open Idealize.ShloMosaic

/-- The product at row `r`, column `j` of block `q`. -/
def gu (H : (⟨2, ![8192, 1024]⟩ : Shape).Idx → EReal) (W : (⟨5, ![4, 6, 4, 704, 1024]⟩ : Shape).Idx → EReal)
    (q : Fin 8) (r : Fin 8192) (j : Fin 704) : EReal :=
  ∑ x : Fin 1024, H (ix2 r x) * W (ix5 (⟨q % 4, by omega⟩ : Fin 4) (⟨q / 4, by omega⟩ : Fin 6) (0 : Fin 4) j x)

end Cert.Ffn

namespace Cert.Reference6Ideal.Ffn

open Idealize.ShloMosaic Idealize.SL.Sem Cert.Ffn Cert.Reference6Ideal Cert.Reference6Ideal.Gen

variable (m : (ℓ : Loc nD τ sig) → Buf (Elt Ideal) ℓ) (ρ : Dev nD → PrngReg)

/-- A run of the reference ends with the products, and with the arguments as they were. -/
theorem values : θ_run (defs (F := Ideal)) (onTc (τ := τ) (main (F := Ideal))) ⟨m, fun _ => 0, ρ⟩ (fun r => ∀ c : Dev nD,
      r.2.mem (c.tc.loc main_v18) = (fun y : S8x8192x704.Idx => (gu (m (c.tc.loc main_arg0))
        (m (c.tc.loc main_arg1)) (y 0) (y 1) (y 2) : EReal))
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨q, r, j, rfl⟩ : ∃ (q : Fin 8) (r : Fin 8192) (j : Fin 704), y = ix3 q r j := ⟨y 0, y 1, y 2, eq_ix3 y⟩
  show _ = gu _ _ q r j
  pointwise
  have hq := q.isLt
  have hj := j.isLt
  unfold gu
  split <;> blk_point []

end Cert.Reference6Ideal.Ffn

namespace Cert.Kernel6Ideal.Ffn

open Idealize.ShloMosaic Idealize.SL.Sem Cert.Ffn Cert.Kernel6Ideal Cert.Kernel6Ideal.Gen

variable (m : (ℓ : Loc nD τ sig) → Buf (Elt Ideal) ℓ) (c : Dev nD)

/-- The blocks of a grid point: row block `t / 8`, column block `t % 8`. -/
theorem idx : ∀ t : Fin cfg0.N, win0_0.index t = ![t.val / 8, 0] ∧ win0_1.index t = ![t.val % 8 % 4, t.val % 8 / 4, 0, 0, 0]
    ∧ win0_2.index t = ![t.val % 8, t.val / 8, 0] ∧ t.val / 8 < 4 :=
  (by decide +kernel : ∀ t : Fin grid0.N, _)

/-- The kernel's result is the products. -/
theorem result : (dats m 0 c).arrAt 2 cfg0.N = (fun y : S8x8192x704.Idx => (gu (m (c.tc.loc main_arg0))
        (m (c.tc.loc main_arg1)) (y 0) (y 1) (y 2) : EReal)) := by
  refine (dats m 0 c).arrAt_eq_of_covers 2 _ (by decide +kernel) fun t hf y => ?_
  have ht := (idx t).2.2.2
  blk_simp
  rw [after0_2]
  frame_out
  pointwise [k0_pay1]
  unfold gu
  blk_point [iblk, V, idx t]

end Cert.Kernel6Ideal.Ffn

end
-- ==== Proof.Ffn.Claims6.lean ====
module

public import proofs.«01_k».proof.Defs
public import proofs.«01_k».proof.Proof.Same
public import proofs.«01_k».proof.Proof.Ffn.In
public import Idealize.ShloMosaic.Lib.Quiescent

/-! # The first weights (sixth program): the claims -/

@[expose] public section

set_option maxRecDepth 16384

noncomputable section

namespace Cert.Ffn6

open Idealize.ShloMosaic Idealize.SL.Sem

/-- The kernel's side conditions are those of its idealised program. -/
theorem facts : Cert.Kernel6.Facts := { Cert.Kernel6Ideal.Gen.facts with }

attribute [local instance] facts

/-- The kernel and its idealised program have the same bodies. -/
theorem defs_eq {F : FTy → Type} [FloatOps F] : Cert.Kernel6.defs (F := F) = Cert.Kernel6Ideal.defs :=
  congrArg (Pipeline.defs Cert.Kernel6Ideal.pcfgs) (onTc_congr fun | 0, (_, _) => rfl)

/-- The kernel's frame is that of its idealised program, over bits. -/
theorem frame : Cert.quiescent_Kernel6 := fun m ρ _ => by
  rw [defs_eq]; exact Cert.Kernel6Ideal.Gen.frame m ρ

/-- The idealised kernel's frame. -/
theorem frameIdeal : Cert.quiescent_Kernel6Ideal := fun m ρ _ => Cert.Kernel6Ideal.Gen.frame (F := Ideal) m ρ

/-- The reference's frame. -/
theorem frameReference : Cert.quiescent_Reference6Ideal := fun m ρ _ =>
  (θ_run _ _ _).mono (fun r h => ⟨fun c => (h c).2, sem_eq_zero_of_no_sems rfl _⟩) (Cert.Reference6Ideal.Value.run (F := Ideal) m ρ)

/-- Kernel and reference end with the same values. -/
theorem algebraic : Cert.algebraic_Kernel6Ideal_Reference6Ideal := fun m g m' g' _ h => by
  refine ⟨_, (θ_run _ _ _).mono (fun r h c => ⟨(h c).1.trans (Cert.Kernel6Ideal.Ffn.result m c), (h c).2⟩) (Cert.Kernel6Ideal.Value.run_blocks (F := Ideal) m g), ?_⟩
  refine (θ_run _ _ _).mono (fun r hr c => ?_) (Cert.Reference6Ideal.Ffn.values m' g')
  obtain ⟨eq0, eq1⟩ := h c
  have k := hr c
  refine ⟨k.1.trans ?_, k.2⟩
  rw [eq0, eq1]

end Cert.Ffn6

end
-- ==== Proof.Ffn.Out.lean ====
module

public import proofs.«01_k».proof.Proof.Ffn.Silu
public import proofs.«01_k».proof.Proof.Gen.Kernel7Ideal.Value
public import proofs.«01_k».proof.Proof.Gen.Reference7Ideal.Run
public import Idealize.ShloMosaic.Lib.Pipeline.ReadBack

/-! # The feed-forward layer's last product and its residual

Seventh program. The gated product times the second weight is a sum over 2816 columns; the kernel adds it up in four
blocks of 704. The second result adds half of its normalised rows to the residual. -/

@[expose] public section

set_option maxRecDepth 16384

noncomputable section

namespace Cert.Ffn

open Idealize.ShloMosaic

/-- The last product at row `r`, column `k`. -/
def outp (A : (⟨4, ![2, 4, 8192, 704]⟩ : Shape).Idx → EReal) (W : (⟨5, ![4, 6, 4, 704, 1024]⟩ : Shape).Idx → EReal)
    (r : Fin 8192) (k : Fin 1024) : EReal :=
  ∑ n : Fin 2816, act A ⟨n / 704, by omega⟩ r ⟨n % 704, by omega⟩
    * W (ix5 (⟨n / 704, by omega⟩ : Fin 4) (4 : Fin 6) (0 : Fin 4) (⟨n % 704, by omega⟩ : Fin 704) k)

/-- A row `S` normalised, scaled by `g`, halved and added to the residual `x`, at column `k`. -/
def postRow (x g S : Fin 1024 → EReal) (k : Fin 1024) : EReal :=
  x k + Ideal.ofBits FTy.f32 0x3F000000#32 * (S k * Ideal.rsqrt (Ideal.div (∑ q : Fin 1024, S q * S q) (Ideal.ofBits FTy.f32 0x44800000#32)
    + Ideal.ofBits FTy.f32 0x358637BD#32) * g k)

end Cert.Ffn

namespace Cert.Reference7Ideal.Ffn

open Idealize.ShloMosaic Idealize.SL.Sem Cert.Ffn Cert.Reference7Ideal Cert.Reference7Ideal.Gen

variable (m : (ℓ : Loc nD τ sig) → Buf (Elt Ideal) ℓ) (ρ : Dev nD → PrngReg)

/-- The second result. -/
theorem second (c : Dev nD) : Value.res_main_v31 m c = (fun y : S8192x1024.Idx => (postRow
    (fun k => m (c.tc.loc main_arg2) (ix2 (y 0) k)) (fun k => m (c.tc.loc main_arg3) (ix2 (0 : Fin 1) k))
    (fun k => outp (m (c.tc.loc main_arg0)) (m (c.tc.loc main_arg1)) (y 0) k) (y 1) : EReal)) := by
  funext y
  obtain ⟨r, k, rfl⟩ : ∃ (r : Fin 8192) (k : Fin 1024), y = ix2 r k := ⟨y 0, y 1, eq_ix2 y⟩
  unfold Value.res_main_v31
  pointwise
  rfl

/-- A run of the reference ends with the product and the residual, and with the arguments as they were. -/
theorem values : θ_run (defs (F := Ideal)) (onTc (τ := τ) (main (F := Ideal))) ⟨m, fun _ => 0, ρ⟩ (fun r => ∀ c : Dev nD,
      r.2.mem (c.tc.loc main_v16) = (fun y : S8192x1024.Idx => (outp (m (c.tc.loc main_arg0))
        (m (c.tc.loc main_arg1)) (y 0) (y 1) : EReal))
      ∧ r.2.mem (c.tc.loc main_v31) = (fun y : S8192x1024.Idx => (postRow
        (fun k => m (c.tc.loc main_arg2) (ix2 (y 0) k)) (fun k => m (c.tc.loc main_arg3) (ix2 (0 : Fin 1) k))
        (fun k => outp (m (c.tc.loc main_arg0)) (m (c.tc.loc main_arg1)) (y 0) k) (y 1) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  refine (θ_run defs _ _).mono (fun r h c => ⟨(h c).1.trans ?_, (h c).2.1.trans (second m c), (h c).2.2⟩) (Value.run m ρ)
  clear h
  funext y
  obtain ⟨r, k, rfl⟩ : ∃ (r : Fin 8192) (k : Fin 1024), y = ix2 r k := ⟨y 0, y 1, eq_ix2 y⟩
  pointwise
  rfl

end Cert.Reference7Ideal.Ffn

namespace Cert.Kernel7Ideal.Ffn

open Idealize.ShloMosaic Idealize.SL.Sem Cert.Ffn Cert.Kernel7Ideal Cert.Kernel7Ideal.Gen

variable (m : (ℓ : Loc nD τ sig) → Buf (Elt Ideal) ℓ) (c : Dev nD)

/-- The blocks of a grid point: row block `t / 4`, column block `t % 4`. -/
theorem idx : ∀ t : Fin cfg0.N, win0_0.index t = ![0, t.val % 4, t.val / 4, 0] ∧ win0_1.index t = ![t.val % 4, 4, 0, 0, 0]
    ∧ win0_2.index t = ![t.val / 4, 0] ∧ win0_3.index t = ![0, 0] ∧ win0_4.index t = ![t.val / 4, 0]
    ∧ win0_5.index t = ![t.val / 4, 0] ∧ t.val / 4 < 8 :=
  (by decide +kernel : ∀ t : Fin grid0.N, _)

/-- What one point adds. -/
def part (t : Fin cfg0.N) (y : S1024x1024.Idx) : EReal :=
  ∑ x : Fin 704, (show FVec Ideal S2x1x1024x704 .bf16 from iblk m c 0 t) (ix4 (0 : Fin 2) (0 : Fin 1) (y 0) x)
      * sg ((show FVec Ideal S2x1x1024x704 .bf16 from iblk m c 0 t) (ix4 (0 : Fin 2) (0 : Fin 1) (y 0) x))
      * (show FVec Ideal S2x1x1024x704 .bf16 from iblk m c 0 t) (ix4 (1 : Fin 2) (0 : Fin 1) (y 0) x)
      * (show FVec Ideal S1x1x1x704x1024 .bf16 from iblk m c 1 t) (ix5 (0 : Fin 1) (0 : Fin 1) (0 : Fin 1) x (y 1))

/-- A run's first point starts the sum. -/
theorem reset (t : Fin cfg0.N) (h : t.val % 4 = 0) (y : S1024x1024.Idx) : (outsAt0 m c t.val t.isLt).2.2 y = part m c t y := by
  rw [outsAt0_A m c t (by omega) (by omega) (by omega)]
  dsimp only
  frame_out
  pointwise [k0_pay1, k0_pay2, k0_pay3]
  simp only [zero_sub]
  rfl

/-- Every other point adds to it. -/
theorem step (t : Fin cfg0.N) (h : ¬t.val % 4 = 0) (y : S1024x1024.Idx) :
    (outsAt0 m c t.val t.isLt).2.2 y = (outsAt0 m c (t.val - 1) (by omega)).2.2 y + part m c t y := by
  by_cases h7 : t.val % 4 = 3
  · rw [outsAt0_C m c t (by omega) (by omega) (by omega)]
    dsimp only
    frame_out
    pointwise [k0_pay1, k0_pay2, k0_pay3]
    rw [read_unread_whole]
    simp only [zero_sub]
    rfl
  · rw [outsAt0_B m c t (by omega) (by omega) (by omega)]
    dsimp only
    frame_out
    pointwise [k0_pay1, k0_pay2, k0_pay3]
    rw [read_unread_whole]
    simp only [zero_sub]
    rfl

/-- A run's last point stores the sum. -/
theorem store (t : Fin cfg0.N) (h : t.val % 4 = 3) : (outsAt0 m c t.val t.isLt).1 = (outsAt0 m c t.val t.isLt).2.2 := by
  rw [outsAt0_C m c t (by omega) (by omega) h]
  dsimp only
  frame_out

/-- It also stores the residual with half the normalised rows. -/
theorem storePost (t : Fin cfg0.N) (h : t.val % 4 = 3) (r k : Fin 1024) : (outsAt0 m c t.val t.isLt).2.1 (ix2 r k)
    = (postRow (fun q => (show FVec Ideal S1024x1024 .f32 from iblk m c 2 t) (ix2 r q)) (fun q => (show FVec Ideal S1x1024 .f32 from iblk m c 3 t) (ix2 (0 : Fin 1) q))
      (fun q => (outsAt0 m c t.val t.isLt).2.2 (ix2 r q)) k : EReal) := by
  rw [outsAt0_C m c t (by omega) (by omega) h]
  dsimp only
  frame_out
  pointwise [k0_pay4]
  rfl

/-- The stored sum is the product. -/
theorem total (t : Fin cfg0.N) (h : t.val % 4 = 3) (y : S1024x1024.Idx) (r : Fin 8192) (hr : (r : ℕ) = t.val / 4 * 1024 + (y 0).val) :
    (outsAt0 m c t.val t.isLt).2.2 y = outp (m (c.tc.loc main_arg0)) (m (c.tc.loc main_arg1)) r (y 1) := by
  rw [Pipeline.eq_sum_fin_of_reset_step_apply_of_flush (fun n h => (outsAt0 m c n h).2.2) 4 (fun _ => (0 : EReal)) (part m c)
    (fun t h j => (reset m c t h j).trans (zero_add _).symm) (fun t h j => step m c t h j) t h y, zero_add]
  unfold outp part act
  refine Fin.sum_mul_add_congr fun q k hl => ?_
  blk_point [iblk, V, idx ⟨_, Pipeline.run_point_lt_of_flush t h q⟩]

/-- The kernel's first result is the product. -/
theorem result : (dats m 0 c).arrAt 4 cfg0.N = (fun y : S8192x1024.Idx => (outp (m (c.tc.loc main_arg0))
        (m (c.tc.loc main_arg1)) (y 0) (y 1) : EReal)) := by
  refine (dats m 0 c).arrAt_eq_of_covers 4 _ (by decide +kernel) fun t hf y => ?_
  have h := (flush0_4 t).mp hf
  have ht := (idx t).2.2.2.2.2.2
  blk_simp
  rw [after0_4, store m c t h]
  have hy : (y 0).val < 1024 := (y 0).isLt
  have e : (win0_4.blk t).view.emb y = ix2 (⟨t.val / 4 * 1024 + (y 0).val, by omega⟩ : Fin 8192) (⟨y 1, (y 1).isLt⟩ : Fin 1024) := by
    blk_ext [idx t]
  rw [e]
  exact total m c t h y _ rfl

/-- The kernel's second result is the residual. -/
theorem resultPost : (dats m 0 c).arrAt 5 cfg0.N = (fun y : S8192x1024.Idx => (postRow
    (fun k => m (c.tc.loc main_arg2) (ix2 (y 0) k)) (fun k => m (c.tc.loc main_arg3) (ix2 (0 : Fin 1) k))
    (fun k => outp (m (c.tc.loc main_arg0)) (m (c.tc.loc main_arg1)) (y 0) k) (y 1) : EReal)) := by
  refine (dats m 0 c).arrAt_eq_of_covers 5 _ (by decide +kernel) fun t hf y => ?_
  have h := (flush0_5 t).mp hf
  have ht := (idx t).2.2.2.2.2.2
  blk_simp
  rw [after0_5]
  have hy : (y 0).val < 1024 := (y 0).isLt
  have e : (win0_5.blk t).view.emb y = ix2 (⟨t.val / 4 * 1024 + (y 0).val, by omega⟩ : Fin 8192) (⟨y 1, (y 1).isLt⟩ : Fin 1024) := by
    blk_ext [idx t]
  rw [e]
  have s := storePost m c t h ⟨y 0, hy⟩ ⟨y 1, (y 1).isLt⟩
  have tot (q : Fin 1024) := total m c t h (ix2 (⟨y 0, hy⟩ : Fin 1024) q) ⟨t.val / 4 * 1024 + (y 0).val, by omega⟩ rfl
  simp only [tot] at s
  refine (congrArg _ (eq_ix2 y)).trans (s.trans ?_)
  show postRow _ _ _ _ = postRow (fun k => m (c.tc.loc main_arg2) (ix2 (⟨t.val / 4 * 1024 + (y 0).val, by omega⟩ : Fin 8192) k))
    (fun k => m (c.tc.loc main_arg3) (ix2 (0 : Fin 1) k)) _ _
  congr 1
  · funext q
    blk_point [iblk, V, idx t]
  · funext q
    blk_point [iblk, V, idx t]

end Cert.Kernel7Ideal.Ffn

end
-- ==== Proof.Ffn.Claims7.lean ====
module

public import proofs.«01_k».proof.Defs
public import proofs.«01_k».proof.Proof.Same
public import proofs.«01_k».proof.Proof.Ffn.Out
public import Idealize.ShloMosaic.Lib.Quiescent

/-! # The second weight and the residual (seventh program): the claims -/

@[expose] public section

set_option maxRecDepth 16384

noncomputable section

namespace Cert.Ffn7

open Idealize.ShloMosaic Idealize.SL.Sem

/-- The kernel's side conditions are those of its idealised program. -/
theorem facts : Cert.Kernel7.Facts := { Cert.Kernel7Ideal.Gen.facts with }

attribute [local instance] facts

/-- The kernel and its idealised program have the same bodies. -/
theorem defs_eq {F : FTy → Type} [FloatOps F] : Cert.Kernel7.defs (F := F) = Cert.Kernel7Ideal.defs :=
  congrArg (Pipeline.defs Cert.Kernel7Ideal.pcfgs) (onTc_congr fun | 0, (_, _) => rfl)

/-- The kernel's frame is that of its idealised program, over bits. -/
theorem frame : Cert.quiescent_Kernel7 := fun m ρ _ => by
  rw [defs_eq]; exact Cert.Kernel7Ideal.Gen.frame m ρ

/-- The idealised kernel's frame. -/
theorem frameIdeal : Cert.quiescent_Kernel7Ideal := fun m ρ _ => Cert.Kernel7Ideal.Gen.frame (F := Ideal) m ρ

/-- The reference's frame. -/
theorem frameReference : Cert.quiescent_Reference7Ideal := fun m ρ _ =>
  (θ_run _ _ _).mono (fun r h => ⟨fun c => (h c).2.2, sem_eq_zero_of_no_sems rfl _⟩) (Cert.Reference7Ideal.Value.run (F := Ideal) m ρ)

/-- Kernel and reference end with the same values. -/
theorem algebraic : Cert.algebraic_Kernel7Ideal_Reference7Ideal := fun m g m' g' _ h => by
  refine ⟨_, _, (θ_run _ _ _).mono (fun r h c => ⟨(h c).1.trans (Cert.Kernel7Ideal.Ffn.result m c), (h c).2.1.trans (Cert.Kernel7Ideal.Ffn.resultPost m c), (h c).2.2⟩) (Cert.Kernel7Ideal.Value.run_blocks (F := Ideal) m g), ?_⟩
  refine (θ_run _ _ _).mono (fun r hr c => ?_) (Cert.Reference7Ideal.Ffn.values m' g')
  obtain ⟨eq0, eq1, eq2, eq3⟩ := h c
  have k := hr c
  refine ⟨k.1.trans ?_, k.2.1.trans ?_, k.2.2⟩
  · simp only [eq0, eq1, eq2, eq3]
  · simp only [eq0, eq1, eq2, eq3]

end Cert.Ffn7

end
-- ==== Proof.Mixer.Mul.lean ====
module

public import Idealize.ShloMosaic.Lib.Pipeline.ValueKit

/-! # Products of matrices

The three products of the mixer's projections: forward, and the two gradients. -/

@[expose] public section

noncomputable section

namespace Cert.Mixer

open Idealize.ShloMosaic

/-- The matrices of `n` rows and `k` columns. -/
abbrev Mat (n k : ℕ) : Type := (⟨2, ![n, k]⟩ : Shape).Idx → EReal

/-- The product. -/
def mul {n k l : ℕ} (A : Mat n k) (B : Mat k l) : Mat n l := fun y => ∑ x : Fin k, A (ix2 (y 0) x) * B (ix2 x (y 1))

/-- The product with the transpose of the second: the gradient of a product in its first factor. -/
def mulT {n k l : ℕ} (A : Mat n k) (B : Mat l k) : Mat n l := fun y => ∑ x : Fin k, A (ix2 (y 0) x) * B (ix2 (y 1) x)

/-- The product of the transpose of the first: the gradient of a product in its second factor. -/
def tmul {n k l : ℕ} (A : Mat k n) (B : Mat k l) : Mat n l := fun y => ∑ x : Fin k, A (ix2 x (y 0)) * B (ix2 x (y 1))

end Cert.Mixer

end
-- ==== Proof.Mixer.Forward.lean ====
module

public import proofs.«01_k».proof.Proof.Mixer.Mul
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run

/-! # The mixer's projections

Programs 8 to 11: rows of the layer's input, of a branch's output or of the merged branches, times a weight. Each grid point
writes one block of the product, whole. -/

@[expose] public section

set_option maxRecDepth 16384

noncomputable section

/-! ## Queries, keys and values of an attention -/

namespace Cert.Reference8Ideal.Mixer

open Idealize.ShloMosaic Idealize.SL.Sem Cert.Mixer Cert.Reference8Ideal Cert.Reference8Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v3) = (mul (m (c.tc.loc main_arg0)) (m (c.tc.loc main_arg1)) : Mat 8192 1536)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 1536), y = ix2 i j := ⟨y 0, y 1, eq_ix2 y⟩
  pointwise
  rfl

end Cert.Reference8Ideal.Mixer

namespace Cert.Kernel8Ideal.Mixer

open Idealize.ShloMosaic Idealize.SL.Sem Cert.Mixer Cert.Kernel8Ideal Cert.Kernel8Ideal.Gen

variable (m : (ℓ : Loc nD τ sig) → Buf (Elt Ideal) ℓ) (c : Dev nD)

/-- The blocks of a grid point: row block `t / 3`, column block `t % 3`. -/
theorem idx : ∀ t : Fin cfg0.N, win0_0.index t = ![t.val / 3, 0] ∧ win0_1.index t = ![0, t.val % 3]
    ∧ win0_2.index t = ![t.val / 3, t.val % 3] ∧ t.val / 3 < 8 :=
  (by decide +kernel : ∀ t : Fin grid0.N, _)

/-- The kernel's result is the product. -/
theorem result : (dats m 0 c).arrAt 2 cfg0.N = (mul (m (c.tc.loc main_arg0)) (m (c.tc.loc main_arg1)) : Mat 8192 1536) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3, k0_pay4]
  unfold mul
  blk_point [iblk, V, idx t]

end Cert.Kernel8Ideal.Mixer

/-! ## The convolution's input, and the mixer's output -/

namespace Cert.Reference9Ideal.Mixer

open Idealize.ShloMosaic Idealize.SL.Sem Cert.Mixer Cert.Reference9Ideal Cert.Reference9Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v2) = (mul (m (c.tc.loc main_arg0)) (m (c.tc.loc main_arg1)) : Mat 8192 1024)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 1024), y = ix2 i j := ⟨y 0, y 1, eq_ix2 y⟩
  pointwise
  rfl

end Cert.Reference9Ideal.Mixer

namespace Cert.Kernel9Ideal.Mixer

open Idealize.ShloMosaic Idealize.SL.Sem Cert.Mixer Cert.Kernel9Ideal Cert.Kernel9Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The kernel's result is the product. -/
theorem result : (dats m 0 c).arrAt 2 cfg0.N = (mul (m (c.tc.loc main_arg0)) (m (c.tc.loc main_arg1)) : Mat 8192 1024) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3]
  unfold mul
  blk_point [iblk, V, idx t]

end Cert.Kernel9Ideal.Mixer

/-! ## The gates of the three branches -/

namespace Cert.Reference10Ideal.Mixer

open Idealize.ShloMosaic Idealize.SL.Sem Cert.Mixer Cert.Reference10Ideal Cert.Reference10Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v3) = (mul (m (c.tc.loc main_arg0)) (m (c.tc.loc main_arg1)) : Mat 8192 3072)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 3072), y = ix2 i j := ⟨y 0, y 1, eq_ix2 y⟩
  pointwise
  rfl

end Cert.Reference10Ideal.Mixer

namespace Cert.Kernel10Ideal.Mixer

open Idealize.ShloMosaic Idealize.SL.Sem Cert.Mixer Cert.Kernel10Ideal Cert.Kernel10Ideal.Gen

variable (m : (ℓ : Loc nD τ sig) → Buf (Elt Ideal) ℓ) (c : Dev nD)

/-- The blocks of a grid point: row block `t / 3`, column block `t % 3`. -/
theorem idx : ∀ t : Fin cfg0.N, win0_0.index t = ![t.val / 3, 0] ∧ win0_1.index t = ![0, t.val % 3]
    ∧ win0_2.index t = ![t.val / 3, t.val % 3] ∧ t.val / 3 < 8 :=
  (by decide +kernel : ∀ t : Fin grid0.N, _)

/-- The kernel's result is the product. -/
theorem result : (dats m 0 c).arrAt 2 cfg0.N = (mul (m (c.tc.loc main_arg0)) (m (c.tc.loc main_arg1)) : Mat 8192 3072) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3, k0_pay4]
  unfold mul
  blk_point [iblk, V, idx t]

end Cert.Kernel10Ideal.Mixer

/-! ## A branch's output, back at the layer's width -/

namespace Cert.Reference11Ideal.Mixer

open Idealize.ShloMosaic Idealize.SL.Sem Cert.Mixer Cert.Reference11Ideal Cert.Reference11Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v3) = (mul (m (c.tc.loc main_arg0)) (m (c.tc.loc main_arg1)) : Mat 8192 1024)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 1024), y = ix2 i j := ⟨y 0, y 1, eq_ix2 y⟩
  pointwise
  rfl

end Cert.Reference11Ideal.Mixer

namespace Cert.Kernel11Ideal.Mixer

open Idealize.ShloMosaic Idealize.SL.Sem Cert.Mixer Cert.Kernel11Ideal Cert.Kernel11Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The kernel's result is the product. -/
theorem result : (dats m 0 c).arrAt 2 cfg0.N = (mul (m (c.tc.loc main_arg0)) (m (c.tc.loc main_arg1)) : Mat 8192 1024) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3, k0_pay4]
  unfold mul
  blk_point [iblk, V, idx t]

end Cert.Kernel11Ideal.Mixer

end
-- ==== Proof.Mixer.ClaimsForward.lean ====
module

public import proofs.«01_k».proof.Defs
public import proofs.«01_k».proof.Proof.Same
public import proofs.«01_k».proof.Proof.Mixer.Forward
public import Idealize.ShloMosaic.Lib.Quiescent

/-! # The mixer's projections: the claims -/

@[expose] public section

set_option maxRecDepth 16384

noncomputable section

namespace Cert.Mixer8

open Idealize.ShloMosaic Idealize.SL.Sem

/-- The kernel's side conditions are those of its idealised program. -/
theorem facts : Cert.Kernel8.Facts := { Cert.Kernel8Ideal.Gen.facts with }

attribute [local instance] facts

/-- The kernel and its idealised program have the same bodies. -/
theorem defs_eq {F : FTy → Type} [FloatOps F] : Cert.Kernel8.defs (F := F) = Cert.Kernel8Ideal.defs :=
  congrArg (Pipeline.defs Cert.Kernel8Ideal.pcfgs) (onTc_congr fun | 0, (_, _) => rfl)

/-- The kernel's frame is that of its idealised program, over bits. -/
theorem frame : Cert.quiescent_Kernel8 := fun m ρ _ => by
  rw [defs_eq]; exact Cert.Kernel8Ideal.Gen.frame m ρ

/-- The idealised kernel's frame. -/
theorem frameIdeal : Cert.quiescent_Kernel8Ideal := fun m ρ _ => Cert.Kernel8Ideal.Gen.frame (F := Ideal) m ρ

/-- The reference's frame. -/
theorem frameReference : Cert.quiescent_Reference8Ideal := fun m ρ _ =>
  (θ_run _ _ _).mono (fun r h => ⟨fun c => (h c).2, sem_eq_zero_of_no_sems rfl _⟩) (Cert.Reference8Ideal.Value.run (F := Ideal) m ρ)

/-- Kernel and reference end with the same values. -/
theorem algebraic : Cert.algebraic_Kernel8Ideal_Reference8Ideal := fun m g m' g' _ e =>
  ⟨_, Cert.Kernel8Ideal.Value.run_blocks m g,
    (θ_run _ _ _).mono (fun _ k c => agree Mixer.mul (e c) (Cert.Kernel8Ideal.Mixer.result m c) (k c)) (Cert.Reference8Ideal.Mixer.values m' g')⟩

end Cert.Mixer8

namespace Cert.Mixer9

open Idealize.ShloMosaic Idealize.SL.Sem

/-- The kernel's side conditions are those of its idealised program. -/
theorem facts : Cert.Kernel9.Facts := { Cert.Kernel9Ideal.Gen.facts with }

attribute [local instance] facts

/-- The kernel and its idealised program have the same bodies. -/
theorem defs_eq {F : FTy → Type} [FloatOps F] : Cert.Kernel9.defs (F := F) = Cert.Kernel9Ideal.defs :=
  congrArg (Pipeline.defs Cert.Kernel9Ideal.pcfgs) (onTc_congr fun | 0, (_, _) => rfl)

/-- The kernel's frame is that of its idealised program, over bits. -/
theorem frame : Cert.quiescent_Kernel9 := fun m ρ _ => by
  rw [defs_eq]; exact Cert.Kernel9Ideal.Gen.frame m ρ

/-- The idealised kernel's frame. -/
theorem frameIdeal : Cert.quiescent_Kernel9Ideal := fun m ρ _ => Cert.Kernel9Ideal.Gen.frame (F := Ideal) m ρ

/-- The reference's frame. -/
theorem frameReference : Cert.quiescent_Reference9Ideal := fun m ρ _ =>
  (θ_run _ _ _).mono (fun r h => ⟨fun c => (h c).2, sem_eq_zero_of_no_sems rfl _⟩) (Cert.Reference9Ideal.Value.run (F := Ideal) m ρ)

/-- Kernel and reference end with the same values. -/
theorem algebraic : Cert.algebraic_Kernel9Ideal_Reference9Ideal := fun m g m' g' _ e =>
  ⟨_, Cert.Kernel9Ideal.Value.run_blocks m g,
    (θ_run _ _ _).mono (fun _ k c => agree Mixer.mul (e c) (Cert.Kernel9Ideal.Mixer.result m c) (k c)) (Cert.Reference9Ideal.Mixer.values m' g')⟩

end Cert.Mixer9

namespace Cert.Mixer10

open Idealize.ShloMosaic Idealize.SL.Sem

/-- The kernel's side conditions are those of its idealised program. -/
theorem facts : Cert.Kernel10.Facts := { Cert.Kernel10Ideal.Gen.facts with }

attribute [local instance] facts

/-- The kernel and its idealised program have the same bodies. -/
theorem defs_eq {F : FTy → Type} [FloatOps F] : Cert.Kernel10.defs (F := F) = Cert.Kernel10Ideal.defs :=
  congrArg (Pipeline.defs Cert.Kernel10Ideal.pcfgs) (onTc_congr fun | 0, (_, _) => rfl)

/-- The kernel's frame is that of its idealised program, over bits. -/
theorem frame : Cert.quiescent_Kernel10 := fun m ρ _ => by
  rw [defs_eq]; exact Cert.Kernel10Ideal.Gen.frame m ρ

/-- The idealised kernel's frame. -/
theorem frameIdeal : Cert.quiescent_Kernel10Ideal := fun m ρ _ => Cert.Kernel10Ideal.Gen.frame (F := Ideal) m ρ

/-- The reference's frame. -/
theorem frameReference : Cert.quiescent_Reference10Ideal := fun m ρ _ =>
  (θ_run _ _ _).mono (fun r h => ⟨fun c => (h c).2, sem_eq_zero_of_no_sems rfl _⟩) (Cert.Reference10Ideal.Value.run (F := Ideal) m ρ)

/-- Kernel and reference end with the same values. -/
theorem algebraic : Cert.algebraic_Kernel10Ideal_Reference10Ideal := fun m g m' g' _ e =>
  ⟨_, Cert.Kernel10Ideal.Value.run_blocks m g,
    (θ_run _ _ _).mono (fun _ k c => agree Mixer.mul (e c) (Cert.Kernel10Ideal.Mixer.result m c) (k c)) (Cert.Reference10Ideal.Mixer.values m' g')⟩

end Cert.Mixer10

namespace Cert.Mixer11

open Idealize.ShloMosaic Idealize.SL.Sem

/-- The kernel's side conditions are those of its idealised program. -/
theorem facts : Cert.Kernel11.Facts := { Cert.Kernel11Ideal.Gen.facts with }

attribute [local instance] facts

/-- The kernel and its idealised program have the same bodies. -/
theorem defs_eq {F : FTy → Type} [FloatOps F] : Cert.Kernel11.defs (F := F) = Cert.Kernel11Ideal.defs :=
  congrArg (Pipeline.defs Cert.Kernel11Ideal.pcfgs) (onTc_congr fun | 0, (_, _) => rfl)

/-- The kernel's frame is that of its idealised program, over bits. -/
theorem frame : Cert.quiescent_Kernel11 := fun m ρ _ => by
  rw [defs_eq]; exact Cert.Kernel11Ideal.Gen.frame m ρ

/-- The idealised kernel's frame. -/
theorem frameIdeal : Cert.quiescent_Kernel11Ideal := fun m ρ _ => Cert.Kernel11Ideal.Gen.frame (F := Ideal) m ρ

/-- The reference's frame. -/
theorem frameReference : Cert.quiescent_Reference11Ideal := fun m ρ _ =>
  (θ_run _ _ _).mono (fun r h => ⟨fun c => (h c).2, sem_eq_zero_of_no_sems rfl _⟩) (Cert.Reference11Ideal.Value.run (F := Ideal) m ρ)

/-- Kernel and reference end with the same values. -/
theorem algebraic : Cert.algebraic_Kernel11Ideal_Reference11Ideal := fun m g m' g' _ e =>
  ⟨_, Cert.Kernel11Ideal.Value.run_blocks m g,
    (θ_run _ _ _).mono (fun _ k c => agree Mixer.mul (e c) (Cert.Kernel11Ideal.Mixer.result m c) (k c)) (Cert.Reference11Ideal.Mixer.values m' g')⟩

end Cert.Mixer11

end
-- ==== Proof.Mixer.Inputs.lean ====
module

public import proofs.«01_k».proof.Proof.Mixer.Mul
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run

/-! # The gradients of the mixer's inner activations

Programs 12 to 14: rows of a gradient times a transposed weight. Each grid point writes one block of the product, whole. -/

@[expose] public section

set_option maxRecDepth 16384

noncomputable section

/-! ## The merged branches -/

namespace Cert.Reference12Ideal.Mixer

open Idealize.ShloMosaic Idealize.SL.Sem Cert.Mixer Cert.Reference12Ideal Cert.Reference12Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v5) = (mulT (m (c.tc.loc main_arg0)) (m (c.tc.loc main_arg1)) : Mat 8192 1024)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 1024), y = ix2 i j := ⟨y 0, y 1, eq_ix2 y⟩
  pointwise
  rfl

end Cert.Reference12Ideal.Mixer

namespace Cert.Kernel12Ideal.Mixer

open Idealize.ShloMosaic Idealize.SL.Sem Cert.Mixer Cert.Kernel12Ideal Cert.Kernel12Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The kernel's result is the product. -/
theorem result : (dats m 0 c).arrAt 2 cfg0.N = (mulT (m (c.tc.loc main_arg0)) (m (c.tc.loc main_arg1)) : Mat 8192 1024) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3, k0_pay4]
  unfold mulT
  blk_point [iblk, V, idx t]

end Cert.Kernel12Ideal.Mixer

/-! ## The first branch's output -/

namespace Cert.Reference13Ideal.Mixer

open Idealize.ShloMosaic Idealize.SL.Sem Cert.Mixer Cert.Reference13Ideal Cert.Reference13Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v5) = (mulT (m (c.tc.loc main_arg0)) (m (c.tc.loc main_arg1)) : Mat 8192 512)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 512), y = ix2 i j := ⟨y 0, y 1, eq_ix2 y⟩
  pointwise
  rfl

end Cert.Reference13Ideal.Mixer

namespace Cert.Kernel13Ideal.Mixer

open Idealize.ShloMosaic Idealize.SL.Sem Cert.Mixer Cert.Kernel13Ideal Cert.Kernel13Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The kernel's result is the product. -/
theorem result : (dats m 0 c).arrAt 2 cfg0.N = (mulT (m (c.tc.loc main_arg0)) (m (c.tc.loc main_arg1)) : Mat 8192 512) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3, k0_pay4]
  unfold mulT
  blk_point [iblk, V, idx t]

end Cert.Kernel13Ideal.Mixer

/-! ## The other branches' outputs -/

namespace Cert.Reference14Ideal.Mixer

open Idealize.ShloMosaic Idealize.SL.Sem Cert.Mixer Cert.Reference14Ideal Cert.Reference14Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v4) = (mulT (m (c.tc.loc main_arg0)) (m (c.tc.loc main_arg1)) : Mat 8192 512)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 8192) (j : Fin 512), y = ix2 i j := ⟨y 0, y 1, eq_ix2 y⟩
  pointwise
  rfl

end Cert.Reference14Ideal.Mixer

namespace Cert.Kernel14Ideal.Mixer

open Idealize.ShloMosaic Idealize.SL.Sem Cert.Mixer Cert.Kernel14Ideal Cert.Kernel14Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- The kernel's result is the product. -/
theorem result : (dats m 0 c).arrAt 2 cfg0.N = (mulT (m (c.tc.loc main_arg0)) (m (c.tc.loc main_arg1)) : Mat 8192 512) := by
  refine (dats m 0 c).arrAt_eq_of_covers 2 _ (by decide +kernel) fun t hf y => ?_
  have ht := (idx t).2.2.2
  blk_simp
  rw [after0_2]
  unfold outsAt0
  frame_out
  pointwise [k0_pay1, k0_pay2, k0_pay3]
  unfold mulT
  blk_point [iblk, V, idx t]

end Cert.Kernel14Ideal.Mixer

end
-- ==== Proof.Mixer.ClaimsInputs.lean ====
module

public import proofs.«01_k».proof.Defs
public import proofs.«01_k».proof.Proof.Same
public import proofs.«01_k».proof.Proof.Mixer.Inputs
public import Idealize.ShloMosaic.Lib.Quiescent

/-! # The gradients of the mixer's inner activations: the claims -/

@[expose] public section

set_option maxRecDepth 16384

noncomputable section

namespace Cert.Mixer12

open Idealize.ShloMosaic Idealize.SL.Sem

/-- The kernel's side conditions are those of its idealised program. -/
theorem facts : Cert.Kernel12.Facts := { Cert.Kernel12Ideal.Gen.facts with }

attribute [local instance] facts

/-- The kernel and its idealised program have the same bodies. -/
theorem defs_eq {F : FTy → Type} [FloatOps F] : Cert.Kernel12.defs (F := F) = Cert.Kernel12Ideal.defs :=
  congrArg (Pipeline.defs Cert.Kernel12Ideal.pcfgs) (onTc_congr fun | 0, (_, _) => rfl)

/-- The kernel's frame is that of its idealised program, over bits. -/
theorem frame : Cert.quiescent_Kernel12 := fun m ρ _ => by
  rw [defs_eq]; exact Cert.Kernel12Ideal.Gen.frame m ρ

/-- The idealised kernel's frame. -/
theorem frameIdeal : Cert.quiescent_Kernel12Ideal := fun m ρ _ => Cert.Kernel12Ideal.Gen.frame (F := Ideal) m ρ

/-- The reference's frame. -/
theorem frameReference : Cert.quiescent_Reference12Ideal := fun m ρ _ =>
  (θ_run _ _ _).mono (fun r h => ⟨fun c => (h c).2, sem_eq_zero_of_no_sems rfl _⟩) (Cert.Reference12Ideal.Value.run (F := Ideal) m ρ)

/-- Kernel and reference end with the same values. -/
theorem algebraic : Cert.algebraic_Kernel12Ideal_Reference12Ideal := fun m g m' g' _ e =>
  ⟨_, Cert.Kernel12Ideal.Value.run_blocks m g,
    (θ_run _ _ _).mono (fun _ k c => agree Mixer.mulT (e c) (Cert.Kernel12Ideal.Mixer.result m c) (k c)) (Cert.Reference12Ideal.Mixer.values m' g')⟩

end Cert.Mixer12

namespace Cert.Mixer13

open Idealize.ShloMosaic Idealize.SL.Sem

/-- The kernel's side conditions are those of its idealised program. -/
theorem facts : Cert.Kernel13.Facts := { Cert.Kernel13Ideal.Gen.facts with }

attribute [local instance] facts

/-- The kernel and its idealised program have the same bodies. -/
theorem defs_eq {F : FTy → Type} [FloatOps F] : Cert.Kernel13.defs (F := F) = Cert.Kernel13Ideal.defs :=
  congrArg (Pipeline.defs Cert.Kernel13Ideal.pcfgs) (onTc_congr fun | 0, (_, _) => rfl)

/-- The kernel's frame is that of its idealised program, over bits. -/
theorem frame : Cert.quiescent_Kernel13 := fun m ρ _ => by
  rw [defs_eq]; exact Cert.Kernel13Ideal.Gen.frame m ρ

/-- The idealised kernel's frame. -/
theorem frameIdeal : Cert.quiescent_Kernel13Ideal := fun m ρ _ => Cert.Kernel13Ideal.Gen.frame (F := Ideal) m ρ

/-- The reference's frame. -/
theorem frameReference : Cert.quiescent_Reference13Ideal := fun m ρ _ =>
  (θ_run _ _ _).mono (fun r h => ⟨fun c => (h c).2, sem_eq_zero_of_no_sems rfl _⟩) (Cert.Reference13Ideal.Value.run (F := Ideal) m ρ)

/-- Kernel and reference end with the same values. -/
theorem algebraic : Cert.algebraic_Kernel13Ideal_Reference13Ideal := fun m g m' g' _ e =>
  ⟨_, Cert.Kernel13Ideal.Value.run_blocks m g,
    (θ_run _ _ _).mono (fun _ k c => agree Mixer.mulT (e c) (Cert.Kernel13Ideal.Mixer.result m c) (k c)) (Cert.Reference13Ideal.Mixer.values m' g')⟩

end Cert.Mixer13

namespace Cert.Mixer14

open Idealize.ShloMosaic Idealize.SL.Sem

/-- The kernel's side conditions are those of its idealised program. -/
theorem facts : Cert.Kernel14.Facts := { Cert.Kernel14Ideal.Gen.facts with }

attribute [local instance] facts

/-- The kernel and its idealised program have the same bodies. -/
theorem defs_eq {F : FTy → Type} [FloatOps F] : Cert.Kernel14.defs (F := F) = Cert.Kernel14Ideal.defs :=
  congrArg (Pipeline.defs Cert.Kernel14Ideal.pcfgs) (onTc_congr fun | 0, (_, _) => rfl)

/-- The kernel's frame is that of its idealised program, over bits. -/
theorem frame : Cert.quiescent_Kernel14 := fun m ρ _ => by
  rw [defs_eq]; exact Cert.Kernel14Ideal.Gen.frame m ρ

/-- The idealised kernel's frame. -/
theorem frameIdeal : Cert.quiescent_Kernel14Ideal := fun m ρ _ => Cert.Kernel14Ideal.Gen.frame (F := Ideal) m ρ

/-- The reference's frame. -/
theorem frameReference : Cert.quiescent_Reference14Ideal := fun m ρ _ =>
  (θ_run _ _ _).mono (fun r h => ⟨fun c => (h c).2, sem_eq_zero_of_no_sems rfl _⟩) (Cert.Reference14Ideal.Value.run (F := Ideal) m ρ)

/-- Kernel and reference end with the same values. -/
theorem algebraic : Cert.algebraic_Kernel14Ideal_Reference14Ideal := fun m g m' g' _ e =>
  ⟨_, Cert.Kernel14Ideal.Value.run_blocks m g,
    (θ_run _ _ _).mono (fun _ k c => agree Mixer.mulT (e c) (Cert.Kernel14Ideal.Mixer.result m c) (k c)) (Cert.Reference14Ideal.Mixer.values m' g')⟩

end Cert.Mixer14

end
-- ==== Proof.Mixer.Weights.lean ====
module

public import proofs.«01_k».proof.Proof.Mixer.Mul
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import Idealize.ShloMosaic.Lib.Pipeline.ReadBack

/-! # The gradients of the mixer's weights

Programs 15 to 18: transposed rows times rows of a gradient, a sum over 8192 rows. The kernel adds it up in eight blocks of
1024 rows. -/

@[expose] public section

set_option maxRecDepth 16384

noncomputable section

/-! ## The weight of the output, and of the convolution's input -/

namespace Cert.Reference15Ideal.Mixer

open Idealize.ShloMosaic Idealize.SL.Sem Cert.Mixer Cert.Reference15Ideal Cert.Reference15Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v5) = (tmul (m (c.tc.loc main_arg0)) (m (c.tc.loc main_arg1)) : Mat 1024 1024)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 1024) (j : Fin 1024), y = ix2 i j := ⟨y 0, y 1, eq_ix2 y⟩
  pointwise
  exact Finset.sum_congr rfl fun x _ => mul_comm _ _

end Cert.Reference15Ideal.Mixer

namespace Cert.Kernel15Ideal.Mixer

open Idealize.ShloMosaic Idealize.SL.Sem Cert.Mixer Cert.Kernel15Ideal Cert.Kernel15Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![t.val, 0] ∧ win0_2.index t = ![0, 0] ∧ t.val < 8 :=
  (by decide +kernel : ∀ t : Fin grid0.N, _)

/-- What one point adds. -/
def part (t : Fin cfg0.N) : Mat 1024 1024 :=
  tmul (show Mat 1024 1024 from iblk m c 0 t) (show Mat 1024 1024 from iblk m c 1 t)

/-- A run's first point starts the sum. -/
theorem reset (t : Fin cfg0.N) (h : t.val % 8 = 0) (y : S1024x1024.Idx) : (outsAt0 m c t.val t.isLt).2 y = part m c t y := by
  have ht := (idx t).2.2.2
  rw [outsAt0_A m c t (by omega) (by omega) (by omega)]
  dsimp only
  frame_out
  pointwise [k0_pay1, k0_pay2, k0_pay3]
  rfl

/-- Every other point adds to it. -/
theorem step (t : Fin cfg0.N) (h : ¬t.val % 8 = 0) (y : S1024x1024.Idx) :
    (outsAt0 m c t.val t.isLt).2 y = (outsAt0 m c (t.val - 1) (by omega)).2 y + part m c t y := by
  by_cases h7 : t.val % 8 = 7
  · rw [outsAt0_C m c t (by omega) (by omega) (by omega)]
    dsimp only
    frame_out
    pointwise [k0_pay1, k0_pay2, k0_pay3]
    rw [read_unread_whole]
    rfl
  · rw [outsAt0_B m c t (by omega) (by omega) (by omega)]
    dsimp only
    frame_out
    pointwise [k0_pay1, k0_pay2, k0_pay3]
    rw [read_unread_whole]
    rfl

/-- A run's last point stores the sum. -/
theorem store (t : Fin cfg0.N) (h : t.val % 8 = 7) (y : S1024x1024.Idx) :
    (outsAt0 m c t.val t.isLt).1 y = (outsAt0 m c t.val t.isLt).2 y := by
  rw [outsAt0_C m c t (by omega) (by omega) h]
  dsimp only
  frame_out

/-- The kernel's result is the product. -/
theorem result : (dats m 0 c).arrAt 2 cfg0.N = (tmul (m (c.tc.loc main_arg0)) (m (c.tc.loc main_arg1)) : Mat 1024 1024) := by
  refine (dats m 0 c).arrAt_eq_of_covers 2 _ (by decide +kernel) fun t hf y => ?_
  have h7 := (flush0_2 t).mp hf
  blk_simp
  rw [after0_2]
  refine (store m c t h7 y).trans ?_
  rw [Pipeline.eq_sum_fin_of_reset_step_apply_of_flush (fun n h => (outsAt0 m c n h).2) 8 (fun _ => (0 : EReal)) (part m c)
    (fun t h j => (reset m c t h j).trans (zero_add _).symm) (fun t h j => step m c t h j) t h7 y, zero_add]
  unfold part tmul
  refine Fin.sum_mul_add_congr fun q k hl => ?_
  blk_point [iblk, V, idx t, idx ⟨_, Pipeline.run_point_lt_of_flush t h7 q⟩]

end Cert.Kernel15Ideal.Mixer

/-! ## The weight of an attention's queries, keys and values -/

namespace Cert.Reference16Ideal.Mixer

open Idealize.ShloMosaic Idealize.SL.Sem Cert.Mixer Cert.Reference16Ideal Cert.Reference16Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v5) = (tmul (m (c.tc.loc main_arg0)) (m (c.tc.loc main_arg1)) : Mat 1024 1536)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 1024) (j : Fin 1536), y = ix2 i j := ⟨y 0, y 1, eq_ix2 y⟩
  pointwise
  exact Finset.sum_congr rfl fun x _ => mul_comm _ _

end Cert.Reference16Ideal.Mixer

namespace Cert.Kernel16Ideal.Mixer

open Idealize.ShloMosaic Idealize.SL.Sem Cert.Mixer Cert.Kernel16Ideal Cert.Kernel16Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![t.val, 0] ∧ win0_2.index t = ![0, 0] ∧ t.val < 8 :=
  (by decide +kernel : ∀ t : Fin grid0.N, _)

/-- What one point adds. -/
def part (t : Fin cfg0.N) : Mat 1024 1536 :=
  tmul (show Mat 1024 1024 from iblk m c 0 t) (show Mat 1024 1536 from iblk m c 1 t)

/-- A run's first point starts the sum. -/
theorem reset (t : Fin cfg0.N) (h : t.val % 8 = 0) (y : S1024x1536.Idx) : (outsAt0 m c t.val t.isLt).2 y = part m c t y := by
  have ht := (idx t).2.2.2
  rw [outsAt0_A m c t (by omega) (by omega) (by omega)]
  dsimp only
  frame_out
  pointwise [k0_pay1, k0_pay2, k0_pay3]
  rfl

/-- Every other point adds to it. -/
theorem step (t : Fin cfg0.N) (h : ¬t.val % 8 = 0) (y : S1024x1536.Idx) :
    (outsAt0 m c t.val t.isLt).2 y = (outsAt0 m c (t.val - 1) (by omega)).2 y + part m c t y := by
  by_cases h7 : t.val % 8 = 7
  · rw [outsAt0_C m c t (by omega) (by omega) (by omega)]
    dsimp only
    frame_out
    pointwise [k0_pay1, k0_pay2, k0_pay3]
    rw [read_unread_whole]
    rfl
  · rw [outsAt0_B m c t (by omega) (by omega) (by omega)]
    dsimp only
    frame_out
    pointwise [k0_pay1, k0_pay2, k0_pay3]
    rw [read_unread_whole]
    rfl

/-- A run's last point stores the sum. -/
theorem store (t : Fin cfg0.N) (h : t.val % 8 = 7) (y : S1024x1536.Idx) :
    (outsAt0 m c t.val t.isLt).1 y = (outsAt0 m c t.val t.isLt).2 y := by
  rw [outsAt0_C m c t (by omega) (by omega) h]
  dsimp only
  frame_out

/-- The kernel's result is the product. -/
theorem result : (dats m 0 c).arrAt 2 cfg0.N = (tmul (m (c.tc.loc main_arg0)) (m (c.tc.loc main_arg1)) : Mat 1024 1536) := by
  refine (dats m 0 c).arrAt_eq_of_covers 2 _ (by decide +kernel) fun t hf y => ?_
  have h7 := (flush0_2 t).mp hf
  blk_simp
  rw [after0_2]
  refine (store m c t h7 y).trans ?_
  rw [Pipeline.eq_sum_fin_of_reset_step_apply_of_flush (fun n h => (outsAt0 m c n h).2) 8 (fun _ => (0 : EReal)) (part m c)
    (fun t h j => (reset m c t h j).trans (zero_add _).symm) (fun t h j => step m c t h j) t h7 y, zero_add]
  unfold part tmul
  refine Fin.sum_mul_add_congr fun q k hl => ?_
  blk_point [iblk, V, idx t, idx ⟨_, Pipeline.run_point_lt_of_flush t h7 q⟩]

end Cert.Kernel16Ideal.Mixer

/-! ## The weight of the gates -/

namespace Cert.Reference17Ideal.Mixer

open Idealize.ShloMosaic Idealize.SL.Sem Cert.Mixer Cert.Reference17Ideal Cert.Reference17Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v5) = (tmul (m (c.tc.loc main_arg0)) (m (c.tc.loc main_arg1)) : Mat 1024 3072)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 1024) (j : Fin 3072), y = ix2 i j := ⟨y 0, y 1, eq_ix2 y⟩
  pointwise
  exact Finset.sum_congr rfl fun x _ => mul_comm _ _

end Cert.Reference17Ideal.Mixer

namespace Cert.Kernel17Ideal.Mixer

open Idealize.ShloMosaic Idealize.SL.Sem Cert.Mixer Cert.Kernel17Ideal Cert.Kernel17Ideal.Gen

variable (m : (ℓ : Loc nD τ sig) → Buf (Elt Ideal) ℓ) (c : Dev nD)

/-- The blocks of a grid point: column block `t / 8`, row block `t % 8`. -/
theorem idx : ∀ t : Fin cfg0.N, win0_0.index t = ![t.val % 8, 0] ∧ win0_1.index t = ![t.val % 8, t.val / 8]
    ∧ win0_2.index t = ![0, t.val / 8] ∧ t.val / 8 < 2 :=
  (by decide +kernel : ∀ t : Fin grid0.N, _)

/-- What one point adds. -/
def part (t : Fin cfg0.N) : Mat 1024 1536 :=
  tmul (show Mat 1024 1024 from iblk m c 0 t) (show Mat 1024 1536 from iblk m c 1 t)

/-- A run's first point starts the sum. -/
theorem reset (t : Fin cfg0.N) (h : t.val % 8 = 0) (y : S1024x1536.Idx) : (outsAt0 m c t.val t.isLt).2 y = part m c t y := by
  rw [outsAt0_A m c t (by omega) (by omega) (by omega)]
  dsimp only
  frame_out
  pointwise [k0_pay1, k0_pay2, k0_pay3]
  rfl

/-- Every other point adds to it. -/
theorem step (t : Fin cfg0.N) (h : ¬t.val % 8 = 0) (y : S1024x1536.Idx) :
    (outsAt0 m c t.val t.isLt).2 y = (outsAt0 m c (t.val - 1) (by omega)).2 y + part m c t y := by
  by_cases h7 : t.val % 8 = 7
  · rw [outsAt0_C m c t (by omega) (by omega) (by omega)]
    dsimp only
    frame_out
    pointwise [k0_pay1, k0_pay2, k0_pay3]
    rw [read_unread_whole]
    rfl
  · rw [outsAt0_B m c t (by omega) (by omega) (by omega)]
    dsimp only
    frame_out
    pointwise [k0_pay1, k0_pay2, k0_pay3]
    rw [read_unread_whole]
    rfl

/-- A run's last point stores the sum. -/
theorem store (t : Fin cfg0.N) (h : t.val % 8 = 7) (y : S1024x1536.Idx) :
    (outsAt0 m c t.val t.isLt).1 y = (outsAt0 m c t.val t.isLt).2 y := by
  rw [outsAt0_C m c t (by omega) (by omega) h]
  dsimp only
  frame_out

/-- The kernel's result is the product. -/
theorem result : (dats m 0 c).arrAt 2 cfg0.N = (tmul (m (c.tc.loc main_arg0)) (m (c.tc.loc main_arg1)) : Mat 1024 3072) := by
  refine (dats m 0 c).arrAt_eq_of_covers 2 _ (by decide +kernel) fun t hf y => ?_
  have h7 := (flush0_2 t).mp hf
  blk_simp
  rw [after0_2]
  refine (store m c t h7 y).trans ?_
  rw [Pipeline.eq_sum_fin_of_reset_step_apply_of_flush (fun n h => (outsAt0 m c n h).2) 8 (fun _ => (0 : EReal)) (part m c)
    (fun t h j => (reset m c t h j).trans (zero_add _).symm) (fun t h j => step m c t h j) t h7 y, zero_add]
  unfold part tmul
  refine Fin.sum_mul_add_congr fun q k hl => ?_
  blk_point [iblk, V, idx t, idx ⟨_, Pipeline.run_point_lt_of_flush t h7 q⟩]

end Cert.Kernel17Ideal.Mixer

/-! ## The weight of a branch -/

namespace Cert.Reference18Ideal.Mixer

open Idealize.ShloMosaic Idealize.SL.Sem Cert.Mixer Cert.Reference18Ideal Cert.Reference18Ideal.Gen

variable (m : (ℓ : Loc nD τ sig) → Buf (Elt Ideal) ℓ) (ρ : Dev nD → PrngReg)

/-- A run of the reference ends with the product, and with the arguments as they were. -/
theorem values : θ_run (defs (F := Ideal)) (onTc (τ := τ) (main (F := Ideal))) ⟨m, fun _ => 0, ρ⟩ (fun r => ∀ c : Dev nD,
      r.2.mem (c.tc.loc main_v5) = (tmul (m (c.tc.loc main_arg0)) (m (c.tc.loc main_arg1)) : Mat 512 1024)
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2⟩) (Value.run m ρ)
  clear h
  funext y
  obtain ⟨i, j, rfl⟩ : ∃ (i : Fin 512) (j : Fin 1024), y = ix2 i j := ⟨y 0, y 1, eq_ix2 y⟩
  pointwise
  exact Finset.sum_congr rfl fun x _ => mul_comm _ _

end Cert.Reference18Ideal.Mixer

namespace Cert.Kernel18Ideal.Mixer

open Idealize.ShloMosaic Idealize.SL.Sem Cert.Mixer Cert.Kernel18Ideal Cert.Kernel18Ideal.Gen

variable (m : (ℓ : Loc nD τ sig) → Buf (Elt Ideal) ℓ) (c : Dev nD)

/-- The blocks of a grid point: row block `t`. -/
theorem idx : ∀ t : Fin cfg0.N, win0_0.index t = ![t.val, 0] ∧ win0_1.index t = ![t.val, 0] ∧ win0_2.index t = ![0, 0] ∧ t.val < 8 :=
  (by decide +kernel : ∀ t : Fin grid0.N, _)

/-- What one point adds. -/
def part (t : Fin cfg0.N) : Mat 512 1024 :=
  tmul (show Mat 1024 512 from iblk m c 0 t) (show Mat 1024 1024 from iblk m c 1 t)

/-- A run's first point starts the sum. -/
theorem reset (t : Fin cfg0.N) (h : t.val % 8 = 0) (y : S512x1024.Idx) : (outsAt0 m c t.val t.isLt).2 y = part m c t y := by
  have ht := (idx t).2.2.2
  rw [outsAt0_A m c t (by omega) (by omega) (by omega)]
  dsimp only
  frame_out
  pointwise [k0_pay1, k0_pay2, k0_pay3]
  rfl

/-- Every other point adds to it. -/
theorem step (t : Fin cfg0.N) (h : ¬t.val % 8 = 0) (y : S512x1024.Idx) :
    (outsAt0 m c t.val t.isLt).2 y = (outsAt0 m c (t.val - 1) (by omega)).2 y + part m c t y := by
  by_cases h7 : t.val % 8 = 7
  · rw [outsAt0_C m c t (by omega) (by omega) (by omega)]
    dsimp only
    frame_out
    pointwise [k0_pay1, k0_pay2, k0_pay3]
    rw [read_unread_whole]
    rfl
  · rw [outsAt0_B m c t (by omega) (by omega) (by omega)]
    dsimp only
    frame_out
    pointwise [k0_pay1, k0_pay2, k0_pay3]
    rw [read_unread_whole]
    rfl

/-- A run's last point stores the sum. -/
theorem store (t : Fin cfg0.N) (h : t.val % 8 = 7) (y : S512x1024.Idx) :
    (outsAt0 m c t.val t.isLt).1 y = (outsAt0 m c t.val t.isLt).2 y := by
  rw [outsAt0_C m c t (by omega) (by omega) h]
  dsimp only
  frame_out

/-- The kernel's result is the product. -/
theorem result : (dats m 0 c).arrAt 2 cfg0.N = (tmul (m (c.tc.loc main_arg0)) (m (c.tc.loc main_arg1)) : Mat 512 1024) := by
  refine (dats m 0 c).arrAt_eq_of_covers 2 _ (by decide +kernel) fun t hf y => ?_
  have h7 := (flush0_2 t).mp hf
  blk_simp
  rw [after0_2]
  refine (store m c t h7 y).trans ?_
  rw [Pipeline.eq_sum_fin_of_reset_step_apply_of_flush (fun n h => (outsAt0 m c n h).2) 8 (fun _ => (0 : EReal)) (part m c)
    (fun t h j => (reset m c t h j).trans (zero_add _).symm) (fun t h j => step m c t h j) t h7 y, zero_add]
  unfold part tmul
  refine Fin.sum_mul_add_congr fun q k hl => ?_
  blk_point [iblk, V, idx t, idx ⟨_, Pipeline.run_point_lt_of_flush t h7 q⟩]

end Cert.Kernel18Ideal.Mixer

end
-- ==== Proof.Mixer.ClaimsWeights.lean ====
module

public import proofs.«01_k».proof.Defs
public import proofs.«01_k».proof.Proof.Same
public import proofs.«01_k».proof.Proof.Mixer.Weights
public import Idealize.ShloMosaic.Lib.Quiescent

/-! # The gradients of the mixer's weights: the claims -/

@[expose] public section

set_option maxRecDepth 16384

noncomputable section

namespace Cert.Mixer15

open Idealize.ShloMosaic Idealize.SL.Sem

/-- The kernel's side conditions are those of its idealised program. -/
theorem facts : Cert.Kernel15.Facts := { Cert.Kernel15Ideal.Gen.facts with }

attribute [local instance] facts

/-- The kernel and its idealised program have the same bodies. -/
theorem defs_eq {F : FTy → Type} [FloatOps F] : Cert.Kernel15.defs (F := F) = Cert.Kernel15Ideal.defs :=
  congrArg (Pipeline.defs Cert.Kernel15Ideal.pcfgs) (onTc_congr fun | 0, (_, _) => rfl)

/-- The kernel's frame is that of its idealised program, over bits. -/
theorem frame : Cert.quiescent_Kernel15 := fun m ρ _ => by
  rw [defs_eq]; exact Cert.Kernel15Ideal.Gen.frame m ρ

/-- The idealised kernel's frame. -/
theorem frameIdeal : Cert.quiescent_Kernel15Ideal := fun m ρ _ => Cert.Kernel15Ideal.Gen.frame (F := Ideal) m ρ

/-- The reference's frame. -/
theorem frameReference : Cert.quiescent_Reference15Ideal := fun m ρ _ =>
  (θ_run _ _ _).mono (fun r h => ⟨fun c => (h c).2, sem_eq_zero_of_no_sems rfl _⟩) (Cert.Reference15Ideal.Value.run (F := Ideal) m ρ)

/-- Kernel and reference end with the same values. -/
theorem algebraic : Cert.algebraic_Kernel15Ideal_Reference15Ideal := fun m g m' g' _ e =>
  ⟨_, Cert.Kernel15Ideal.Value.run_blocks m g,
    (θ_run _ _ _).mono (fun _ k c => agree Mixer.tmul (e c) (Cert.Kernel15Ideal.Mixer.result m c) (k c)) (Cert.Reference15Ideal.Mixer.values m' g')⟩

end Cert.Mixer15

namespace Cert.Mixer16

open Idealize.ShloMosaic Idealize.SL.Sem

/-- The kernel's side conditions are those of its idealised program. -/
theorem facts : Cert.Kernel16.Facts := { Cert.Kernel16Ideal.Gen.facts with }

attribute [local instance] facts

/-- The kernel and its idealised program have the same bodies. -/
theorem defs_eq {F : FTy → Type} [FloatOps F] : Cert.Kernel16.defs (F := F) = Cert.Kernel16Ideal.defs :=
  congrArg (Pipeline.defs Cert.Kernel16Ideal.pcfgs) (onTc_congr fun | 0, (_, _) => rfl)

/-- The kernel's frame is that of its idealised program, over bits. -/
theorem frame : Cert.quiescent_Kernel16 := fun m ρ _ => by
  rw [defs_eq]; exact Cert.Kernel16Ideal.Gen.frame m ρ

/-- The idealised kernel's frame. -/
theorem frameIdeal : Cert.quiescent_Kernel16Ideal := fun m ρ _ => Cert.Kernel16Ideal.Gen.frame (F := Ideal) m ρ

/-- The reference's frame. -/
theorem frameReference : Cert.quiescent_Reference16Ideal := fun m ρ _ =>
  (θ_run _ _ _).mono (fun r h => ⟨fun c => (h c).2, sem_eq_zero_of_no_sems rfl _⟩) (Cert.Reference16Ideal.Value.run (F := Ideal) m ρ)

/-- Kernel and reference end with the same values. -/
theorem algebraic : Cert.algebraic_Kernel16Ideal_Reference16Ideal := fun m g m' g' _ e =>
  ⟨_, Cert.Kernel16Ideal.Value.run_blocks m g,
    (θ_run _ _ _).mono (fun _ k c => agree Mixer.tmul (e c) (Cert.Kernel16Ideal.Mixer.result m c) (k c)) (Cert.Reference16Ideal.Mixer.values m' g')⟩

end Cert.Mixer16

namespace Cert.Mixer17

open Idealize.ShloMosaic Idealize.SL.Sem

/-- The kernel's side conditions are those of its idealised program. -/
theorem facts : Cert.Kernel17.Facts := { Cert.Kernel17Ideal.Gen.facts with }

attribute [local instance] facts

/-- The kernel and its idealised program have the same bodies. -/
theorem defs_eq {F : FTy → Type} [FloatOps F] : Cert.Kernel17.defs (F := F) = Cert.Kernel17Ideal.defs :=
  congrArg (Pipeline.defs Cert.Kernel17Ideal.pcfgs) (onTc_congr fun | 0, (_, _) => rfl)

/-- The kernel's frame is that of its idealised program, over bits. -/
theorem frame : Cert.quiescent_Kernel17 := fun m ρ _ => by
  rw [defs_eq]; exact Cert.Kernel17Ideal.Gen.frame m ρ

/-- The idealised kernel's frame. -/
theorem frameIdeal : Cert.quiescent_Kernel17Ideal := fun m ρ _ => Cert.Kernel17Ideal.Gen.frame (F := Ideal) m ρ

/-- The reference's frame. -/
theorem frameReference : Cert.quiescent_Reference17Ideal := fun m ρ _ =>
  (θ_run _ _ _).mono (fun r h => ⟨fun c => (h c).2, sem_eq_zero_of_no_sems rfl _⟩) (Cert.Reference17Ideal.Value.run (F := Ideal) m ρ)

/-- Kernel and reference end with the same values. -/
theorem algebraic : Cert.algebraic_Kernel17Ideal_Reference17Ideal := fun m g m' g' _ e =>
  ⟨_, Cert.Kernel17Ideal.Value.run_blocks m g,
    (θ_run _ _ _).mono (fun _ k c => agree Mixer.tmul (e c) (Cert.Kernel17Ideal.Mixer.result m c) (k c)) (Cert.Reference17Ideal.Mixer.values m' g')⟩

end Cert.Mixer17

namespace Cert.Mixer18

open Idealize.ShloMosaic Idealize.SL.Sem

/-- The kernel's side conditions are those of its idealised program. -/
theorem facts : Cert.Kernel18.Facts := { Cert.Kernel18Ideal.Gen.facts with }

attribute [local instance] facts

/-- The kernel and its idealised program have the same bodies. -/
theorem defs_eq {F : FTy → Type} [FloatOps F] : Cert.Kernel18.defs (F := F) = Cert.Kernel18Ideal.defs :=
  congrArg (Pipeline.defs Cert.Kernel18Ideal.pcfgs) (onTc_congr fun | 0, (_, _) => rfl)

/-- The kernel's frame is that of its idealised program, over bits. -/
theorem frame : Cert.quiescent_Kernel18 := fun m ρ _ => by
  rw [defs_eq]; exact Cert.Kernel18Ideal.Gen.frame m ρ

/-- The idealised kernel's frame. -/
theorem frameIdeal : Cert.quiescent_Kernel18Ideal := fun m ρ _ => Cert.Kernel18Ideal.Gen.frame (F := Ideal) m ρ

/-- The reference's frame. -/
theorem frameReference : Cert.quiescent_Reference18Ideal := fun m ρ _ =>
  (θ_run _ _ _).mono (fun r h => ⟨fun c => (h c).2, sem_eq_zero_of_no_sems rfl _⟩) (Cert.Reference18Ideal.Value.run (F := Ideal) m ρ)

/-- Kernel and reference end with the same values. -/
theorem algebraic : Cert.algebraic_Kernel18Ideal_Reference18Ideal := fun m g m' g' _ e =>
  ⟨_, Cert.Kernel18Ideal.Value.run_blocks m g,
    (θ_run _ _ _).mono (fun _ k c => agree Mixer.tmul (e c) (Cert.Kernel18Ideal.Mixer.result m c) (k c)) (Cert.Reference18Ideal.Mixer.values m' g')⟩

end Cert.Mixer18

end
-- ==== Proof.Mixer.Joined.lean ====
module

public import proofs.«01_k».proof.Proof.Mixer.Mul
public import proofs.«01_k».proof.Proof.Gen.Kernel19Ideal.Frame
public import Idealize.ShloMosaic.Lib.Pipeline.Value
public import Idealize.ShloMosaic.Lib.Pipeline.ValueKit
public import proofs.«01_k».proof.Proof.Gen.Reference19Ideal.Run
public import Idealize.ShloMosaic.Lib.Pipeline.ReadBack

/-! # The gradient of the mixer's input

Program 19: the sum, over the five projections, of the rows of the projection's gradient times its transposed weight. The
kernel adds it up over fifteen grid points, each taking 512 columns of one projection (all 128 of the narrow one). -/

@[expose] public section

set_option maxRecDepth 16384

noncomputable section

namespace Cert.Mixer

open Idealize.ShloMosaic

/-- The sum of the five products. -/
def joined (D₀ : Mat 8192 1536) (W₀ : Mat 1024 1536) (D₁ : Mat 8192 1024) (W₁ : Mat 1024 1024) (D₂ : Mat 8192 1536)
    (W₂ : Mat 1024 1536) (D₃ : Mat 8192 128) (W₃ : Mat 1024 128) (D₄ : Mat 8192 3072) (W₄ : Mat 1024 3072) : Mat 8192 1024 :=
  fun y => mulT D₀ W₀ y + mulT D₁ W₁ y + mulT D₂ W₂ y + mulT D₃ W₃ y + mulT D₄ W₄ y

/-- Fifteen terms in groups of three, two, three, one and six. -/
theorem sum15 (f : Fin 15 → EReal) :
    ∑ q, f q = ∑ q : Fin 3, f ⟨q, by omega⟩ + ∑ q : Fin 2, f ⟨3 + q, by omega⟩ + ∑ q : Fin 3, f ⟨5 + q, by omega⟩
      + ∑ q : Fin 1, f ⟨8 + q, by omega⟩ + ∑ q : Fin 6, f ⟨9 + q, by omega⟩ := by
  refine (Fin.sum_univ_add (a := 9) (b := 6) f).trans (congrArg (· + _) ?_)
  refine (Fin.sum_univ_add (a := 8) (b := 1) _).trans (congrArg (· + _) ?_)
  refine (Fin.sum_univ_add (a := 5) (b := 3) _).trans (congrArg (· + _) ?_)
  exact Fin.sum_univ_add (a := 3) (b := 2) _

end Cert.Mixer

namespace Cert.Reference19Ideal.Mixer

open Idealize.ShloMosaic Idealize.SL.Sem Cert.Mixer Cert.Reference19Ideal Cert.Reference19Ideal.Gen

variable (m : (ℓ : Loc nD τ sig) → Buf (Elt Ideal) ℓ) (ρ : Dev nD → PrngReg)

/-- A run of the reference ends with the sum, and with the arguments as they were. -/
theorem values : θ_run (defs (F := Ideal)) (onTc (τ := τ) (main (F := Ideal))) ⟨m, fun _ => 0, ρ⟩ (fun r => ∀ c : Dev nD,
      r.2.mem (c.tc.loc main_v24) = joined (m (c.tc.loc main_arg0)) (m (c.tc.loc main_arg1))
        (m (c.tc.loc main_arg2)) (m (c.tc.loc main_arg3))
        (m (c.tc.loc main_arg4)) (m (c.tc.loc main_arg5))
        (m (c.tc.loc main_arg6)) (m (c.tc.loc main_arg7))
        (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) := by
  refine (θ_run defs _ _).mono (fun r h c => ⟨(h c).1.trans ?_, (h c).2⟩) (Value.run m ρ)
  clear h
  funext y
  obtain ⟨i, j, rfl⟩ : ∃ (i : Fin 8192) (j : Fin 1024), y = ix2 i j := ⟨y 0, y 1, eq_ix2 y⟩
  have e (a b c d e : EReal) : a + b + c + d + e = e + d + c + b + a := by abel
  refine Eq.trans ?_ (e _ _ _ _ _)
  pointwise
  rfl

end Cert.Reference19Ideal.Mixer

namespace Cert.Kernel19Ideal.Mixer

open Idealize.ShloMosaic Idealize.SL.Sem Cert.Mixer Cert.Kernel19Ideal Cert.Kernel19Ideal.Gen

variable (m : (ℓ : Loc nD τ sig) → Buf (Elt Ideal) ℓ) (c : Dev nD)

/-- The blocks of a grid point: row block `t / 15`, and of each projection the column block whose turn it is, before its
first turn the first and after its last the last. -/
theorem idx : ∀ t : Fin cfg0.N, win0_0.index t = ![t.val / 15, min (t.val % 15 - 0) 2] ∧ win0_1.index t = ![0, min (t.val % 15 - 0) 2]
    ∧ win0_2.index t = ![t.val / 15, min (t.val % 15 - 3) 1] ∧ win0_3.index t = ![0, min (t.val % 15 - 3) 1]
    ∧ win0_4.index t = ![t.val / 15, min (t.val % 15 - 5) 2] ∧ win0_5.index t = ![0, min (t.val % 15 - 5) 2]
    ∧ win0_6.index t = ![t.val / 15, min (t.val % 15 - 8) 0] ∧ win0_7.index t = ![0, min (t.val % 15 - 8) 0]
    ∧ win0_8.index t = ![t.val / 15, min (t.val % 15 - 9) 5] ∧ win0_9.index t = ![0, min (t.val % 15 - 9) 5]
    ∧ win0_10.index t = ![t.val / 15, 0] ∧ t.val / 15 < 8 :=
  (by decide +kernel : ∀ t : Fin grid0.N, _)

/-- What one point adds. -/
def part (t : Fin cfg0.N) : Mat 1024 1024 :=
  if t.val % 15 ≤ 2 then mulT (show Mat 1024 512 from iblk m c 0 t) (show Mat 1024 512 from iblk m c 1 t)
  else if t.val % 15 ≤ 4 then mulT (show Mat 1024 512 from iblk m c 2 t) (show Mat 1024 512 from iblk m c 3 t)
  else if t.val % 15 ≤ 7 then mulT (show Mat 1024 512 from iblk m c 4 t) (show Mat 1024 512 from iblk m c 5 t)
  else if t.val % 15 = 8 then mulT (show Mat 1024 128 from iblk m c 6 t) (show Mat 1024 128 from iblk m c 7 t)
  else mulT (show Mat 1024 512 from iblk m c 8 t) (show Mat 1024 512 from iblk m c 9 t)

theorem part0 (t : Fin cfg0.N) (h : t.val % 15 ≤ 2) :
    part m c t = mulT (show Mat 1024 512 from iblk m c 0 t) (show Mat 1024 512 from iblk m c 1 t) := by
  unfold part
  rw [if_pos (by omega)]

theorem part1 (t : Fin cfg0.N) (h : 3 ≤ t.val % 15 ∧ t.val % 15 ≤ 4) :
    part m c t = mulT (show Mat 1024 512 from iblk m c 2 t) (show Mat 1024 512 from iblk m c 3 t) := by
  unfold part
  rw [if_neg (by omega), if_pos (by omega)]

theorem part2 (t : Fin cfg0.N) (h : 5 ≤ t.val % 15 ∧ t.val % 15 ≤ 7) :
    part m c t = mulT (show Mat 1024 512 from iblk m c 4 t) (show Mat 1024 512 from iblk m c 5 t) := by
  unfold part
  rw [if_neg (by omega), if_neg (by omega), if_pos (by omega)]

theorem part3 (t : Fin cfg0.N) (h : t.val % 15 = 8) :
    part m c t = mulT (show Mat 1024 128 from iblk m c 6 t) (show Mat 1024 128 from iblk m c 7 t) := by
  unfold part
  rw [if_neg (by omega), if_neg (by omega), if_neg (by omega), if_pos (by omega)]

theorem part4 (t : Fin cfg0.N) (h : 9 ≤ t.val % 15) :
    part m c t = mulT (show Mat 1024 512 from iblk m c 8 t) (show Mat 1024 512 from iblk m c 9 t) := by
  unfold part
  rw [if_neg (by omega), if_neg (by omega), if_neg (by omega), if_neg (by omega)]

/-- A run's first point starts the sum. -/
theorem reset (t : Fin cfg0.N) (h : t.val % 15 = 0) (y : S1024x1024.Idx) : (outsAt0 m c t.val t.isLt).2 y = 0 + part m c t y := by
  rw [outsAt0_A m c t (by omega) (by omega) (by omega) (by omega) (by omega) (by omega) (by omega), part0 m c t (by omega)]
  dsimp only
  frame_out
  pointwise [k0_pay1, k0_pay2]
  rfl

/-- Every other point adds to it. -/
theorem step (t : Fin cfg0.N) (h : ¬t.val % 15 = 0) (y : S1024x1024.Idx) :
    (outsAt0 m c t.val t.isLt).2 y = (outsAt0 m c (t.val - 1) (by omega)).2 y + part m c t y := by
  by_cases h0 : t.val % 15 ≤ 2
  · rw [outsAt0_B m c t (by omega) (by omega) (by omega) (by omega) (by omega) (by omega) (by omega), part0 m c t (by omega)]
    dsimp only
    frame_out
    pointwise [k0_pay2]
    rw [read_unread_whole]
    rfl
  by_cases h1 : t.val % 15 ≤ 4
  · rw [outsAt0_C m c t (by omega) (by omega) (by omega) (by omega) (by omega) (by omega) (by omega), part1 m c t (by omega)]
    dsimp only
    frame_out
    pointwise [k0_pay3]
    rw [read_unread_whole]
    rfl
  by_cases h2 : t.val % 15 ≤ 7
  · rw [outsAt0_D m c t (by omega) (by omega) (by omega) (by omega) (by omega) (by omega) (by omega), part2 m c t (by omega)]
    dsimp only
    frame_out
    pointwise [k0_pay4]
    rw [read_unread_whole]
    rfl
  by_cases h3 : t.val % 15 = 8
  · rw [outsAt0_E m c t (by omega) (by omega) (by omega) (by omega) (by omega) (by omega) (by omega), part3 m c t (by omega)]
    dsimp only
    frame_out
    pointwise [k0_pay5]
    rw [read_unread_whole]
    rfl
  by_cases h4 : t.val % 15 = 14
  · rw [outsAt0_G m c t (by omega) (by omega) (by omega) (by omega) (by omega) (by omega) (by omega), part4 m c t (by omega)]
    dsimp only
    frame_out
    pointwise [k0_pay6]
    rw [read_unread_whole]
    rfl
  · rw [outsAt0_F m c t (by omega) (by omega) (by omega) (by omega) (by omega) (by omega) (by omega), part4 m c t (by omega)]
    dsimp only
    frame_out
    pointwise [k0_pay6]
    rw [read_unread_whole]
    rfl

/-- A run's last point stores the sum. -/
theorem store (t : Fin cfg0.N) (h : t.val % 15 = 14) (y : S1024x1024.Idx) :
    (outsAt0 m c t.val t.isLt).1 y = (outsAt0 m c t.val t.isLt).2 y := by
  rw [outsAt0_G m c t (by omega) (by omega) (by omega) (by omega) (by omega) (by omega) h]
  dsimp only
  frame_out

/-- The kernel's result is the sum. -/
theorem result : (dats m 0 c).arrAt 10 cfg0.N = joined (m (c.tc.loc main_arg0)) (m (c.tc.loc main_arg1))
        (m (c.tc.loc main_arg2)) (m (c.tc.loc main_arg3))
        (m (c.tc.loc main_arg4)) (m (c.tc.loc main_arg5))
        (m (c.tc.loc main_arg6)) (m (c.tc.loc main_arg7))
        (m (c.tc.loc main_arg8)) (m (c.tc.loc main_arg9)) := by
  refine (dats m 0 c).arrAt_eq_of_covers 10 _ (by decide +kernel) fun t hf y => ?_
  have h14 := (flush0_10 t).mp hf
  blk_simp
  rw [after0_10]
  refine (store m c t h14 y).trans ?_
  rw [Pipeline.eq_sum_fin_of_reset_step_apply_of_flush (fun n h => (outsAt0 m c n h).2) 15 (fun _ => (0 : EReal)) (part m c)
    (fun t h j => reset m c t h j) (fun t h j => step m c t h j) t h14 y, zero_add, sum15]
  unfold joined
  refine congrArg₂ _ (congrArg₂ _ (congrArg₂ _ (congrArg₂ _ ?_ ?_) ?_) ?_) ?_
  · refine (Finset.sum_congr rfl fun (q : Fin 3) _ => congrFun (part0 m c ⟨15 * (t.val / 15) + (q : ℕ), Pipeline.run_point_lt_of_flush t h14 ⟨q, by omega⟩⟩ (by dsimp only; omega)) y).trans ?_
    unfold mulT
    refine Fin.sum_mul_add_congr fun q k hl => ?_
    blk_point [iblk, V, idx t, idx ⟨15 * (t.val / 15) + (q : ℕ), Pipeline.run_point_lt_of_flush t h14 ⟨q, by omega⟩⟩]
  · refine (Finset.sum_congr rfl fun (q : Fin 2) _ => congrFun (part1 m c ⟨15 * (t.val / 15) + (3 + (q : ℕ)), Pipeline.run_point_lt_of_flush t h14 ⟨3 + (q : ℕ), by omega⟩⟩ (by dsimp only; omega)) y).trans ?_
    unfold mulT
    refine Fin.sum_mul_add_congr fun q k hl => ?_
    blk_point [iblk, V, idx t, idx ⟨15 * (t.val / 15) + (3 + (q : ℕ)), Pipeline.run_point_lt_of_flush t h14 ⟨3 + (q : ℕ), by omega⟩⟩]
  · refine (Finset.sum_congr rfl fun (q : Fin 3) _ => congrFun (part2 m c ⟨15 * (t.val / 15) + (5 + (q : ℕ)), Pipeline.run_point_lt_of_flush t h14 ⟨5 + (q : ℕ), by omega⟩⟩ (by dsimp only; omega)) y).trans ?_
    unfold mulT
    refine Fin.sum_mul_add_congr fun q k hl => ?_
    blk_point [iblk, V, idx t, idx ⟨15 * (t.val / 15) + (5 + (q : ℕ)), Pipeline.run_point_lt_of_flush t h14 ⟨5 + (q : ℕ), by omega⟩⟩]
  · refine (Finset.sum_congr rfl fun (q : Fin 1) _ => congrFun (part3 m c ⟨15 * (t.val / 15) + (8 + (q : ℕ)), Pipeline.run_point_lt_of_flush t h14 ⟨8 + (q : ℕ), by omega⟩⟩ (by dsimp only; omega)) y).trans ?_
    unfold mulT
    refine Fin.sum_mul_add_congr fun q k hl => ?_
    blk_point [iblk, V, idx t, idx ⟨15 * (t.val / 15) + 8, Pipeline.run_point_lt_of_flush t h14 ⟨8, by omega⟩⟩]
  · refine (Finset.sum_congr rfl fun (q : Fin 6) _ => congrFun (part4 m c ⟨15 * (t.val / 15) + (9 + (q : ℕ)), Pipeline.run_point_lt_of_flush t h14 ⟨9 + (q : ℕ), by omega⟩⟩ (by dsimp only; omega)) y).trans ?_
    unfold mulT
    refine Fin.sum_mul_add_congr fun q k hl => ?_
    blk_point [iblk, V, idx t, idx ⟨15 * (t.val / 15) + (9 + (q : ℕ)), Pipeline.run_point_lt_of_flush t h14 ⟨9 + (q : ℕ), by omega⟩⟩]

/-- A run of the kernel ends with the sum, and with the arguments as they were. -/
theorem run (ρ : Dev nD → PrngReg) : θ_run (defs (F := Ideal)) (onTc (τ := τ) (main (F := Ideal))) ⟨m, fun _ => 0, ρ⟩ (fun r => ∀ c : Dev nD,
      r.2.mem (c.tc.loc main_v0) = joined (m (c.tc.loc main_arg0)) (m (c.tc.loc main_arg1))
        (m (c.tc.loc main_arg2)) (m (c.tc.loc main_arg3))
        (m (c.tc.loc main_arg4)) (m (c.tc.loc main_arg5))
        (m (c.tc.loc main_arg6)) (m (c.tc.loc main_arg7))
        (m (c.tc.loc main_arg8)) (m (c.tc.loc main_arg9))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)) :=
  (θ_run defs _ _).mono (fun r h c => ⟨((h c).1 10).trans (result m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c)))⟩) (run_main m ρ)

end Cert.Kernel19Ideal.Mixer

end
-- ==== Proof.Mixer.ClaimsJoined.lean ====
module

public import proofs.«01_k».proof.Defs
public import proofs.«01_k».proof.Proof.Same
public import proofs.«01_k».proof.Proof.Mixer.Joined
public import Idealize.ShloMosaic.Lib.Quiescent

/-! # The gradient of the mixer's input: the claims -/

@[expose] public section

set_option maxRecDepth 16384

noncomputable section

namespace Cert.Mixer19

open Idealize.ShloMosaic Idealize.SL.Sem

/-- The kernel's side conditions are those of its idealised program. -/
theorem facts : Cert.Kernel19.Facts := { Cert.Kernel19Ideal.Gen.facts with }

attribute [local instance] facts

/-- The kernel and its idealised program have the same bodies. -/
theorem defs_eq {F : FTy → Type} [FloatOps F] : Cert.Kernel19.defs (F := F) = Cert.Kernel19Ideal.defs :=
  congrArg (Pipeline.defs Cert.Kernel19Ideal.pcfgs) (onTc_congr fun | 0, (_, _) => rfl)

/-- The kernel's frame is that of its idealised program, over bits. -/
theorem frame : Cert.quiescent_Kernel19 := fun m ρ _ => by
  rw [defs_eq]; exact Cert.Kernel19Ideal.Gen.frame m ρ

/-- The idealised kernel's frame. -/
theorem frameIdeal : Cert.quiescent_Kernel19Ideal := fun m ρ _ => Cert.Kernel19Ideal.Gen.frame (F := Ideal) m ρ

/-- The reference's frame. -/
theorem frameReference : Cert.quiescent_Reference19Ideal := fun m ρ _ =>
  (θ_run _ _ _).mono (fun r h => ⟨fun c => (h c).2, sem_eq_zero_of_no_sems rfl _⟩) (Cert.Reference19Ideal.Value.run (F := Ideal) m ρ)

/-- Kernel and reference end with the same values. -/
theorem algebraic : Cert.algebraic_Kernel19Ideal_Reference19Ideal := fun m g m' g' _ h => by
  refine ⟨_, Cert.Kernel19Ideal.Mixer.run m g, ?_⟩
  refine (θ_run _ _ _).mono (fun r hr c => ?_) (Cert.Reference19Ideal.Mixer.values m' g')
  obtain ⟨eq0, eq1, eq2, eq3, eq4, eq5, eq6, eq7, eq8, eq9⟩ := h c
  have k := hr c
  refine ⟨k.1.trans ?_, k.2⟩
  rw [eq0, eq1, eq2, eq3, eq4, eq5, eq6, eq7, eq8, eq9]

end Cert.Mixer19

end
-- ==== Proof.Adam.Step.lean ====
module

public import Idealize.ShloMosaic.Lib.Pipeline.Value
public import Idealize.ShloMosaic.Lib.Pipeline.ValueKit

/-! # One step of the optimiser

The three results of a step, at one index: the first and second moments `newM` and `newV`, and the change `delta` of the
weight. The constants are the words both programs hold. -/

@[expose] public section

noncomputable section

namespace Cert.Adam

open Idealize.ShloMosaic

variable {s : Shape}

/-- The new first moment, `0.9 m + 0.1 g`. -/
def newM (g m : FVec Ideal s .f32) : FVec Ideal s .f32 := fun y =>
  FloatOps.addf (FloatOps.mulf (Scalar.ofBits .f32 0x3F666666#32) (m y)) (FloatOps.mulf (Scalar.ofBits .f32 0x3DCCCCCD#32) (g y))

/-- The new second moment, `0.999 v + 0.001 g²`. -/
def newV (g v : FVec Ideal s .f32) : FVec Ideal s .f32 := fun y =>
  FloatOps.addf (FloatOps.mulf (Scalar.ofBits .f32 0x3F7FBE77#32) (v y))
    (FloatOps.mulf (Scalar.ofBits .f32 0x3A83126F#32) (FloatOps.mulf (g y) (g y)))

/-- The change of the weight, from the moments freed of their bias: `-lr (m̂ / (√v̂ + ε) + wd w)`. -/
def delta (w g m v : FVec Ideal s .f32) : FVec Ideal s .f32 := fun y =>
  FloatOps.mulf (Scalar.ofBits .f32 0xBA83126F#32) (FloatOps.addf
    (FloatOps.divf (FloatOps.divf (newM g m y) (Scalar.ofBits .f32 0x3F26BD02#32))
      (FloatOps.addf (FloatOps.sqrt (FloatOps.divf (newV g v y) (Scalar.ofBits .f32 0x3C231ACC#32))) (Scalar.ofBits .f32 0x322BCC77#32)))
    (FloatOps.mulf (Scalar.ofBits .f32 0x3C23D70A#32) (w y)))

/-! Kernel and reference hold the arguments in different memories, and the kernel in another shape: from equal arguments the
reference's results `d`, `n`, `v` are the kernel's, `D`, `N`, `V`. -/

variable {s' : Shape} {w g m v w' g' m' v' : FVec Ideal s .f32} {P : Prop}

/-- Where the kernel works on the arguments' own shape. -/
theorem agree (e : w' = w ∧ g' = g ∧ m' = m ∧ v' = v) {D N V d n u : FVec Ideal s .f32}
    (r : D = delta w g m v ∧ N = newM g m ∧ V = newV g v)
    (k : d = delta w' g' m' v' ∧ n = newM g' m' ∧ u = newV g' v' ∧ P) : d = D ∧ n = N ∧ u = V ∧ P := by
  obtain ⟨rfl, rfl, rfl, rfl⟩ := e
  obtain ⟨rfl, rfl, rfl⟩ := r
  exact k

/-- Where it works on rows, and the reference flattens its results. -/
theorem agree_rows (h : s.ShapeCasts s') (e : w' = w ∧ g' = g ∧ m' = m ∧ v' = v) {D N V d n u : FVec Ideal s' .f32}
    (r : D = delta (shapeCast s' w h) (shapeCast s' g h) (shapeCast s' m h) (shapeCast s' v h)
      ∧ N = newM (shapeCast s' g h) (shapeCast s' m h) ∧ V = newV (shapeCast s' g h) (shapeCast s' v h))
    (k : d = shapeCast s' (delta w' g' m' v') h ∧ n = shapeCast s' (newM g' m') h ∧ u = shapeCast s' (newV g' v') h ∧ P) :
    d = D ∧ n = N ∧ u = V ∧ P := by
  obtain ⟨rfl, rfl, rfl, rfl⟩ := e
  obtain ⟨rfl, rfl, rfl⟩ := r
  exact k

end Cert.Adam

end
-- ==== Proof.Adam.FeedForward.lean ====
module

public import proofs.«01_k».proof.Defs
public import proofs.«01_k».proof.Proof.Same
public import proofs.«01_k».proof.Proof.Adam.Step
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import Idealize.ShloMosaic.Lib.Quiescent

/-! # The optimiser's step on the feed-forward weights

Program 20: a gate or up weight. Program 21: a down weight. -/

@[expose] public section

set_option maxRecDepth 16384

noncomputable section

namespace Cert.Adam20

open Idealize.ShloMosaic Idealize.SL.Sem Cert.Kernel20Ideal Cert.Kernel20Ideal.Gen

theorem facts : Cert.Kernel20.Facts := { Cert.Kernel20Ideal.Gen.facts with }

attribute [local instance] facts

/-- The kernel and its idealised program have the same bodies. -/
theorem defs_eq {F : FTy → Type} [FloatOps F] : Cert.Kernel20.defs (F := F) = defs :=
  congrArg (Pipeline.defs pcfgs) (onTc_congr fun | 0, (_, _) => rfl)

theorem frame : Cert.quiescent_Kernel20 := fun m ρ _ => by
  rw [defs_eq]; exact Gen.frame m ρ

theorem frameIdeal : Cert.quiescent_Kernel20Ideal := fun m ρ _ => Gen.frame m ρ

theorem frameReference : Cert.quiescent_Reference20Ideal := fun m ρ _ =>
  (θ_run _ _ _).mono (fun _ h => ⟨fun c => (h c).2.2.2, sem_eq_zero_of_no_sems rfl _⟩) (Reference20Ideal.Value.run m ρ)

/-- Each block of the results is the step on the same block of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel20Ideal_Reference20Ideal := fun m g m' g' _ e =>
  ⟨_, _, _, Value.run_blocks m g,
    (θ_run _ _ _).mono (fun _ k c => Adam.agree_rows _ (e c) (results m c) (k c)) (Reference20Ideal.Value.run m' g')⟩

end Cert.Adam20

namespace Cert.Adam21

open Idealize.ShloMosaic Idealize.SL.Sem Cert.Kernel21Ideal Cert.Kernel21Ideal.Gen

theorem facts : Cert.Kernel21.Facts := { Cert.Kernel21Ideal.Gen.facts with }

attribute [local instance] facts

theorem defs_eq {F : FTy → Type} [FloatOps F] : Cert.Kernel21.defs (F := F) = defs :=
  congrArg (Pipeline.defs pcfgs) (onTc_congr fun | 0, (_, _) => rfl)

theorem frame : Cert.quiescent_Kernel21 := fun m ρ _ => by
  rw [defs_eq]; exact Gen.frame m ρ

theorem frameIdeal : Cert.quiescent_Kernel21Ideal := fun m ρ _ => Gen.frame m ρ

theorem frameReference : Cert.quiescent_Reference21Ideal := fun m ρ _ =>
  (θ_run _ _ _).mono (fun _ h => ⟨fun c => (h c).2.2.2, sem_eq_zero_of_no_sems rfl _⟩) (Reference21Ideal.Value.run m ρ)

theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel21Ideal_Reference21Ideal := fun m g m' g' _ e =>
  ⟨_, _, _, Value.run_blocks m g,
    (θ_run _ _ _).mono (fun _ k c => Adam.agree_rows _ (e c) (results m c) (k c)) (Reference21Ideal.Value.run m' g')⟩

end Cert.Adam21

end
-- ==== Proof.Adam.Mixer.lean ====
module

public import proofs.«01_k».proof.Defs
public import proofs.«01_k».proof.Proof.Same
public import proofs.«01_k».proof.Proof.Adam.Step
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import Idealize.ShloMosaic.Lib.Quiescent

/-! # The optimiser's step on the mixer's weights

Program 22: the weight of the mixer's input. Program 23: that of its branches. Program 24: that of its output. -/

@[expose] public section

set_option maxRecDepth 16384

noncomputable section

namespace Cert.Adam22

open Idealize.ShloMosaic Idealize.SL.Sem Cert.Kernel22Ideal Cert.Kernel22Ideal.Gen

theorem facts : Cert.Kernel22.Facts := { Cert.Kernel22Ideal.Gen.facts with }

attribute [local instance] facts

/-- The kernel and its idealised program have the same bodies. -/
theorem defs_eq {F : FTy → Type} [FloatOps F] : Cert.Kernel22.defs (F := F) = defs :=
  congrArg (Pipeline.defs pcfgs) (onTc_congr fun | 0, (_, _) => rfl)

theorem frame : Cert.quiescent_Kernel22 := fun m ρ _ => by
  rw [defs_eq]; exact Gen.frame m ρ

theorem frameIdeal : Cert.quiescent_Kernel22Ideal := fun m ρ _ => Gen.frame m ρ

theorem frameReference : Cert.quiescent_Reference22Ideal := fun m ρ _ =>
  (θ_run _ _ _).mono (fun _ h => ⟨fun c => (h c).2.2.2, sem_eq_zero_of_no_sems rfl _⟩) (Reference22Ideal.Value.run m ρ)

/-- Each block of the results is the step on the same block of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel22Ideal_Reference22Ideal := fun m g m' g' _ e =>
  ⟨_, _, _, Value.run_blocks m g,
    (θ_run _ _ _).mono (fun _ k c => Adam.agree_rows _ (e c) (results m c) (k c)) (Reference22Ideal.Value.run m' g')⟩

end Cert.Adam22

namespace Cert.Adam23

open Idealize.ShloMosaic Idealize.SL.Sem Cert.Kernel23Ideal Cert.Kernel23Ideal.Gen

theorem facts : Cert.Kernel23.Facts := { Cert.Kernel23Ideal.Gen.facts with }

attribute [local instance] facts

/-- The kernel and its idealised program have the same bodies. -/
theorem defs_eq {F : FTy → Type} [FloatOps F] : Cert.Kernel23.defs (F := F) = defs :=
  congrArg (Pipeline.defs pcfgs) (onTc_congr fun | 0, (_, _) => rfl)

theorem frame : Cert.quiescent_Kernel23 := fun m ρ _ => by
  rw [defs_eq]; exact Gen.frame m ρ

theorem frameIdeal : Cert.quiescent_Kernel23Ideal := fun m ρ _ => Gen.frame m ρ

theorem frameReference : Cert.quiescent_Reference23Ideal := fun m ρ _ =>
  (θ_run _ _ _).mono (fun _ h => ⟨fun c => (h c).2.2.2, sem_eq_zero_of_no_sems rfl _⟩) (Reference23Ideal.Value.run m ρ)

/-- Each block of the results is the step on the same block of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel23Ideal_Reference23Ideal := fun m g m' g' _ e =>
  ⟨_, _, _, Value.run_blocks m g,
    (θ_run _ _ _).mono (fun _ k c => Adam.agree_rows _ (e c) (results m c) (k c)) (Reference23Ideal.Value.run m' g')⟩

end Cert.Adam23

namespace Cert.Adam24

open Idealize.ShloMosaic Idealize.SL.Sem Cert.Kernel24Ideal Cert.Kernel24Ideal.Gen

theorem facts : Cert.Kernel24.Facts := { Cert.Kernel24Ideal.Gen.facts with }

attribute [local instance] facts

/-- The kernel and its idealised program have the same bodies. -/
theorem defs_eq {F : FTy → Type} [FloatOps F] : Cert.Kernel24.defs (F := F) = defs :=
  congrArg (Pipeline.defs pcfgs) (onTc_congr fun | 0, (_, _) => rfl)

theorem frame : Cert.quiescent_Kernel24 := fun m ρ _ => by
  rw [defs_eq]; exact Gen.frame m ρ

theorem frameIdeal : Cert.quiescent_Kernel24Ideal := fun m ρ _ => Gen.frame m ρ

theorem frameReference : Cert.quiescent_Reference24Ideal := fun m ρ _ =>
  (θ_run _ _ _).mono (fun _ h => ⟨fun c => (h c).2.2.2, sem_eq_zero_of_no_sems rfl _⟩) (Reference24Ideal.Value.run m ρ)

/-- Each block of the results is the step on the same block of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel24Ideal_Reference24Ideal := fun m g m' g' _ e =>
  ⟨_, _, _, Value.run_blocks m g,
    (θ_run _ _ _).mono (fun _ k c => Adam.agree_rows _ (e c) (results m c) (k c)) (Reference24Ideal.Value.run m' g')⟩

end Cert.Adam24

end
-- ==== Proof.Adam.Small.lean ====
module

public import proofs.«01_k».proof.Defs
public import proofs.«01_k».proof.Proof.Same
public import proofs.«01_k».proof.Proof.Adam.Step
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel28Ideal.Value
public import proofs.«01_k».proof.Proof.Gen.Reference28Ideal.Run
public import proofs.«01_k».proof.Proof.Gen.Kernel27Ideal.Value
public import proofs.«01_k».proof.Proof.Gen.Reference27Ideal.Run
public import proofs.«01_k».proof.Proof.Gen.Kernel29Ideal.Value
public import proofs.«01_k».proof.Proof.Gen.Reference29Ideal.Run
public import Idealize.ShloMosaic.Lib.Quiescent

/-! # The optimiser's step on the small weights

Program 25: a scale of the norms around the sublayers. Program 26: the convolution's taps. Program 27: the convolution's
bias, and a scale or shift of a norm inside the branches. Program 28: the decay's weight. Program 29: its bias. One grid point
takes the whole array, of programs 27 and 29 in its own shape, of the others as rows. -/

@[expose] public section

set_option maxRecDepth 16384

noncomputable section

namespace Cert.Adam27

open Idealize.ShloMosaic Idealize.SL.Sem Cert.Kernel27Ideal Cert.Kernel27Ideal.Gen

theorem facts : Cert.Kernel27.Facts := { Cert.Kernel27Ideal.Gen.facts with }

attribute [local instance] facts

theorem defs_eq {F : FTy → Type} [FloatOps F] : Cert.Kernel27.defs (F := F) = defs :=
  congrArg (Pipeline.defs pcfgs) (onTc_congr fun | 0, (_, _) => rfl)

theorem frame : Cert.quiescent_Kernel27 := fun m ρ _ => by
  rw [defs_eq]; exact Gen.frame m ρ

theorem frameIdeal : Cert.quiescent_Kernel27Ideal := fun m ρ _ => Gen.frame m ρ

theorem frameReference : Cert.quiescent_Reference27Ideal := fun m ρ _ =>
  (θ_run _ _ _).mono (fun _ h => ⟨fun c => (h c).2.2.2, sem_eq_zero_of_no_sems rfl _⟩) (Reference27Ideal.Value.run m ρ)

/-- The results are the step on the arguments. -/
theorem results (m : (ℓ : Loc nD τ sig) → Buf (Elt Ideal) ℓ) (c : Dev nD) :
    (dats m 0 c).arrAt 4 cfg0.N = Adam.delta (V m c main_arg0) (V m c main_arg1) (V m c main_arg2) (V m c main_arg3)
    ∧ (dats m 0 c).arrAt 5 cfg0.N = Adam.newM (V m c main_arg1) (V m c main_arg2)
    ∧ (dats m 0 c).arrAt 6 cfg0.N = Adam.newV (V m c main_arg1) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3]; rfl
  · rw [after0_5]; frame_out; pointwise [k0_pay1]; rfl
  · rw [after0_6]; frame_out; pointwise [k0_pay2]; rfl

theorem algebraic : Cert.algebraic_Kernel27Ideal_Reference27Ideal := fun m g m' g' _ e =>
  ⟨_, _, _, Value.run_blocks m g,
    (θ_run _ _ _).mono (fun _ k c => Adam.agree (e c) (results m c) (k c)) (Reference27Ideal.Value.run m' g')⟩

end Cert.Adam27

namespace Cert.Adam29

open Idealize.ShloMosaic Idealize.SL.Sem Cert.Kernel29Ideal Cert.Kernel29Ideal.Gen

theorem facts : Cert.Kernel29.Facts := { Cert.Kernel29Ideal.Gen.facts with }

attribute [local instance] facts

/-- The kernel and its idealised program have the same bodies. -/
theorem defs_eq {F : FTy → Type} [FloatOps F] : Cert.Kernel29.defs (F := F) = defs :=
  congrArg (Pipeline.defs pcfgs) (onTc_congr fun | 0, (_, _) => rfl)

theorem frame : Cert.quiescent_Kernel29 := fun m ρ _ => by
  rw [defs_eq]; exact Gen.frame m ρ

theorem frameIdeal : Cert.quiescent_Kernel29Ideal := fun m ρ _ => Gen.frame m ρ

theorem frameReference : Cert.quiescent_Reference29Ideal := fun m ρ _ =>
  (θ_run _ _ _).mono (fun _ h => ⟨fun c => (h c).2.2.2, sem_eq_zero_of_no_sems rfl _⟩) (Reference29Ideal.Value.run m ρ)

/-- The results are the step on the arguments. -/
theorem results (m : (ℓ : Loc nD τ sig) → Buf (Elt Ideal) ℓ) (c : Dev nD) :
    (dats m 0 c).arrAt 4 cfg0.N = Adam.delta (V m c main_arg0) (V m c main_arg1) (V m c main_arg2) (V m c main_arg3)
    ∧ (dats m 0 c).arrAt 5 cfg0.N = Adam.newM (V m c main_arg1) (V m c main_arg2)
    ∧ (dats m 0 c).arrAt 6 cfg0.N = Adam.newV (V m c main_arg1) (V m c main_arg3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3]; rfl
  · rw [after0_5]; frame_out; pointwise [k0_pay1]; rfl
  · rw [after0_6]; frame_out; pointwise [k0_pay2]; rfl

/-- Kernel and reference end with the same values. -/
theorem algebraic : Cert.algebraic_Kernel29Ideal_Reference29Ideal := fun m g m' g' _ e =>
  ⟨_, _, _, Value.run_blocks m g,
    (θ_run _ _ _).mono (fun _ k c => Adam.agree (e c) (results m c) (k c)) (Reference29Ideal.Value.run m' g')⟩

end Cert.Adam29

namespace Cert.Adam25

open Idealize.ShloMosaic Idealize.SL.Sem Cert.Kernel25Ideal Cert.Kernel25Ideal.Gen

theorem facts : Cert.Kernel25.Facts := { Cert.Kernel25Ideal.Gen.facts with }

attribute [local instance] facts

/-- The kernel and its idealised program have the same bodies. -/
theorem defs_eq {F : FTy → Type} [FloatOps F] : Cert.Kernel25.defs (F := F) = defs :=
  congrArg (Pipeline.defs pcfgs) (onTc_congr fun | 0, (_, _) => rfl)

theorem frame : Cert.quiescent_Kernel25 := fun m ρ _ => by
  rw [defs_eq]; exact Gen.frame m ρ

theorem frameIdeal : Cert.quiescent_Kernel25Ideal := fun m ρ _ => Gen.frame m ρ

theorem frameReference : Cert.quiescent_Reference25Ideal := fun m ρ _ =>
  (θ_run _ _ _).mono (fun _ h => ⟨fun c => (h c).2.2.2, sem_eq_zero_of_no_sems rfl _⟩) (Reference25Ideal.Value.run m ρ)

/-- The results are the step on the rows of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel25Ideal_Reference25Ideal := fun m g m' g' _ e =>
  ⟨_, _, _, Value.run_blocks m g,
    (θ_run _ _ _).mono (fun _ k c => Adam.agree_rows _ (e c) (results m c) (k c)) (Reference25Ideal.Value.run m' g')⟩

end Cert.Adam25

namespace Cert.Adam26

open Idealize.ShloMosaic Idealize.SL.Sem Cert.Kernel26Ideal Cert.Kernel26Ideal.Gen

theorem facts : Cert.Kernel26.Facts := { Cert.Kernel26Ideal.Gen.facts with }

attribute [local instance] facts

/-- The kernel and its idealised program have the same bodies. -/
theorem defs_eq {F : FTy → Type} [FloatOps F] : Cert.Kernel26.defs (F := F) = defs :=
  congrArg (Pipeline.defs pcfgs) (onTc_congr fun | 0, (_, _) => rfl)

theorem frame : Cert.quiescent_Kernel26 := fun m ρ _ => by
  rw [defs_eq]; exact Gen.frame m ρ

theorem frameIdeal : Cert.quiescent_Kernel26Ideal := fun m ρ _ => Gen.frame m ρ

theorem frameReference : Cert.quiescent_Reference26Ideal := fun m ρ _ =>
  (θ_run _ _ _).mono (fun _ h => ⟨fun c => (h c).2.2.2, sem_eq_zero_of_no_sems rfl _⟩) (Reference26Ideal.Value.run m ρ)

/-- The results are the step on the rows of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel26Ideal_Reference26Ideal := fun m g m' g' _ e =>
  ⟨_, _, _, Value.run_blocks m g,
    (θ_run _ _ _).mono (fun _ k c => Adam.agree_rows _ (e c) (results m c) (k c)) (Reference26Ideal.Value.run m' g')⟩

end Cert.Adam26

namespace Cert.Adam28

open Idealize.ShloMosaic Idealize.SL.Sem Cert.Kernel28Ideal Cert.Kernel28Ideal.Gen

theorem facts : Cert.Kernel28.Facts := { Cert.Kernel28Ideal.Gen.facts with }

attribute [local instance] facts

/-- The kernel and its idealised program have the same bodies. -/
theorem defs_eq {F : FTy → Type} [FloatOps F] : Cert.Kernel28.defs (F := F) = defs :=
  congrArg (Pipeline.defs pcfgs) (onTc_congr fun | 0, (_, _) => rfl)

theorem frame : Cert.quiescent_Kernel28 := fun m ρ _ => by
  rw [defs_eq]; exact Gen.frame m ρ

theorem frameIdeal : Cert.quiescent_Kernel28Ideal := fun m ρ _ => Gen.frame m ρ

theorem frameReference : Cert.quiescent_Reference28Ideal := fun m ρ _ =>
  (θ_run _ _ _).mono (fun _ h => ⟨fun c => (h c).2.2.2, sem_eq_zero_of_no_sems rfl _⟩) (Reference28Ideal.Value.run m ρ)

/-- The results are the step on the rows of the arguments. -/
theorem results (m : (ℓ : Loc nD τ sig) → Buf (Elt Ideal) ℓ) (c : Dev nD) :
    (dats m 0 c).arrAt 4 cfg0.N = Adam.delta (V m c main_v0) (V m c main_v1) (V m c main_v2) (V m c main_v3)
    ∧ (dats m 0 c).arrAt 5 cfg0.N = Adam.newM (V m c main_v1) (V m c main_v2)
    ∧ (dats m 0 c).arrAt 6 cfg0.N = Adam.newV (V m c main_v1) (V m c main_v3) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩ <;> blk_simp
  · rw [after0_4]; frame_out; pointwise [k0_pay1, k0_pay2, k0_pay3, k0_pay4]; rfl
  · rw [after0_5]; frame_out; pointwise [k0_pay1, k0_pay2]; rfl
  · rw [after0_6]; frame_out; pointwise [k0_pay1, k0_pay3]; rfl

/-- Kernel and reference end with the same values. -/
theorem algebraic : Cert.algebraic_Kernel28Ideal_Reference28Ideal := fun m g m' g' _ e =>
  ⟨_, _, _, Value.run_blocks m g,
    (θ_run _ _ _).mono (fun _ k c => Adam.agree_rows _ (e c) (results m c) (k c)) (Reference28Ideal.Value.run m' g')⟩

end Cert.Adam28

end
-- ==== Proof.Loss.Body.lean ====
/- The loss's body at a grid point: what it leaves in its two results' blocks, the proof data, and its obligation. -/
module

public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import Idealize.ShloMosaic.Lib.Claim
public import Idealize.ShloMosaic.Lib.Pipeline.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel30Ideal.Loss

open Cert.Kernel30Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two cases -/

/-- The first point starts the sums of squares. -/
abbrev isFirst (i : grid0.Coords) : Prop := k0_cond1 i = 1#1
/-- The others add to them. -/
abbrev isLater (i : grid0.Coords) : Prop := k0_cond2 i = 1#1
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ t.val ≠ 0 :=
  (by decide +kernel : ∀ t : Fin grid0.N, isLater (grid0.coords t) ↔ t.val ≠ 0)

/-- A buffer of each result, to state its contents through. -/
abbrev VO2 : View sig .tc .vmem S512x1024 .f32 := (Memref.whole cc0_stg2_0 : Memref sig .tc .vmem S512x1024 .f32).view
abbrev VO3 : View sig .tc .vmem S1x1024 .f32 := (Memref.whole cc0_stg3_0 : Memref sig .tc .vmem S1x1024 .f32).view

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S1x1024 .f32) (harg4 : arg4.IsWhole)

/-- The body writes the pieces `L2` and `L3` to the results, where `before` holds of the sums' buffer. -/
abbrev Runs (before : sProp 𝕄) (x0 x1 : Vec F S512x1024 .f32) (L2 : List (View.Piece (Elt F) S512x1024 .f32)) (L3 : List (View.Piece (Elt F) S1x1024 .f32)) : Prop :=
  ∀ (E : Set ℕ) (K : PUnit → sProp 𝕄),
    iprop(owns (c : Thread nD τ) arg1 fullShare x0 ∗ owns (c : Thread nD τ) arg2 fullShare x1 ∗ (∃ d, owns (c : Thread nD τ) arg3 fullShare d) ∗ before
        ∗ (iprop(owns (c : Thread nD τ) arg1 fullShare x0 ∗ owns (c : Thread nD τ) arg2 fullShare x1
          ∗ (∃ f, arg3.view.loc (c : Thread nD τ) ↦[arg3.view.set]{fullShare} arg3.view.writes (Elt F) f L2)
          ∗ (∃ f, arg4.view.loc (c : Thread nD τ) ↦[arg4.view.set]{fullShare} arg4.view.writes (Elt F) f L3)) -∗ K ⟨⟩))
      ⊢ wp frame (wpE (defs₀ (F := F)) Variants.none c none) E (cc0_loss_head i arg1 harg1 arg2 harg2 arg3 harg3 arg4 harg4) K

/-- What those pieces leave. -/
def outs (L2 : List (View.Piece (Elt F) S512x1024 .f32)) (L3 : List (View.Piece (Elt F) S1x1024 .f32)) : Vec F S512x1024 .f32 × Vec F S1x1024 .f32 :=
  (VO2.read (Elt F) (VO2.writes (Elt F) VO2.junk L2), VO3.read (Elt F) (VO3.writes (Elt F) VO3.junk L3))

section
variable (h0 : isFirst i) (h1 : ¬isLater i) (x0 : Vec F S512x1024 .f32) (x1 : Vec F S512x1024 .f32)

set_option maxHeartbeats 1000000 in
/-- The pieces the first point's body writes to each result, with the body's triple. -/
noncomputable def runA :
    Σ' (L2 : List (View.Piece (Elt F) S512x1024 .f32)), { L3 : List (View.Piece (Elt F) S1x1024 .f32) //
      Runs c i arg1 harg1 arg2 harg2 arg3 harg3 arg4 harg4 iprop(∃ d, owns (c : Thread nD τ) arg4 fullShare d) x0 x1 L2 L3 } := by
  refine ⟨?_, ?_, fun E K => ?run⟩
  case run =>
    simp only [cc0_loss_head_eq_skeleton]; unfold cc0_loss_head_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- They cover both results' blocks. -/
theorem coverA2 (y : S512x1024.Idx) : ∃ pc ∈ (runA c i arg1 harg1 arg2 harg2 arg3 harg3 arg4 harg4 h0 h1 x0 x1).1, y ∈ pc.1.set :=
  View.cover_of_tiledL (s := S512x1024) _ S512x1024.size (by sl_kernel_rfl) y
theorem coverA3 (y : S1x1024.Idx) : ∃ pc ∈ (runA c i arg1 harg1 arg2 harg2 arg3 harg3 arg4 harg4 h0 h1 x0 x1).2.1, y ∈ pc.1.set :=
  View.cover_of_tiledL (s := S1x1024) _ S1x1024.size (by sl_kernel_rfl) y

end

section
variable (h0 : ¬isFirst i) (h1 : isLater i) (x0 : Vec F S512x1024 .f32) (x1 : Vec F S512x1024 .f32) (x3 : Vec F S1x1024 .f32)

set_option maxHeartbeats 1000000 in
/-- The pieces a later point's body writes to each result, with the body's triple. -/
noncomputable def runB :
    Σ' (L2 : List (View.Piece (Elt F) S512x1024 .f32)), { L3 : List (View.Piece (Elt F) S1x1024 .f32) //
      Runs c i arg1 harg1 arg2 harg2 arg3 harg3 arg4 harg4 (owns (c : Thread nD τ) arg4 fullShare x3) x0 x1 L2 L3 } := by
  refine ⟨?_, ?_, fun E K => ?run⟩
  case run =>
    simp only [cc0_loss_head_eq_skeleton]; unfold cc0_loss_head_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- They cover both results' blocks. -/
theorem coverB2 (y : S512x1024.Idx) : ∃ pc ∈ (runB c i arg1 harg1 arg2 harg2 arg3 harg3 arg4 harg4 h0 h1 x0 x1 x3).1, y ∈ pc.1.set :=
  View.cover_of_tiledL (s := S512x1024) _ S512x1024.size (by sl_kernel_rfl) y
theorem coverB3 (y : S1x1024.Idx) : ∃ pc ∈ (runB c i arg1 harg1 arg2 harg2 arg3 harg3 arg4 harg4 h0 h1 x0 x1 x3).2.1, y ∈ pc.1.set :=
  View.cover_of_tiledL (s := S1x1024) _ S1x1024.size (by sl_kernel_rfl) y

end
end

/-! ## Point by point -/

variable (V : (c : Dev nD) → (b : Ref sig .tc) → Buf (Elt F) ((c : Thread nD τ).loc b))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the first point leaves, at the pipeline's buffers. -/
def atA (c : Dev nD) (t : Fin cfg0.N) (h : t.val = 0) : Vec F S512x1024 .f32 × Vec F S1x1024 .f32 :=
  let r := runA c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    ((isFirst_iff t).mpr h) (fun k => (isLater_iff t).mp k h) (iblk V c 0 t) (iblk V c 1 t)
  outs r.1 r.2.1

/-- What a later point leaves, at the pipeline's buffers. -/
def atB (c : Dev nD) (t : Fin cfg0.N) (h : t.val ≠ 0) (x3 : Vec F S1x1024 .f32) : Vec F S512x1024 .f32 × Vec F S1x1024 .f32 :=
  let r := runB c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (fun k => h ((isFirst_iff t).mp k)) ((isLater_iff t).mpr h) (iblk V c 0 t) (iblk V c 1 t) x3
  outs r.1 r.2.1

/-- What the results' blocks hold after the body at point `n`. -/
def outsAt (c : Dev nD) : (n : ℕ) → n < cfg0.N → Vec F S512x1024 .f32 × Vec F S1x1024 .f32
  | 0, hn => atA V c ⟨0, hn⟩ rfl
  | n + 1, hn => atB V c ⟨n + 1, hn⟩ n.succ_ne_zero (outsAt c n (Nat.lt_of_succ_lt hn)).2

theorem outsAt_A (c : Dev nD) (t : Fin cfg0.N) (h : t.val = 0) : outsAt V c t.val t.isLt = atA V c t h := by
  obtain ⟨n, hn⟩ := t
  cases n with
  | zero => rfl
  | succ n => exact absurd h n.succ_ne_zero

theorem outsAt_B (c : Dev nD) (t : Fin cfg0.N) (h : t.val ≠ 0) :
    outsAt V c t.val t.isLt = atB V c t h (outsAt V c (t.val - 1) (Nat.lt_of_le_of_lt (Nat.sub_le _ _) t.isLt)).2 := by
  obtain ⟨n, hn⟩ := t
  cases n with
  | zero => exact absurd rfl h
  | succ n => rfl

/-- The pipeline's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]
theorem after_3 (c : Dev nD) (t : Fin cfg0.N) : (dat V c).after 3 t = (outsAt V c t.val t.isLt).2 := by dsimp only [dat]

/-- The inputs' buffers hold their blocks before the body. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- No point leaves the sums' block idle. -/
theorem live3 : ∀ t : Fin cfg0.N, cfg0.idle 3 (grid0.coords t) = false :=
  (by decide +kernel : ∀ t : Fin grid0.N, cfg0.idle 3 (grid0.coords t) = false)
/-- The sums' block is written back at the end only. -/
def fresh : ℕ → Bool
  | 0 => true
  | n + 1 => n == 15
theorem fresh_step : ∀ t : Fin cfg0.N,
    fresh (t.val + 1) = ((cfg0.win 3).flush t || (cfg0.idle 3 (cfg0.grid.coords t) && fresh t.val)) := by decide +kernel
theorem notFresh (t : Fin cfg0.N) (h : t.val ≠ 0) : cfg0.fresh 3 t.val = false := by
  rw [Pipeline.Cfg.fresh_tab cfg0 3 fresh rfl fresh_step t.val (Nat.le_of_lt t.isLt)]
  revert h; revert t; decide +kernel

/-- A later point finds the sums the point before left. -/
theorem before_3 (c : Dev nD) (t : Fin cfg0.N) (h : t.val ≠ 0) (d) :
    (dat V c).before 3 t d = (outsAt V c (t.val - 1) (Nat.lt_of_le_of_lt (Nat.sub_le _ _) t.isLt)).2 := by
  rw [Dat.before_out_traj _ 3 rfl (fun _ _ => rfl)
    (fun t _ hi _ => by rw [live3 t] at hi; exact absurd hi Bool.false_ne_true) t.val t rfl d,
    if_neg (by rw [notFresh t h]; exact Bool.false_ne_true)]
  dsimp only [dat]

/-! ## The body's obligation -/

/-- What a point's body is called with, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- Every window's buffer is left at the proof data's contents. -/
theorem leaves (c : Dev nD) (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

set_option maxHeartbeats 800000 in
/-- The body's triple at a point, from what its case runs to. -/
theorem point (c : Dev nD) (t : Fin cfg0.N) {before : sProp 𝕄} {L2 : List (View.Piece (Elt F) S512x1024 .f32)} {L3 : List (View.Piece (Elt F) S1x1024 .f32)}
    (run : Runs c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) before (iblk V c 0 t) (iblk V c 1 t) L2 L3)
    (k2 : ∀ y, ∃ pc ∈ L2, y ∈ pc.1.set) (k3 : ∀ y, ∃ pc ∈ L3, y ∈ pc.1.set)
    (hb : ∀ d, owns (c : Thread nD τ) (st0_3 t) fullShare ((dat V c).before 3 t d) ⊢ before) (e : outsAt V c t.val t.isLt = outs L2 L3) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    leaves V c 0 t rfl, leaves V c 1 t rfl, leaves V c 2 t rfl, leaves V c 3 t (live3 t), after_0, after_1, after_2, after_3, e]
  unfold outs; dsimp only
  iintro ⟨HΦ, Ho, ⟨%d0, H0⟩, ⟨%d1, H1⟩, ⟨%d2, H2⟩, ⟨%d3, H3⟩⟩
  iapply (run Set.univ _)
  isplitl [H0]; · iexact H0
  isplitl [H1]; · iexact H1
  isplitl [H2]; · iexists _; iexact H2
  isplitl [H3]; · iapply (hb d3); iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ k2
  unfold owns; iexists _; isplitr
  swap; · iexact H3
  ipureintro; exact View.read_writes_of_cover _ _ _ _ _ k3

/-- The body's triple at a point. -/
theorem sound_body (c : Dev nD) (t : Fin cfg0.N) :
    bodyPre V c t ⊢ wp frame (wpE (defs₀ (F := F)) Variants.none c none) Set.univ (bodyAt0 t) (fun _ => bodyPost V c t) := by
  by_cases h : t.val = 0
  · exact point V c t (runA c (grid0.coords t) _ _ _ _ _ _ _ _ ((isFirst_iff t).mpr h) (fun k => (isLater_iff t).mp k h) _ _).2.2
      (coverA2 c _ _ _ _ _ _ _ _ _ _ _ _ _) (coverA3 c _ _ _ _ _ _ _ _ _ _ _ _ _) (fun d => by iintro H; iexists _; iexact H) (outsAt_A V c t h)
  · exact point V c t (runB c (grid0.coords t) _ _ _ _ _ _ _ _ (fun k => h ((isFirst_iff t).mp k)) ((isLater_iff t).mpr h) _ _ _).2.2
      (coverB2 c _ _ _ _ _ _ _ _ _ _ _ _ _ _) (coverB3 c _ _ _ _ _ _ _ _ _ _ _ _ _ _) (fun d => by rw [before_3 V c t h]) (outsAt_B V c t h)

/-- The body table's row is the body. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel30Ideal.Loss

end
-- ==== Proof.Loss.Run.lean ====
/- The loss: the pass over the rows, then the host operations on its sums. -/
module

public import proofs.«01_k».proof.Proof.Loss.Body
public import Idealize.ShloMosaic.Lib.Pipeline.Regions
public import Idealize.ShloMosaic.Lib.Pipeline.RegionsLoop
public import Idealize.ShloMosaic.Lib.Pipeline.FrameTail
public import Idealize.ShloMosaic.Lib.Pipeline.FrameSuffix

@[expose] public section

set_option maxRecDepth 16384

noncomputable section

namespace Cert.Kernel30Ideal.Loss

open Cert.Kernel30Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the launch, after the pass and at the end -/

/-- The buffers at launch. -/
abbrev W0 : Dev nD → Valuation τ sig (Elt F) := fun c b => m ((c : Dev nD), b)
/-- The same at the TensorCore's references. -/
abbrev V0 : (c : Dev nD) → (b : Ref sig .tc) → Buf (Elt F) ((c : Thread nD τ).loc b) := fun c b => W0 m c b
/-- The buffers after the pass. -/
def W1 (c : Dev nD) : Valuation τ sig (Elt F) :=
  Pipeline.withArrays spec0 c (W0 m c) fun w => (dat (V0 m) c).arrAt w cfg0.N
theorem W1_arr (c : Dev nD) (w : Fin cfg0.W) : W1 m c (Proc.devRef .tc (Pipeline.arrRef spec0 w)) = (dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The pass keeps its inputs. -/
theorem W1_in (c : Dev nD) (w : Fin cfg0.W) (h : (cfg0.win w).isOut = false) :
    W1 m c (Proc.devRef .tc (Pipeline.arrRef spec0 w)) = m ((c : Thread nD τ).loc (Pipeline.arrRef spec0 w)) :=
  (W1_arr m c w).trans (((dat (V0 m) c).arrAt_in w h _).trans (A_eq (V0 m) c w))
/-- The same at the TensorCore's references. -/
abbrev V1 : (c : Dev nD) → (b : Ref sig .tc) → Buf (Elt F) ((c : Thread nD τ).loc b) := fun c b => W1 m c b
theorem hF0 (c : Dev nD) (w : Fin cfg0.W) : (dat (V0 m) c).arrAt w cfg0.N = V1 m c (Pipeline.arrRef spec0 w) := (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- The buffers at the end. -/
abbrev W2 (c : Dev nD) : Valuation τ sig (Elt F) := StableHlo.after hostOps1 (W1 m c)

/-! ## The segments -/

/-- There are no prefetched tables. -/
abbrev adm : (p : Fin 1) → (pcfgs (F := F) p).Adm := fun p => (cfgs p).toPCfg_adm
/-- The proof data. -/
def pdats : (p : Fin 1) → (c : Dev nD) → Dat τ (Elt F) Unit ℕ (UR sig nD τ) ℕ (Pipeline.pin (pcfgs (F := F)) adm p) c
  | ⟨0, _⟩ => fun c => dat (V0 m) c
abbrev 𝒱₀ : Variants := Variants.none
abbrev L : GSem nD τ sig → Finset Unit := fun _ => ∅
abbrev lv : GSem nD τ sig → Unit → ℕ := fun _ _ => 0
/-- What rides beside the buffers: the generator's state, and nothing owed. -/
abbrev R (c : Dev nD) : sProp 𝕄 := iprop((∃ r, prngReg c r) ∗ ∃ W, owes (c : Thread nD τ) (0 : CellTallies nD τ sig Unit) W)
/-- What holds at the end. -/
abbrev Tₙ (c : Dev nD) : sProp 𝕄 := iprop(StableHlo.held (c : Thread nD τ) (Pipeline.ucRefs τ sig) (W2 m c) ∗ ∃ r, prngReg c r)

set_option backward.isDefEq.respectTransparency.types false in
/-- The pass as a segment, from `W0` to `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment, from `W1` to `W2`. -/
def seg1 : Pipeline.HostSeg (Ix := Unit) (Name := ℕ) (U := UR sig nD τ) (Lvl := ℕ) (pcfgs (F := F)) defs₀ 𝒱₀ L lv :=
  Pipeline.HostSeg.ofOps pcfgs defs₀ 𝒱₀ L lv (Pipeline.ucRefs τ sig) hostOps1
    (fun op h => Pipeline.sub_ucRefs op ((List.forall_iff_forall_mem.mp hostOps1_sub) op h))
    (by intro _ h; (repeat (cases h with | head => rfl | tail _ h => ?_)); exact nomatch h) (W1 m) R

/-- The program's two segments. -/
abbrev segs : List (Pipeline.Seg (pcfgs (F := F)) adm (pdats m) () defs₀ 𝒱₀ L lv) := [.region (reg0 m), .host (seg1 m)]
/-- The program is the run of its segments. -/
theorem main_run (c : Dev nD) : main (F := F) c = Pipeline.Seg.run (segs m) :=
  main_segs adm (pdats m) () 𝒱₀ L lv (seg1 m) (reg0 m) rfl c

/-- There is no unscoped semaphore. -/
theorem no_unscoped : ∀ sm : SemLoc sig, sm.isScoped .tc = true := by decide

set_option backward.isDefEq.respectTransparency.types false in
/-- The program runs, ends with every buffer at `W2` and every semaphore at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W2 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun c => by
      show iprop(StableHlo.held (c : Thread nD τ) (Pipeline.ucRefs τ sig) (W2 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (no_unscoped g.2))⟩)

/-- What the host operations make of the pass's sums. -/
def tail (s : Vec F S1x1024 .f32) : Vec F S_ .f32 :=
  Host.divf (mulf (constant S_ .f32 0x3F000000#32) (Host.reduceAdd s (constant S_ .f32 0x00000000#32) reducesTo_S1x1024_S_d0_1 h_S_))
    (constant S_ .f32 0x44800000#32)

/-- What the program leaves in its results, in terms of the pass's, with its arguments as launched and every semaphore at zero. -/
theorem ends : θ_run defs (onTc (τ := τ) (main (F := F))) ⟨m, fun _ => 0, ρ⟩ (fun r => (∀ c : Dev nD,
      r.2.mem (c.tc.loc main_v0_0) = (dat (V0 m) c).arrAt 2 cfg0.N
      ∧ r.2.mem (c.tc.loc main_v3) = tail ((dat (V0 m) c).arrAt 3 cfg0.N)
      ∧ r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c =>
    have k (a : Ref sig .tc) (hs : a.isScoped = false) : r.2.mem (c.tc.loc a) = W2 m c (Proc.devRef .tc a) :=
      h.1 c _ (Pipeline.devRef_mem_ucRefs hs)
    ⟨(k main_v0_0 rfl).trans (.trans (by after_results) (W1_arr m c 2)),
      (k main_v3 rfl).trans (.trans (by after_results; rfl) (congrArg tail (W1_arr m c 3))),
      (k main_arg0 rfl).trans (.trans (by after_results) (W1_in m c 0 rfl)),
      (k main_arg1 rfl).trans (.trans (by after_results) (W1_in m c 1 rfl))⟩, h.2⟩) (run_main m ρ)

/-- The arguments end as launched. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1))
      ∧ r.2.sem = fun _ => 0) :=
  (θ_run defs _ _).mono (fun r h => ⟨fun c => (h.1 c).2.2, h.2⟩) (ends m ρ)

end Cert.Kernel30Ideal.Loss

end
-- ==== Proof.Loss.Value.lean ====
module

public import proofs.«01_k».proof.Defs
public import proofs.«01_k».proof.Proof.Same
public import proofs.«01_k».proof.Proof.Loss.Run
public import proofs.«01_k».proof.Proof.Gen.Reference30Ideal.Run
public import Idealize.ShloMosaic.Lib.Quiescent
public import Idealize.ShloMosaic.Lib.Pipeline.ReadBack
public import Idealize.ShloMosaic.Lib.Pipeline.ValueKit

/-! # The loss and the gradient it starts

Thirtieth program. The reference takes the mean of each row's squared errors, adds the rows up, and differentiates that.
The kernel adds the squares up feature by feature, a block of rows at a grid point; the host adds the features up and
divides once. -/

@[expose] public section

set_option maxRecDepth 16384

noncomputable section

namespace Cert.Loss

open Idealize.ShloMosaic Idealize.SL.Sem

/-! ## Over the reals -/

variable (Y T : (⟨2, ![8192, 1024]⟩ : Shape).Idx → EReal)

/-- A squared error. -/
def sqErr (r : Fin 8192) (k : Fin 1024) : EReal := (Y (ix2 r k) - T (ix2 r k)) * (Y (ix2 r k) - T (ix2 r k))
/-- The gradient: the errors over the row's length. -/
def grad (y : (⟨2, ![8192, 1024]⟩ : Shape).Idx) : EReal := (Y y - T y) * Ideal.ofBits .f32 0x3A800000#32
/-- The loss: half the rows' mean squares. -/
def loss : EReal := Ideal.ofBits .f32 0x3F000000#32 * ∑ r : Fin 8192, Ideal.div (∑ k : Fin 1024, sqErr Y T r k) (Ideal.ofBits .f32 0x44800000#32)

theorem bits_half : Ideal.ofBits .f32 0x3F000000#32 = ((1 / 2 : ℝ) : EReal) := by simp [Ideal.ofBits, Ideal.ieee, -EReal.coe_mul]; norm_num
theorem bits_two : Ideal.ofBits .f32 0x40000000#32 = ((2 : ℝ) : EReal) := by simp [Ideal.ofBits, Ideal.ieee, -EReal.coe_mul]; norm_num
theorem bits_len : Ideal.ofBits .f32 0x44800000#32 = ((1024 : ℝ) : EReal) := by simp [Ideal.ofBits, Ideal.ieee, -EReal.coe_mul]; norm_num
theorem bits_inv : Ideal.ofBits .f32 0x3A800000#32 = ((1 / 1024 : ℝ) : EReal) := by simp [Ideal.ofBits, Ideal.ieee, -EReal.coe_mul]; norm_num

/-- The reference's factors of the gradient are the kernel's. -/
theorem factors (x : EReal) : Ideal.div (Ideal.ofBits .f32 0x3F000000#32) (Ideal.ofBits .f32 0x44800000#32)
    * (Ideal.ofBits .f32 0x40000000#32 * x) = x * Ideal.ofBits .f32 0x3A800000#32 := by
  rw [bits_half, bits_len, bits_two, bits_inv, Ideal.div_coe (by norm_num), ← mul_assoc, mul_comm _ x]
  refine congrArg (x * ·) ?_
  rw [← EReal.coe_mul, ← EReal.coe_mul]
  norm_num

theorem sqErr_nonneg (r : Fin 8192) (k : Fin 1024) : 0 ≤ sqErr Y T r k := by
  unfold sqErr
  rcases le_total 0 (Y (ix2 r k) - T (ix2 r k)) with h | h
  · exact EReal.mul_nonneg_iff.mpr (.inl ⟨h, h⟩)
  · exact EReal.mul_nonneg_iff.mpr (.inr ⟨h, h⟩)

/-- A factor goes into a sum of what is not negative. -/
theorem sum_mul {ι : Type} (s : Finset ι) (f : ι → EReal) (h : ∀ i, 0 ≤ f i) (c : EReal) : (∑ i ∈ s, f i) * c = ∑ i ∈ s, f i * c := by
  classical
  induction s using Finset.induction_on with
  | empty => simp
  | insert a s ha ih => rw [Finset.sum_insert ha, Finset.sum_insert ha, EReal.right_distrib_of_nonneg (h a) (Finset.sum_nonneg fun i _ => h i), ih]

/-- One division after all the sums gives the loss. -/
theorem loss_eq : Ideal.div (Ideal.ofBits .f32 0x3F000000#32 * ∑ k : Fin 1024, ∑ r : Fin 8192, sqErr Y T r k) (Ideal.ofBits .f32 0x44800000#32) = loss Y T := by
  unfold loss
  rw [bits_len]
  simp only [Ideal.div_coe (show (1024 : ℝ) ≠ 0 by norm_num)]
  rw [mul_assoc, Finset.sum_comm, sum_mul _ _ fun r => Finset.sum_nonneg fun k _ => sqErr_nonneg Y T r k]

end Cert.Loss

namespace Cert.Reference30Ideal.Loss

open Idealize.ShloMosaic Idealize.SL.Sem Cert.Loss Cert.Reference30Ideal Cert.Reference30Ideal.Gen

variable (m : (ℓ : Loc nD τ sig) → Buf (Elt Ideal) ℓ) (ρ : Dev nD → PrngReg)

/-- A run of the reference ends with the gradient and the loss, and with the arguments as they were. -/
theorem values : θ_run (defs (F := Ideal)) (onTc (τ := τ) (main (F := Ideal))) ⟨m, fun _ => 0, ρ⟩ (fun r => ∀ c : Dev nD,
      r.2.mem (c.tc.loc main_v14) = grad (m (c.tc.loc main_arg0)) (m (c.tc.loc main_arg1))
      ∧ r.2.mem (c.tc.loc main_v8) = (fun _ : S_.Idx => loss (m (c.tc.loc main_arg0)) (m (c.tc.loc main_arg1)))
      ∧ r.2.mem (c.tc.loc main_arg0) = m (c.tc.loc main_arg0)
      ∧ r.2.mem (c.tc.loc main_arg1) = m (c.tc.loc main_arg1)) := by
  refine (θ_run defs _ _).mono (fun r h c => ⟨(h c).1.trans ?_, (h c).2.1.trans ?_, (h c).2.2⟩) (Value.run m ρ)
  · clear h
    funext y
    obtain ⟨r, k, rfl⟩ : ∃ (r : Fin 8192) (k : Fin 1024), y = ix2 r k := ⟨y 0, y 1, eq_ix2 y⟩
    pointwise
    exact factors _
  · clear h
    funext y
    pointwise
    rfl

end Cert.Reference30Ideal.Loss

namespace Cert.Kernel30Ideal.Loss

open Idealize.ShloMosaic Idealize.SL.Sem Cert.Loss Cert.Kernel30Ideal Cert.Kernel30Ideal.Gen

variable (m : (ℓ : Loc nD τ sig) → Buf (Elt Ideal) ℓ) (ρ : Dev nD → PrngReg) (c : Dev nD)

/-- Where the windows' blocks lie. -/
theorem idx : ∀ t : Fin cfg0.N, win0_0.index t = ![t.val, 0] ∧ win0_1.index t = ![t.val, 0] ∧ win0_2.index t = ![t.val, 0]
    ∧ win0_3.index t = ![0, 0] ∧ t.val < 16 := by decide +kernel

/-- A block's error. -/
def err (t : Fin cfg0.N) (y : S512x1024.Idx) : EReal :=
  (show FVec Ideal S512x1024 .f32 from iblk (V0 m) c 0 t) y - (show FVec Ideal S512x1024 .f32 from iblk (V0 m) c 1 t) y

/-- The sums one point adds. -/
def part (t : Fin cfg0.N) (y : S1x1024.Idx) : EReal := ∑ r : Fin 512, err m c t (ix2 r (y 1)) * err m c t (ix2 r (y 1))

/-- Every point stores its rows' gradient. -/
theorem stores (t : Fin cfg0.N) (y : S512x1024.Idx) :
    (outsAt (V0 m) c t.val t.isLt).1 y = err m c t y * Ideal.ofBits .f32 0x3A800000#32 := by
  by_cases h : t.val = 0
  · rw [outsAt_A (V0 m) c t h]
    unfold atA outs runA
    dsimp only
    frame_out
    pointwise [k0_pay1, k0_pay2]
    rfl
  · rw [outsAt_B (V0 m) c t h]
    unfold atB outs runB
    dsimp only
    frame_out
    pointwise [k0_pay1, k0_pay2]
    rfl

/-- The first point starts the sums. -/
theorem reset (t : Fin cfg0.N) (h : t.val = 0) (y : S1x1024.Idx) : (outsAt (V0 m) c t.val t.isLt).2 y = part m c t y := by
  rw [outsAt_A (V0 m) c t h]
  unfold atA outs runA
  dsimp only
  frame_out
  pointwise [k0_pay1, k0_pay3]
  rfl

/-- Every other point adds to them. -/
theorem step (t : Fin cfg0.N) (h : t.val ≠ 0) (y : S1x1024.Idx) :
    (outsAt (V0 m) c t.val t.isLt).2 y = (outsAt (V0 m) c (t.val - 1) (by omega)).2 y + part m c t y := by
  rw [outsAt_B (V0 m) c t h]
  unfold atB outs runB
  dsimp only
  frame_out
  pointwise [k0_pay1, k0_pay3, k0_pay4]
  rfl

/-- The sums after the last point are those over all rows. -/
theorem total (t : Fin cfg0.N) (h : t.val % 16 = 15) (y : S1x1024.Idx) : (outsAt (V0 m) c t.val t.isLt).2 y
    = ∑ r : Fin 8192, sqErr (m (c.tc.loc main_arg0)) (m (c.tc.loc main_arg1)) r (y 1) := by
  have lt (t : Fin cfg0.N) : t.val < 16 := (idx t).2.2.2.2
  rw [Pipeline.eq_sum_fin_of_reset_step_apply_of_flush (fun n h => (outsAt (V0 m) c n h).2) 16 (fun _ => (0 : EReal)) (part m c)
    (fun t h j => (reset m c t (by have := lt t; omega) j).trans (zero_add _).symm) (fun t h j => step m c t (by have := lt t; omega) j) t h y, zero_add]
  unfold part sqErr err
  refine Fin.sum_mul_add_congr fun q r hl => ?_
  blk_point [iblk, V0, W0, idx ⟨_, Pipeline.run_point_lt_of_flush t h q⟩]

/-- The gradient. -/
theorem first : (dat (V0 m) c).arrAt 2 cfg0.N = grad (m (c.tc.loc main_arg0)) (m (c.tc.loc main_arg1)) := by
  refine (dat (V0 m) c).arrAt_eq_of_covers 2 _ (by decide +kernel) fun t hf y => ?_
  blk_simp
  rw [after_2, stores]
  unfold grad err
  refine congrArg (· * _) ?_
  blk_point [iblk, V0, W0, idx t]

/-- The sums of squares. -/
theorem second : (dat (V0 m) c).arrAt 3 cfg0.N = fun y : S1x1024.Idx =>
    ∑ r : Fin 8192, sqErr (m (c.tc.loc main_arg0)) (m (c.tc.loc main_arg1)) r (y 1) := by
  refine (dat (V0 m) c).arrAt_eq_of_covers 3 _ (by decide +kernel) fun t hf y => ?_
  have h : t.val % 16 = 15 := (by decide +kernel : ∀ t : Fin cfg0.N, win0_3.flush t = true → t.val % 16 = 15) t hf
  blk_simp
  rw [after_3]
  have e : (win0_3.blk t).view.emb y = ix2 (0 : Fin 1) (⟨y 1, (y 1).isLt⟩ : Fin 1024) := by
    blk_ext [idx t]
  rw [e]
  exact total m c t h y

/-- The host operations add the sums up and divide once. -/
theorem tail_apply (s : Vec Ideal S1x1024 .f32) (y : S_.Idx) : tail s y
    = Ideal.div (Ideal.ofBits .f32 0x3F000000#32 * ∑ k : Fin 1024, s (ix2 (0 : Fin 1) k)) (Ideal.ofBits .f32 0x44800000#32) := by
  unfold tail
  pointwise
  rw [Fin.sum_univ_one]

/-- A run of the kernel ends with the gradient and the loss. -/
theorem run : θ_run (defs (F := Ideal)) (onTc (τ := τ) (main (F := Ideal))) ⟨m, fun _ => 0, ρ⟩ (fun r => ∀ c : Dev nD,
      r.2.mem (c.tc.loc main_v0_0) = grad (m (c.tc.loc main_arg0)) (m (c.tc.loc main_arg1))
      ∧ r.2.mem (c.tc.loc main_v3) = (fun _ : S_.Idx => loss (m (c.tc.loc main_arg0)) (m (c.tc.loc main_arg1)))
      ∧ r.2.mem (c.tc.loc main_arg0) = m (c.tc.loc main_arg0)
      ∧ r.2.mem (c.tc.loc main_arg1) = m (c.tc.loc main_arg1)) := by
  refine (θ_run defs _ _).mono (fun r h c => ⟨(h.1 c).1.trans (first m c), (h.1 c).2.1.trans ?_, (h.1 c).2.2⟩) (ends m ρ)
  exact (congrArg tail (second m c)).trans (funext fun y => (tail_apply _ y).trans (loss_eq _ _))

end Cert.Kernel30Ideal.Loss

namespace Cert.Loss30

open Idealize.ShloMosaic Idealize.SL.Sem

/-- The kernel's side conditions are those of its idealised program. -/
theorem facts : Cert.Kernel30.Facts := { Cert.Kernel30Ideal.Gen.facts with }

attribute [local instance] facts

/-- The kernel and its idealised program have the same bodies. -/
theorem defs_eq {F : FTy → Type} [FloatOps F] : Cert.Kernel30.defs (F := F) = Cert.Kernel30Ideal.defs :=
  congrArg (Pipeline.defs Cert.Kernel30Ideal.pcfgs) (onTc_congr fun | 0, (_, _) => rfl)

/-- The kernel's frame is that of its idealised program, over bits. -/
theorem frame : Cert.quiescent_Kernel30 := fun m ρ _ => by
  rw [defs_eq]; exact Cert.Kernel30Ideal.Loss.frame m ρ

/-- The idealised kernel's frame. -/
theorem frameIdeal : Cert.quiescent_Kernel30Ideal := fun m ρ _ => Cert.Kernel30Ideal.Loss.frame (F := Ideal) m ρ

/-- The reference's frame. -/
theorem frameReference : Cert.quiescent_Reference30Ideal := fun m ρ _ =>
  (θ_run _ _ _).mono (fun r h => ⟨fun c => (h c).2.2, sem_eq_zero_of_no_sems rfl _⟩) (Cert.Reference30Ideal.Value.run (F := Ideal) m ρ)

/-- Kernel and reference end with the same values. -/
theorem algebraic : Cert.algebraic_Kernel30Ideal_Reference30Ideal := fun m g m' g' _ h => by
  refine ⟨_, _, Cert.Kernel30Ideal.Loss.run m g, ?_⟩
  refine (θ_run _ _ _).mono (fun r hr c => ?_) (Cert.Reference30Ideal.Loss.values m' g')
  obtain ⟨eq0, eq1⟩ := h c
  have k := hr c
  refine ⟨k.1.trans ?_, k.2.1.trans ?_, k.2.2⟩ <;> rw [eq0, eq1]

end Cert.Loss30

end
-- ==== Proof.ScanFwd.Runs.lean ====
/- The forward scan's blocks, staging memrefs and branch condition, and the invariant it is launched with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.ScanFwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The condition of the body's conditional, of the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- A staging buffer of output window 4, through which its contents are stated. -/
abbrev VO0_4 : View sig .tc .vmem S512x512 .f32 := (Memref.whole cc0_stg4_0 : Memref sig .tc .vmem S512x512 .f32).view
/-- A staging buffer of output window 5, through which its contents are stated. -/
abbrev VO0_5 : View sig .tc .vmem S8x128x256 .f32 := (Memref.whole cc0_stg5_0 : Memref sig .tc .vmem S8x128x256 .f32).view
/-- Window 0's staging memref at point `t`. -/
abbrev ms0_0 (t : Fin cfg0.N) : Memref sig .tc .vmem S512x256 .bf16 := win0_0.stage (cfg0.slots t 0)
/-- It is a whole buffer. -/
abbrev hs0_0 (t : Fin cfg0.N) : (ms0_0 t).IsWhole := hstage0_0 ((cfg0.slots t 0).cast nbuf0_0)
/-- Window 1's staging memref at point `t`. -/
abbrev ms0_1 (t : Fin cfg0.N) : Memref sig .tc .vmem S512x256 .bf16 := win0_1.stage (cfg0.slots t 1)
/-- It is a whole buffer. -/
abbrev hs0_1 (t : Fin cfg0.N) : (ms0_1 t).IsWhole := hstage0_1 ((cfg0.slots t 1).cast nbuf0_1)
/-- Window 2's staging memref at point `t`. -/
abbrev ms0_2 (t : Fin cfg0.N) : Memref sig .tc .vmem S512x512 .bf16 := win0_2.stage (cfg0.slots t 2)
/-- It is a whole buffer. -/
abbrev hs0_2 (t : Fin cfg0.N) : (ms0_2 t).IsWhole := hstage0_2 ((cfg0.slots t 2).cast nbuf0_2)
/-- Window 3's staging memref at point `t`. -/
abbrev ms0_3 (t : Fin cfg0.N) : Memref sig .tc .vmem S8x256 .f32 := win0_3.stage (cfg0.slots t 3)
/-- It is a whole buffer. -/
abbrev hs0_3 (t : Fin cfg0.N) : (ms0_3 t).IsWhole := hstage0_3 ((cfg0.slots t 3).cast nbuf0_3)
/-- Window 4's staging memref at point `t`. -/
abbrev ms0_4 (t : Fin cfg0.N) : Memref sig .tc .vmem S512x512 .f32 := win0_4.stage (cfg0.slots t 4)
/-- It is a whole buffer. -/
abbrev hs0_4 (t : Fin cfg0.N) : (ms0_4 t).IsWhole := hstage0_4 ((cfg0.slots t 4).cast nbuf0_4)
/-- Window 5's staging memref at point `t`. -/
abbrev ms0_5 (t : Fin cfg0.N) : Memref sig .tc .vmem S8x128x256 .f32 := win0_5.stage (cfg0.slots t 5)
/-- It is a whole buffer. -/
abbrev hs0_5 (t : Fin cfg0.N) : (ms0_5 t).IsWhole := hstage0_5 ((cfg0.slots t 5).cast nbuf0_5)
/-- The scratch buffer the calls carries from point to point. -/
abbrev scM0_0 : Memref sig .tc .vmem S128x256 .f32 := Memref.whole cc0_scratch0
/-- The scratch buffer as a view. -/
abbrev VS0_0 : View sig .tc .vmem S128x256 .f32 := scM0_0.view

/-- The scoped buffers that are neither this call's staging buffers nor its scratch, at anything. -/
abbrev Rest (c : Dev nD) : sProp 𝕄 :=
  Pipeline.scopedRestBut (Ix := Unit) (Name := ℕ) (U := UR sig nD τ) (Lvl := ℕ) (Val := Elt F) spec0 c [cc0_scratch0]

/-- The launch's invariant: the scratch at anything, the rest, the generator. -/
theorem PhiA0_eq (c : Dev nD) :
    (Pipeline.ΦA spec0 c : sProp 𝕄)
      = iprop(iprop((∃ d, owns (c : Thread nD τ) scM0_0 fullShare d) ∗ Rest (F := F) c) ∗ (∃ r, prngReg c r)) := by
  unfold Pipeline.ΦA
  rw [Pipeline.scopedRest_split_of_list spec0 c [cc0_scratch0] (by decide) (by decide)]
  simp only [scM0_0, owns_whole]; try rfl

end Cert.KernelIdeal.ScanFwd

end
-- ==== Proof.ScanFwd.RunA.lean ====
/- The forward scan's body run at the first point. -/
module

public import proofs.«01_k».proof.Proof.ScanFwd.Runs

@[expose] public section

set_option maxRecDepth 16384

noncomputable section

namespace Cert.KernelIdeal.ScanFwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body writes to each output and to the scratch in case A, with the body's triple. -/
noncomputable def kernelRun0_A (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S8x256 .f32) (harg4 : arg4.IsWhole) (arg5 : Memref sig .tc .vmem S512x512 .f32) (harg5 : arg5.IsWhole) (arg6 : Memref sig .tc .vmem S8x128x256 .f32) (harg6 : arg6.IsWhole) (arg7 : Memref sig .tc .vmem S128x256 .f32) (harg7 : arg7.IsWhole) (hc0 : cond0_0 i)
    (x0 : Vec F S512x256 .bf16) (x1 : Vec F S512x256 .bf16) (x2 : Vec F S512x512 .bf16) (x3 : Vec F S8x256 .f32) :
    Σ' (L4 : List (View.Piece (Elt F) S512x512 .f32)), Σ' (L5 : List (View.Piece (Elt F) S8x128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_mix_gla_scan i arg1 harg1 arg2 harg2 arg3 harg3 arg4 harg4 arg5 harg5 arg6 harg6 arg7 harg7) K } := by
  refine ⟨?_, ?_, ?_, fun E K => ?run⟩
  case run =>
    simp only [cc0_mix_gla_scan_eq_skeleton]; unfold cc0_mix_gla_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.ScanFwd

end
-- ==== Proof.ScanFwd.RunB.lean ====
/- The forward scan's body run at the later points. -/
module

public import proofs.«01_k».proof.Proof.ScanFwd.RunA

@[expose] public section

set_option maxRecDepth 16384

noncomputable section

namespace Cert.KernelIdeal.ScanFwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body writes to each output and to the scratch in case B, with the body's triple. -/
noncomputable def kernelRun0_B (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S8x256 .f32) (harg4 : arg4.IsWhole) (arg5 : Memref sig .tc .vmem S512x512 .f32) (harg5 : arg5.IsWhole) (arg6 : Memref sig .tc .vmem S8x128x256 .f32) (harg6 : arg6.IsWhole) (arg7 : Memref sig .tc .vmem S128x256 .f32) (harg7 : arg7.IsWhole) (hc0 : ¬cond0_0 i)
    (x0 : Vec F S512x256 .bf16) (x1 : Vec F S512x256 .bf16) (x2 : Vec F S512x512 .bf16) (x3 : Vec F S8x256 .f32) (xs0 : Vec F S128x256 .f32) :
    Σ' (L4 : List (View.Piece (Elt F) S512x512 .f32)), Σ' (L5 : List (View.Piece (Elt F) S8x128x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_mix_gla_scan i arg1 harg1 arg2 harg2 arg3 harg3 arg4 harg4 arg5 harg5 arg6 harg6 arg7 harg7) K } := by
  refine ⟨?_, ?_, ?_, fun E K => ?run⟩
  case run =>
    simp only [cc0_mix_gla_scan_eq_skeleton]; unfold cc0_mix_gla_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.ScanFwd

end
-- ==== Proof.ScanFwd.Body.lean ====
/- What the forward scan leaves point by point, its proof data and its body's obligation. -/
module

public import proofs.«01_k».proof.Proof.ScanFwd.RunB
public import Idealize.ShloMosaic.Lib.Claim

@[expose] public section

set_option maxRecDepth 16384

noncomputable section

namespace Cert.KernelIdeal.ScanFwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section
variable (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S8x256 .f32) (harg4 : arg4.IsWhole) (arg5 : Memref sig .tc .vmem S512x512 .f32) (harg5 : arg5.IsWhole) (arg6 : Memref sig .tc .vmem S8x128x256 .f32) (harg6 : arg6.IsWhole) (arg7 : Memref sig .tc .vmem S128x256 .f32) (harg7 : arg7.IsWhole)

section
variable (hc0 : cond0_0 i)
  (x0 : Vec F S512x256 .bf16) (x1 : Vec F S512x256 .bf16) (x2 : Vec F S512x512 .bf16) (x3 : Vec F S8x256 .f32)

/-- Case A's pieces cover output 4's block. -/
theorem cover0_A_4 (y : S512x512.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (s := S512x512) _ S64x512.size (by sl_kernel_rfl) y

/-- What case A leaves in output 4's block. -/
def out0_A_4 : Vec F S512x512 .f32 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)

/-- Case A's pieces cover output 5's block. -/
theorem cover0_A_5 (y : S8x128x256.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (s := S8x128x256) _ S1x128x256.size (by sl_kernel_rfl) y

/-- What case A leaves in output 5's block. -/
def out0_A_5 : Vec F S8x128x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)

/-- Case A's pieces cover the scratch. -/
theorem scover0_A_0 (y : S128x256.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (s := S128x256) _ S128x256.size (by sl_kernel_rfl) y

/-- What case A leaves in the scratch. -/
def sout0_A_0 : Vec F S128x256 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3).2.2.1)

/-- What case A leaves in the outputs' blocks and in the scratch. -/
def outs0_A : Vec F S512x512 .f32 × Vec F S8x128x256 .f32 × Vec F S128x256 .f32 :=
  (out0_A_4 c i arg1 harg1 arg2 harg2 arg3 harg3 arg4 harg4 arg5 harg5 arg6 harg6 arg7 harg7 hc0 x0 x1 x2 x3,
    out0_A_5 c i arg1 harg1 arg2 harg2 arg3 harg3 arg4 harg4 arg5 harg5 arg6 harg6 arg7 harg7 hc0 x0 x1 x2 x3,
    sout0_A_0 c i arg1 harg1 arg2 harg2 arg3 harg3 arg4 harg4 arg5 harg5 arg6 harg6 arg7 harg7 hc0 x0 x1 x2 x3)

end

section
variable (hc0 : ¬cond0_0 i)
  (x0 : Vec F S512x256 .bf16) (x1 : Vec F S512x256 .bf16) (x2 : Vec F S512x512 .bf16) (x3 : Vec F S8x256 .f32) (xs0 : Vec F S128x256 .f32)

/-- Case B's pieces cover output 4's block. -/
theorem cover0_B_4 (y : S512x512.Idx) :
    ∃ pc ∈ (kernelRun0_B c i arg1 harg1 arg2 harg2 arg3 harg3 arg4 harg4 arg5 harg5 arg6 harg6 arg7 harg7 hc0 x0 x1 x2 x3 xs0).1, y ∈ pc.1.set :=
  View.cover_of_tiledL (s := S512x512) _ S64x512.size (by sl_kernel_rfl) y

/-- What case B leaves in output 4's block. -/
def out0_B_4 : Vec F S512x512 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xs0).1)

/-- Case B's pieces cover output 5's block. -/
theorem cover0_B_5 (y : S8x128x256.Idx) :
    ∃ pc ∈ (kernelRun0_B c i arg1 harg1 arg2 harg2 arg3 harg3 arg4 harg4 arg5 harg5 arg6 harg6 arg7 harg7 hc0 x0 x1 x2 x3 xs0).2.1, y ∈ pc.1.set :=
  View.cover_of_tiledL (s := S8x128x256) _ S1x128x256.size (by sl_kernel_rfl) y

/-- What case B leaves in output 5's block. -/
def out0_B_5 : Vec F S8x128x256 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xs0).2.1)

/-- Case B's pieces cover the scratch. -/
theorem scover0_B_0 (y : S128x256.Idx) :
    ∃ pc ∈ (kernelRun0_B c i arg1 harg1 arg2 harg2 arg3 harg3 arg4 harg4 arg5 harg5 arg6 harg6 arg7 harg7 hc0 x0 x1 x2 x3 xs0).2.2.1, y ∈ pc.1.set :=
  View.cover_of_tiledL (s := S128x256) _ S128x256.size (by sl_kernel_rfl) y

/-- What case B leaves in the scratch. -/
def sout0_B_0 : Vec F S128x256 .f32 :=
  VS0_0.read (Elt F) (VS0_0.writes (Elt F) VS0_0.junk (kernelRun0_B c i arg1 harg1 arg2 harg2 arg3 harg3 arg4 harg4 arg5 harg5 arg6 harg6 arg7 harg7 hc0 x0 x1 x2 x3 xs0).2.2.1)

/-- What case B leaves in the outputs' blocks and in the scratch. -/
def outs0_B : Vec F S512x512 .f32 × Vec F S8x128x256 .f32 × Vec F S128x256 .f32 :=
  (out0_B_4 c i arg1 harg1 arg2 harg2 arg3 harg3 arg4 harg4 arg5 harg5 arg6 harg6 arg7 harg7 hc0 x0 x1 x2 x3 xs0,
    out0_B_5 c i arg1 harg1 arg2 harg2 arg3 harg3 arg4 harg4 arg5 harg5 arg6 harg6 arg7 harg7 hc0 x0 x1 x2 x3 xs0,
    sout0_B_0 c i arg1 harg1 arg2 harg2 arg3 harg3 arg4 harg4 arg5 harg5 arg6 harg6 arg7 harg7 hc0 x0 x1 x2 x3 xs0)

end
end

/-- What case A leaves at point `t`. -/
def atA (c : Dev nD) (t : Fin cfg0.N) (h : cond0_0 (grid0.coords t)) : Vec F S512x512 .f32 × Vec F S8x128x256 .f32 × Vec F S128x256 .f32 :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk V c 0 t) (iblk V c 1 t) (iblk V c 2 t) (iblk V c 3 t)

/-- What case B leaves at point `t`, from the scratch `xs0`. -/
def atB (c : Dev nD) (t : Fin cfg0.N) (h : ¬cond0_0 (grid0.coords t)) (xs0 : Vec F S128x256 .f32) : Vec F S512x512 .f32 × Vec F S8x128x256 .f32 × Vec F S128x256 .f32 :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) h (iblk V c 0 t) (iblk V c 1 t) (iblk V c 2 t) (iblk V c 3 t) xs0

/-- What the outputs' blocks and the scratch hold after the body at point `n`, by recursion on the point. -/
def outsAt0 (c : Dev nD) : (n : ℕ) → n < cfg0.N → Vec F S512x512 .f32 × Vec F S8x128x256 .f32 × Vec F S128x256 .f32
  | 0, hn => atA V c ⟨0, hn⟩ ((hcond0_0 ⟨0, hn⟩).mpr (Nat.zero_mod _))
  | n + 1, hn =>
    if h0 : (n + 1) % 16 = 0 then atA V c ⟨n + 1, hn⟩ ((hcond0_0 ⟨n + 1, hn⟩).mpr h0)
    else atB V c ⟨n + 1, hn⟩ (fun h => h0 ((hcond0_0 ⟨n + 1, hn⟩).mp h)) (outsAt0 c n (Nat.lt_of_succ_lt hn)).2.2

/-- `outsAt0` at a point of case A. -/
theorem outsAt0_A (c : Dev nD) (t : Fin cfg0.N) (h0 : t.val % 16 = 0) :
    outsAt0 V c t.val t.isLt = atA V c t ((hcond0_0 t).mpr h0) := by
  obtain ⟨n, hn⟩ := t
  cases n with
  | zero => exact rfl
  | succ n => exact (dif_pos h0).trans rfl

/-- `outsAt0` at a point of case B. -/
theorem outsAt0_B (c : Dev nD) (t : Fin cfg0.N) (h0 : ¬t.val % 16 = 0) :
    outsAt0 V c t.val t.isLt = atB V c t (fun h => h0 ((hcond0_0 t).mp h)) (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-- The invariant before point `n`: the scratch at what the point before left, the rest of the scoped buffers and the generator at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ Rest (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ Rest (F := F) c) ∗ (∃ r, prngReg c r)) := by
  cases n with
  | zero => exact absurd rfl hz
  | succ n => rfl

/-- The proof data of the call. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]
theorem after0_5 (c : Dev nD) (t : Fin cfg0.N) : (dat V c).after 5 t = (outsAt0 V c t.val t.isLt).2.1 := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- What it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl,
    after0_0, after0_1, after0_2, after0_3, after0_4, after0_5]
  rw [show (dat V c).Φ t.succ = PhiS V c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc V c t, PhiS_zero V c _ _ hz, PhiA0_eq]
      rw [outsAt0_A V c t h0]
      unfold atA outs0_A out0_A_4 out0_A_5 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk V c 0 t) (iblk V c 1 t) (iblk V c 2 t) (iblk V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc V c t, PhiS_pos V c _ _ hz]
      rw [outsAt0_B V c t h0]
      unfold atB outs0_B out0_B_4 out0_B_5 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk V c 0 t) (iblk V c 1 t) (iblk V c 2 t) (iblk V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The launch's invariant is the one before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- After the last point the scratch's contents are forgotten. -/
theorem hout (c : Dev nD) : (dat V c).Φ (Fin.last cfg0.N) ⊢ Pipeline.ΦA spec0 c :=
  Phi_out V c _ (by rw [Fin.val_last]; have : cfg0.N = 16 := N_0; omega)

end Cert.KernelIdeal.ScanFwd

end
-- ==== Proof.ScanBwd.Runs.lean ====
/- The backward scan's blocks, staging memrefs and branch condition, and the invariant it is launched with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.KernelIdeal.ScanBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The condition of the body's conditional, of the grid coordinates. -/
abbrev cond0_0 (i : grid1.Coords) : Prop := (Scalar.cmpi .ne (Scalar.extui (Scalar.cmpi .eq (BitVec.ofNat 32 (i 0).val) 0#32)) 0#32) = 1#1
/-- It holds at the first point only. -/
theorem hcond0_0 : ∀ t : Fin cfg1.N, cond0_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond0_0, e0]
    word_cmp
   : ∀ t : Fin grid1.N, cond0_0 (grid1.coords t) ↔ t.val % 16 = 0)

/-- A staging buffer of output window 7, through which its contents are stated. -/
abbrev VO0_7 : View sig .tc .vmem S512x256 .f32 := (Memref.whole cc1_stg7_0 : Memref sig .tc .vmem S512x256 .f32).view
/-- A staging buffer of output window 8, through which its contents are stated. -/
abbrev VO0_8 : View sig .tc .vmem S512x256 .f32 := (Memref.whole cc1_stg8_0 : Memref sig .tc .vmem S512x256 .f32).view
/-- A staging buffer of output window 9, through which its contents are stated. -/
abbrev VO0_9 : View sig .tc .vmem S512x512 .f32 := (Memref.whole cc1_stg9_0 : Memref sig .tc .vmem S512x512 .f32).view
/-- A staging buffer of output window 10, through which its contents are stated. -/
abbrev VO0_10 : View sig .tc .vmem S8x256 .f32 := (Memref.whole cc1_stg10_0 : Memref sig .tc .vmem S8x256 .f32).view
/-- Window 0's staging memref at point `t`. -/
abbrev ms0_0 (t : Fin cfg1.N) : Memref sig .tc .vmem S512x512 .f32 := win1_0.stage (cfg1.slots t 0)
/-- It is a whole buffer. -/
abbrev hs0_0 (t : Fin cfg1.N) : (ms0_0 t).IsWhole := hstage1_0 ((cfg1.slots t 0).cast nbuf1_0)
/-- Window 1's staging memref at point `t`. -/
abbrev ms0_1 (t : Fin cfg1.N) : Memref sig .tc .vmem S512x256 .bf16 := win1_1.stage (cfg1.slots t 1)
/-- It is a whole buffer. -/
abbrev hs0_1 (t : Fin cfg1.N) : (ms0_1 t).IsWhole := hstage1_1 ((cfg1.slots t 1).cast nbuf1_1)
/-- Window 2's staging memref at point `t`. -/
abbrev ms0_2 (t : Fin cfg1.N) : Memref sig .tc .vmem S512x256 .bf16 := win1_2.stage (cfg1.slots t 2)
/-- It is a whole buffer. -/
abbrev hs0_2 (t : Fin cfg1.N) : (ms0_2 t).IsWhole := hstage1_2 ((cfg1.slots t 2).cast nbuf1_2)
/-- Window 3's staging memref at point `t`. -/
abbrev ms0_3 (t : Fin cfg1.N) : Memref sig .tc .vmem S512x512 .bf16 := win1_3.stage (cfg1.slots t 3)
/-- It is a whole buffer. -/
abbrev hs0_3 (t : Fin cfg1.N) : (ms0_3 t).IsWhole := hstage1_3 ((cfg1.slots t 3).cast nbuf1_3)
/-- Window 4's staging memref at point `t`. -/
abbrev ms0_4 (t : Fin cfg1.N) : Memref sig .tc .vmem S8x256 .f32 := win1_4.stage (cfg1.slots t 4)
/-- It is a whole buffer. -/
abbrev hs0_4 (t : Fin cfg1.N) : (ms0_4 t).IsWhole := hstage1_4 ((cfg1.slots t 4).cast nbuf1_4)
/-- Window 5's staging memref at point `t`. -/
abbrev ms0_5 (t : Fin cfg1.N) : Memref sig .tc .vmem S8x128x256 .f32 := win1_5.stage (cfg1.slots t 5)
/-- It is a whole buffer. -/
abbrev hs0_5 (t : Fin cfg1.N) : (ms0_5 t).IsWhole := hstage1_5 ((cfg1.slots t 5).cast nbuf1_5)
/-- Window 6's staging memref at point `t`. -/
abbrev ms0_6 (t : Fin cfg1.N) : Memref sig .tc .vmem S1x128x256 .f32 := win1_6.stage (cfg1.slots t 6)
/-- It is a whole buffer. -/
abbrev hs0_6 (t : Fin cfg1.N) : (ms0_6 t).IsWhole := hstage1_6 ((cfg1.slots t 6).cast nbuf1_6)
/-- Window 7's staging memref at point `t`. -/
abbrev ms0_7 (t : Fin cfg1.N) : Memref sig .tc .vmem S512x256 .f32 := win1_7.stage (cfg1.slots t 7)
/-- It is a whole buffer. -/
abbrev hs0_7 (t : Fin cfg1.N) : (ms0_7 t).IsWhole := hstage1_7 ((cfg1.slots t 7).cast nbuf1_7)
/-- Window 8's staging memref at point `t`. -/
abbrev ms0_8 (t : Fin cfg1.N) : Memref sig .tc .vmem S512x256 .f32 := win1_8.stage (cfg1.slots t 8)
/-- It is a whole buffer. -/
abbrev hs0_8 (t : Fin cfg1.N) : (ms0_8 t).IsWhole := hstage1_8 ((cfg1.slots t 8).cast nbuf1_8)
/-- Window 9's staging memref at point `t`. -/
abbrev ms0_9 (t : Fin cfg1.N) : Memref sig .tc .vmem S512x512 .f32 := win1_9.stage (cfg1.slots t 9)
/-- It is a whole buffer. -/
abbrev hs0_9 (t : Fin cfg1.N) : (ms0_9 t).IsWhole := hstage1_9 ((cfg1.slots t 9).cast nbuf1_9)
/-- Window 10's staging memref at point `t`. -/
abbrev ms0_10 (t : Fin cfg1.N) : Memref sig .tc .vmem S8x256 .f32 := win1_10.stage (cfg1.slots t 10)
/-- It is a whole buffer. -/
abbrev hs0_10 (t : Fin cfg1.N) : (ms0_10 t).IsWhole := hstage1_10 ((cfg1.slots t 10).cast nbuf1_10)
/-- The scratch buffer the calls carries from point to point. -/
abbrev scM0_0 : Memref sig .tc .vmem S128x256 .f32 := Memref.whole cc1_scratch0
/-- The scratch buffer as a view. -/
abbrev VS0_0 : View sig .tc .vmem S128x256 .f32 := scM0_0.view

/-- The scoped buffers that are neither this call's staging buffers nor its scratch, at anything. -/
abbrev Rest (c : Dev nD) : sProp 𝕄 :=
  Pipeline.scopedRestBut (Ix := Unit) (Name := ℕ) (U := UR sig nD τ) (Lvl := ℕ) (Val := Elt F) spec1 c [cc1_scratch0]

/-- The launch's invariant: the scratch at anything, the rest, the generator. -/
theorem PhiA0_eq (c : Dev nD) :
    (Pipeline.ΦA spec1 c : sProp 𝕄)
      = iprop(iprop((∃ d, owns (c : Thread nD τ) scM0_0 fullShare d) ∗ Rest (F := F) c) ∗ (∃ r, prngReg c r)) := by
  unfold Pipeline.ΦA
  rw [Pipeline.scopedRest_split_of_list spec1 c [cc1_scratch0] (by decide) (by decide)]
  simp only [scM0_0, owns_whole]; try rfl

end Cert.KernelIdeal.ScanBwd

end
-- ==== Proof.ScanBwd.RunA.lean ====
/- The backward scan's body run at the first point. -/
module

public import proofs.«01_k».proof.Proof.ScanBwd.Runs

@[expose] public section

set_option maxRecDepth 16384

noncomputable section

namespace Cert.KernelIdeal.ScanBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body writes to each output and to the scratch in case A, with the body's triple. -/
noncomputable def kernelRun0_A (c : Dev nD) (i : grid1.Coords) (arg1 : Memref sig .tc .vmem S512x512 .f32) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S8x256 .f32) (harg5 : arg5.IsWhole) (arg6 : Memref sig .tc .vmem S8x128x256 .f32) (harg6 : arg6.IsWhole) (arg7 : Memref sig .tc .vmem S1x128x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S8x256 .f32) (harg11 : arg11.IsWhole) (arg12 : Memref sig .tc .vmem S128x256 .f32) (harg12 : arg12.IsWhole) (hc0 : cond0_0 i)
    (x0 : Vec F S512x512 .f32) (x1 : Vec F S512x256 .bf16) (x2 : Vec F S512x256 .bf16) (x3 : Vec F S512x512 .bf16) (x4 : Vec F S8x256 .f32) (x5 : Vec F S8x128x256 .f32) (x6 : Vec F S1x128x256 .f32) :
    Σ' (L7 : List (View.Piece (Elt F) S512x256 .f32)), Σ' (L8 : List (View.Piece (Elt F) S512x256 .f32)), Σ' (L9 : List (View.Piece (Elt F) S512x512 .f32)), Σ' (L10 : List (View.Piece (Elt F) S8x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1_mix_gla_scan_b i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_mix_gla_scan_b_eq_skeleton]; unfold cc1_mix_gla_scan_b_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.ScanBwd

end
-- ==== Proof.ScanBwd.RunB.lean ====
/- The backward scan's body run at the later points. -/
module

public import proofs.«01_k».proof.Proof.ScanBwd.RunA

@[expose] public section

set_option maxRecDepth 16384

noncomputable section

namespace Cert.KernelIdeal.ScanBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The pieces the body writes to each output and to the scratch in case B, with the body's triple. -/
noncomputable def kernelRun0_B (c : Dev nD) (i : grid1.Coords) (arg1 : Memref sig .tc .vmem S512x512 .f32) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S8x256 .f32) (harg5 : arg5.IsWhole) (arg6 : Memref sig .tc .vmem S8x128x256 .f32) (harg6 : arg6.IsWhole) (arg7 : Memref sig .tc .vmem S1x128x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S8x256 .f32) (harg11 : arg11.IsWhole) (arg12 : Memref sig .tc .vmem S128x256 .f32) (harg12 : arg12.IsWhole) (hc0 : ¬cond0_0 i)
    (x0 : Vec F S512x512 .f32) (x1 : Vec F S512x256 .bf16) (x2 : Vec F S512x256 .bf16) (x3 : Vec F S512x512 .bf16) (x4 : Vec F S8x256 .f32) (x5 : Vec F S8x128x256 .f32) (x6 : Vec F S1x128x256 .f32) (xs0 : Vec F S128x256 .f32) :
    Σ' (L7 : List (View.Piece (Elt F) S512x256 .f32)), Σ' (L8 : List (View.Piece (Elt F) S512x256 .f32)), Σ' (L9 : List (View.Piece (Elt F) S512x512 .f32)), Σ' (L10 : List (View.Piece (Elt F) S8x256 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1_mix_gla_scan_b i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1_mix_gla_scan_b_eq_skeleton]; unfold cc1_mix_gla_scan_b_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexists _; iexact HS0

end Cert.KernelIdeal.ScanBwd

end
-- ==== Proof.ScanBwd.Body.lean ====
/- What the backward scan leaves point by point, its proof data and its body's obligation. -/
module

public import proofs.«01_k».proof.Proof.ScanBwd.RunB
public import Idealize.ShloMosaic.Lib.Claim

@[expose] public section

set_option maxRecDepth 16384

noncomputable section

namespace Cert.KernelIdeal.ScanBwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

section
variable (c : Dev nD) (i : grid1.Coords) (arg1 : Memref sig .tc .vmem S512x512 .f32) (harg1 : arg1.IsWhole) (arg2 : Memref sig .tc .vmem S512x256 .bf16) (harg2 : arg2.IsWhole) (arg3 : Memref sig .tc .vmem S512x256 .bf16) (harg3 : arg3.IsWhole) (arg4 : Memref sig .tc .vmem S512x512 .bf16) (harg4 : arg4.IsWhole) (arg5 : Memref sig .tc .vmem S8x256 .f32) (harg5 : arg5.IsWhole) (arg6 : Memref sig .tc .vmem S8x128x256 .f32) (harg6 : arg6.IsWhole) (arg7 : Memref sig .tc .vmem S1x128x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x512 .f32) (harg10 : arg10.IsWhole) (arg11 : Memref sig .tc .vmem S8x256 .f32) (harg11 : arg11.IsWhole) (arg12 : Memref sig .tc .vmem S128x256 .f32) (harg12 : arg12.IsWhole)

section
variable (hc0 : cond0_0 i)
  (x0 : Vec F S512x512 .f32) (x1 : Vec F S512x256 .bf16) (x2 : Vec F S512x256 .bf16) (x3 : Vec F S512x512 .bf16) (x4 : Vec F S8x256 .f32) (x5 : Vec F S8x128x256 .f32) (x6 : Vec F S1x128x256 .f32)

/-- Case A's pieces cover output 7's block. -/
theorem cover0_A_7 (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (s := S512x256) _ S64x256.size (by sl_kernel_rfl) y

/-- What case A leaves in output 7's block. -/
def out0_A_7 : Vec F S512x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces cover output 8's block. -/
theorem cover0_A_8 (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (s := S512x256) _ S64x256.size (by sl_kernel_rfl) y

/-- What case A leaves in output 8's block. -/
def out0_A_8 : Vec F S512x256 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces cover output 9's block. -/
theorem cover0_A_9 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (s := S512x512) _ S64x512.size (by sl_kernel_rfl) y

/-- What case A leaves in output 9's block. -/
def out0_A_9 : Vec F S512x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces cover output 10's block. -/
theorem cover0_A_10 (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (s := S8x256) _ S1x256.size (by sl_kernel_rfl) y

/-- What case A leaves in output 10's block. -/
def out0_A_10 : Vec F S8x256 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1)

/-- Case A's pieces cover the scratch. -/
theorem scover0_A_0 (y : S128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1, y ∈ pc.1.set :=
  View.cover_of_tiledL (s := S128x256) _ S128x256.size (by sl_kernel_rfl) y

/-- What case A leaves in the scratch. -/
def sout0_A_0 : Vec F S128x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1)

/-- What case A leaves in the outputs' blocks and in the scratch. -/
def outs0_A : Vec F S512x256 .f32 × Vec F S512x256 .f32 × Vec F S512x512 .f32 × Vec F S8x256 .f32 × Vec F S128x256 .f32 :=
  (out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6,
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6,
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6,
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6,
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6)

end

section
variable (hc0 : ¬cond0_0 i)
  (x0 : Vec F S512x512 .f32) (x1 : Vec F S512x256 .bf16) (x2 : Vec F S512x256 .bf16) (x3 : Vec F S512x512 .bf16) (x4 : Vec F S8x256 .f32) (x5 : Vec F S8x128x256 .f32) (x6 : Vec F S1x128x256 .f32) (xs0 : Vec F S128x256 .f32)

/-- Case B's pieces cover output 7's block. -/
theorem cover0_B_7 (y : S512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1, y ∈ pc.1.set :=
  View.cover_of_tiledL (s := S512x256) _ S64x256.size (by sl_kernel_rfl) y

/-- What case B leaves in output 7's block. -/
def out0_B_7 : Vec F S512x256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1)

/-- Case B's pieces cover output 8's block. -/
theorem cover0_B_8 (y : S512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1, y ∈ pc.1.set :=
  View.cover_of_tiledL (s := S512x256) _ S64x256.size (by sl_kernel_rfl) y

/-- What case B leaves in output 8's block. -/
def out0_B_8 : Vec F S512x256 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1)

/-- Case B's pieces cover output 9's block. -/
theorem cover0_B_9 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1, y ∈ pc.1.set :=
  View.cover_of_tiledL (s := S512x512) _ S64x512.size (by sl_kernel_rfl) y

/-- What case B leaves in output 9's block. -/
def out0_B_9 : Vec F S512x512 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1)

/-- Case B's pieces cover output 10's block. -/
theorem cover0_B_10 (y : S8x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1, y ∈ pc.1.set :=
  View.cover_of_tiledL (s := S8x256) _ S1x256.size (by sl_kernel_rfl) y

/-- What case B leaves in output 10's block. -/
def out0_B_10 : Vec F S8x256 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1)

/-- Case B's pieces cover the scratch. -/
theorem scover0_B_0 (y : S128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1, y ∈ pc.1.set :=
  View.cover_of_tiledL (s := S128x256) _ S128x256.size (by sl_kernel_rfl) y

/-- What case B leaves in the scratch. -/
def sout0_B_0 : Vec F S128x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1)

/-- What case B leaves in the outputs' blocks and in the scratch. -/
def outs0_B : Vec F S512x256 .f32 × Vec F S512x256 .f32 × Vec F S512x512 .f32 × Vec F S8x256 .f32 × Vec F S128x256 .f32 :=
  (out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0,
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0,
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0,
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0,
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0)

end
end

/-- What case A leaves at point `t`. -/
def atA (c : Dev nD) (t : Fin cfg1.N) (h : cond0_0 (grid1.coords t)) : Vec F S512x256 .f32 × Vec F S512x256 .f32 × Vec F S512x512 .f32 × Vec F S8x256 .f32 × Vec F S128x256 .f32 :=
  outs0_A c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) h (iblk V c 0 t) (iblk V c 1 t) (iblk V c 2 t) (iblk V c 3 t) (iblk V c 4 t) (iblk V c 5 t) (iblk V c 6 t)

/-- What case B leaves at point `t`, from the scratch `xs0`. -/
def atB (c : Dev nD) (t : Fin cfg1.N) (h : ¬cond0_0 (grid1.coords t)) (xs0 : Vec F S128x256 .f32) : Vec F S512x256 .f32 × Vec F S512x256 .f32 × Vec F S512x512 .f32 × Vec F S8x256 .f32 × Vec F S128x256 .f32 :=
  outs0_B c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) h (iblk V c 0 t) (iblk V c 1 t) (iblk V c 2 t) (iblk V c 3 t) (iblk V c 4 t) (iblk V c 5 t) (iblk V c 6 t) xs0

/-- What the outputs' blocks and the scratch hold after the body at point `n`, by recursion on the point. -/
def outsAt0 (c : Dev nD) : (n : ℕ) → n < cfg1.N → Vec F S512x256 .f32 × Vec F S512x256 .f32 × Vec F S512x512 .f32 × Vec F S8x256 .f32 × Vec F S128x256 .f32
  | 0, hn => atA V c ⟨0, hn⟩ ((hcond0_0 ⟨0, hn⟩).mpr (Nat.zero_mod _))
  | n + 1, hn =>
    if h0 : (n + 1) % 16 = 0 then atA V c ⟨n + 1, hn⟩ ((hcond0_0 ⟨n + 1, hn⟩).mpr h0)
    else atB V c ⟨n + 1, hn⟩ (fun h => h0 ((hcond0_0 ⟨n + 1, hn⟩).mp h)) (outsAt0 c n (Nat.lt_of_succ_lt hn)).2.2.2.2

/-- `outsAt0` at a point of case A. -/
theorem outsAt0_A (c : Dev nD) (t : Fin cfg1.N) (h0 : t.val % 16 = 0) :
    outsAt0 V c t.val t.isLt = atA V c t ((hcond0_0 t).mpr h0) := by
  obtain ⟨n, hn⟩ := t
  cases n with
  | zero => exact rfl
  | succ n => exact (dif_pos h0).trans rfl

/-- `outsAt0` at a point of case B. -/
theorem outsAt0_B (c : Dev nD) (t : Fin cfg1.N) (h0 : ¬t.val % 16 = 0) :
    outsAt0 V c t.val t.isLt = atB V c t (fun h => h0 ((hcond0_0 t).mp h)) (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-- The invariant before point `n`: the scratch at what the point before left, the rest of the scoped buffers and the generator at anything. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2.2) ∗ Rest (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM0_0 fullShare ((outsAt0 V c n hn).2.2.2.2) ∗ Rest (F := F) c) ∗ (∃ r, prngReg c r)) := rfl

theorem PhiS_pos (c : Dev nD) (n : ℕ) (h : n ≤ cfg1.N) (hz : n ≠ 0) :
    PhiS V c n h = iprop(iprop(owns (c : Thread nD τ) scM0_0 fullShare ((outsAt0 V c (n - 1) (by omega)).2.2.2.2) ∗ Rest (F := F) c) ∗ (∃ r, prngReg c r)) := by
  cases n with
  | zero => exact absurd rfl hz
  | succ n => rfl

/-- The proof data of the call. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt0 V c t.val t.isLt).1
    | ⟨8, _⟩ => (outsAt0 V c t.val t.isLt).2.1
    | ⟨9, _⟩ => (outsAt0 V c t.val t.isLt).2.2.1
    | ⟨10, _⟩ => (outsAt0 V c t.val t.isLt).2.2.2.1
  Φ t := PhiS V c t.val (Nat.le_of_lt_succ t.isLt)
  q w := Pipeline.shareOf spec1 w
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = iblk V c 3 t := by dsimp only [dat]
theorem after0_4 (c : Dev nD) (t : Fin cfg1.N) : (dat V c).after 4 t = iblk V c 4 t := by dsimp only [dat]
theorem after0_5 (c : Dev nD) (t : Fin cfg1.N) : (dat V c).after 5 t = iblk V c 5 t := by dsimp only [dat]
theorem after0_6 (c : Dev nD) (t : Fin cfg1.N) : (dat V c).after 6 t = iblk V c 6 t := by dsimp only [dat]
theorem after0_7 (c : Dev nD) (t : Fin cfg1.N) : (dat V c).after 7 t = (outsAt0 V c t.val t.isLt).1 := by dsimp only [dat]
theorem after0_8 (c : Dev nD) (t : Fin cfg1.N) : (dat V c).after 8 t = (outsAt0 V c t.val t.isLt).2.1 := by dsimp only [dat]
theorem after0_9 (c : Dev nD) (t : Fin cfg1.N) : (dat V c).after 9 t = (outsAt0 V c t.val t.isLt).2.2.1 := by dsimp only [dat]
theorem after0_10 (c : Dev nD) (t : Fin cfg1.N) : (dat V c).after 10 t = (outsAt0 V c t.val t.isLt).2.2.2.1 := by dsimp only [dat]

theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d
theorem before0_3 (c : Dev nD) (t : Fin cfg1.N) (d) : (dat V c).before 3 t d = iblk V c 3 t :=
  before0_3_of V (dat V c) (A_eq V c 3) (after0_3 V c) t d
theorem before0_4 (c : Dev nD) (t : Fin cfg1.N) (d) : (dat V c).before 4 t d = iblk V c 4 t :=
  before0_4_of V (dat V c) (A_eq V c 4) (after0_4 V c) t d
theorem before0_5 (c : Dev nD) (t : Fin cfg1.N) (d) : (dat V c).before 5 t d = iblk V c 5 t :=
  before0_5_of V (dat V c) (A_eq V c 5) (after0_5 V c) t d
theorem before0_6 (c : Dev nD) (t : Fin cfg1.N) (d) : (dat V c).before 6 t d = iblk V c 6 t :=
  before0_6_of V (dat V c) (A_eq V c 6) (after0_6 V c) t d

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d))
    ∗ (∃ d, owns (c : Thread nD τ) (ms0_8 t) fullShare ((dat V c).before 8 t d))
    ∗ (∃ d, owns (c : Thread nD τ) (ms0_9 t) fullShare ((dat V c).before 9 t d))
    ∗ (∃ d, owns (c : Thread nD τ) (ms0_10 t) fullShare ((dat V c).before 10 t d)))

/-- What it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t)
    ∗ owns (c : Thread nD τ) (ms0_6 t) fullShare ((dat V c).after 6 t)
    ∗ owns (c : Thread nD τ) (ms0_7 t) fullShare ((dat V c).after 7 t)
    ∗ owns (c : Thread nD τ) (ms0_8 t) fullShare ((dat V c).after 8 t)
    ∗ owns (c : Thread nD τ) (ms0_9 t) fullShare ((dat V c).after 9 t)
    ∗ owns (c : Thread nD τ) (ms0_10 t) fullShare ((dat V c).after 10 t))

set_option maxHeartbeats 9600000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6]
  rw [show (dat V c).owesAt () t.succ = (dat V c).owesAt () t.castSucc from rfl,
    after0_0, after0_1, after0_2, after0_3, after0_4, after0_5, after0_6, after0_7, after0_8, after0_9, after0_10]
  rw [show (dat V c).Φ t.succ = PhiS V c (t.val + 1) t.isLt from rfl, PhiS_succ]
  have hN : t.val < 16 := lt_of_lt_of_eq t.isLt (show cfg1.N = 16 from N_1)
  by_cases h0 : t.val % 16 = 0
  · by_cases hz : t.val = 0
    · rw [PhiS_castSucc V c t, PhiS_zero V c _ _ hz, PhiA0_eq]
      rw [outsAt0_A V c t h0]
      unfold atA outs0_A out0_A_7 out0_A_8 out0_A_9 out0_A_10 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid1.coords t) _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS_castSucc V c t, PhiS_pos V c _ _ hz]
      rw [outsAt0_B V c t h0]
      unfold atB outs0_B out0_B_7 out0_B_8 out0_B_9 out0_B_10 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid1.coords t) _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      iintro ⟨H0, H1, H2, H3, H4, H5, H6, ⟨%e7, H7⟩, ⟨%e8, H8⟩, ⟨%e9, H9⟩, ⟨%e10, H10⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

/-- The pipeline's obligation of the body. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The launch's invariant is the one before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

/-- After the last point the scratch's contents are forgotten. -/
theorem hout (c : Dev nD) : (dat V c).Φ (Fin.last cfg1.N) ⊢ Pipeline.ΦA spec1 c :=
  Phi_out V c _ (by rw [Fin.val_last]; have : cfg1.N = 16 := N_1; omega)

end Cert.KernelIdeal.ScanBwd

end
-- ==== Proof.ScanRun.lean ====
/- The two scans run one after the other: what every buffer holds between them and at the end. -/
module

public import proofs.«01_k».proof.Proof.ScanFwd.Body
public import proofs.«01_k».proof.Proof.ScanBwd.Body
public import Idealize.ShloMosaic.Lib.Pipeline.Regions
public import Idealize.ShloMosaic.Lib.Pipeline.RegionsLoop
public import Idealize.ShloMosaic.Lib.Pipeline.FrameSuffix

@[expose] public section

set_option maxRecDepth 16384

noncomputable section

namespace Cert.KernelIdeal.Scan

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4]

/-! ## The buffer contents at each segment boundary: a fold through @main, and what each item leaves unchanged -/

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same at the TensorCore's references. -/
abbrev V0 : (c : Dev nD) → (b : Ref sig .tc) → Buf (Elt F) ((c : Thread nD τ).loc b) := fun c b => W0 m ρ c b
/-- The buffers after the forward scan. -/
def W1 (c : Dev nD) : Valuation τ sig (Elt F) :=
  Pipeline.withArrays spec0 c (W0 m ρ c) fun w => (ScanFwd.dat (V0 m ρ) c).arrAt w cfg0.N
theorem W1_arr (c : Dev nD) (w : Fin cfg0.W) :
    W1 m ρ c (Proc.devRef .tc (Pipeline.arrRef spec0 w)) = (ScanFwd.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The forward scan changes its outputs only. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((ScanFwd.dat (V0 m ρ) c).arrAt_in w (h w rfl) _).trans (ScanFwd.A_eq (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
/-- The forward scan keeps the arguments. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same at the TensorCore's references. -/
abbrev V1 : (c : Dev nD) → (b : Ref sig .tc) → Buf (Elt F) ((c : Thread nD τ).loc b) := fun c b => W1 m ρ c b
theorem hF0 (c : Dev nD) (w : Fin cfg0.W) : (ScanFwd.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the backward scan. -/
def W2 (c : Dev nD) : Valuation τ sig (Elt F) :=
  Pipeline.withArrays spec1 c (W1 m ρ c) fun w => (ScanBwd.dat (V1 m ρ) c).arrAt w cfg1.N
theorem W2_arr (c : Dev nD) (w : Fin cfg1.W) :
    W2 m ρ c (Proc.devRef .tc (Pipeline.arrRef spec1 w)) = (ScanBwd.dat (V1 m ρ) c).arrAt w cfg1.N := by
  unfold W2; exact (ScanBwd.dat (V1 m ρ) c).withArrays_arrAt launch₀1.sharedIn _ (ScanBwd.A_eq (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The backward scan changes its outputs only. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((ScanBwd.dat (V1 m ρ) c).arrAt_in w (h w rfl) _).trans (ScanBwd.A_eq (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
/-- The backward scan keeps the arguments. -/
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same at the TensorCore's references. -/
abbrev V2 : (c : Dev nD) → (b : Ref sig .tc) → Buf (Elt F) ((c : Thread nD τ).loc b) := fun c b => W2 m ρ c b
theorem hF1 (c : Dev nD) (w : Fin cfg1.W) : (ScanBwd.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The proof data family and the thread state -/

/-- There are no prefetched tables. -/
abbrev adm : (p : Fin 2) → (pcfgs (F := F) p).Adm := fun p => (cfgs p).toPCfg_adm
/-- The proof data of the two calls. -/
def pdats : (p : Fin 2) → (c : Dev nD) → Dat τ (Elt F) Unit ℕ (UR sig nD τ) ℕ (Pipeline.pin (pcfgs (F := F)) adm p) c
  | ⟨0, _⟩ => fun c => ScanFwd.dat (V0 m ρ) c
  | ⟨1, _⟩ => fun c => ScanBwd.dat (V1 m ρ) c
abbrev 𝒱₀ : Variants := Variants.none
abbrev L : GSem nD τ sig → Finset Unit := fun _ => ∅
abbrev lv : GSem nD τ sig → Unit → ℕ := fun _ _ => 0
/-- What rides beside the buffers: the generator's state, and nothing owed. -/
abbrev R (c : Dev nD) : sProp 𝕄 := iprop((∃ r, prngReg c r) ∗ ∃ W, owes (c : Thread nD τ) (0 : CellTallies nD τ sig Unit) W)
/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What holds at the end. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The forward scan as a segment, from `W0` to `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ScanFwd.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (ScanFwd.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (ScanFwd.dat (V0 m ρ) c).Φ 0 from rfl]
    have H := ScanFwd.hin (V0 m ρ) c
    unfold Pipeline.ΦA at H
    iintro ⟨Hp, -, Hr⟩
    iapply H
    isplitl [Hr]; · iexact Hr
    iexact Hp
  hout c := by
    rw [Pipeline.ownSems0_none]; rw [show (pdats m ρ 0 c).Φ (Fin.last _) = (ScanFwd.dat (V0 m ρ) c).Φ (Fin.last _) from rfl]
    have H := ScanFwd.hout (V0 m ρ) c
    unfold Pipeline.ΦA at H
    iintro HΦ
    ihave H2 := H $$ HΦ
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward scan as a segment, from `W1` to `W2`: `states` is read through two windows, each with its share. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (ScanBwd.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (ScanBwd.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (ScanBwd.dat (V1 m ρ) c).Φ 0 from rfl]
    have H := ScanBwd.hin (V1 m ρ) c
    unfold Pipeline.ΦA at H
    iintro ⟨Hp, -, Hr⟩
    iapply H
    isplitl [Hr]; · iexact Hr
    iexact Hp
  hout c := by
    rw [Pipeline.ownSems0_none]; rw [show (pdats m ρ 1 c).Φ (Fin.last _) = (ScanBwd.dat (V1 m ρ) c).Φ (Fin.last _) from rfl]
    have H := ScanBwd.hout (V1 m ρ) c
    unfold Pipeline.ΦA at H
    iintro HΦ
    ihave H2 := H $$ HΦ
    icases H2 with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The program's two segments. -/
abbrev segs : List (Pipeline.Seg (pcfgs (F := F)) adm (pdats m ρ) () defs₀ 𝒱₀ L lv) :=
  [ .region (reg0 m ρ),
    .region (reg1 m ρ) ]
/-- The program is the run of its segments. -/
theorem main_run (c : Dev nD) : main (F := F) c = Pipeline.Seg.run (segs m ρ) := (main_chain c).trans (by chain_rfl)

/-- There is no unscoped semaphore. -/
theorem no_unscoped : ∀ sm : SemLoc sig, sm.isScoped .tc = true := by decide

set_option backward.isDefEq.respectTransparency.types false in
/-- The program runs, ends with every buffer at `W2` and every semaphore at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The arguments end as launched. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c =>
    have k (a : Ref sig .tc) (ha : a ∈ argRefs) (hs : ¬ (Proc.devRef .tc a : DevRef τ sig).isScoped) :
        r.2.mem (c.tc.loc a) = m (c.tc.loc a) :=
      (h.1 c _ (mem_uc a hs)).trans (W2_args m ρ c a ha)
    ⟨k main_arg0 (by decide) (by decide), k main_arg1 (by decide) (by decide), k main_arg2 (by decide) (by decide),
      k main_arg3 (by decide) (by decide), k main_arg4 (by decide) (by decide)⟩, h.2⟩) (run_main m ρ)

end Cert.KernelIdeal.Scan

end
-- ==== Proof.Spec.lean ====
module

public import Mathlib.Data.EReal.Operations
public import Mathlib.Algebra.BigOperators.Fin

/-! # The recurrence and its gradient, as sums

The gated linear attention has 4 heads, keys of width 64 and values of width 128. A state has a value row `a` and a column `j`, whose
head is `j / 64`. The rows of a chunk `n` are `64 n + r`. All arrays are functions of two whole numbers here. -/

@[expose] public section

noncomputable section

namespace Cert.Gla

/-- Queries, keys, values, decays of the chunks, and the cotangent of the output. -/
structure Data where
  q : ℕ → ℕ → EReal
  k : ℕ → ℕ → EReal
  v : ℕ → ℕ → EReal
  lam : ℕ → ℕ → EReal
  d : ℕ → ℕ → EReal

variable (D : Data)

/-- The state before chunk `n`: each chunk scales it by the chunk's decays and adds the sum of its rows' outer products. -/
def St : ℕ → ℕ → ℕ → EReal
  | 0, _, _ => 0
  | n + 1, a, j => St n a j * D.lam n j + ∑ r : Fin 64, D.v (64 * n + r) (128 * (j / 64) + a) * D.k (64 * n + r) j

/-- The output: each row's query against the state after its chunk. -/
def out (i j : ℕ) : EReal := ∑ x : Fin 64, D.q i (64 * (j / 128) + x) * St D (i / 64 + 1) (j % 128) (64 * (j / 128) + x)

/-- The gradient of the state that chunk `127 - t` hands to the chunks before it adds up what came from the chunks after it,
    `Ca t`, and the chunk's own rows' outer products. -/
def Ca : ℕ → ℕ → ℕ → EReal
  | 0, _, _ => 0
  | t + 1, a, j => (Ca t a j + ∑ r : Fin 64, D.d (64 * (127 - t) + r) (128 * (j / 64) + a) * D.q (64 * (127 - t) + r) j) * D.lam (127 - t) j

/-- The gradient with respect to the state after chunk `127 - t`. -/
def Gs (t a j : ℕ) : EReal := Ca D t a j + ∑ r : Fin 64, D.d (64 * (127 - t) + r) (128 * (j / 64) + a) * D.q (64 * (127 - t) + r) j

theorem Ca_succ (t a j : ℕ) : Ca D (t + 1) a j = Gs D t a j * D.lam (127 - t) j := rfl

/-- The gradients with respect to the queries, the keys, the values and the decays. -/
def dq (i j : ℕ) : EReal := ∑ a : Fin 128, D.d i (128 * (j / 64) + a) * St D (i / 64 + 1) a j
def dk (i j : ℕ) : EReal := ∑ a : Fin 128, D.v i (128 * (j / 64) + a) * Gs D (127 - i / 64) a j
def dv (i j : ℕ) : EReal := ∑ x : Fin 64, D.k i (64 * (j / 128) + x) * Gs D (127 - i / 64) (j % 128) (64 * (j / 128) + x)
def dlam (n j : ℕ) : EReal := ∑ a : Fin 128, Gs D (127 - n) a j * St D n a j

end Cert.Gla

end
-- ==== Proof.Args.lean ====
module

public import proofs.«01_k».proof.Proof.Spec
public import Idealize.ShloMosaic.Lib.Pointwise
public import Idealize.ShloMosaic.PureOps

/-! # The arguments as functions of two whole numbers -/

@[expose] public section

noncomputable section

namespace Cert.Gla

open Idealize.ShloMosaic

/-- A matrix, zero outside of its rows and columns. -/
def rd {a b : ℕ} (X : (⟨2, ![a, b]⟩ : Shape).Idx → EReal) (i j : ℕ) : EReal := if h : i < a ∧ j < b then X (ix2 ⟨i, h.1⟩ ⟨j, h.2⟩) else 0

theorem rd_apply {a b : ℕ} (X : (⟨2, ![a, b]⟩ : Shape).Idx → EReal) (i : Fin a) (j : Fin b) : rd X i.val j.val = X (ix2 i j) :=
  dif_pos ⟨i.isLt, j.isLt⟩

theorem rd_of {a b : ℕ} (X : (⟨2, ![a, b]⟩ : Shape).Idx → EReal) (i j : ℕ) (hi : i < a) (hj : j < b) : rd X i j = X (ix2 ⟨i, hi⟩ ⟨j, hj⟩) :=
  dif_pos ⟨hi, hj⟩

/-- The arguments: the values are the columns from 512 on of the third. -/
def data (q k : (⟨2, ![8192, 256]⟩ : Shape).Idx → EReal) (gl : (⟨2, ![8192, 1536]⟩ : Shape).Idx → EReal)
    (lam : (⟨2, ![128, 256]⟩ : Shape).Idx → EReal) (d : (⟨2, ![8192, 512]⟩ : Shape).Idx → EReal) : Data where
  q := rd q
  k := rd k
  v := fun i j => rd gl i (512 + j)
  lam := rd lam
  d := rd d

end Cert.Gla

end
-- ==== Proof.ScanEntries.lean ====
module

public import proofs.«01_k».proof.Proof.ScanFwd.Body
public import proofs.«01_k».proof.Proof.ScanBwd.Body
public import proofs.«01_k».proof.Proof.Args
public import Idealize.ShloMosaic.Lib.Pointwise

/-! What one chunk of each scan computes, entry by entry over the reals. -/

@[expose] public section

set_option maxRecDepth 16384

noncomputable section

namespace Cert.KernelIdeal.Scan

open Cert.KernelIdeal.Gen
open Idealize.ShloMosaic Idealize.ShloMosaic.TcCoe Idealize.ShloMosaic.Tactic

/-- The state after a chunk. -/
theorem state_step (k : Vec Ideal S64x256 .bf16) (v : Vec Ideal S64x512 .bf16) (S : Vec Ideal S128x256 .f32)
    (l : Vec Ideal S1x256 .f32) (a : Fin 128) (j : Fin 256) :
    (k0_pay4 k v S l (ix2 a j) : EReal)
      = S (ix2 a j) * l (ix2 0 j) + ∑ r : Fin 64, v (ix2 r ⟨128 * (j.val / 64) + a.val, by omega⟩) * k (ix2 r j) := by
  unfold k0_pay4
  pointwise
  congr 1
  split_ifs <;> refine Finset.sum_congr rfl fun x _ => ?_ <;> congr 2 <;> congr 1 <;> ext <;> dsimp only <;> omega

/-- The outputs of a chunk from the state after it. -/
theorem out_step (q : Vec Ideal S64x256 .bf16) (S : FVec Ideal S128x256 .f32) (r : Fin 64) (j : Fin 512) :
    (k0_pay2 q S (ix2 r j) : EReal)
      = ∑ x : Fin 64, q (ix2 r ⟨64 * (j.val / 128) + x.val, by omega⟩) * S (ix2 ⟨j.val % 128, by omega⟩ ⟨64 * (j.val / 128) + x.val, by omega⟩) := by
  unfold k0_pay2
  pointwise
  split_ifs <;> refine Finset.sum_congr rfl fun x _ => ?_ <;> congr 2 <;> congr 1 <;> ext <;> dsimp only <;> omega

/-- The cotangent of the state after a chunk, from the cotangent carried into it. -/
theorem ct_step (q : Vec Ideal S64x256 .bf16) (d : Vec Ideal S64x512 .f32) (S : Vec Ideal S128x256 .f32)
    (a : Fin 128) (j : Fin 256) :
    (k1_pay20 q d S (ix2 a j) : EReal)
      = S (ix2 a j) + ∑ r : Fin 64, d (ix2 r ⟨128 * (j.val / 64) + a.val, by omega⟩) * q (ix2 r j) := by
  unfold k1_pay20 k1_pay17
  pointwise
  congr 1
  split_ifs <;> refine Finset.sum_congr rfl fun x _ => ?_ <;> congr 2 <;> congr 1 <;> ext <;> dsimp only <;> omega

/-- The queries' gradients of a chunk. -/
theorem dq_step (d : FVec Ideal S64x512 .bf16) (S : FVec Ideal S128x256 .bf16) (r : Fin 64) (j : Fin 256) :
    (k1_pay22 d S (ix2 r j) : EReal)
      = ∑ a : Fin 128, d (ix2 r ⟨128 * (j.val / 64) + a.val, by omega⟩) * S (ix2 a j) := by
  unfold k1_pay22
  pointwise
  split_ifs <;> refine Finset.sum_congr rfl fun x _ => ?_ <;> congr 2 <;> congr 1 <;> ext <;> dsimp only <;> omega

/-- The keys' gradients of a chunk. -/
theorem dk_step (v : Vec Ideal S64x512 .bf16) (G : FVec Ideal S128x256 .f32) (r : Fin 64) (j : Fin 256) :
    (k1_pay23 v G (ix2 r j) : EReal)
      = ∑ a : Fin 128, v (ix2 r ⟨128 * (j.val / 64) + a.val, by omega⟩) * G (ix2 a j) := by
  unfold k1_pay23 k1_pay21
  pointwise
  split_ifs <;> refine Finset.sum_congr rfl fun x _ => ?_ <;> congr 2 <;> congr 1 <;> ext <;> dsimp only <;> omega

/-- The values' gradients of a chunk. -/
theorem dv_step (k : Vec Ideal S64x256 .bf16) (G : FVec Ideal S128x256 .f32) (r : Fin 64) (j : Fin 512) :
    (k1_pay24 k G (ix2 r j) : EReal)
      = ∑ x : Fin 64, k (ix2 r ⟨64 * (j.val / 128) + x.val, by omega⟩) * G (ix2 ⟨j.val % 128, by omega⟩ ⟨64 * (j.val / 128) + x.val, by omega⟩) := by
  unfold k1_pay24 k1_pay21
  pointwise
  split_ifs <;> refine Finset.sum_congr rfl fun x _ => ?_ <;> congr 2 <;> congr 1 <;> ext <;> dsimp only <;> omega

/-- The decays' gradients of a chunk. -/
theorem dlam_step (B G : FVec Ideal S128x256 .f32) (j : Fin 256) :
    (k1_pay25 B G (ix2 0 j) : EReal) = ∑ a : Fin 128, G (ix2 a j) * B (ix2 a j) := by
  unfold k1_pay25
  pointwise

/-- The cotangent carried to the chunk before. -/
theorem carry_step (G : FVec Ideal S128x256 .f32) (l : Vec Ideal S1x256 .f32) (a : Fin 128) (j : Fin 256) :
    (k1_pay26 G l (ix2 a j) : EReal) = G (ix2 a j) * l (ix2 0 j) := by
  unfold k1_pay26
  pointwise

end Cert.KernelIdeal.Scan
end
-- ==== Proof.ScanRead.lean ====
module

public import proofs.«01_k».proof.Proof.ScanEntries
public import Idealize.ShloMosaic.Lib.Pipeline.ReadBack

/-! # Reading a block's rows

A load of some rows of a block, and a store of some rows or of one slab of a block, at their entries. -/

@[expose] public section

set_option maxRecDepth 16384

noncomputable section

namespace Cert.KernelIdeal.Scan

open Cert.KernelIdeal.Gen
open Idealize.ShloMosaic Idealize.ShloMosaic.TcCoe Idealize.ShloMosaic.Tactic

/-- The block `X` holds `f` from row `o` on. -/
def IsRows {h w : ℕ} (f : ℕ → ℕ → EReal) (o : ℕ) (X : (⟨2, ![h, w]⟩ : Shape).Idx → EReal) : Prop :=
  ∀ (r : Fin h) (j : Fin w), X (ix2 r j) = f (o + r.val) j.val

/-- The block `X` holds `f`'s matrices from number `o` on. -/
def IsSlabs {n h w : ℕ} (f : ℕ → ℕ → ℕ → EReal) (o : ℕ) (X : (⟨3, ![n, h, w]⟩ : Shape).Idx → EReal) : Prop :=
  ∀ (s : Fin n) (a : Fin h) (j : Fin w), X (ix3 s a j) = f (o + s.val) a.val j.val

theorem emb_rows {H h w : ℕ} (o : ℕ) (inb : ∀ a : Fin 2, (![o, 0] : Fin 2 → ℕ) a + (![h, w] : Fin 2 → ℕ) a ≤ (⟨2, ![H, w]⟩ : Shape).size a)
    (r : Fin h) (j : Fin w) :
    (Rect.unit (s := (⟨2, ![H, w]⟩ : Shape)) ![o, 0] ![h, w] inb).emb (ix2 r j)
      = ix2 ⟨o + r.val, lt_of_lt_of_le (Nat.add_lt_add_left r.isLt o) (inb 0)⟩ j := by
  funext a
  apply Fin.ext
  refine Fin.cases ?_ (fun a => Fin.cases ?_ (fun a => a.elim0) a) a
  · show o + 1 * r.val = o + r.val
    omega
  · show 0 + 1 * j.val = j.val
    omega

theorem emb_slabs {N n h w : ℕ} (o : ℕ) (inb : ∀ a : Fin 3, (![o, 0, 0] : Fin 3 → ℕ) a + (![n, h, w] : Fin 3 → ℕ) a ≤ (⟨3, ![N, h, w]⟩ : Shape).size a)
    (s : Fin n) (r : Fin h) (j : Fin w) :
    (Rect.unit (s := (⟨3, ![N, h, w]⟩ : Shape)) ![o, 0, 0] ![n, h, w] inb).emb (ix3 s r j)
      = ix3 ⟨o + s.val, lt_of_lt_of_le (Nat.add_lt_add_left s.isLt o) (inb 0)⟩ r j := by
  funext a
  apply Fin.ext
  refine Fin.cases ?_ (fun a => Fin.cases ?_ (fun a => Fin.cases ?_ (fun a => a.elim0) a) a) a
  · show o + 1 * s.val = o + s.val
    omega
  · show 0 + 1 * r.val = r.val
    omega
  · show 0 + 1 * j.val = j.val
    omega

/-- A load of rows of a block that holds `f`. -/
theorem load_rows {H h w : ℕ} (arg : Memref sig .tc .vmem (⟨2, ![H, w]⟩ : Shape) EltTy.f32) (harg : arg.IsWhole)
    (x : (⟨2, ![H, w]⟩ : Shape).Idx → Elt Ideal EltTy.f32) (f : ℕ → ℕ → EReal) (b o : ℕ) (hx : IsRows f b x)
    (inb : ∀ a : Fin 2, (![o, 0] : Fin 2 → ℕ) a + (![h, w] : Fin 2 → ℕ) a ≤ (⟨2, ![H, w]⟩ : Shape).size a) :
    IsRows (h := h) (w := w) f (b + o) (View.readAt (Elt Ideal) arg.view (Rect.unit (s := (⟨2, ![H, w]⟩ : Shape)) ![o, 0] ![h, w] inb).toLoadRect (harg.unread x)) := by
  intro r j
  refine (congrFun (harg.read_unread x) ((Rect.unit (s := (⟨2, ![H, w]⟩ : Shape)) ![o, 0] ![h, w] inb).emb (ix2 r j))).trans ?_
  rw [emb_rows]
  refine (hx _ _).trans ?_
  rw [Nat.add_assoc]

/-- A load of rows of a block that holds `f`. -/
theorem load_rows_bf16 {H h w : ℕ} (arg : Memref sig .tc .vmem (⟨2, ![H, w]⟩ : Shape) EltTy.bf16) (harg : arg.IsWhole)
    (x : (⟨2, ![H, w]⟩ : Shape).Idx → Elt Ideal EltTy.bf16) (f : ℕ → ℕ → EReal) (b o : ℕ) (hx : IsRows f b x)
    (inb : ∀ a : Fin 2, (![o, 0] : Fin 2 → ℕ) a + (![h, w] : Fin 2 → ℕ) a ≤ (⟨2, ![H, w]⟩ : Shape).size a) :
    IsRows (h := h) (w := w) f (b + o) (View.readAt (Elt Ideal) arg.view (Rect.unit (s := (⟨2, ![H, w]⟩ : Shape)) ![o, 0] ![h, w] inb).toLoadRect (harg.unread x)) := by
  intro r j
  refine (congrFun (harg.read_unread x) ((Rect.unit (s := (⟨2, ![H, w]⟩ : Shape)) ![o, 0] ![h, w] inb).emb (ix2 r j))).trans ?_
  rw [emb_rows]
  refine (hx _ _).trans ?_
  rw [Nat.add_assoc]

/-- A load of one matrix of a block that holds `f`. -/
theorem load_slabs {N n h w : ℕ} (arg : Memref sig .tc .vmem (⟨3, ![N, h, w]⟩ : Shape) EltTy.f32) (harg : arg.IsWhole)
    (x : (⟨3, ![N, h, w]⟩ : Shape).Idx → Elt Ideal EltTy.f32) (f : ℕ → ℕ → ℕ → EReal) (b o : ℕ) (hx : IsSlabs f b x)
    (inb : ∀ a : Fin 3, (![o, 0, 0] : Fin 3 → ℕ) a + (![n, h, w] : Fin 3 → ℕ) a ≤ (⟨3, ![N, h, w]⟩ : Shape).size a) :
    IsSlabs (n := n) (h := h) (w := w) f (b + o) (View.readAt (Elt Ideal) arg.view (Rect.unit (s := (⟨3, ![N, h, w]⟩ : Shape)) ![o, 0, 0] ![n, h, w] inb).toLoadRect (harg.unread x)) := by
  intro s r j
  refine (congrFun (harg.read_unread x) ((Rect.unit (s := (⟨3, ![N, h, w]⟩ : Shape)) ![o, 0, 0] ![n, h, w] inb).emb (ix3 s r j))).trans ?_
  rw [emb_slabs]
  refine (hx _ _ _).trans ?_
  rw [Nat.add_assoc]

/-- Rows stored into a block, as a piece of the block that holds `f`. -/
theorem piece_rows {H h w : ℕ} (f : ℕ → ℕ → EReal) (b o : ℕ) (X : (⟨2, ![h, w]⟩ : Shape).Idx → Elt Ideal EltTy.f32) (hX : IsRows f (b + o) X)
    (inb : ∀ a : Fin 2, (![o, 0] : Fin 2 → ℕ) a + (![h, w] : Fin 2 → ℕ) a ≤ (⟨2, ![H, w]⟩ : Shape).size a)
    (x : (⟨2, ![h, w]⟩ : Shape).Idx) :
    X x = (fun y : (⟨2, ![H, w]⟩ : Shape).Idx => f (b + (y 0).val) (y 1).val) ((Rect.unit (s := (⟨2, ![H, w]⟩ : Shape)) ![o, 0] ![h, w] inb).emb x) := by
  obtain ⟨r, j, rfl⟩ : ∃ (r : Fin h) (j : Fin w), x = ix2 r j := ⟨x 0, x 1, by funext a; exact Fin.cases rfl (fun a => Fin.cases rfl (fun a => a.elim0) a) a⟩
  rw [emb_rows]
  refine (hX r j).trans ?_
  show f (b + o + r.val) j.val = f (b + (o + r.val)) j.val
  rw [Nat.add_assoc]

/-- Matrices stored into a block, as a piece of the block that holds `f`. -/
theorem piece_slabs {N n h w : ℕ} (f : ℕ → ℕ → ℕ → EReal) (b o : ℕ) (X : (⟨3, ![n, h, w]⟩ : Shape).Idx → Elt Ideal EltTy.f32) (hX : IsSlabs f (b + o) X)
    (inb : ∀ a : Fin 3, (![o, 0, 0] : Fin 3 → ℕ) a + (![n, h, w] : Fin 3 → ℕ) a ≤ (⟨3, ![N, h, w]⟩ : Shape).size a)
    (x : (⟨3, ![n, h, w]⟩ : Shape).Idx) :
    X x = (fun y : (⟨3, ![N, h, w]⟩ : Shape).Idx => f (b + (y 0).val) (y 1).val (y 2).val) ((Rect.unit (s := (⟨3, ![N, h, w]⟩ : Shape)) ![o, 0, 0] ![n, h, w] inb).emb x) := by
  obtain ⟨s, r, j, rfl⟩ : ∃ (s : Fin n) (r : Fin h) (j : Fin w), x = ix3 s r j := ⟨x 0, x 1, x 2, by funext a; exact Fin.cases rfl (fun a => Fin.cases rfl (fun a => Fin.cases rfl (fun a => a.elim0) a) a) a⟩
  rw [emb_slabs]
  refine (hX s r j).trans ?_
  show f (b + o + s.val) r.val j.val = f (b + (o + s.val)) r.val j.val
  rw [Nat.add_assoc]

/-- What a block holds once pieces of one value cover it. -/
theorem canon_all {s : Shape} {e : EltTy} (G : s.Idx → Elt Ideal e) (L : List (View.Piece (Elt Ideal) s e)) (h : View.PiecesOf G L)
    (hc : ∀ y, ∃ p ∈ L, y ∈ p.1.set) : View.canon L = G := by
  funext y
  have := View.canon_append_of_piecesOf G [] L h y (hc y)
  rwa [List.append_nil] at this

/-- The block `X` holds the matrix `f`. -/
def IsMat {h w : ℕ} (f : ℕ → ℕ → EReal) (X : (⟨2, ![h, w]⟩ : Shape).Idx → EReal) : Prop :=
  ∀ (a : Fin h) (j : Fin w), X (ix2 a j) = f a.val j.val

end Cert.KernelIdeal.Scan
end
-- ==== Proof.ScanFwd.Chunk.lean ====
module

public import proofs.«01_k».proof.Proof.ScanRead

/-! # One chunk of the forward scan, from the blocks that hold the arguments -/

@[expose] public section

set_option maxRecDepth 16384

noncomputable section

namespace Cert.KernelIdeal.ScanFwd

open Cert.KernelIdeal.Gen Cert.KernelIdeal.Scan Cert.Gla
open Idealize.ShloMosaic Idealize.ShloMosaic.TcCoe Idealize.ShloMosaic.Tactic

/-- The four input blocks at point `t` hold the arguments' rows. -/
structure Blk (D : Data) (t : ℕ) (x0 x1 : Vec Ideal S512x256 .bf16) (x2 : Vec Ideal S512x512 .bf16) (x3 : Vec Ideal S8x256 .f32) : Prop where
  q : IsRows D.q (512 * t) x0
  k : IsRows D.k (512 * t) x1
  v : IsRows D.v (512 * t) x2
  l : IsRows D.lam (8 * t) x3

theorem _root_.Cert.KernelIdeal.Scan.IsRows.at {h w : ℕ} {f : ℕ → ℕ → EReal} {a b : ℕ} {X : (⟨2, ![h, w]⟩ : Shape).Idx → EReal} (hX : IsRows f a X) (e : a = b) : IsRows f b X := e ▸ hX

theorem st_next (D : Data) (n : ℕ) (k : Vec Ideal S64x256 .bf16) (v : Vec Ideal S64x512 .bf16) (S : Vec Ideal S128x256 .f32)
    (l : Vec Ideal S1x256 .f32) (hk : IsRows D.k (64 * n) k) (hv : IsRows D.v (64 * n) v) (hl : IsRows D.lam n l) (hS : IsMat (St D n) S) :
    IsMat (St D (n + 1)) (k0_pay4 k v S l) := by
  intro a j
  refine (state_step k v S l a j).trans ?_
  rw [hS a j, hl 0 j]
  refine congrArg _ (Finset.sum_congr rfl fun r _ => ?_)
  rw [hv, hk]

theorem out_next (D : Data) (n : ℕ) (q : Vec Ideal S64x256 .bf16) (S : FVec Ideal S128x256 .f32)
    (hq : IsRows D.q (64 * n) q) (hS : IsMat (St D (n + 1)) S) : IsRows (out D) (64 * n) (k0_pay2 q S) := by
  intro r j
  refine (out_step q S r j).trans ?_
  unfold out
  have e : (64 * n + r.val) / 64 = n := by omega
  rw [e]
  refine Finset.sum_congr rfl fun x _ => ?_
  rw [hq, hS]

theorem mat_cast (f : ℕ → ℕ → EReal) (X : FVec Ideal S128x256 .f32) (hX : IsMat f X) (h : S128x256.ShapeCasts S128x256) :
    IsMat f (shapeCast S128x256 X h) := by
  intro a j
  rw [shapeCast_self]
  exact hX a j

theorem slab_cast (f : ℕ → ℕ → ℕ → EReal) (n : ℕ) (X : FVec Ideal S128x256 .f32) (hX : IsMat (f n) X) (h : S128x256.ShapeCasts S1x128x256) :
    IsSlabs f n (shapeCast S1x128x256 X h) := by
  intro s a j
  obtain rfl : s = 0 := Subsingleton.elim _ _
  pointwise
  exact hX a j

theorem canon_mat (f : ℕ → ℕ → EReal) (w : Vec Ideal S128x256 .f32) (hw : IsMat f w) (i1 : ∀ a, (![0, 0] : Fin 2 → ℕ) a + S128x256.size a ≤ S128x256.size a)
    (L : List (View.Piece (Elt Ideal) S128x256 .f32)) : IsMat f (View.canon (⟨Rect.unit (s := S128x256) ![0, 0] S128x256.size i1, w⟩ :: L)) := by
  intro a j
  have h := View.canon_cons_emb (Rect.unit (s := S128x256) ![0, 0] S128x256.size i1) w L (ix2 a j)
  have e : (Rect.unit (s := S128x256) ![0, 0] S128x256.size i1).emb (ix2 a j) = ix2 a j :=
    (emb_rows (H := 128) (h := 128) (w := 256) 0 i1 a j).trans (congrArg (fun r : Fin 128 => ix2 r j) (Fin.ext (Nat.zero_add _)))
  rw [e] at h
  exact h.trans (hw a j)

section

variable {D : Data} {t : ℕ} {x0 x1 : Vec Ideal S512x256 .bf16} {x2 : Vec Ideal S512x512 .bf16} {x3 : Vec Ideal S8x256 .f32}

/-- The state after chunk `c` of the point. -/
theorem chunk_st (B : Blk D t x0 x1 x2 x3) (arg2 : Memref sig .tc .vmem S512x256 .bf16) (harg2 : arg2.IsWhole)
    (arg3 : Memref sig .tc .vmem S512x512 .bf16) (harg3 : arg3.IsWhole) (arg4 : Memref sig .tc .vmem S8x256 .f32) (harg4 : arg4.IsWhole)
    (c o : ℕ) (ho : o = 64 * c) (i1 : ∀ a, (![o, 0] : Fin 2 → ℕ) a + S64x256.size a ≤ S512x256.size a)
    (i2 : ∀ a, (![o, 0] : Fin 2 → ℕ) a + S64x512.size a ≤ S512x512.size a) (i3 : ∀ a, (![c, 0] : Fin 2 → ℕ) a + S1x256.size a ≤ S8x256.size a)
    (S : Vec Ideal S128x256 .f32) (hS : IsMat (St D (8 * t + c)) S) :
    IsMat (St D (8 * t + c + 1)) (k0_pay4 (View.readAt (Elt Ideal) arg2.view (Rect.unit (s := S512x256) ![o, 0] S64x256.size i1).toLoadRect (harg2.unread x1))
      (View.readAt (Elt Ideal) arg3.view (Rect.unit (s := S512x512) ![o, 0] S64x512.size i2).toLoadRect (harg3.unread x2)) S
      (View.readAt (Elt Ideal) arg4.view (Rect.unit (s := S8x256) ![c, 0] S1x256.size i3).toLoadRect (harg4.unread x3))) :=
  st_next D (8 * t + c) _ _ _ _ ((load_rows_bf16 arg2 harg2 x1 D.k _ o B.k i1).at (by omega)) ((load_rows_bf16 arg3 harg3 x2 D.v _ o B.v i2).at (by omega))
    (load_rows arg4 harg4 x3 D.lam _ c B.l i3) hS

/-- The outputs of chunk `c` of the point. -/
theorem chunk_out (B : Blk D t x0 x1 x2 x3) (arg1 : Memref sig .tc .vmem S512x256 .bf16) (harg1 : arg1.IsWhole)
    (c o : ℕ) (ho : o = 64 * c) (i1 : ∀ a, (![o, 0] : Fin 2 → ℕ) a + S64x256.size a ≤ S512x256.size a)
    (S : FVec Ideal S128x256 .f32) (hS : IsMat (St D (8 * t + c + 1)) S) :
    IsRows (out D) (512 * t + o) (k0_pay2 (View.readAt (Elt Ideal) arg1.view (Rect.unit (s := S512x256) ![o, 0] S64x256.size i1).toLoadRect (harg1.unread x0)) S) :=
  (out_next D (8 * t + c) _ _ ((load_rows_bf16 arg1 harg1 x0 D.q _ o B.q i1).at (by omega)) hS).at (by omega)

end

end Cert.KernelIdeal.ScanFwd
end
-- ==== Proof.ScanFwd.ValueA.lean ====
module

public import proofs.«01_k».proof.Proof.ScanFwd.Chunk

/-! # What the forward scan writes at the first point, over the reals -/

@[expose] public section

set_option maxRecDepth 16384

noncomputable section

namespace Cert.KernelIdeal.ScanFwd

open Cert.KernelIdeal.Gen Cert.KernelIdeal.Scan Cert.Gla
open Idealize.ShloMosaic Idealize.ShloMosaic.TcCoe Idealize.ShloMosaic.Tactic

theorem st_A_0 (c : Dev nD) (arg7 : Memref sig .tc .vmem S128x256 .f32) (D : Data) : IsMat (St D 0) (kernelRun0_A.sl.v18 (F := Ideal) c arg7) := by
  unfold kernelRun0_A.sl.v18 kernelRun0_A.sl.HS0_1
  rw [View.readCov_cons_toLoadRect]
  intro a j
  unfold k0_pay3
  pointwise
  rfl

variable {c : Dev nD} {i : grid0.Coords} {arg1 : Memref sig .tc .vmem S512x256 .bf16} {harg1 : arg1.IsWhole} {arg2 : Memref sig .tc .vmem S512x256 .bf16} {harg2 : arg2.IsWhole} {arg3 : Memref sig .tc .vmem S512x512 .bf16} {harg3 : arg3.IsWhole} {arg4 : Memref sig .tc .vmem S8x256 .f32} {harg4 : arg4.IsWhole} {arg5 : Memref sig .tc .vmem S512x512 .f32} {harg5 : arg5.IsWhole} {arg6 : Memref sig .tc .vmem S8x128x256 .f32} {harg6 : arg6.IsWhole} {arg7 : Memref sig .tc .vmem S128x256 .f32} {harg7 : arg7.IsWhole}
  {hc0 : cond0_0 i} {x0 x1 : Vec Ideal S512x256 .bf16} {x2 : Vec Ideal S512x512 .bf16} {x3 : Vec Ideal S8x256 .f32}
  {D : Data} {t : ℕ} (B : Blk D t x0 x1 x2 x3) (ht : t = 0)

include B ht

theorem st_A_1 :
    IsMat (St D (8 * t + 1)) (kernelRun0_A.sl.v60 c arg2 harg2 arg3 harg3 arg4 harg4 arg7 x1 x2 x3) := by
  unfold kernelRun0_A.sl.v60 kernelRun0_A.sl.HS0_2
  rw [View.readCov_cons_toLoadRect]
  exact mat_cast _ _ (chunk_st B arg2 harg2 arg3 harg3 arg4 harg4 0 0 rfl inb_S512x256_S64x256_0_0 inb_S512x512_S64x512_0_0 inb_S8x256_S1x256_0_0 _ (by subst ht; exact st_A_0 c arg7 D)) _

theorem st_A_2 :
    IsMat (St D (8 * t + 2)) (kernelRun0_A.sl.v102 c arg2 harg2 arg3 harg3 arg4 harg4 arg7 x1 x2 x3) := by
  unfold kernelRun0_A.sl.v102 kernelRun0_A.sl.HS0_3
  rw [View.readCov_cons_toLoadRect]
  exact mat_cast _ _ (chunk_st B arg2 harg2 arg3 harg3 arg4 harg4 1 64 rfl inb_S512x256_S64x256_64_0 inb_S512x512_S64x512_64_0 inb_S8x256_S1x256_1_0 _ (st_A_1 B ht)) _

theorem st_A_3 :
    IsMat (St D (8 * t + 3)) (kernelRun0_A.sl.v144 c arg2 harg2 arg3 harg3 arg4 harg4 arg7 x1 x2 x3) := by
  unfold kernelRun0_A.sl.v144 kernelRun0_A.sl.HS0_4
  rw [View.readCov_cons_toLoadRect]
  exact mat_cast _ _ (chunk_st B arg2 harg2 arg3 harg3 arg4 harg4 2 128 rfl inb_S512x256_S64x256_128_0 inb_S512x512_S64x512_128_0 inb_S8x256_S1x256_2_0 _ (st_A_2 B ht)) _

theorem st_A_4 :
    IsMat (St D (8 * t + 4)) (kernelRun0_A.sl.v186 c arg2 harg2 arg3 harg3 arg4 harg4 arg7 x1 x2 x3) := by
  unfold kernelRun0_A.sl.v186 kernelRun0_A.sl.HS0_5
  rw [View.readCov_cons_toLoadRect]
  exact mat_cast _ _ (chunk_st B arg2 harg2 arg3 harg3 arg4 harg4 3 192 rfl inb_S512x256_S64x256_192_0 inb_S512x512_S64x512_192_0 inb_S8x256_S1x256_3_0 _ (st_A_3 B ht)) _

theorem st_A_5 :
    IsMat (St D (8 * t + 5)) (kernelRun0_A.sl.v228 c arg2 harg2 arg3 harg3 arg4 harg4 arg7 x1 x2 x3) := by
  unfold kernelRun0_A.sl.v228 kernelRun0_A.sl.HS0_6
  rw [View.readCov_cons_toLoadRect]
  exact mat_cast _ _ (chunk_st B arg2 harg2 arg3 harg3 arg4 harg4 4 256 rfl inb_S512x256_S64x256_256_0 inb_S512x512_S64x512_256_0 inb_S8x256_S1x256_4_0 _ (st_A_4 B ht)) _

theorem st_A_6 :
    IsMat (St D (8 * t + 6)) (kernelRun0_A.sl.v270 c arg2 harg2 arg3 harg3 arg4 harg4 arg7 x1 x2 x3) := by
  unfold kernelRun0_A.sl.v270 kernelRun0_A.sl.HS0_7
  rw [View.readCov_cons_toLoadRect]
  exact mat_cast _ _ (chunk_st B arg2 harg2 arg3 harg3 arg4 harg4 5 320 rfl inb_S512x256_S64x256_320_0 inb_S512x512_S64x512_320_0 inb_S8x256_S1x256_5_0 _ (st_A_5 B ht)) _

theorem st_A_7 :
    IsMat (St D (8 * t + 7)) (kernelRun0_A.sl.v312 c arg2 harg2 arg3 harg3 arg4 harg4 arg7 x1 x2 x3) := by
  unfold kernelRun0_A.sl.v312 kernelRun0_A.sl.HS0_8
  rw [View.readCov_cons_toLoadRect]
  exact mat_cast _ _ (chunk_st B arg2 harg2 arg3 harg3 arg4 harg4 6 384 rfl inb_S512x256_S64x256_384_0 inb_S512x512_S64x512_384_0 inb_S8x256_S1x256_6_0 _ (st_A_6 B ht)) _

theorem pieces_A_4 :
    View.PiecesOf (fun y : S512x512.Idx => (out D (512 * t + (y 0).val) (y 1).val : EReal)) (kernelRun0_A c i arg1 harg1 arg2 harg2 arg3 harg3 arg4 harg4 arg5 harg5 arg6 harg6 arg7 harg7 hc0 x0 x1 x2 x3).1 := by
  unfold kernelRun0_A
  refine ⟨?_, ?_, ?_, ?_, ?_, ?_, ?_, ?_, trivial⟩
  · exact piece_rows (out D) _ 448 _ (chunk_out B arg1 harg1 7 448 rfl inb_S512x256_S64x256_448_0 _ (chunk_st B arg2 harg2 arg3 harg3 arg4 harg4 7 448 rfl inb_S512x256_S64x256_448_0 inb_S512x512_S64x512_448_0 inb_S8x256_S1x256_7_0 _ (st_A_7 B ht))) inb_S512x512_S64x512_448_0
  · exact piece_rows (out D) _ 384 _ (chunk_out B arg1 harg1 6 384 rfl inb_S512x256_S64x256_384_0 _ (chunk_st B arg2 harg2 arg3 harg3 arg4 harg4 6 384 rfl inb_S512x256_S64x256_384_0 inb_S512x512_S64x512_384_0 inb_S8x256_S1x256_6_0 _ (st_A_6 B ht))) inb_S512x512_S64x512_384_0
  · exact piece_rows (out D) _ 320 _ (chunk_out B arg1 harg1 5 320 rfl inb_S512x256_S64x256_320_0 _ (chunk_st B arg2 harg2 arg3 harg3 arg4 harg4 5 320 rfl inb_S512x256_S64x256_320_0 inb_S512x512_S64x512_320_0 inb_S8x256_S1x256_5_0 _ (st_A_5 B ht))) inb_S512x512_S64x512_320_0
  · exact piece_rows (out D) _ 256 _ (chunk_out B arg1 harg1 4 256 rfl inb_S512x256_S64x256_256_0 _ (chunk_st B arg2 harg2 arg3 harg3 arg4 harg4 4 256 rfl inb_S512x256_S64x256_256_0 inb_S512x512_S64x512_256_0 inb_S8x256_S1x256_4_0 _ (st_A_4 B ht))) inb_S512x512_S64x512_256_0
  · exact piece_rows (out D) _ 192 _ (chunk_out B arg1 harg1 3 192 rfl inb_S512x256_S64x256_192_0 _ (chunk_st B arg2 harg2 arg3 harg3 arg4 harg4 3 192 rfl inb_S512x256_S64x256_192_0 inb_S512x512_S64x512_192_0 inb_S8x256_S1x256_3_0 _ (st_A_3 B ht))) inb_S512x512_S64x512_192_0
  · exact piece_rows (out D) _ 128 _ (chunk_out B arg1 harg1 2 128 rfl inb_S512x256_S64x256_128_0 _ (chunk_st B arg2 harg2 arg3 harg3 arg4 harg4 2 128 rfl inb_S512x256_S64x256_128_0 inb_S512x512_S64x512_128_0 inb_S8x256_S1x256_2_0 _ (st_A_2 B ht))) inb_S512x512_S64x512_128_0
  · exact piece_rows (out D) _ 64 _ (chunk_out B arg1 harg1 1 64 rfl inb_S512x256_S64x256_64_0 _ (chunk_st B arg2 harg2 arg3 harg3 arg4 harg4 1 64 rfl inb_S512x256_S64x256_64_0 inb_S512x512_S64x512_64_0 inb_S8x256_S1x256_1_0 _ (st_A_1 B ht))) inb_S512x512_S64x512_64_0
  · exact piece_rows (out D) _ 0 _ (chunk_out B arg1 harg1 0 0 rfl inb_S512x256_S64x256_0_0 _ (chunk_st B arg2 harg2 arg3 harg3 arg4 harg4 0 0 rfl inb_S512x256_S64x256_0_0 inb_S512x512_S64x512_0_0 inb_S8x256_S1x256_0_0 _ (by subst ht; exact st_A_0 c arg7 D))) inb_S512x512_S64x512_0_0

theorem pieces_A_5 :
    View.PiecesOf (fun y : S8x128x256.Idx => (St D (8 * t + (y 0).val + 1) (y 1).val (y 2).val : EReal)) (kernelRun0_A c i arg1 harg1 arg2 harg2 arg3 harg3 arg4 harg4 arg5 harg5 arg6 harg6 arg7 harg7 hc0 x0 x1 x2 x3).2.1 := by
  unfold kernelRun0_A
  refine ⟨?_, ?_, ?_, ?_, ?_, ?_, ?_, ?_, trivial⟩
  · exact piece_slabs (fun n => St D (n + 1)) _ 7 _ (slab_cast (fun n => St D (n + 1)) _ _ (chunk_st B arg2 harg2 arg3 harg3 arg4 harg4 7 448 rfl inb_S512x256_S64x256_448_0 inb_S512x512_S64x512_448_0 inb_S8x256_S1x256_7_0 _ (st_A_7 B ht)) shapeCasts_S128x256_S1x128x256) inb_S8x128x256_S1x128x256_7_0_0
  · exact piece_slabs (fun n => St D (n + 1)) _ 6 _ (slab_cast (fun n => St D (n + 1)) _ _ (chunk_st B arg2 harg2 arg3 harg3 arg4 harg4 6 384 rfl inb_S512x256_S64x256_384_0 inb_S512x512_S64x512_384_0 inb_S8x256_S1x256_6_0 _ (st_A_6 B ht)) shapeCasts_S128x256_S1x128x256) inb_S8x128x256_S1x128x256_6_0_0
  · exact piece_slabs (fun n => St D (n + 1)) _ 5 _ (slab_cast (fun n => St D (n + 1)) _ _ (chunk_st B arg2 harg2 arg3 harg3 arg4 harg4 5 320 rfl inb_S512x256_S64x256_320_0 inb_S512x512_S64x512_320_0 inb_S8x256_S1x256_5_0 _ (st_A_5 B ht)) shapeCasts_S128x256_S1x128x256) inb_S8x128x256_S1x128x256_5_0_0
  · exact piece_slabs (fun n => St D (n + 1)) _ 4 _ (slab_cast (fun n => St D (n + 1)) _ _ (chunk_st B arg2 harg2 arg3 harg3 arg4 harg4 4 256 rfl inb_S512x256_S64x256_256_0 inb_S512x512_S64x512_256_0 inb_S8x256_S1x256_4_0 _ (st_A_4 B ht)) shapeCasts_S128x256_S1x128x256) inb_S8x128x256_S1x128x256_4_0_0
  · exact piece_slabs (fun n => St D (n + 1)) _ 3 _ (slab_cast (fun n => St D (n + 1)) _ _ (chunk_st B arg2 harg2 arg3 harg3 arg4 harg4 3 192 rfl inb_S512x256_S64x256_192_0 inb_S512x512_S64x512_192_0 inb_S8x256_S1x256_3_0 _ (st_A_3 B ht)) shapeCasts_S128x256_S1x128x256) inb_S8x128x256_S1x128x256_3_0_0
  · exact piece_slabs (fun n => St D (n + 1)) _ 2 _ (slab_cast (fun n => St D (n + 1)) _ _ (chunk_st B arg2 harg2 arg3 harg3 arg4 harg4 2 128 rfl inb_S512x256_S64x256_128_0 inb_S512x512_S64x512_128_0 inb_S8x256_S1x256_2_0 _ (st_A_2 B ht)) shapeCasts_S128x256_S1x128x256) inb_S8x128x256_S1x128x256_2_0_0
  · exact piece_slabs (fun n => St D (n + 1)) _ 1 _ (slab_cast (fun n => St D (n + 1)) _ _ (chunk_st B arg2 harg2 arg3 harg3 arg4 harg4 1 64 rfl inb_S512x256_S64x256_64_0 inb_S512x512_S64x512_64_0 inb_S8x256_S1x256_1_0 _ (st_A_1 B ht)) shapeCasts_S128x256_S1x128x256) inb_S8x128x256_S1x128x256_1_0_0
  · exact piece_slabs (fun n => St D (n + 1)) _ 0 _ (slab_cast (fun n => St D (n + 1)) _ _ (chunk_st B arg2 harg2 arg3 harg3 arg4 harg4 0 0 rfl inb_S512x256_S64x256_0_0 inb_S512x512_S64x512_0_0 inb_S8x256_S1x256_0_0 _ (by subst ht; exact st_A_0 c arg7 D)) shapeCasts_S128x256_S1x128x256) inb_S8x128x256_S1x128x256_0_0_0

theorem scratch_A :
    IsMat (St D (8 * (t + 1))) (View.canon (kernelRun0_A c i arg1 harg1 arg2 harg2 arg3 harg3 arg4 harg4 arg5 harg5 arg6 harg6 arg7 harg7 hc0 x0 x1 x2 x3).2.2.1) := by
  exact canon_mat _ _ (mat_cast _ _ (chunk_st B arg2 harg2 arg3 harg3 arg4 harg4 7 448 rfl inb_S512x256_S64x256_448_0 inb_S512x512_S64x512_448_0 inb_S8x256_S1x256_7_0 _ (st_A_7 B ht)) _) _ _

end Cert.KernelIdeal.ScanFwd
end
-- ==== Proof.ScanFwd.ValueB.lean ====
module

public import proofs.«01_k».proof.Proof.ScanFwd.Chunk

/-! # What the forward scan writes at a later point, over the reals -/

@[expose] public section

set_option maxRecDepth 16384

noncomputable section

namespace Cert.KernelIdeal.ScanFwd

open Cert.KernelIdeal.Gen Cert.KernelIdeal.Scan Cert.Gla
open Idealize.ShloMosaic Idealize.ShloMosaic.TcCoe Idealize.ShloMosaic.Tactic

theorem st_B_0 (arg7 : Memref sig .tc .vmem S128x256 .f32) (harg7 : arg7.IsWhole) (xs0 : Vec Ideal S128x256 .f32) (D : Data) (t : ℕ) (hS : IsMat (St D (8 * t)) xs0) :
    IsMat (St D (8 * t)) (View.readAt (Elt Ideal) arg7.view (Rect.unit (s := S128x256) ![0, 0] S128x256.size inb_S128x256_S128x256_0_0).toLoadRect (harg7.unread xs0)) := by
  intro a j
  have h := load_rows arg7 harg7 xs0 (St D (8 * t)) 0 0 (fun r j => by rw [Nat.zero_add]; exact hS r j) inb_S128x256_S128x256_0_0 a j
  rw [Nat.add_zero, Nat.zero_add] at h
  exact h

variable {c : Dev nD} {i : grid0.Coords} {arg1 : Memref sig .tc .vmem S512x256 .bf16} {harg1 : arg1.IsWhole} {arg2 : Memref sig .tc .vmem S512x256 .bf16} {harg2 : arg2.IsWhole} {arg3 : Memref sig .tc .vmem S512x512 .bf16} {harg3 : arg3.IsWhole} {arg4 : Memref sig .tc .vmem S8x256 .f32} {harg4 : arg4.IsWhole} {arg5 : Memref sig .tc .vmem S512x512 .f32} {harg5 : arg5.IsWhole} {arg6 : Memref sig .tc .vmem S8x128x256 .f32} {harg6 : arg6.IsWhole} {arg7 : Memref sig .tc .vmem S128x256 .f32} {harg7 : arg7.IsWhole}
  {hc0 : ¬cond0_0 i} {x0 x1 : Vec Ideal S512x256 .bf16} {x2 : Vec Ideal S512x512 .bf16} {x3 : Vec Ideal S8x256 .f32} {xs0 : Vec Ideal S128x256 .f32}
  {D : Data} {t : ℕ} (B : Blk D t x0 x1 x2 x3) (hS : IsMat (St D (8 * t)) xs0)

include B hS

theorem st_B_1 :
    IsMat (St D (8 * t + 1)) (kernelRun0_B.sl.v60 c arg2 harg2 arg3 harg3 arg4 harg4 arg7 harg7 x1 x2 x3 xs0) := by
  unfold kernelRun0_B.sl.v60 kernelRun0_B.sl.HS0_1
  rw [View.readCov_cons_toLoadRect]
  exact mat_cast _ _ (chunk_st B arg2 harg2 arg3 harg3 arg4 harg4 0 0 rfl inb_S512x256_S64x256_0_0 inb_S512x512_S64x512_0_0 inb_S8x256_S1x256_0_0 (View.readAt (Elt Ideal) arg7.view (Rect.unit (s := S128x256) ![0, 0] S128x256.size inb_S128x256_S128x256_0_0).toLoadRect (harg7.unread xs0)) (st_B_0 arg7 harg7 xs0 D t hS)) _

theorem st_B_2 :
    IsMat (St D (8 * t + 2)) (kernelRun0_B.sl.v102 c arg2 harg2 arg3 harg3 arg4 harg4 arg7 harg7 x1 x2 x3 xs0) := by
  unfold kernelRun0_B.sl.v102 kernelRun0_B.sl.HS0_2
  rw [View.readCov_cons_toLoadRect]
  exact mat_cast _ _ (chunk_st B arg2 harg2 arg3 harg3 arg4 harg4 1 64 rfl inb_S512x256_S64x256_64_0 inb_S512x512_S64x512_64_0 inb_S8x256_S1x256_1_0 _ (st_B_1 B hS)) _

theorem st_B_3 :
    IsMat (St D (8 * t + 3)) (kernelRun0_B.sl.v144 c arg2 harg2 arg3 harg3 arg4 harg4 arg7 harg7 x1 x2 x3 xs0) := by
  unfold kernelRun0_B.sl.v144 kernelRun0_B.sl.HS0_3
  rw [View.readCov_cons_toLoadRect]
  exact mat_cast _ _ (chunk_st B arg2 harg2 arg3 harg3 arg4 harg4 2 128 rfl inb_S512x256_S64x256_128_0 inb_S512x512_S64x512_128_0 inb_S8x256_S1x256_2_0 _ (st_B_2 B hS)) _

theorem st_B_4 :
    IsMat (St D (8 * t + 4)) (kernelRun0_B.sl.v186 c arg2 harg2 arg3 harg3 arg4 harg4 arg7 harg7 x1 x2 x3 xs0) := by
  unfold kernelRun0_B.sl.v186 kernelRun0_B.sl.HS0_4
  rw [View.readCov_cons_toLoadRect]
  exact mat_cast _ _ (chunk_st B arg2 harg2 arg3 harg3 arg4 harg4 3 192 rfl inb_S512x256_S64x256_192_0 inb_S512x512_S64x512_192_0 inb_S8x256_S1x256_3_0 _ (st_B_3 B hS)) _

theorem st_B_5 :
    IsMat (St D (8 * t + 5)) (kernelRun0_B.sl.v228 c arg2 harg2 arg3 harg3 arg4 harg4 arg7 harg7 x1 x2 x3 xs0) := by
  unfold kernelRun0_B.sl.v228 kernelRun0_B.sl.HS0_5
  rw [View.readCov_cons_toLoadRect]
  exact mat_cast _ _ (chunk_st B arg2 harg2 arg3 harg3 arg4 harg4 4 256 rfl inb_S512x256_S64x256_256_0 inb_S512x512_S64x512_256_0 inb_S8x256_S1x256_4_0 _ (st_B_4 B hS)) _

theorem st_B_6 :
    IsMat (St D (8 * t + 6)) (kernelRun0_B.sl.v270 c arg2 harg2 arg3 harg3 arg4 harg4 arg7 harg7 x1 x2 x3 xs0) := by
  unfold kernelRun0_B.sl.v270 kernelRun0_B.sl.HS0_6
  rw [View.readCov_cons_toLoadRect]
  exact mat_cast _ _ (chunk_st B arg2 harg2 arg3 harg3 arg4 harg4 5 320 rfl inb_S512x256_S64x256_320_0 inb_S512x512_S64x512_320_0 inb_S8x256_S1x256_5_0 _ (st_B_5 B hS)) _

theorem st_B_7 :
    IsMat (St D (8 * t + 7)) (kernelRun0_B.sl.v312 c arg2 harg2 arg3 harg3 arg4 harg4 arg7 harg7 x1 x2 x3 xs0) := by
  unfold kernelRun0_B.sl.v312 kernelRun0_B.sl.HS0_7
  rw [View.readCov_cons_toLoadRect]
  exact mat_cast _ _ (chunk_st B arg2 harg2 arg3 harg3 arg4 harg4 6 384 rfl inb_S512x256_S64x256_384_0 inb_S512x512_S64x512_384_0 inb_S8x256_S1x256_6_0 _ (st_B_6 B hS)) _

theorem pieces_B_4 :
    View.PiecesOf (fun y : S512x512.Idx => (out D (512 * t + (y 0).val) (y 1).val : EReal)) (kernelRun0_B c i arg1 harg1 arg2 harg2 arg3 harg3 arg4 harg4 arg5 harg5 arg6 harg6 arg7 harg7 hc0 x0 x1 x2 x3 xs0).1 := by
  unfold kernelRun0_B
  refine ⟨?_, ?_, ?_, ?_, ?_, ?_, ?_, ?_, trivial⟩
  · exact piece_rows (out D) _ 448 _ (chunk_out B arg1 harg1 7 448 rfl inb_S512x256_S64x256_448_0 _ (chunk_st B arg2 harg2 arg3 harg3 arg4 harg4 7 448 rfl inb_S512x256_S64x256_448_0 inb_S512x512_S64x512_448_0 inb_S8x256_S1x256_7_0 _ (st_B_7 B hS))) inb_S512x512_S64x512_448_0
  · exact piece_rows (out D) _ 384 _ (chunk_out B arg1 harg1 6 384 rfl inb_S512x256_S64x256_384_0 _ (chunk_st B arg2 harg2 arg3 harg3 arg4 harg4 6 384 rfl inb_S512x256_S64x256_384_0 inb_S512x512_S64x512_384_0 inb_S8x256_S1x256_6_0 _ (st_B_6 B hS))) inb_S512x512_S64x512_384_0
  · exact piece_rows (out D) _ 320 _ (chunk_out B arg1 harg1 5 320 rfl inb_S512x256_S64x256_320_0 _ (chunk_st B arg2 harg2 arg3 harg3 arg4 harg4 5 320 rfl inb_S512x256_S64x256_320_0 inb_S512x512_S64x512_320_0 inb_S8x256_S1x256_5_0 _ (st_B_5 B hS))) inb_S512x512_S64x512_320_0
  · exact piece_rows (out D) _ 256 _ (chunk_out B arg1 harg1 4 256 rfl inb_S512x256_S64x256_256_0 _ (chunk_st B arg2 harg2 arg3 harg3 arg4 harg4 4 256 rfl inb_S512x256_S64x256_256_0 inb_S512x512_S64x512_256_0 inb_S8x256_S1x256_4_0 _ (st_B_4 B hS))) inb_S512x512_S64x512_256_0
  · exact piece_rows (out D) _ 192 _ (chunk_out B arg1 harg1 3 192 rfl inb_S512x256_S64x256_192_0 _ (chunk_st B arg2 harg2 arg3 harg3 arg4 harg4 3 192 rfl inb_S512x256_S64x256_192_0 inb_S512x512_S64x512_192_0 inb_S8x256_S1x256_3_0 _ (st_B_3 B hS))) inb_S512x512_S64x512_192_0
  · exact piece_rows (out D) _ 128 _ (chunk_out B arg1 harg1 2 128 rfl inb_S512x256_S64x256_128_0 _ (chunk_st B arg2 harg2 arg3 harg3 arg4 harg4 2 128 rfl inb_S512x256_S64x256_128_0 inb_S512x512_S64x512_128_0 inb_S8x256_S1x256_2_0 _ (st_B_2 B hS))) inb_S512x512_S64x512_128_0
  · exact piece_rows (out D) _ 64 _ (chunk_out B arg1 harg1 1 64 rfl inb_S512x256_S64x256_64_0 _ (chunk_st B arg2 harg2 arg3 harg3 arg4 harg4 1 64 rfl inb_S512x256_S64x256_64_0 inb_S512x512_S64x512_64_0 inb_S8x256_S1x256_1_0 _ (st_B_1 B hS))) inb_S512x512_S64x512_64_0
  · exact piece_rows (out D) _ 0 _ (chunk_out B arg1 harg1 0 0 rfl inb_S512x256_S64x256_0_0 _ (chunk_st B arg2 harg2 arg3 harg3 arg4 harg4 0 0 rfl inb_S512x256_S64x256_0_0 inb_S512x512_S64x512_0_0 inb_S8x256_S1x256_0_0 (View.readAt (Elt Ideal) arg7.view (Rect.unit (s := S128x256) ![0, 0] S128x256.size inb_S128x256_S128x256_0_0).toLoadRect (harg7.unread xs0)) (st_B_0 arg7 harg7 xs0 D t hS))) inb_S512x512_S64x512_0_0

theorem pieces_B_5 :
    View.PiecesOf (fun y : S8x128x256.Idx => (St D (8 * t + (y 0).val + 1) (y 1).val (y 2).val : EReal)) (kernelRun0_B c i arg1 harg1 arg2 harg2 arg3 harg3 arg4 harg4 arg5 harg5 arg6 harg6 arg7 harg7 hc0 x0 x1 x2 x3 xs0).2.1 := by
  unfold kernelRun0_B
  refine ⟨?_, ?_, ?_, ?_, ?_, ?_, ?_, ?_, trivial⟩
  · exact piece_slabs (fun n => St D (n + 1)) _ 7 _ (slab_cast (fun n => St D (n + 1)) _ _ (chunk_st B arg2 harg2 arg3 harg3 arg4 harg4 7 448 rfl inb_S512x256_S64x256_448_0 inb_S512x512_S64x512_448_0 inb_S8x256_S1x256_7_0 _ (st_B_7 B hS)) shapeCasts_S128x256_S1x128x256) inb_S8x128x256_S1x128x256_7_0_0
  · exact piece_slabs (fun n => St D (n + 1)) _ 6 _ (slab_cast (fun n => St D (n + 1)) _ _ (chunk_st B arg2 harg2 arg3 harg3 arg4 harg4 6 384 rfl inb_S512x256_S64x256_384_0 inb_S512x512_S64x512_384_0 inb_S8x256_S1x256_6_0 _ (st_B_6 B hS)) shapeCasts_S128x256_S1x128x256) inb_S8x128x256_S1x128x256_6_0_0
  · exact piece_slabs (fun n => St D (n + 1)) _ 5 _ (slab_cast (fun n => St D (n + 1)) _ _ (chunk_st B arg2 harg2 arg3 harg3 arg4 harg4 5 320 rfl inb_S512x256_S64x256_320_0 inb_S512x512_S64x512_320_0 inb_S8x256_S1x256_5_0 _ (st_B_5 B hS)) shapeCasts_S128x256_S1x128x256) inb_S8x128x256_S1x128x256_5_0_0
  · exact piece_slabs (fun n => St D (n + 1)) _ 4 _ (slab_cast (fun n => St D (n + 1)) _ _ (chunk_st B arg2 harg2 arg3 harg3 arg4 harg4 4 256 rfl inb_S512x256_S64x256_256_0 inb_S512x512_S64x512_256_0 inb_S8x256_S1x256_4_0 _ (st_B_4 B hS)) shapeCasts_S128x256_S1x128x256) inb_S8x128x256_S1x128x256_4_0_0
  · exact piece_slabs (fun n => St D (n + 1)) _ 3 _ (slab_cast (fun n => St D (n + 1)) _ _ (chunk_st B arg2 harg2 arg3 harg3 arg4 harg4 3 192 rfl inb_S512x256_S64x256_192_0 inb_S512x512_S64x512_192_0 inb_S8x256_S1x256_3_0 _ (st_B_3 B hS)) shapeCasts_S128x256_S1x128x256) inb_S8x128x256_S1x128x256_3_0_0
  · exact piece_slabs (fun n => St D (n + 1)) _ 2 _ (slab_cast (fun n => St D (n + 1)) _ _ (chunk_st B arg2 harg2 arg3 harg3 arg4 harg4 2 128 rfl inb_S512x256_S64x256_128_0 inb_S512x512_S64x512_128_0 inb_S8x256_S1x256_2_0 _ (st_B_2 B hS)) shapeCasts_S128x256_S1x128x256) inb_S8x128x256_S1x128x256_2_0_0
  · exact piece_slabs (fun n => St D (n + 1)) _ 1 _ (slab_cast (fun n => St D (n + 1)) _ _ (chunk_st B arg2 harg2 arg3 harg3 arg4 harg4 1 64 rfl inb_S512x256_S64x256_64_0 inb_S512x512_S64x512_64_0 inb_S8x256_S1x256_1_0 _ (st_B_1 B hS)) shapeCasts_S128x256_S1x128x256) inb_S8x128x256_S1x128x256_1_0_0
  · exact piece_slabs (fun n => St D (n + 1)) _ 0 _ (slab_cast (fun n => St D (n + 1)) _ _ (chunk_st B arg2 harg2 arg3 harg3 arg4 harg4 0 0 rfl inb_S512x256_S64x256_0_0 inb_S512x512_S64x512_0_0 inb_S8x256_S1x256_0_0 (View.readAt (Elt Ideal) arg7.view (Rect.unit (s := S128x256) ![0, 0] S128x256.size inb_S128x256_S128x256_0_0).toLoadRect (harg7.unread xs0)) (st_B_0 arg7 harg7 xs0 D t hS)) shapeCasts_S128x256_S1x128x256) inb_S8x128x256_S1x128x256_0_0_0

theorem scratch_B :
    IsMat (St D (8 * (t + 1))) (View.canon (kernelRun0_B c i arg1 harg1 arg2 harg2 arg3 harg3 arg4 harg4 arg5 harg5 arg6 harg6 arg7 harg7 hc0 x0 x1 x2 x3 xs0).2.2.1) := by
  exact canon_mat _ _ (mat_cast _ _ (chunk_st B arg2 harg2 arg3 harg3 arg4 harg4 7 448 rfl inb_S512x256_S64x256_448_0 inb_S512x512_S64x512_448_0 inb_S8x256_S1x256_7_0 _ (st_B_7 B hS)) _) _ _

end Cert.KernelIdeal.ScanFwd
end
-- ==== Proof.ScanFwd.Value.lean ====
module

public import proofs.«01_k».proof.Proof.ScanFwd.ValueA
public import proofs.«01_k».proof.Proof.ScanFwd.ValueB
public import Idealize.ShloMosaic.Lib.Pipeline.ValueKit

/-! # The forward scan's two results over the reals -/

@[expose] public section

set_option maxRecDepth 16384

noncomputable section

namespace Cert.KernelIdeal.ScanFwd

open Cert.KernelIdeal.Gen Cert.KernelIdeal.Scan Cert.Gla
open Idealize.ShloMosaic Idealize.ShloMosaic.TcCoe Idealize.ShloMosaic.Tactic

variable (V : (c : Dev nD) → (b : Ref sig .tc) → Buf (Elt Ideal) ((c : Thread nD τ).loc b))

/-- Where the windows' blocks lie. -/
theorem idx : ∀ t : Fin cfg0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 0, 0] := by decide +kernel

/-- The region's arguments hold the data. -/
structure Ins (D : Data) (c : Dev nD) : Prop where
  q : IsRows D.q 0 (V c (Pipeline.arrRef spec0 0) : Vec Ideal S8192x256 .bf16)
  k : IsRows D.k 0 (V c (Pipeline.arrRef spec0 1) : Vec Ideal S8192x256 .bf16)
  v : ∀ (i : Fin 8192) (j : Fin 512), (V c (Pipeline.arrRef spec0 2) : Vec Ideal S8192x1536 .bf16) (ix2 i ⟨512 + j.val, by omega⟩) = D.v i.val j.val
  l : IsRows D.lam 0 (V c (Pipeline.arrRef spec0 3) : Vec Ideal S128x256 .f32)

variable {V} {D : Data} {c : Dev nD}

theorem N_eq : cfg0.N = 16 := by decide

theorem blk (I : Ins V D c) (t : Fin cfg0.N) : Blk D t.val (iblk V c 0 t) (iblk V c 1 t) (iblk V c 2 t) (iblk V c 3 t) := by
  have ht : t.val < 16 := N_eq ▸ t.isLt
  refine ⟨fun r j => ?_, fun r j => ?_, fun r j => ?_, fun r j => ?_⟩
  · refine Eq.trans ?_ ((I.q ⟨512 * t.val + r.val, by omega⟩ j).trans (by rw [Nat.zero_add]))
    blk_ext [iblk, idx t]
  · refine Eq.trans ?_ ((I.k ⟨512 * t.val + r.val, by omega⟩ j).trans (by rw [Nat.zero_add]))
    blk_ext [iblk, idx t]
  · refine Eq.trans ?_ (I.v ⟨512 * t.val + r.val, by omega⟩ j)
    blk_ext [iblk, idx t]
  · refine Eq.trans ?_ ((I.l ⟨8 * t.val + r.val, by omega⟩ j).trans (by rw [Nat.zero_add]))
    blk_ext [iblk, idx t]

/-- What the blocks and the scratch hold after a point. -/
structure After (D : Data) (n : ℕ) (o : Vec Ideal S512x512 .f32 × Vec Ideal S8x128x256 .f32 × Vec Ideal S128x256 .f32) : Prop where
  out : o.1 = fun y : S512x512.Idx => (out D (512 * n + (y 0).val) (y 1).val : EReal)
  states : o.2.1 = fun y : S8x128x256.Idx => (St D (8 * n + (y 0).val + 1) (y 1).val (y 2).val : EReal)
  carry : IsMat (St D (8 * (n + 1))) o.2.2

/-- At the first point. -/
theorem atA_after (I : Ins V D c) (t : Fin cfg0.N) (ht : t.val = 0) (h) : After D t.val (atA V c t h) := by
  unfold atA outs0_A out0_A_4 out0_A_5 sout0_A_0
  simp only [View.read_writes_junk_eq_canon]
  constructor <;> dsimp only
  · exact canon_all _ _ (pieces_A_4 (blk I t) ht) fun _ => cover0_A_4 ..
  · exact canon_all _ _ (pieces_A_5 (blk I t) ht) fun _ => cover0_A_5 ..
  · exact scratch_A (blk I t) ht

/-- At a later point, from the scratch that the point before it left. -/
theorem atB_after (I : Ins V D c) (t : Fin cfg0.N) (S : Vec Ideal S128x256 .f32) (hS : IsMat (St D (8 * t.val)) S) (h) : After D t.val (atB V c t h S) := by
  unfold atB outs0_B out0_B_4 out0_B_5 sout0_B_0
  simp only [View.read_writes_junk_eq_canon]
  constructor <;> dsimp only
  · exact canon_all _ _ (pieces_B_4 (blk I t) hS) fun _ => cover0_B_4 ..
  · exact canon_all _ _ (pieces_B_5 (blk I t) hS) fun _ => cover0_B_5 ..
  · exact scratch_B (blk I t) hS

theorem outs (I : Ins V D c) (n : ℕ) : ∀ (t : Fin cfg0.N), t.val = n → After D t.val (outsAt0 V c t.val t.isLt) := by
  have hN : cfg0.N = 16 := N_eq
  induction n with
  | zero =>
    intro t h
    rw [outsAt0_A V c t (by omega)]
    exact atA_after I t h _
  | succ n ih =>
    intro t h
    have ht := t.isLt
    rw [outsAt0_B V c t (by omega)]
    have hS := (ih ⟨t.val - 1, by omega⟩ (by dsimp only; omega)).carry
    dsimp only at hS
    rw [Nat.sub_add_cancel (by omega)] at hS
    exact atB_after I t _ hS _

/-- The output array. -/
theorem out_arr (I : Ins V D c) :
    (dat V c).arrAt 4 cfg0.N = fun y : S8192x512.Idx => (out D (y 0).val (y 1).val : EReal) := by
  refine (dat V c).arrAt_eq_of_covers 4 _ (by decide +kernel) fun t hf y => ?_
  rw [after0_4, (outs I t.val t rfl).out]
  blk_simp [idx t, Pipeline.Window.xinj]
  dsimp only
  congr 1
  omega

/-- The states. -/
theorem states_arr (I : Ins V D c) :
    (dat V c).arrAt 5 cfg0.N = fun y : S128x128x256.Idx => (St D ((y 0).val + 1) (y 1).val (y 2).val : EReal) := by
  refine (dat V c).arrAt_eq_of_covers 5 _ (by decide +kernel) fun t hf y => ?_
  rw [after0_5, (outs I t.val t rfl).states]
  blk_simp [idx t, Pipeline.Window.xinj]
  dsimp only
  congr 1
  omega

end Cert.KernelIdeal.ScanFwd
end
-- ==== Proof.ScanBwd.Chunk.lean ====
module

public import proofs.«01_k».proof.Proof.ScanFwd.Chunk

/-! # One chunk of the backward scan, from the blocks that hold the arguments -/

@[expose] public section

set_option maxRecDepth 16384

noncomputable section

namespace Cert.KernelIdeal.ScanBwd

open Cert.KernelIdeal.Gen Cert.KernelIdeal.Scan Cert.Gla
open Idealize.ShloMosaic Idealize.ShloMosaic.TcCoe Idealize.ShloMosaic.Tactic

/-- The seven input blocks hold block `u`'s rows, decays and states, and the state before the block. -/
structure Blk (D : Data) (u : ℕ) (p : BitVec 32) (x0 : Vec Ideal S512x512 .f32) (x1 x2 : Vec Ideal S512x256 .bf16) (x3 : Vec Ideal S512x512 .bf16) (x4 : Vec Ideal S8x256 .f32) (x5 : Vec Ideal S8x128x256 .f32) (x6 : Vec Ideal S1x128x256 .f32) : Prop where
  d : IsRows D.d (512 * u) x0
  q : IsRows D.q (512 * u) x1
  k : IsRows D.k (512 * u) x2
  v : IsRows D.v (512 * u) x3
  l : IsRows D.lam (8 * u) x4
  s : IsSlabs (fun n => St D (n + 1)) (8 * u) x5
  p : p = BitVec.ofNat 32 (15 - u)
  le : u ≤ 15
  b : u ≠ 0 → IsSlabs (St D) (8 * u) x6

theorem ct_next (D : Data) (n : ℕ) (hn : n ≤ 127) (q : Vec Ideal S64x256 .bf16) (d : Vec Ideal S64x512 .f32) (S : Vec Ideal S128x256 .f32)
    (hq : IsRows D.q (64 * n) q) (hd : IsRows D.d (64 * n) d) (hS : IsMat (Ca D (127 - n)) S) :
    IsMat (Gs D (127 - n)) (k1_pay20 q d S) := by
  intro a j
  refine (ct_step q d S a j).trans ?_
  unfold Gs
  have e : 127 - (127 - n) = n := by omega
  rw [e, hS a j]
  refine congrArg _ (Finset.sum_congr rfl fun r _ => ?_)
  rw [hd, hq]

theorem carry_next (D : Data) (n : ℕ) (hn : n ≤ 127) (G : FVec Ideal S128x256 .f32) (l : Vec Ideal S1x256 .f32)
    (hG : IsMat (Gs D (127 - n)) G) (hl : IsRows D.lam n l) : IsMat (Ca D (127 - n + 1)) (k1_pay26 G l) := by
  intro a j
  refine (carry_step G l a j).trans ?_
  have e : 127 - (127 - n) = n := by omega
  rw [Ca_succ, e, hG a j, hl 0 j]
  rfl

theorem dq_next (D : Data) (n : ℕ) (d : Vec Ideal S64x512 .f32) (S : Vec Ideal S1x128x256 .f32)
    (hd : IsRows D.d (64 * n) d) (hS : IsSlabs (fun n => St D (n + 1)) n S) : IsRows (dq D) (64 * n) (k1_pay22 (k1_pay17 d) (k1_pay18 S)) := by
  intro r j
  refine (dq_step _ _ r j).trans ?_
  unfold dq
  have e : (64 * n + r.val) / 64 = n := by omega
  rw [e]
  refine Finset.sum_congr rfl fun a _ => ?_
  refine congrArg₂ (fun x y : EReal => x * y) (hd _ _) ?_
  unfold k1_pay18
  pointwise
  exact hS 0 a j

theorem dk_next (D : Data) (n : ℕ) (v : Vec Ideal S64x512 .bf16) (G : FVec Ideal S128x256 .f32)
    (hv : IsRows D.v (64 * n) v) (hG : IsMat (Gs D (127 - n)) G) : IsRows (dk D) (64 * n) (k1_pay23 v G) := by
  intro r j
  refine (dk_step v G r j).trans ?_
  unfold dk
  have e : (64 * n + r.val) / 64 = n := by omega
  rw [e]
  refine Finset.sum_congr rfl fun a _ => ?_
  rw [hv, hG]

theorem dv_next (D : Data) (n : ℕ) (k : Vec Ideal S64x256 .bf16) (G : FVec Ideal S128x256 .f32)
    (hk : IsRows D.k (64 * n) k) (hG : IsMat (Gs D (127 - n)) G) : IsRows (dv D) (64 * n) (k1_pay24 k G) := by
  intro r j
  refine (dv_step k G r j).trans ?_
  unfold dv
  have e : (64 * n + r.val) / 64 = n := by omega
  rw [e]
  refine Finset.sum_congr rfl fun x _ => ?_
  rw [hk, hG]

theorem dlam_next (D : Data) (n : ℕ) (B G : FVec Ideal S128x256 .f32)
    (hB : IsMat (St D n) B) (hG : IsMat (Gs D (127 - n)) G) : IsRows (dlam D) n (k1_pay25 B G) := by
  intro s j
  obtain rfl : s = 0 := Subsingleton.elim _ _
  refine (dlam_step B G j).trans ?_
  show _ = dlam D n j.val
  unfold dlam
  refine Finset.sum_congr rfl fun a _ => ?_
  rw [hB, hG]

/-- The state before the chunk, off the slab that holds it. -/
theorem slab_mat (f : ℕ → ℕ → ℕ → EReal) (n : ℕ) (X : Vec Ideal S1x128x256 .f32) (hX : IsSlabs f n X) : IsMat (f n) (k1_pay19 X) := by
  intro a j
  unfold k1_pay19
  pointwise
  exact hX 0 a j

theorem slt_table : ∀ n : Fin 16, Scalar.cmpi .slt (BitVec.ofNat 32 n.val) 15#32 = if n.val < 15 then 1#1 else 0#1 := by decide

/-- The state before the block's first chunk: the slab before the block, or zero in the first block. -/
theorem before_first (D : Data) (u : ℕ) (hu : u ≤ 15) (X : Vec Ideal S1x128x256 .f32) (hX : u ≠ 0 → IsSlabs (St D) (8 * u) X) :
    IsMat (St D (8 * u)) (k1_pay130 (BitVec.ofNat 32 (15 - u)) X) := by
  intro a j
  unfold k1_pay130
  have h := slt_table ⟨15 - u, by omega⟩
  dsimp only at h ⊢
  rw [h]
  by_cases h0 : u = 0
  · subst h0
    rw [if_neg (by omega)]
    exact Ideal.ofBits_zero_f32
  · rw [if_pos (by omega)]
    exact slab_mat (St D) (8 * u) X (hX h0) a j

section

variable {D : Data} {u : ℕ} {p : BitVec 32} {x0 : Vec Ideal S512x512 .f32} {x1 x2 : Vec Ideal S512x256 .bf16} {x3 : Vec Ideal S512x512 .bf16} {x4 : Vec Ideal S8x256 .f32} {x5 : Vec Ideal S8x128x256 .f32} {x6 : Vec Ideal S1x128x256 .f32}

theorem chunk_ct (B : Blk D u p x0 x1 x2 x3 x4 x5 x6) (arg1 : Memref sig .tc .vmem S512x512 .f32) (harg1 : arg1.IsWhole) (arg2 : Memref sig .tc .vmem S512x256 .bf16) (harg2 : arg2.IsWhole) (c o : ℕ) (ho : o = 64 * c) (hc : c ≤ 7)
    (i1 : ∀ a, (![o, 0] : Fin 2 → ℕ) a + S64x512.size a ≤ S512x512.size a) (i2 : ∀ a, (![o, 0] : Fin 2 → ℕ) a + S64x256.size a ≤ S512x256.size a) (S : Vec Ideal S128x256 .f32) (hS : IsMat (Ca D (127 - (8 * u + c))) S) :
    IsMat (Gs D (127 - (8 * u + c))) (k1_pay20 (View.readAt (Elt Ideal) arg2.view (Rect.unit (s := S512x256) ![o, 0] S64x256.size i2).toLoadRect (harg2.unread x1)) (View.readAt (Elt Ideal) arg1.view (Rect.unit (s := S512x512) ![o, 0] S64x512.size i1).toLoadRect (harg1.unread x0)) S) :=
  ct_next D (8 * u + c) (by have := B.le; omega) _ _ _ ((load_rows_bf16 arg2 harg2 x1 D.q _ o B.q i2).at (by omega)) ((load_rows arg1 harg1 x0 D.d _ o B.d i1).at (by omega)) hS

theorem chunk_carry (B : Blk D u p x0 x1 x2 x3 x4 x5 x6) (arg5 : Memref sig .tc .vmem S8x256 .f32) (harg5 : arg5.IsWhole) (c c' : ℕ) (hc : c = c' + 1) (hc7 : c ≤ 7)
    (i3 : ∀ a, (![c, 0] : Fin 2 → ℕ) a + S1x256.size a ≤ S8x256.size a) (G : FVec Ideal S128x256 .f32) (hG : IsMat (Gs D (127 - (8 * u + c))) G) :
    IsMat (Ca D (127 - (8 * u + c'))) (k1_pay26 G (View.readAt (Elt Ideal) arg5.view (Rect.unit (s := S8x256) ![c, 0] S1x256.size i3).toLoadRect (harg5.unread x4))) := by
  have h := carry_next D (8 * u + c) (by have := B.le; omega) G _ hG (load_rows arg5 harg5 x4 D.lam _ c B.l i3)
  have e : 127 - (8 * u + c) + 1 = 127 - (8 * u + c') := by have := B.le; omega
  rwa [e] at h

theorem chunk_last (B : Blk D u p x0 x1 x2 x3 x4 x5 x6) (arg5 : Memref sig .tc .vmem S8x256 .f32) (harg5 : arg5.IsWhole) (c : ℕ) (hc : c = 0)
    (i3 : ∀ a, (![c, 0] : Fin 2 → ℕ) a + S1x256.size a ≤ S8x256.size a) (G : FVec Ideal S128x256 .f32) (hG : IsMat (Gs D (127 - (8 * u + c))) G) :
    IsMat (Ca D (128 - 8 * u)) (k1_pay26 G (View.readAt (Elt Ideal) arg5.view (Rect.unit (s := S8x256) ![c, 0] S1x256.size i3).toLoadRect (harg5.unread x4))) := by
  have h := carry_next D (8 * u + c) (by have := B.le; omega) G _ hG (load_rows arg5 harg5 x4 D.lam _ c B.l i3)
  have e : 127 - (8 * u + c) + 1 = 128 - 8 * u := by have := B.le; omega
  rwa [e] at h

theorem chunk_dq (B : Blk D u p x0 x1 x2 x3 x4 x5 x6) (arg1 : Memref sig .tc .vmem S512x512 .f32) (harg1 : arg1.IsWhole) (arg6 : Memref sig .tc .vmem S8x128x256 .f32) (harg6 : arg6.IsWhole) (c o : ℕ) (ho : o = 64 * c) (hc : c ≤ 7)
    (i1 : ∀ a, (![o, 0] : Fin 2 → ℕ) a + S64x512.size a ≤ S512x512.size a) (i4 : ∀ a, (![c, 0, 0] : Fin 3 → ℕ) a + S1x128x256.size a ≤ S8x128x256.size a) :
    IsRows (dq D) (512 * u + o) (k1_pay22 (k1_pay17 (View.readAt (Elt Ideal) arg1.view (Rect.unit (s := S512x512) ![o, 0] S64x512.size i1).toLoadRect (harg1.unread x0))) (k1_pay18 (View.readAt (Elt Ideal) arg6.view (Rect.unit (s := S8x128x256) ![c, 0, 0] S1x128x256.size i4).toLoadRect (harg6.unread x5)))) :=
  (dq_next D (8 * u + c) _ _ ((load_rows arg1 harg1 x0 D.d _ o B.d i1).at (by omega)) (load_slabs arg6 harg6 x5 (fun n => St D (n + 1)) _ c B.s i4)).at (by omega)

theorem chunk_dk (B : Blk D u p x0 x1 x2 x3 x4 x5 x6) (arg4 : Memref sig .tc .vmem S512x512 .bf16) (harg4 : arg4.IsWhole) (c o : ℕ) (ho : o = 64 * c) (hc : c ≤ 7)
    (i1 : ∀ a, (![o, 0] : Fin 2 → ℕ) a + S64x512.size a ≤ S512x512.size a) (G : FVec Ideal S128x256 .f32) (hG : IsMat (Gs D (127 - (8 * u + c))) G) :
    IsRows (dk D) (512 * u + o) (k1_pay23 (View.readAt (Elt Ideal) arg4.view (Rect.unit (s := S512x512) ![o, 0] S64x512.size i1).toLoadRect (harg4.unread x3)) G) :=
  (dk_next D (8 * u + c) _ _ ((load_rows_bf16 arg4 harg4 x3 D.v _ o B.v i1).at (by omega)) hG).at (by omega)

theorem chunk_dv (B : Blk D u p x0 x1 x2 x3 x4 x5 x6) (arg3 : Memref sig .tc .vmem S512x256 .bf16) (harg3 : arg3.IsWhole) (c o : ℕ) (ho : o = 64 * c) (hc : c ≤ 7)
    (i2 : ∀ a, (![o, 0] : Fin 2 → ℕ) a + S64x256.size a ≤ S512x256.size a) (G : FVec Ideal S128x256 .f32) (hG : IsMat (Gs D (127 - (8 * u + c))) G) :
    IsRows (dv D) (512 * u + o) (k1_pay24 (View.readAt (Elt Ideal) arg3.view (Rect.unit (s := S512x256) ![o, 0] S64x256.size i2).toLoadRect (harg3.unread x2)) G) :=
  (dv_next D (8 * u + c) _ _ ((load_rows_bf16 arg3 harg3 x2 D.k _ o B.k i2).at (by omega)) hG).at (by omega)

theorem chunk_dlam (B : Blk D u p x0 x1 x2 x3 x4 x5 x6) (arg6 : Memref sig .tc .vmem S8x128x256 .f32) (harg6 : arg6.IsWhole) (c c' : ℕ) (hc : c' = c + 1)
    (i4 : ∀ a, (![c, 0, 0] : Fin 3 → ℕ) a + S1x128x256.size a ≤ S8x128x256.size a) (G : FVec Ideal S128x256 .f32) (hG : IsMat (Gs D (127 - (8 * u + c'))) G) :
    IsRows (dlam D) (8 * u + c') (k1_pay25 (k1_pay19 (View.readAt (Elt Ideal) arg6.view (Rect.unit (s := S8x128x256) ![c, 0, 0] S1x128x256.size i4).toLoadRect (harg6.unread x5))) G) :=
  dlam_next D (8 * u + c') _ _ (by
    subst hc
    exact slab_mat (fun n => St D (n + 1)) _ _ (load_slabs arg6 harg6 x5 (fun n => St D (n + 1)) _ c B.s i4)) hG

theorem chunk_dlam_first (B : Blk D u p x0 x1 x2 x3 x4 x5 x6) (arg7 : Memref sig .tc .vmem S1x128x256 .f32) (harg7 : arg7.IsWhole) (c : ℕ) (hc : c = 0) (i5 : ∀ a, (![0, 0, 0] : Fin 3 → ℕ) a + S1x128x256.size a ≤ S1x128x256.size a)
    (G : FVec Ideal S128x256 .f32) (hG : IsMat (Gs D (127 - (8 * u + c))) G) :
    IsRows (dlam D) (8 * u + c) (k1_pay25 (k1_pay130 p (View.readAt (Elt Ideal) arg7.view (Rect.unit (s := S1x128x256) ![0, 0, 0] S1x128x256.size i5).toLoadRect (harg7.unread x6))) G) :=
  dlam_next D (8 * u + c) _ _ (by
    subst hc
    rw [B.p]
    exact before_first D u B.le _ fun h => load_slabs arg7 harg7 x6 (St D) _ 0 (B.b h) i5) hG

end

end Cert.KernelIdeal.ScanBwd
end
-- ==== Proof.ScanBwd.ValueA.lean ====
module

public import proofs.«01_k».proof.Proof.ScanBwd.Chunk

/-! # What the backward scan writes at the first point, over the reals -/

@[expose] public section

set_option maxRecDepth 16384

noncomputable section

namespace Cert.KernelIdeal.ScanBwd

open Cert.KernelIdeal.Gen Cert.KernelIdeal.Scan Cert.Gla
open Idealize.ShloMosaic Idealize.ShloMosaic.TcCoe Idealize.ShloMosaic.Tactic

theorem ca_A_7 (c : Dev nD) (arg12 : Memref sig .tc .vmem S128x256 .f32) (D : Data) (u : ℕ) (hu : u = 15) :
    IsMat (Ca D (127 - (8 * u + 7))) (kernelRun0_A.sl.v25 (F := Ideal) c arg12) := by
  subst hu
  unfold kernelRun0_A.sl.v25 kernelRun0_A.sl.HS0_1
  rw [View.readCov_cons_toLoadRect]
  intro a j
  unfold k1_pay3
  pointwise
  rfl

variable {c : Dev nD} {i : grid1.Coords} {arg1 : Memref sig .tc .vmem S512x512 .f32} {harg1 : arg1.IsWhole} {arg2 : Memref sig .tc .vmem S512x256 .bf16} {harg2 : arg2.IsWhole} {arg3 : Memref sig .tc .vmem S512x256 .bf16} {harg3 : arg3.IsWhole} {arg4 : Memref sig .tc .vmem S512x512 .bf16} {harg4 : arg4.IsWhole} {arg5 : Memref sig .tc .vmem S8x256 .f32} {harg5 : arg5.IsWhole} {arg6 : Memref sig .tc .vmem S8x128x256 .f32} {harg6 : arg6.IsWhole} {arg7 : Memref sig .tc .vmem S1x128x256 .f32} {harg7 : arg7.IsWhole} {arg8 : Memref sig .tc .vmem S512x256 .f32} {harg8 : arg8.IsWhole} {arg9 : Memref sig .tc .vmem S512x256 .f32} {harg9 : arg9.IsWhole} {arg10 : Memref sig .tc .vmem S512x512 .f32} {harg10 : arg10.IsWhole} {arg11 : Memref sig .tc .vmem S8x256 .f32} {harg11 : arg11.IsWhole} {arg12 : Memref sig .tc .vmem S128x256 .f32} {harg12 : arg12.IsWhole}
  {hc0 : cond0_0 i} {x0 : Vec Ideal S512x512 .f32} {x1 x2 : Vec Ideal S512x256 .bf16} {x3 : Vec Ideal S512x512 .bf16} {x4 : Vec Ideal S8x256 .f32} {x5 : Vec Ideal S8x128x256 .f32} {x6 : Vec Ideal S1x128x256 .f32}
  {D : Data} {u : ℕ} (B : Blk D u (BitVec.ofNat 32 (i 0).val) x0 x1 x2 x3 x4 x5 x6) (hu : u = 15)

include B hu

theorem ca_A_6 :
    IsMat (Ca D (127 - (8 * u + 6))) (kernelRun0_A.sl.v103 c arg1 harg1 arg2 harg2 arg5 harg5 arg12 x0 x1 x4) := by
  unfold kernelRun0_A.sl.v103 kernelRun0_A.sl.HS0_2
  rw [View.readCov_cons_toLoadRect]
  exact chunk_carry B arg5 harg5 7 6 rfl (by omega) inb_S8x256_S1x256_7_0 _ (chunk_ct B arg1 harg1 arg2 harg2 7 448 rfl (by omega) inb_S512x512_S64x512_448_0 inb_S512x256_S64x256_448_0 _ (ca_A_7 c arg12 D u hu))

theorem ca_A_5 :
    IsMat (Ca D (127 - (8 * u + 5))) (kernelRun0_A.sl.v181 c arg1 harg1 arg2 harg2 arg5 harg5 arg12 x0 x1 x4) := by
  unfold kernelRun0_A.sl.v181 kernelRun0_A.sl.HS0_3
  rw [View.readCov_cons_toLoadRect]
  exact chunk_carry B arg5 harg5 6 5 rfl (by omega) inb_S8x256_S1x256_6_0 _ (chunk_ct B arg1 harg1 arg2 harg2 6 384 rfl (by omega) inb_S512x512_S64x512_384_0 inb_S512x256_S64x256_384_0 _ (ca_A_6 B hu))

theorem ca_A_4 :
    IsMat (Ca D (127 - (8 * u + 4))) (kernelRun0_A.sl.v259 c arg1 harg1 arg2 harg2 arg5 harg5 arg12 x0 x1 x4) := by
  unfold kernelRun0_A.sl.v259 kernelRun0_A.sl.HS0_4
  rw [View.readCov_cons_toLoadRect]
  exact chunk_carry B arg5 harg5 5 4 rfl (by omega) inb_S8x256_S1x256_5_0 _ (chunk_ct B arg1 harg1 arg2 harg2 5 320 rfl (by omega) inb_S512x512_S64x512_320_0 inb_S512x256_S64x256_320_0 _ (ca_A_5 B hu))

theorem ca_A_3 :
    IsMat (Ca D (127 - (8 * u + 3))) (kernelRun0_A.sl.v337 c arg1 harg1 arg2 harg2 arg5 harg5 arg12 x0 x1 x4) := by
  unfold kernelRun0_A.sl.v337 kernelRun0_A.sl.HS0_5
  rw [View.readCov_cons_toLoadRect]
  exact chunk_carry B arg5 harg5 4 3 rfl (by omega) inb_S8x256_S1x256_4_0 _ (chunk_ct B arg1 harg1 arg2 harg2 4 256 rfl (by omega) inb_S512x512_S64x512_256_0 inb_S512x256_S64x256_256_0 _ (ca_A_4 B hu))

theorem ca_A_2 :
    IsMat (Ca D (127 - (8 * u + 2))) (kernelRun0_A.sl.v415 c arg1 harg1 arg2 harg2 arg5 harg5 arg12 x0 x1 x4) := by
  unfold kernelRun0_A.sl.v415 kernelRun0_A.sl.HS0_6
  rw [View.readCov_cons_toLoadRect]
  exact chunk_carry B arg5 harg5 3 2 rfl (by omega) inb_S8x256_S1x256_3_0 _ (chunk_ct B arg1 harg1 arg2 harg2 3 192 rfl (by omega) inb_S512x512_S64x512_192_0 inb_S512x256_S64x256_192_0 _ (ca_A_3 B hu))

theorem ca_A_1 :
    IsMat (Ca D (127 - (8 * u + 1))) (kernelRun0_A.sl.v493 c arg1 harg1 arg2 harg2 arg5 harg5 arg12 x0 x1 x4) := by
  unfold kernelRun0_A.sl.v493 kernelRun0_A.sl.HS0_7
  rw [View.readCov_cons_toLoadRect]
  exact chunk_carry B arg5 harg5 2 1 rfl (by omega) inb_S8x256_S1x256_2_0 _ (chunk_ct B arg1 harg1 arg2 harg2 2 128 rfl (by omega) inb_S512x512_S64x512_128_0 inb_S512x256_S64x256_128_0 _ (ca_A_2 B hu))

theorem ca_A_0 :
    IsMat (Ca D (127 - (8 * u + 0))) (kernelRun0_A.sl.v574 c arg1 harg1 arg2 harg2 arg5 harg5 arg12 x0 x1 x4) := by
  unfold kernelRun0_A.sl.v574 kernelRun0_A.sl.HS0_8
  rw [View.readCov_cons_toLoadRect]
  exact chunk_carry B arg5 harg5 1 0 rfl (by omega) inb_S8x256_S1x256_1_0 _ (chunk_ct B arg1 harg1 arg2 harg2 1 64 rfl (by omega) inb_S512x512_S64x512_64_0 inb_S512x256_S64x256_64_0 _ (ca_A_1 B hu))

theorem pieces_A_7 :
    View.PiecesOf (fun y : S512x256.Idx => (dq D (512 * u + (y 0).val) (y 1).val : EReal)) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 := by
  unfold kernelRun0_A
  refine ⟨?_, ?_, ?_, ?_, ?_, ?_, ?_, ?_, trivial⟩
  · exact piece_rows (dq D) _ 0 _ (chunk_dq B arg1 harg1 arg6 harg6 0 0 rfl (by omega) inb_S512x512_S64x512_0_0 inb_S8x128x256_S1x128x256_0_0_0) inb_S512x256_S64x256_0_0
  · exact piece_rows (dq D) _ 64 _ (chunk_dq B arg1 harg1 arg6 harg6 1 64 rfl (by omega) inb_S512x512_S64x512_64_0 inb_S8x128x256_S1x128x256_1_0_0) inb_S512x256_S64x256_64_0
  · exact piece_rows (dq D) _ 128 _ (chunk_dq B arg1 harg1 arg6 harg6 2 128 rfl (by omega) inb_S512x512_S64x512_128_0 inb_S8x128x256_S1x128x256_2_0_0) inb_S512x256_S64x256_128_0
  · exact piece_rows (dq D) _ 192 _ (chunk_dq B arg1 harg1 arg6 harg6 3 192 rfl (by omega) inb_S512x512_S64x512_192_0 inb_S8x128x256_S1x128x256_3_0_0) inb_S512x256_S64x256_192_0
  · exact piece_rows (dq D) _ 256 _ (chunk_dq B arg1 harg1 arg6 harg6 4 256 rfl (by omega) inb_S512x512_S64x512_256_0 inb_S8x128x256_S1x128x256_4_0_0) inb_S512x256_S64x256_256_0
  · exact piece_rows (dq D) _ 320 _ (chunk_dq B arg1 harg1 arg6 harg6 5 320 rfl (by omega) inb_S512x512_S64x512_320_0 inb_S8x128x256_S1x128x256_5_0_0) inb_S512x256_S64x256_320_0
  · exact piece_rows (dq D) _ 384 _ (chunk_dq B arg1 harg1 arg6 harg6 6 384 rfl (by omega) inb_S512x512_S64x512_384_0 inb_S8x128x256_S1x128x256_6_0_0) inb_S512x256_S64x256_384_0
  · exact piece_rows (dq D) _ 448 _ (chunk_dq B arg1 harg1 arg6 harg6 7 448 rfl (by omega) inb_S512x512_S64x512_448_0 inb_S8x128x256_S1x128x256_7_0_0) inb_S512x256_S64x256_448_0

theorem pieces_A_8 :
    View.PiecesOf (fun y : S512x256.Idx => (dk D (512 * u + (y 0).val) (y 1).val : EReal)) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 := by
  unfold kernelRun0_A
  refine ⟨?_, ?_, ?_, ?_, ?_, ?_, ?_, ?_, trivial⟩
  · exact piece_rows (dk D) _ 0 _ (chunk_dk B arg4 harg4 0 0 rfl (by omega) inb_S512x512_S64x512_0_0 _ (chunk_ct B arg1 harg1 arg2 harg2 0 0 rfl (by omega) inb_S512x512_S64x512_0_0 inb_S512x256_S64x256_0_0 _ (ca_A_0 B hu))) inb_S512x256_S64x256_0_0
  · exact piece_rows (dk D) _ 64 _ (chunk_dk B arg4 harg4 1 64 rfl (by omega) inb_S512x512_S64x512_64_0 _ (chunk_ct B arg1 harg1 arg2 harg2 1 64 rfl (by omega) inb_S512x512_S64x512_64_0 inb_S512x256_S64x256_64_0 _ (ca_A_1 B hu))) inb_S512x256_S64x256_64_0
  · exact piece_rows (dk D) _ 128 _ (chunk_dk B arg4 harg4 2 128 rfl (by omega) inb_S512x512_S64x512_128_0 _ (chunk_ct B arg1 harg1 arg2 harg2 2 128 rfl (by omega) inb_S512x512_S64x512_128_0 inb_S512x256_S64x256_128_0 _ (ca_A_2 B hu))) inb_S512x256_S64x256_128_0
  · exact piece_rows (dk D) _ 192 _ (chunk_dk B arg4 harg4 3 192 rfl (by omega) inb_S512x512_S64x512_192_0 _ (chunk_ct B arg1 harg1 arg2 harg2 3 192 rfl (by omega) inb_S512x512_S64x512_192_0 inb_S512x256_S64x256_192_0 _ (ca_A_3 B hu))) inb_S512x256_S64x256_192_0
  · exact piece_rows (dk D) _ 256 _ (chunk_dk B arg4 harg4 4 256 rfl (by omega) inb_S512x512_S64x512_256_0 _ (chunk_ct B arg1 harg1 arg2 harg2 4 256 rfl (by omega) inb_S512x512_S64x512_256_0 inb_S512x256_S64x256_256_0 _ (ca_A_4 B hu))) inb_S512x256_S64x256_256_0
  · exact piece_rows (dk D) _ 320 _ (chunk_dk B arg4 harg4 5 320 rfl (by omega) inb_S512x512_S64x512_320_0 _ (chunk_ct B arg1 harg1 arg2 harg2 5 320 rfl (by omega) inb_S512x512_S64x512_320_0 inb_S512x256_S64x256_320_0 _ (ca_A_5 B hu))) inb_S512x256_S64x256_320_0
  · exact piece_rows (dk D) _ 384 _ (chunk_dk B arg4 harg4 6 384 rfl (by omega) inb_S512x512_S64x512_384_0 _ (chunk_ct B arg1 harg1 arg2 harg2 6 384 rfl (by omega) inb_S512x512_S64x512_384_0 inb_S512x256_S64x256_384_0 _ (ca_A_6 B hu))) inb_S512x256_S64x256_384_0
  · exact piece_rows (dk D) _ 448 _ (chunk_dk B arg4 harg4 7 448 rfl (by omega) inb_S512x512_S64x512_448_0 _ (chunk_ct B arg1 harg1 arg2 harg2 7 448 rfl (by omega) inb_S512x512_S64x512_448_0 inb_S512x256_S64x256_448_0 _ (ca_A_7 c arg12 D u hu))) inb_S512x256_S64x256_448_0

theorem pieces_A_9 :
    View.PiecesOf (fun y : S512x512.Idx => (dv D (512 * u + (y 0).val) (y 1).val : EReal)) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 := by
  unfold kernelRun0_A
  refine ⟨?_, ?_, ?_, ?_, ?_, ?_, ?_, ?_, trivial⟩
  · exact piece_rows (dv D) _ 0 _ (chunk_dv B arg3 harg3 0 0 rfl (by omega) inb_S512x256_S64x256_0_0 _ (chunk_ct B arg1 harg1 arg2 harg2 0 0 rfl (by omega) inb_S512x512_S64x512_0_0 inb_S512x256_S64x256_0_0 _ (ca_A_0 B hu))) inb_S512x512_S64x512_0_0
  · exact piece_rows (dv D) _ 64 _ (chunk_dv B arg3 harg3 1 64 rfl (by omega) inb_S512x256_S64x256_64_0 _ (chunk_ct B arg1 harg1 arg2 harg2 1 64 rfl (by omega) inb_S512x512_S64x512_64_0 inb_S512x256_S64x256_64_0 _ (ca_A_1 B hu))) inb_S512x512_S64x512_64_0
  · exact piece_rows (dv D) _ 128 _ (chunk_dv B arg3 harg3 2 128 rfl (by omega) inb_S512x256_S64x256_128_0 _ (chunk_ct B arg1 harg1 arg2 harg2 2 128 rfl (by omega) inb_S512x512_S64x512_128_0 inb_S512x256_S64x256_128_0 _ (ca_A_2 B hu))) inb_S512x512_S64x512_128_0
  · exact piece_rows (dv D) _ 192 _ (chunk_dv B arg3 harg3 3 192 rfl (by omega) inb_S512x256_S64x256_192_0 _ (chunk_ct B arg1 harg1 arg2 harg2 3 192 rfl (by omega) inb_S512x512_S64x512_192_0 inb_S512x256_S64x256_192_0 _ (ca_A_3 B hu))) inb_S512x512_S64x512_192_0
  · exact piece_rows (dv D) _ 256 _ (chunk_dv B arg3 harg3 4 256 rfl (by omega) inb_S512x256_S64x256_256_0 _ (chunk_ct B arg1 harg1 arg2 harg2 4 256 rfl (by omega) inb_S512x512_S64x512_256_0 inb_S512x256_S64x256_256_0 _ (ca_A_4 B hu))) inb_S512x512_S64x512_256_0
  · exact piece_rows (dv D) _ 320 _ (chunk_dv B arg3 harg3 5 320 rfl (by omega) inb_S512x256_S64x256_320_0 _ (chunk_ct B arg1 harg1 arg2 harg2 5 320 rfl (by omega) inb_S512x512_S64x512_320_0 inb_S512x256_S64x256_320_0 _ (ca_A_5 B hu))) inb_S512x512_S64x512_320_0
  · exact piece_rows (dv D) _ 384 _ (chunk_dv B arg3 harg3 6 384 rfl (by omega) inb_S512x256_S64x256_384_0 _ (chunk_ct B arg1 harg1 arg2 harg2 6 384 rfl (by omega) inb_S512x512_S64x512_384_0 inb_S512x256_S64x256_384_0 _ (ca_A_6 B hu))) inb_S512x512_S64x512_384_0
  · exact piece_rows (dv D) _ 448 _ (chunk_dv B arg3 harg3 7 448 rfl (by omega) inb_S512x256_S64x256_448_0 _ (chunk_ct B arg1 harg1 arg2 harg2 7 448 rfl (by omega) inb_S512x512_S64x512_448_0 inb_S512x256_S64x256_448_0 _ (ca_A_7 c arg12 D u hu))) inb_S512x512_S64x512_448_0

theorem pieces_A_10 :
    View.PiecesOf (fun y : S8x256.Idx => (dlam D (8 * u + (y 0).val) (y 1).val : EReal)) (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 := by
  unfold kernelRun0_A
  refine ⟨?_, ?_, ?_, ?_, ?_, ?_, ?_, ?_, trivial⟩
  · exact piece_rows (dlam D) _ 0 _ (chunk_dlam_first B arg7 harg7 0 rfl inb_S1x128x256_S1x128x256_0_0_0 _ (chunk_ct B arg1 harg1 arg2 harg2 0 0 rfl (by omega) inb_S512x512_S64x512_0_0 inb_S512x256_S64x256_0_0 _ (ca_A_0 B hu))) inb_S8x256_S1x256_0_0
  · exact piece_rows (dlam D) _ 1 _ (chunk_dlam B arg6 harg6 0 1 rfl inb_S8x128x256_S1x128x256_0_0_0 _ (chunk_ct B arg1 harg1 arg2 harg2 1 64 rfl (by omega) inb_S512x512_S64x512_64_0 inb_S512x256_S64x256_64_0 _ (ca_A_1 B hu))) inb_S8x256_S1x256_1_0
  · exact piece_rows (dlam D) _ 2 _ (chunk_dlam B arg6 harg6 1 2 rfl inb_S8x128x256_S1x128x256_1_0_0 _ (chunk_ct B arg1 harg1 arg2 harg2 2 128 rfl (by omega) inb_S512x512_S64x512_128_0 inb_S512x256_S64x256_128_0 _ (ca_A_2 B hu))) inb_S8x256_S1x256_2_0
  · exact piece_rows (dlam D) _ 3 _ (chunk_dlam B arg6 harg6 2 3 rfl inb_S8x128x256_S1x128x256_2_0_0 _ (chunk_ct B arg1 harg1 arg2 harg2 3 192 rfl (by omega) inb_S512x512_S64x512_192_0 inb_S512x256_S64x256_192_0 _ (ca_A_3 B hu))) inb_S8x256_S1x256_3_0
  · exact piece_rows (dlam D) _ 4 _ (chunk_dlam B arg6 harg6 3 4 rfl inb_S8x128x256_S1x128x256_3_0_0 _ (chunk_ct B arg1 harg1 arg2 harg2 4 256 rfl (by omega) inb_S512x512_S64x512_256_0 inb_S512x256_S64x256_256_0 _ (ca_A_4 B hu))) inb_S8x256_S1x256_4_0
  · exact piece_rows (dlam D) _ 5 _ (chunk_dlam B arg6 harg6 4 5 rfl inb_S8x128x256_S1x128x256_4_0_0 _ (chunk_ct B arg1 harg1 arg2 harg2 5 320 rfl (by omega) inb_S512x512_S64x512_320_0 inb_S512x256_S64x256_320_0 _ (ca_A_5 B hu))) inb_S8x256_S1x256_5_0
  · exact piece_rows (dlam D) _ 6 _ (chunk_dlam B arg6 harg6 5 6 rfl inb_S8x128x256_S1x128x256_5_0_0 _ (chunk_ct B arg1 harg1 arg2 harg2 6 384 rfl (by omega) inb_S512x512_S64x512_384_0 inb_S512x256_S64x256_384_0 _ (ca_A_6 B hu))) inb_S8x256_S1x256_6_0
  · exact piece_rows (dlam D) _ 7 _ (chunk_dlam B arg6 harg6 6 7 rfl inb_S8x128x256_S1x128x256_6_0_0 _ (chunk_ct B arg1 harg1 arg2 harg2 7 448 rfl (by omega) inb_S512x512_S64x512_448_0 inb_S512x256_S64x256_448_0 _ (ca_A_7 c arg12 D u hu))) inb_S8x256_S1x256_7_0

theorem scratch_A :
    IsMat (Ca D (128 - 8 * u)) (View.canon (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1) := by
  exact ScanFwd.canon_mat _ _ (chunk_last B arg5 harg5 0 rfl inb_S8x256_S1x256_0_0 _ (chunk_ct B arg1 harg1 arg2 harg2 0 0 rfl (by omega) inb_S512x512_S64x512_0_0 inb_S512x256_S64x256_0_0 _ (ca_A_0 B hu))) _ _

end Cert.KernelIdeal.ScanBwd
end
-- ==== Proof.ScanBwd.ValueB.lean ====
module

public import proofs.«01_k».proof.Proof.ScanBwd.Chunk

/-! # What the backward scan writes at a later point, over the reals -/

@[expose] public section

set_option maxRecDepth 16384

noncomputable section

namespace Cert.KernelIdeal.ScanBwd

open Cert.KernelIdeal.Gen Cert.KernelIdeal.Scan Cert.Gla
open Idealize.ShloMosaic Idealize.ShloMosaic.TcCoe Idealize.ShloMosaic.Tactic

theorem ca_B_7 (arg12 : Memref sig .tc .vmem S128x256 .f32) (harg12 : arg12.IsWhole) (xs0 : Vec Ideal S128x256 .f32) (D : Data) (u : ℕ) (hu : u ≤ 15)
    (hS : IsMat (Ca D (120 - 8 * u)) xs0) : IsMat (Ca D (127 - (8 * u + 7))) (View.readAt (Elt Ideal) arg12.view (Rect.unit (s := S128x256) ![0, 0] S128x256.size inb_S128x256_S128x256_0_0).toLoadRect (harg12.unread xs0)) := by
  intro a j
  have h := load_rows arg12 harg12 xs0 (Ca D (120 - 8 * u)) 0 0 (fun r j => by rw [Nat.zero_add]; exact hS r j) inb_S128x256_S128x256_0_0 a j
  have e : 127 - (8 * u + 7) = 120 - 8 * u := by omega
  rw [Nat.add_zero, Nat.zero_add] at h
  rw [e]
  exact h

variable {c : Dev nD} {i : grid1.Coords} {arg1 : Memref sig .tc .vmem S512x512 .f32} {harg1 : arg1.IsWhole} {arg2 : Memref sig .tc .vmem S512x256 .bf16} {harg2 : arg2.IsWhole} {arg3 : Memref sig .tc .vmem S512x256 .bf16} {harg3 : arg3.IsWhole} {arg4 : Memref sig .tc .vmem S512x512 .bf16} {harg4 : arg4.IsWhole} {arg5 : Memref sig .tc .vmem S8x256 .f32} {harg5 : arg5.IsWhole} {arg6 : Memref sig .tc .vmem S8x128x256 .f32} {harg6 : arg6.IsWhole} {arg7 : Memref sig .tc .vmem S1x128x256 .f32} {harg7 : arg7.IsWhole} {arg8 : Memref sig .tc .vmem S512x256 .f32} {harg8 : arg8.IsWhole} {arg9 : Memref sig .tc .vmem S512x256 .f32} {harg9 : arg9.IsWhole} {arg10 : Memref sig .tc .vmem S512x512 .f32} {harg10 : arg10.IsWhole} {arg11 : Memref sig .tc .vmem S8x256 .f32} {harg11 : arg11.IsWhole} {arg12 : Memref sig .tc .vmem S128x256 .f32} {harg12 : arg12.IsWhole}
  {hc0 : ¬cond0_0 i} {x0 : Vec Ideal S512x512 .f32} {x1 x2 : Vec Ideal S512x256 .bf16} {x3 : Vec Ideal S512x512 .bf16} {x4 : Vec Ideal S8x256 .f32} {x5 : Vec Ideal S8x128x256 .f32} {x6 : Vec Ideal S1x128x256 .f32} {xs0 : Vec Ideal S128x256 .f32}
  {D : Data} {u : ℕ} (B : Blk D u (BitVec.ofNat 32 (i 0).val) x0 x1 x2 x3 x4 x5 x6) (hS : IsMat (Ca D (120 - 8 * u)) xs0)

include B hS

theorem ca_B_6 :
    IsMat (Ca D (127 - (8 * u + 6))) (kernelRun0_B.sl.v103 c arg1 harg1 arg2 harg2 arg5 harg5 arg12 harg12 x0 x1 x4 xs0) := by
  unfold kernelRun0_B.sl.v103 kernelRun0_B.sl.HS0_1
  rw [View.readCov_cons_toLoadRect]
  exact chunk_carry B arg5 harg5 7 6 rfl (by omega) inb_S8x256_S1x256_7_0 _ (chunk_ct B arg1 harg1 arg2 harg2 7 448 rfl (by omega) inb_S512x512_S64x512_448_0 inb_S512x256_S64x256_448_0 (View.readAt (Elt Ideal) arg12.view (Rect.unit (s := S128x256) ![0, 0] S128x256.size inb_S128x256_S128x256_0_0).toLoadRect (harg12.unread xs0)) (ca_B_7 arg12 harg12 xs0 D u B.le hS))

theorem ca_B_5 :
    IsMat (Ca D (127 - (8 * u + 5))) (kernelRun0_B.sl.v181 c arg1 harg1 arg2 harg2 arg5 harg5 arg12 harg12 x0 x1 x4 xs0) := by
  unfold kernelRun0_B.sl.v181 kernelRun0_B.sl.HS0_2
  rw [View.readCov_cons_toLoadRect]
  exact chunk_carry B arg5 harg5 6 5 rfl (by omega) inb_S8x256_S1x256_6_0 _ (chunk_ct B arg1 harg1 arg2 harg2 6 384 rfl (by omega) inb_S512x512_S64x512_384_0 inb_S512x256_S64x256_384_0 _ (ca_B_6 B hS))

theorem ca_B_4 :
    IsMat (Ca D (127 - (8 * u + 4))) (kernelRun0_B.sl.v259 c arg1 harg1 arg2 harg2 arg5 harg5 arg12 harg12 x0 x1 x4 xs0) := by
  unfold kernelRun0_B.sl.v259 kernelRun0_B.sl.HS0_3
  rw [View.readCov_cons_toLoadRect]
  exact chunk_carry B arg5 harg5 5 4 rfl (by omega) inb_S8x256_S1x256_5_0 _ (chunk_ct B arg1 harg1 arg2 harg2 5 320 rfl (by omega) inb_S512x512_S64x512_320_0 inb_S512x256_S64x256_320_0 _ (ca_B_5 B hS))

theorem ca_B_3 :
    IsMat (Ca D (127 - (8 * u + 3))) (kernelRun0_B.sl.v337 c arg1 harg1 arg2 harg2 arg5 harg5 arg12 harg12 x0 x1 x4 xs0) := by
  unfold kernelRun0_B.sl.v337 kernelRun0_B.sl.HS0_4
  rw [View.readCov_cons_toLoadRect]
  exact chunk_carry B arg5 harg5 4 3 rfl (by omega) inb_S8x256_S1x256_4_0 _ (chunk_ct B arg1 harg1 arg2 harg2 4 256 rfl (by omega) inb_S512x512_S64x512_256_0 inb_S512x256_S64x256_256_0 _ (ca_B_4 B hS))

theorem ca_B_2 :
    IsMat (Ca D (127 - (8 * u + 2))) (kernelRun0_B.sl.v415 c arg1 harg1 arg2 harg2 arg5 harg5 arg12 harg12 x0 x1 x4 xs0) := by
  unfold kernelRun0_B.sl.v415 kernelRun0_B.sl.HS0_5
  rw [View.readCov_cons_toLoadRect]
  exact chunk_carry B arg5 harg5 3 2 rfl (by omega) inb_S8x256_S1x256_3_0 _ (chunk_ct B arg1 harg1 arg2 harg2 3 192 rfl (by omega) inb_S512x512_S64x512_192_0 inb_S512x256_S64x256_192_0 _ (ca_B_3 B hS))

theorem ca_B_1 :
    IsMat (Ca D (127 - (8 * u + 1))) (kernelRun0_B.sl.v493 c arg1 harg1 arg2 harg2 arg5 harg5 arg12 harg12 x0 x1 x4 xs0) := by
  unfold kernelRun0_B.sl.v493 kernelRun0_B.sl.HS0_6
  rw [View.readCov_cons_toLoadRect]
  exact chunk_carry B arg5 harg5 2 1 rfl (by omega) inb_S8x256_S1x256_2_0 _ (chunk_ct B arg1 harg1 arg2 harg2 2 128 rfl (by omega) inb_S512x512_S64x512_128_0 inb_S512x256_S64x256_128_0 _ (ca_B_2 B hS))

theorem ca_B_0 :
    IsMat (Ca D (127 - (8 * u + 0))) (kernelRun0_B.sl.v574 c arg1 harg1 arg2 harg2 arg5 harg5 arg12 harg12 x0 x1 x4 xs0) := by
  unfold kernelRun0_B.sl.v574 kernelRun0_B.sl.HS0_7
  rw [View.readCov_cons_toLoadRect]
  exact chunk_carry B arg5 harg5 1 0 rfl (by omega) inb_S8x256_S1x256_1_0 _ (chunk_ct B arg1 harg1 arg2 harg2 1 64 rfl (by omega) inb_S512x512_S64x512_64_0 inb_S512x256_S64x256_64_0 _ (ca_B_1 B hS))

theorem pieces_B_7 :
    View.PiecesOf (fun y : S512x256.Idx => (dq D (512 * u + (y 0).val) (y 1).val : EReal)) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).1 := by
  unfold kernelRun0_B
  refine ⟨?_, ?_, ?_, ?_, ?_, ?_, ?_, ?_, trivial⟩
  · exact piece_rows (dq D) _ 0 _ (chunk_dq B arg1 harg1 arg6 harg6 0 0 rfl (by omega) inb_S512x512_S64x512_0_0 inb_S8x128x256_S1x128x256_0_0_0) inb_S512x256_S64x256_0_0
  · exact piece_rows (dq D) _ 64 _ (chunk_dq B arg1 harg1 arg6 harg6 1 64 rfl (by omega) inb_S512x512_S64x512_64_0 inb_S8x128x256_S1x128x256_1_0_0) inb_S512x256_S64x256_64_0
  · exact piece_rows (dq D) _ 128 _ (chunk_dq B arg1 harg1 arg6 harg6 2 128 rfl (by omega) inb_S512x512_S64x512_128_0 inb_S8x128x256_S1x128x256_2_0_0) inb_S512x256_S64x256_128_0
  · exact piece_rows (dq D) _ 192 _ (chunk_dq B arg1 harg1 arg6 harg6 3 192 rfl (by omega) inb_S512x512_S64x512_192_0 inb_S8x128x256_S1x128x256_3_0_0) inb_S512x256_S64x256_192_0
  · exact piece_rows (dq D) _ 256 _ (chunk_dq B arg1 harg1 arg6 harg6 4 256 rfl (by omega) inb_S512x512_S64x512_256_0 inb_S8x128x256_S1x128x256_4_0_0) inb_S512x256_S64x256_256_0
  · exact piece_rows (dq D) _ 320 _ (chunk_dq B arg1 harg1 arg6 harg6 5 320 rfl (by omega) inb_S512x512_S64x512_320_0 inb_S8x128x256_S1x128x256_5_0_0) inb_S512x256_S64x256_320_0
  · exact piece_rows (dq D) _ 384 _ (chunk_dq B arg1 harg1 arg6 harg6 6 384 rfl (by omega) inb_S512x512_S64x512_384_0 inb_S8x128x256_S1x128x256_6_0_0) inb_S512x256_S64x256_384_0
  · exact piece_rows (dq D) _ 448 _ (chunk_dq B arg1 harg1 arg6 harg6 7 448 rfl (by omega) inb_S512x512_S64x512_448_0 inb_S8x128x256_S1x128x256_7_0_0) inb_S512x256_S64x256_448_0

theorem pieces_B_8 :
    View.PiecesOf (fun y : S512x256.Idx => (dk D (512 * u + (y 0).val) (y 1).val : EReal)) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.1 := by
  unfold kernelRun0_B
  refine ⟨?_, ?_, ?_, ?_, ?_, ?_, ?_, ?_, trivial⟩
  · exact piece_rows (dk D) _ 0 _ (chunk_dk B arg4 harg4 0 0 rfl (by omega) inb_S512x512_S64x512_0_0 _ (chunk_ct B arg1 harg1 arg2 harg2 0 0 rfl (by omega) inb_S512x512_S64x512_0_0 inb_S512x256_S64x256_0_0 _ (ca_B_0 B hS))) inb_S512x256_S64x256_0_0
  · exact piece_rows (dk D) _ 64 _ (chunk_dk B arg4 harg4 1 64 rfl (by omega) inb_S512x512_S64x512_64_0 _ (chunk_ct B arg1 harg1 arg2 harg2 1 64 rfl (by omega) inb_S512x512_S64x512_64_0 inb_S512x256_S64x256_64_0 _ (ca_B_1 B hS))) inb_S512x256_S64x256_64_0
  · exact piece_rows (dk D) _ 128 _ (chunk_dk B arg4 harg4 2 128 rfl (by omega) inb_S512x512_S64x512_128_0 _ (chunk_ct B arg1 harg1 arg2 harg2 2 128 rfl (by omega) inb_S512x512_S64x512_128_0 inb_S512x256_S64x256_128_0 _ (ca_B_2 B hS))) inb_S512x256_S64x256_128_0
  · exact piece_rows (dk D) _ 192 _ (chunk_dk B arg4 harg4 3 192 rfl (by omega) inb_S512x512_S64x512_192_0 _ (chunk_ct B arg1 harg1 arg2 harg2 3 192 rfl (by omega) inb_S512x512_S64x512_192_0 inb_S512x256_S64x256_192_0 _ (ca_B_3 B hS))) inb_S512x256_S64x256_192_0
  · exact piece_rows (dk D) _ 256 _ (chunk_dk B arg4 harg4 4 256 rfl (by omega) inb_S512x512_S64x512_256_0 _ (chunk_ct B arg1 harg1 arg2 harg2 4 256 rfl (by omega) inb_S512x512_S64x512_256_0 inb_S512x256_S64x256_256_0 _ (ca_B_4 B hS))) inb_S512x256_S64x256_256_0
  · exact piece_rows (dk D) _ 320 _ (chunk_dk B arg4 harg4 5 320 rfl (by omega) inb_S512x512_S64x512_320_0 _ (chunk_ct B arg1 harg1 arg2 harg2 5 320 rfl (by omega) inb_S512x512_S64x512_320_0 inb_S512x256_S64x256_320_0 _ (ca_B_5 B hS))) inb_S512x256_S64x256_320_0
  · exact piece_rows (dk D) _ 384 _ (chunk_dk B arg4 harg4 6 384 rfl (by omega) inb_S512x512_S64x512_384_0 _ (chunk_ct B arg1 harg1 arg2 harg2 6 384 rfl (by omega) inb_S512x512_S64x512_384_0 inb_S512x256_S64x256_384_0 _ (ca_B_6 B hS))) inb_S512x256_S64x256_384_0
  · exact piece_rows (dk D) _ 448 _ (chunk_dk B arg4 harg4 7 448 rfl (by omega) inb_S512x512_S64x512_448_0 _ (chunk_ct B arg1 harg1 arg2 harg2 7 448 rfl (by omega) inb_S512x512_S64x512_448_0 inb_S512x256_S64x256_448_0 (View.readAt (Elt Ideal) arg12.view (Rect.unit (s := S128x256) ![0, 0] S128x256.size inb_S128x256_S128x256_0_0).toLoadRect (harg12.unread xs0)) (ca_B_7 arg12 harg12 xs0 D u B.le hS))) inb_S512x256_S64x256_448_0

theorem pieces_B_9 :
    View.PiecesOf (fun y : S512x512.Idx => (dv D (512 * u + (y 0).val) (y 1).val : EReal)) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1 := by
  unfold kernelRun0_B
  refine ⟨?_, ?_, ?_, ?_, ?_, ?_, ?_, ?_, trivial⟩
  · exact piece_rows (dv D) _ 0 _ (chunk_dv B arg3 harg3 0 0 rfl (by omega) inb_S512x256_S64x256_0_0 _ (chunk_ct B arg1 harg1 arg2 harg2 0 0 rfl (by omega) inb_S512x512_S64x512_0_0 inb_S512x256_S64x256_0_0 _ (ca_B_0 B hS))) inb_S512x512_S64x512_0_0
  · exact piece_rows (dv D) _ 64 _ (chunk_dv B arg3 harg3 1 64 rfl (by omega) inb_S512x256_S64x256_64_0 _ (chunk_ct B arg1 harg1 arg2 harg2 1 64 rfl (by omega) inb_S512x512_S64x512_64_0 inb_S512x256_S64x256_64_0 _ (ca_B_1 B hS))) inb_S512x512_S64x512_64_0
  · exact piece_rows (dv D) _ 128 _ (chunk_dv B arg3 harg3 2 128 rfl (by omega) inb_S512x256_S64x256_128_0 _ (chunk_ct B arg1 harg1 arg2 harg2 2 128 rfl (by omega) inb_S512x512_S64x512_128_0 inb_S512x256_S64x256_128_0 _ (ca_B_2 B hS))) inb_S512x512_S64x512_128_0
  · exact piece_rows (dv D) _ 192 _ (chunk_dv B arg3 harg3 3 192 rfl (by omega) inb_S512x256_S64x256_192_0 _ (chunk_ct B arg1 harg1 arg2 harg2 3 192 rfl (by omega) inb_S512x512_S64x512_192_0 inb_S512x256_S64x256_192_0 _ (ca_B_3 B hS))) inb_S512x512_S64x512_192_0
  · exact piece_rows (dv D) _ 256 _ (chunk_dv B arg3 harg3 4 256 rfl (by omega) inb_S512x256_S64x256_256_0 _ (chunk_ct B arg1 harg1 arg2 harg2 4 256 rfl (by omega) inb_S512x512_S64x512_256_0 inb_S512x256_S64x256_256_0 _ (ca_B_4 B hS))) inb_S512x512_S64x512_256_0
  · exact piece_rows (dv D) _ 320 _ (chunk_dv B arg3 harg3 5 320 rfl (by omega) inb_S512x256_S64x256_320_0 _ (chunk_ct B arg1 harg1 arg2 harg2 5 320 rfl (by omega) inb_S512x512_S64x512_320_0 inb_S512x256_S64x256_320_0 _ (ca_B_5 B hS))) inb_S512x512_S64x512_320_0
  · exact piece_rows (dv D) _ 384 _ (chunk_dv B arg3 harg3 6 384 rfl (by omega) inb_S512x256_S64x256_384_0 _ (chunk_ct B arg1 harg1 arg2 harg2 6 384 rfl (by omega) inb_S512x512_S64x512_384_0 inb_S512x256_S64x256_384_0 _ (ca_B_6 B hS))) inb_S512x512_S64x512_384_0
  · exact piece_rows (dv D) _ 448 _ (chunk_dv B arg3 harg3 7 448 rfl (by omega) inb_S512x256_S64x256_448_0 _ (chunk_ct B arg1 harg1 arg2 harg2 7 448 rfl (by omega) inb_S512x512_S64x512_448_0 inb_S512x256_S64x256_448_0 (View.readAt (Elt Ideal) arg12.view (Rect.unit (s := S128x256) ![0, 0] S128x256.size inb_S128x256_S128x256_0_0).toLoadRect (harg12.unread xs0)) (ca_B_7 arg12 harg12 xs0 D u B.le hS))) inb_S512x512_S64x512_448_0

theorem pieces_B_10 :
    View.PiecesOf (fun y : S8x256.Idx => (dlam D (8 * u + (y 0).val) (y 1).val : EReal)) (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.1 := by
  unfold kernelRun0_B
  refine ⟨?_, ?_, ?_, ?_, ?_, ?_, ?_, ?_, trivial⟩
  · exact piece_rows (dlam D) _ 0 _ (chunk_dlam_first B arg7 harg7 0 rfl inb_S1x128x256_S1x128x256_0_0_0 _ (chunk_ct B arg1 harg1 arg2 harg2 0 0 rfl (by omega) inb_S512x512_S64x512_0_0 inb_S512x256_S64x256_0_0 _ (ca_B_0 B hS))) inb_S8x256_S1x256_0_0
  · exact piece_rows (dlam D) _ 1 _ (chunk_dlam B arg6 harg6 0 1 rfl inb_S8x128x256_S1x128x256_0_0_0 _ (chunk_ct B arg1 harg1 arg2 harg2 1 64 rfl (by omega) inb_S512x512_S64x512_64_0 inb_S512x256_S64x256_64_0 _ (ca_B_1 B hS))) inb_S8x256_S1x256_1_0
  · exact piece_rows (dlam D) _ 2 _ (chunk_dlam B arg6 harg6 1 2 rfl inb_S8x128x256_S1x128x256_1_0_0 _ (chunk_ct B arg1 harg1 arg2 harg2 2 128 rfl (by omega) inb_S512x512_S64x512_128_0 inb_S512x256_S64x256_128_0 _ (ca_B_2 B hS))) inb_S8x256_S1x256_2_0
  · exact piece_rows (dlam D) _ 3 _ (chunk_dlam B arg6 harg6 2 3 rfl inb_S8x128x256_S1x128x256_2_0_0 _ (chunk_ct B arg1 harg1 arg2 harg2 3 192 rfl (by omega) inb_S512x512_S64x512_192_0 inb_S512x256_S64x256_192_0 _ (ca_B_3 B hS))) inb_S8x256_S1x256_3_0
  · exact piece_rows (dlam D) _ 4 _ (chunk_dlam B arg6 harg6 3 4 rfl inb_S8x128x256_S1x128x256_3_0_0 _ (chunk_ct B arg1 harg1 arg2 harg2 4 256 rfl (by omega) inb_S512x512_S64x512_256_0 inb_S512x256_S64x256_256_0 _ (ca_B_4 B hS))) inb_S8x256_S1x256_4_0
  · exact piece_rows (dlam D) _ 5 _ (chunk_dlam B arg6 harg6 4 5 rfl inb_S8x128x256_S1x128x256_4_0_0 _ (chunk_ct B arg1 harg1 arg2 harg2 5 320 rfl (by omega) inb_S512x512_S64x512_320_0 inb_S512x256_S64x256_320_0 _ (ca_B_5 B hS))) inb_S8x256_S1x256_5_0
  · exact piece_rows (dlam D) _ 6 _ (chunk_dlam B arg6 harg6 5 6 rfl inb_S8x128x256_S1x128x256_5_0_0 _ (chunk_ct B arg1 harg1 arg2 harg2 6 384 rfl (by omega) inb_S512x512_S64x512_384_0 inb_S512x256_S64x256_384_0 _ (ca_B_6 B hS))) inb_S8x256_S1x256_6_0
  · exact piece_rows (dlam D) _ 7 _ (chunk_dlam B arg6 harg6 6 7 rfl inb_S8x128x256_S1x128x256_6_0_0 _ (chunk_ct B arg1 harg1 arg2 harg2 7 448 rfl (by omega) inb_S512x512_S64x512_448_0 inb_S512x256_S64x256_448_0 (View.readAt (Elt Ideal) arg12.view (Rect.unit (s := S128x256) ![0, 0] S128x256.size inb_S128x256_S128x256_0_0).toLoadRect (harg12.unread xs0)) (ca_B_7 arg12 harg12 xs0 D u B.le hS))) inb_S8x256_S1x256_7_0

theorem scratch_B :
    IsMat (Ca D (128 - 8 * u)) (View.canon (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1) := by
  exact ScanFwd.canon_mat _ _ (chunk_last B arg5 harg5 0 rfl inb_S8x256_S1x256_0_0 _ (chunk_ct B arg1 harg1 arg2 harg2 0 0 rfl (by omega) inb_S512x512_S64x512_0_0 inb_S512x256_S64x256_0_0 _ (ca_B_0 B hS))) _ _

end Cert.KernelIdeal.ScanBwd
end
-- ==== Proof.ScanBwd.Value.lean ====
module

public import proofs.«01_k».proof.Proof.ScanBwd.ValueA
public import proofs.«01_k».proof.Proof.ScanBwd.ValueB
public import Idealize.ShloMosaic.Lib.Pipeline.ValueKit

/-! # The backward scan's four results over the reals -/

@[expose] public section

set_option maxRecDepth 16384

noncomputable section

namespace Cert.KernelIdeal.ScanBwd

open Cert.KernelIdeal.Gen Cert.KernelIdeal.Scan Cert.Gla
open Idealize.ShloMosaic Idealize.ShloMosaic.TcCoe Idealize.ShloMosaic.Tactic

variable (V : (c : Dev nD) → (b : Ref sig .tc) → Buf (Elt Ideal) ((c : Thread nD τ).loc b))

/-- Where the windows' blocks lie. -/
theorem idx : ∀ t : Fin cfg1.N, win1_0.index t = ![15 - t.val, 0] ∧ win1_1.index t = ![15 - t.val, 0] ∧ win1_2.index t = ![15 - t.val, 0]
    ∧ win1_3.index t = ![15 - t.val, 1] ∧ win1_4.index t = ![15 - t.val, 0] ∧ win1_5.index t = ![15 - t.val, 0, 0]
    ∧ win1_6.index t = ![8 * (15 - t.val) - 1, 0, 0] ∧ win1_7.index t = ![15 - t.val, 0] ∧ win1_8.index t = ![15 - t.val, 0]
    ∧ win1_9.index t = ![15 - t.val, 0] ∧ win1_10.index t = ![15 - t.val, 0] := by decide +kernel

theorem point : ∀ t : Fin cfg1.N, (grid1.coords t 0).val = t.val := by decide +kernel

/-- The region's arguments hold the data and the states. -/
structure Ins (D : Data) (c : Dev nD) : Prop where
  d : IsRows D.d 0 (V c (Pipeline.arrRef spec1 0) : Vec Ideal S8192x512 .f32)
  q : IsRows D.q 0 (V c (Pipeline.arrRef spec1 1) : Vec Ideal S8192x256 .bf16)
  k : IsRows D.k 0 (V c (Pipeline.arrRef spec1 2) : Vec Ideal S8192x256 .bf16)
  v : ∀ (i : Fin 8192) (j : Fin 512), (V c (Pipeline.arrRef spec1 3) : Vec Ideal S8192x1536 .bf16) (ix2 i ⟨512 + j.val, by omega⟩) = D.v i.val j.val
  l : IsRows D.lam 0 (V c (Pipeline.arrRef spec1 4) : Vec Ideal S128x256 .f32)
  s : IsSlabs (fun n => St D (n + 1)) 0 (V c (Pipeline.arrRef spec1 5) : Vec Ideal S128x128x256 .f32)
  b : IsSlabs (fun n => St D (n + 1)) 0 (V c (Pipeline.arrRef spec1 6) : Vec Ideal S128x128x256 .f32)

variable {V} {D : Data} {c : Dev nD}

theorem N_eq : cfg1.N = 16 := by decide

theorem blk (I : Ins V D c) (t : Fin cfg1.N) : Blk D (15 - t.val) (BitVec.ofNat 32 (grid1.coords t 0).val) (iblk V c 0 t) (iblk V c 1 t) (iblk V c 2 t) (iblk V c 3 t) (iblk V c 4 t) (iblk V c 5 t) (iblk V c 6 t) := by
  have ht : t.val < 16 := N_eq ▸ t.isLt
  refine ⟨fun r j => ?_, fun r j => ?_, fun r j => ?_, fun r j => ?_, fun r j => ?_, fun r a j => ?_, ?_, by omega, fun h r a j => ?_⟩
  · refine Eq.trans ?_ ((I.d ⟨512 * (15 - t.val) + r.val, by omega⟩ j).trans (by rw [Nat.zero_add]))
    blk_ext [iblk, idx t]
  · refine Eq.trans ?_ ((I.q ⟨512 * (15 - t.val) + r.val, by omega⟩ j).trans (by rw [Nat.zero_add]))
    blk_ext [iblk, idx t]
  · refine Eq.trans ?_ ((I.k ⟨512 * (15 - t.val) + r.val, by omega⟩ j).trans (by rw [Nat.zero_add]))
    blk_ext [iblk, idx t]
  · refine Eq.trans ?_ (I.v ⟨512 * (15 - t.val) + r.val, by omega⟩ j)
    blk_ext [iblk, idx t]
  · refine Eq.trans ?_ ((I.l ⟨8 * (15 - t.val) + r.val, by omega⟩ j).trans (by rw [Nat.zero_add]))
    blk_ext [iblk, idx t]
  · refine Eq.trans ?_ ((I.s ⟨8 * (15 - t.val) + r.val, by omega⟩ a j).trans (by rw [Nat.zero_add]))
    blk_ext [iblk, idx t]
  · rw [point t, Nat.sub_sub_self (by omega)]
  · have e : 8 * (15 - t.val) - 1 + 1 = 8 * (15 - t.val) := by omega
    have hr : r.val = 0 := by omega
    refine Eq.trans ?_ ((I.b ⟨8 * (15 - t.val) - 1, by omega⟩ a j).trans ?_)
    · blk_ext [iblk, idx t]
    · rw [Nat.zero_add, hr]
      dsimp only
      rw [e, Nat.add_zero]

/-- What the blocks and the scratch hold after a point. -/
structure After (D : Data) (t : Fin cfg1.N) (o : Vec Ideal S512x256 .f32 × Vec Ideal S512x256 .f32 × Vec Ideal S512x512 .f32 × Vec Ideal S8x256 .f32 × Vec Ideal S128x256 .f32) : Prop where
  dq : o.1 = fun y : S512x256.Idx => (Cert.Gla.dq D (512 * (15 - t.val) + (y 0).val) (y 1).val : EReal)
  dk : o.2.1 = fun y : S512x256.Idx => (Cert.Gla.dk D (512 * (15 - t.val) + (y 0).val) (y 1).val : EReal)
  dv : o.2.2.1 = fun y : S512x512.Idx => (Cert.Gla.dv D (512 * (15 - t.val) + (y 0).val) (y 1).val : EReal)
  dlam : o.2.2.2.1 = fun y : S8x256.Idx => (Cert.Gla.dlam D (8 * (15 - t.val) + (y 0).val) (y 1).val : EReal)
  carry : IsMat (Ca D (128 - 8 * (15 - t.val))) o.2.2.2.2

/-- At the first point. -/
theorem atA_after (I : Ins V D c) (t : Fin cfg1.N) (ht : t.val = 0) (h) : After D t (atA V c t h) := by
  unfold atA outs0_A out0_A_7 out0_A_8 out0_A_9 out0_A_10 sout0_A_0
  simp only [View.read_writes_junk_eq_canon]
  constructor <;> dsimp only
  · exact canon_all _ _ (pieces_A_7 (blk I t) (by omega)) fun _ => cover0_A_7 ..
  · exact canon_all _ _ (pieces_A_8 (blk I t) (by omega)) fun _ => cover0_A_8 ..
  · exact canon_all _ _ (pieces_A_9 (blk I t) (by omega)) fun _ => cover0_A_9 ..
  · exact canon_all _ _ (pieces_A_10 (blk I t) (by omega)) fun _ => cover0_A_10 ..
  · exact scratch_A (blk I t) (by omega)

/-- At a later point, from the scratch that the point before it left. -/
theorem atB_after (I : Ins V D c) (t : Fin cfg1.N) (S : Vec Ideal S128x256 .f32) (hS : IsMat (Ca D (120 - 8 * (15 - t.val))) S) (h) : After D t (atB V c t h S) := by
  unfold atB outs0_B out0_B_7 out0_B_8 out0_B_9 out0_B_10 sout0_B_0
  simp only [View.read_writes_junk_eq_canon]
  constructor <;> dsimp only
  · exact canon_all _ _ (pieces_B_7 (blk I t) hS) fun _ => cover0_B_7 ..
  · exact canon_all _ _ (pieces_B_8 (blk I t) hS) fun _ => cover0_B_8 ..
  · exact canon_all _ _ (pieces_B_9 (blk I t) hS) fun _ => cover0_B_9 ..
  · exact canon_all _ _ (pieces_B_10 (blk I t) hS) fun _ => cover0_B_10 ..
  · exact scratch_B (blk I t) hS

theorem outs (I : Ins V D c) (n : ℕ) : ∀ (t : Fin cfg1.N), t.val = n → After D t (outsAt0 V c t.val t.isLt) := by
  have hN : cfg1.N = 16 := N_eq
  induction n with
  | zero =>
    intro t h
    rw [outsAt0_A V c t (by omega)]
    exact atA_after I t h _
  | succ n ih =>
    intro t h
    have ht := t.isLt
    rw [outsAt0_B V c t (by omega)]
    have hS := (ih ⟨t.val - 1, by omega⟩ (by dsimp only; omega)).carry
    have e : 128 - 8 * (15 - (t.val - 1)) = 120 - 8 * (15 - t.val) := by omega
    dsimp only at hS
    rw [e] at hS
    exact atB_after I t _ hS _

theorem dq_arr (I : Ins V D c) :
    (dat V c).arrAt 7 cfg1.N = fun y : S8192x256.Idx => (dq D (y 0).val (y 1).val : EReal) := by
  refine (dat V c).arrAt_eq_of_covers 7 _ (by decide +kernel) fun t hf y => ?_
  rw [after0_7, (outs I t.val t rfl).dq]
  blk_simp [idx t, Pipeline.Window.xinj]
  dsimp only
  congr 1
  omega

theorem dk_arr (I : Ins V D c) :
    (dat V c).arrAt 8 cfg1.N = fun y : S8192x256.Idx => (dk D (y 0).val (y 1).val : EReal) := by
  refine (dat V c).arrAt_eq_of_covers 8 _ (by decide +kernel) fun t hf y => ?_
  rw [after0_8, (outs I t.val t rfl).dk]
  blk_simp [idx t, Pipeline.Window.xinj]
  dsimp only
  congr 1
  omega

theorem dv_arr (I : Ins V D c) :
    (dat V c).arrAt 9 cfg1.N = fun y : S8192x512.Idx => (dv D (y 0).val (y 1).val : EReal) := by
  refine (dat V c).arrAt_eq_of_covers 9 _ (by decide +kernel) fun t hf y => ?_
  rw [after0_9, (outs I t.val t rfl).dv]
  blk_simp [idx t, Pipeline.Window.xinj]
  dsimp only
  congr 1
  omega

theorem dlam_arr (I : Ins V D c) :
    (dat V c).arrAt 10 cfg1.N = fun y : S128x256.Idx => (dlam D (y 0).val (y 1).val : EReal) := by
  refine (dat V c).arrAt_eq_of_covers 10 _ (by decide +kernel) fun t hf y => ?_
  rw [after0_10, (outs I t.val t rfl).dlam]
  blk_simp [idx t, Pipeline.Window.xinj]
  dsimp only
  congr 1
  omega

end Cert.KernelIdeal.ScanBwd
end
-- ==== Proof.ScanValue.lean ====
module

public import proofs.«01_k».proof.Proof.ScanRun
public import proofs.«01_k».proof.Proof.Args
public import proofs.«01_k».proof.Proof.ScanFwd.Value
public import proofs.«01_k».proof.Proof.ScanBwd.Value

/-! # What the two scans leave, in terms of the arguments

The forward scan's five reads are arguments; the backward scan's are arguments and the states the forward scan left. -/

@[expose] public section

set_option maxRecDepth 16384

noncomputable section

namespace Cert.KernelIdeal.Scan

open Idealize.ShloMosaic Idealize.SL.Sem Cert.Gla Cert.KernelIdeal.Gen
open Cert.KernelIdeal

variable (m : (ℓ : Loc nD τ sig) → Buf (Elt Ideal) ℓ) (ρ : Dev nD → PrngReg) (c : Dev nD)

/-- The arguments of one device. -/
abbrev argD : Gla.Data :=
  Gla.data (m (c.tc.loc main_arg0)) (m (c.tc.loc main_arg1)) (m (c.tc.loc main_arg2))
    (m (c.tc.loc main_arg3)) (m (c.tc.loc main_arg4))

/-- The forward scan reads the arguments. -/
theorem ins0 : ScanFwd.Ins (V0 m ρ) (argD m c) c := by
  constructor
  · intro r j
    refine (congrFun (W0_args m ρ c main_arg0 (by decide)) (ix2 r j)).trans ?_
    rw [Nat.zero_add]; exact (rd_apply _ r j).symm
  · intro r j
    refine (congrFun (W0_args m ρ c main_arg1 (by decide)) (ix2 r j)).trans ?_
    rw [Nat.zero_add]; exact (rd_apply _ r j).symm
  · intro i j
    refine (congrFun (W0_args m ρ c main_arg2 (by decide)) (ix2 i ⟨512 + j.val, by omega⟩)).trans ?_
    exact (rd_of _ i.val (512 + j.val) i.isLt (by omega)).symm
  · intro r j
    refine (congrFun (W0_args m ρ c main_arg3 (by decide)) (ix2 r j)).trans ?_
    rw [Nat.zero_add]; exact (rd_apply _ r j).symm

/-- The states as the backward scan finds them. -/
theorem states : V1 m ρ c (Pipeline.arrRef spec0 5) = fun y : S128x128x256.Idx => (St (argD m c) (y 0 + 1) (y 1) (y 2) : EReal) :=
  (W1_arr m ρ c 5).trans (ScanFwd.states_arr (ins0 m ρ c))

/-- The backward scan reads the arguments and the states. -/
theorem ins1 : ScanBwd.Ins (V1 m ρ) (argD m c) c := by
  constructor
  · intro r j
    refine (congrFun (W1_args m ρ c main_arg4 (by decide)) (ix2 r j)).trans ?_
    rw [Nat.zero_add]; exact (rd_apply _ r j).symm
  · intro r j
    refine (congrFun (W1_args m ρ c main_arg0 (by decide)) (ix2 r j)).trans ?_
    rw [Nat.zero_add]; exact (rd_apply _ r j).symm
  · intro r j
    refine (congrFun (W1_args m ρ c main_arg1 (by decide)) (ix2 r j)).trans ?_
    rw [Nat.zero_add]; exact (rd_apply _ r j).symm
  · intro i j
    refine (congrFun (W1_args m ρ c main_arg2 (by decide)) (ix2 i ⟨512 + j.val, by omega⟩)).trans ?_
    exact (rd_of _ i.val (512 + j.val) i.isLt (by omega)).symm
  · intro r j
    refine (congrFun (W1_args m ρ c main_arg3 (by decide)) (ix2 r j)).trans ?_
    rw [Nat.zero_add]; exact (rd_apply _ r j).symm
  · intro n i j
    refine (congrFun (states m ρ c) (ix3 n i j)).trans ?_
    rw [Nat.zero_add]; rfl
  · intro n i j
    refine (congrFun (states m ρ c) (ix3 n i j)).trans ?_
    rw [Nat.zero_add]; rfl

/-- The output. -/
theorem end_out : W2 m ρ c (Proc.devRef .tc main_v0_0) = fun y : S8192x512.Idx => (out (argD m c) (y 0) (y 1) : EReal) :=
  (W2_of_ne m ρ c main_v0_0 (by decide)).trans ((W1_arr m ρ c 4).trans (ScanFwd.out_arr (ins0 m ρ c)))
/-- The gradient of the queries. -/
theorem end_dq : W2 m ρ c (Proc.devRef .tc main_v1_0) = fun y : S8192x256.Idx => (dq (argD m c) (y 0) (y 1) : EReal) :=
  (W2_arr m ρ c 7).trans (ScanBwd.dq_arr (ins1 m ρ c))
/-- The gradient of the keys. -/
theorem end_dk : W2 m ρ c (Proc.devRef .tc main_v1_1) = fun y : S8192x256.Idx => (dk (argD m c) (y 0) (y 1) : EReal) :=
  (W2_arr m ρ c 8).trans (ScanBwd.dk_arr (ins1 m ρ c))
/-- The gradient of the values. -/
theorem end_dv : W2 m ρ c (Proc.devRef .tc main_v1_2) = fun y : S8192x512.Idx => (dv (argD m c) (y 0) (y 1) : EReal) :=
  (W2_arr m ρ c 9).trans (ScanBwd.dv_arr (ins1 m ρ c))
/-- The gradient of the decays. -/
theorem end_dlam : W2 m ρ c (Proc.devRef .tc main_v1_3) = fun y : S128x256.Idx => (dlam (argD m c) (y 0) (y 1) : EReal) :=
  (W2_arr m ρ c 10).trans (ScanBwd.dlam_arr (ins1 m ρ c))

/-- A run ends with the five values, and with the arguments as they were. -/
theorem values : θ_run (defs (F := Ideal)) (onTc (τ := τ) (main (F := Ideal))) ⟨m, fun _ => 0, ρ⟩ (fun r => ∀ c : Dev nD,
      r.2.mem (c.tc.loc main_v0_0) = (fun y : S8192x512.Idx => (out (argD m c) (y 0) (y 1) : EReal))
      ∧ r.2.mem (c.tc.loc main_v1_0) = (fun y : S8192x256.Idx => (dq (argD m c) (y 0) (y 1) : EReal))
      ∧ r.2.mem (c.tc.loc main_v1_1) = (fun y : S8192x256.Idx => (dk (argD m c) (y 0) (y 1) : EReal))
      ∧ r.2.mem (c.tc.loc main_v1_2) = (fun y : S8192x512.Idx => (dv (argD m c) (y 0) (y 1) : EReal))
      ∧ r.2.mem (c.tc.loc main_v1_3) = (fun y : S128x256.Idx => (dlam (argD m c) (y 0) (y 1) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c =>
    have k (a : Ref sig .tc) (ha : a ∈ argRefs) (hs : ¬ (Proc.devRef .tc a : DevRef τ sig).isScoped) :
        r.2.mem (c.tc.loc a) = m (c.tc.loc a) :=
      (h.1 c _ (mem_uc a hs)).trans (W2_args m ρ c a ha)
    ⟨(h.1 c _ (mem_uc main_v0_0 (by decide))).trans (end_out m ρ c), (h.1 c _ (mem_uc main_v1_0 (by decide))).trans (end_dq m ρ c),
      (h.1 c _ (mem_uc main_v1_1 (by decide))).trans (end_dk m ρ c), (h.1 c _ (mem_uc main_v1_2 (by decide))).trans (end_dv m ρ c),
      (h.1 c _ (mem_uc main_v1_3 (by decide))).trans (end_dlam m ρ c),
      k main_arg0 (by decide) (by decide), k main_arg1 (by decide) (by decide), k main_arg2 (by decide) (by decide),
      k main_arg3 (by decide) (by decide), k main_arg4 (by decide) (by decide)⟩) (run_main m ρ)

end Cert.KernelIdeal.Scan

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! # The reference program's operations

The reference is the recurrence over the chunks and its gradient: operations, a loop over the 128 chunks, operations, a second
loop over the chunks from the last to the first, operations. Here are the operation lists of these five pieces and the equations
that say that `main` and the loops' bodies run them. -/

@[expose] public section

noncomputable section

namespace Cert.ReferenceIdeal.Scan

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The operations before the first loop: the inputs widened, the values' columns cut out, everything cut into chunks, the zero state, and the loop's carried arrays. -/
abbrev preOps : List (HloOp τ sig (Elt F)) :=
  [ StableHlo.unary main_arg2 main_v0 ((extractStridedSlice S8192x512 ![0, 512] · slices_S8192x1536_S8192x512_0_512) : (⟨S8192x1536, .bf16⟩ : BufTy).Contents (Elt F) → (⟨S8192x512, .bf16⟩ : BufTy).Contents (Elt F)),
    StableHlo.unary main_arg0 main_v1 ((extf .f32 · bitsLt_bf16_f32) : (⟨S8192x256, .bf16⟩ : BufTy).Contents (Elt F) → (⟨S8192x256, .f32⟩ : BufTy).Contents (Elt F)),
    StableHlo.unary main_arg1 main_v2 ((extf .f32 · bitsLt_bf16_f32) : (⟨S8192x256, .bf16⟩ : BufTy).Contents (Elt F) → (⟨S8192x256, .f32⟩ : BufTy).Contents (Elt F)),
    StableHlo.unary main_v0 main_v3 ((extf .f32 · bitsLt_bf16_f32) : (⟨S8192x512, .bf16⟩ : BufTy).Contents (Elt F) → (⟨S8192x512, .f32⟩ : BufTy).Contents (Elt F)),
    StableHlo.nullary main_cst (constant S_ .f32 0x00000000#32),
    StableHlo.unary main_cst main_v4 (broadcastInDim S4x64x128 ![] bcast_S_S4x64x128 : (⟨S_, .f32⟩ : BufTy).Contents (Elt F) → (⟨S4x64x128, .f32⟩ : BufTy).Contents (Elt F)),
    StableHlo.reshape main_v1 main_v5 (rfl : (.f32 : EltTy) = .f32) shapeCasts_S8192x256_S128x64x4x64,
    StableHlo.reshape main_v2 main_v6 (rfl : (.f32 : EltTy) = .f32) shapeCasts_S8192x256_S128x64x4x64,
    StableHlo.reshape main_v3 main_v7 (rfl : (.f32 : EltTy) = .f32) shapeCasts_S8192x512_S128x64x4x128,
    StableHlo.reshape main_arg3 main_v8 (rfl : (.f32 : EltTy) = .f32) shapeCasts_S128x256_S128x4x64,
    StableHlo.nullary main_cst_0 (constant S_ .f32 0x00000000#32),
    StableHlo.unary main_cst_0 main_v9 (broadcastInDim S128x64x4x128 ![] bcast_S_S128x64x4x128 : (⟨S_, .f32⟩ : BufTy).Contents (Elt F) → (⟨S128x64x4x128, .f32⟩ : BufTy).Contents (Elt F)),
    StableHlo.nullary main_cst_1 (constant S_ .f32 0x00000000#32),
    StableHlo.unary main_cst_1 main_v10 (broadcastInDim S128x4x64x128 ![] bcast_S_S128x4x64x128 : (⟨S_, .f32⟩ : BufTy).Contents (Elt F) → (⟨S128x4x64x128, .f32⟩ : BufTy).Contents (Elt F)),
    StableHlo.nullary main_cst_2 (constant S_ .f32 0x00000000#32),
    StableHlo.unary main_cst_2 main_v11 (broadcastInDim S128x4x64x1 ![] bcast_S_S128x4x64x1 : (⟨S_, .f32⟩ : BufTy).Contents (Elt F) → (⟨S128x4x64x1, .f32⟩ : BufTy).Contents (Elt F)),
    StableHlo.nullary main_cst_3 (constant S_ .f32 0x00000000#32),
    StableHlo.unary main_cst_3 main_v12 (broadcastInDim S128x4x64x128 ![] bcast_S_S128x4x64x128 : (⟨S_, .f32⟩ : BufTy).Contents (Elt F) → (⟨S128x4x64x128, .f32⟩ : BufTy).Contents (Elt F)),
    StableHlo.nullary main_c (constantI S_ 32 0#32),
    StableHlo.unary main_v5 main_v13_0 id,
    StableHlo.unary main_v6 main_v13_1 id,
    StableHlo.unary main_v7 main_v13_2 id,
    StableHlo.unary main_v8 main_v13_3 id,
    StableHlo.unary main_c main_v13_4 id,
    StableHlo.unary main_v4 main_v13_5 id,
    StableHlo.unary main_v9 main_v13_6 id,
    StableHlo.unary main_v10 main_v13_7 id,
    StableHlo.unary main_v11 main_v13_8 id,
    StableHlo.unary main_v12 main_v13_9 id ]
theorem preOps_sub : (preOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The operations between the loops: the forward result flattened, the cotangent cut into chunks, and the second loop's carried arrays. -/
abbrev midOps : List (HloOp τ sig (Elt F)) :=
  [ StableHlo.reshape main_v13_6 main_v14 (rfl : (.f32 : EltTy) = .f32) shapeCasts_S128x64x4x128_S8192x512,
    StableHlo.nullary main_cst_4 (constant S_ .f32 0x00000000#32),
    StableHlo.unary main_cst_4 main_v15 (broadcastInDim S4x64x128 ![] bcast_S_S4x64x128 : (⟨S_, .f32⟩ : BufTy).Contents (Elt F) → (⟨S4x64x128, .f32⟩ : BufTy).Contents (Elt F)),
    StableHlo.reshape main_arg4 main_v16 (rfl : (.f32 : EltTy) = .f32) shapeCasts_S8192x512_S128x64x4x128,
    StableHlo.nullary main_cst_5 (constant S_ .f32 0x00000000#32),
    StableHlo.unary main_cst_5 main_v17 (broadcastInDim S4x64x128 ![] bcast_S_S4x64x128 : (⟨S_, .f32⟩ : BufTy).Contents (Elt F) → (⟨S4x64x128, .f32⟩ : BufTy).Contents (Elt F)),
    StableHlo.nullary main_cst_6 (constant S_ .f32 0x00000000#32),
    StableHlo.unary main_cst_6 main_v18 (broadcastInDim S128x64x4x64 ![] bcast_S_S128x64x4x64 : (⟨S_, .f32⟩ : BufTy).Contents (Elt F) → (⟨S128x64x4x64, .f32⟩ : BufTy).Contents (Elt F)),
    StableHlo.nullary main_cst_7 (constant S_ .f32 0x00000000#32),
    StableHlo.unary main_cst_7 main_v19 (broadcastInDim S128x64x4x64 ![] bcast_S_S128x64x4x64 : (⟨S_, .f32⟩ : BufTy).Contents (Elt F) → (⟨S128x64x4x64, .f32⟩ : BufTy).Contents (Elt F)),
    StableHlo.nullary main_cst_8 (constant S_ .f32 0x00000000#32),
    StableHlo.unary main_cst_8 main_v20 (broadcastInDim S128x64x4x128 ![] bcast_S_S128x64x4x128 : (⟨S_, .f32⟩ : BufTy).Contents (Elt F) → (⟨S128x64x4x128, .f32⟩ : BufTy).Contents (Elt F)),
    StableHlo.nullary main_cst_9 (constant S_ .f32 0x00000000#32),
    StableHlo.unary main_cst_9 main_v21 (broadcastInDim S128x4x64 ![] bcast_S_S128x4x64 : (⟨S_, .f32⟩ : BufTy).Contents (Elt F) → (⟨S128x4x64, .f32⟩ : BufTy).Contents (Elt F)),
    StableHlo.nullary main_c_10 (constantI S_ 32 0#32),
    StableHlo.unary main_v16 main_v22_0 id,
    StableHlo.unary main_v13_7 main_v22_1 id,
    StableHlo.unary main_v13_8 main_v22_2 id,
    StableHlo.unary main_v7 main_v22_3 id,
    StableHlo.unary main_v6 main_v22_4 id,
    StableHlo.unary main_v5 main_v22_5 id,
    StableHlo.unary main_v13_9 main_v22_6 id,
    StableHlo.unary main_c_10 main_v22_7 id,
    StableHlo.unary main_v17 main_v22_8 id,
    StableHlo.unary main_v18 main_v22_9 id,
    StableHlo.unary main_v19 main_v22_10 id,
    StableHlo.unary main_v20 main_v22_11 id,
    StableHlo.unary main_v21 main_v22_12 id ]
theorem midOps_sub : (midOps : List (HloOp τ sig (Elt F))).Forall fun op => op.bufs ⊆ StableHlo.tcRefs τ sig :=
  ⟨StableHlo.reshape_bufs_sub .., StableHlo.nullary_bufs_sub .., StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The gradient of the decays flattened. -/
abbrev endOps : List (HloOp τ sig (Elt F)) :=
  [ StableHlo.reshape main_v22_12 main_v23 (rfl : (.f32 : EltTy) = .f32) shapeCasts_S128x4x64_S128x256 ]
theorem endOps_sub : (endOps : List (HloOp τ sig (Elt F))).Forall fun op => op.bufs ⊆ StableHlo.tcRefs τ sig :=
  StableHlo.reshape_bufs_sub ..

/-- The other three gradients flattened. -/
abbrev endOps_1 : List (HloOp τ sig (Elt F)) :=
  [ StableHlo.reshape main_v22_11 main_v24 (rfl : (.f32 : EltTy) = .f32) shapeCasts_S128x64x4x128_S8192x512,
    StableHlo.reshape main_v22_10 main_v25 (rfl : (.f32 : EltTy) = .f32) shapeCasts_S128x64x4x64_S8192x256,
    StableHlo.reshape main_v22_9 main_v26 (rfl : (.f32 : EltTy) = .f32) shapeCasts_S128x64x4x64_S8192x256 ]
theorem endOps_1_sub : (endOps_1 : List (HloOp τ sig (Elt F))).Forall fun op => op.bufs ⊆ StableHlo.tcRefs τ sig :=
  ⟨StableHlo.reshape_bufs_sub .., StableHlo.reshape_bufs_sub .., StableHlo.reshape_bufs_sub ..⟩

/-- q's chunk. -/
abbrev fwdOps : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v13_0 : StableHlo.TRef sig ⟨S128x64x4x64, .f32⟩) ![(.of main_v13_4 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x64x4x64, .f32⟩) (fun x i => Host.dynamicSlice S1x64x4x64 x (fun k => (i k (Shape.Idx.first h_S_)).toInt) sliceFits_S128x64x4x64_S1x64x4x64),
    StableHlo.TRef.reshape (.of main_while0b_call0_v0 : StableHlo.TRef sig ⟨S1x64x4x64, .f32⟩) (.of main_while0b_v27 : StableHlo.TRef sig ⟨S64x4x64, .f32⟩) (rfl : (.f32 : EltTy) = .f32) shapeCasts_S1x64x4x64_S64x4x64 ]
theorem fwdOps_sub : (fwdOps : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- k's chunk. -/
abbrev fwdOps_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v13_1 : StableHlo.TRef sig ⟨S128x64x4x64, .f32⟩) ![(.of main_v13_4 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x64x4x64, .f32⟩) (fun x i => Host.dynamicSlice S1x64x4x64 x (fun k => (i k (Shape.Idx.first h_S_)).toInt) sliceFits_S128x64x4x64_S1x64x4x64),
    StableHlo.TRef.reshape (.of main_while0b_call1_v0 : StableHlo.TRef sig ⟨S1x64x4x64, .f32⟩) (.of main_while0b_v28 : StableHlo.TRef sig ⟨S64x4x64, .f32⟩) (rfl : (.f32 : EltTy) = .f32) shapeCasts_S1x64x4x64_S64x4x64 ]
theorem fwdOps_1_sub : (fwdOps_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- v's chunk. -/
abbrev fwdOps_2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v13_2 : StableHlo.TRef sig ⟨S128x64x4x128, .f32⟩) ![(.of main_v13_4 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x64x4x128, .f32⟩) (fun x i => Host.dynamicSlice S1x64x4x128 x (fun k => (i k (Shape.Idx.first h_S_)).toInt) sliceFits_S128x64x4x128_S1x64x4x128),
    StableHlo.TRef.reshape (.of main_while0b_call2_v0 : StableHlo.TRef sig ⟨S1x64x4x128, .f32⟩) (.of main_while0b_v29 : StableHlo.TRef sig ⟨S64x4x128, .f32⟩) (rfl : (.f32 : EltTy) = .f32) shapeCasts_S1x64x4x128_S64x4x128 ]
theorem fwdOps_2_sub : (fwdOps_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The chunk's decays. -/
abbrev fwdOps_3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.unaryIndexed (.of main_v13_3 : StableHlo.TRef sig ⟨S128x4x64, .f32⟩) ![(.of main_v13_4 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x4x64, .f32⟩) (fun x i => Host.dynamicSlice S1x4x64 x (fun k => (i k (Shape.Idx.first h_S_)).toInt) sliceFits_S128x4x64_S1x4x64),
    StableHlo.TRef.reshape (.of main_while0b_call3_v0 : StableHlo.TRef sig ⟨S1x4x64, .f32⟩) (.of main_while0b_v30 : StableHlo.TRef sig ⟨S4x64, .f32⟩) (rfl : (.f32 : EltTy) = .f32) shapeCasts_S1x4x64_S4x64 ]
theorem fwdOps_3_sub : (fwdOps_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The chunk's new state and output. -/
abbrev fwdOps_4 : List (HloOp τ sig (Elt F)) :=
  [ StableHlo.unary main_while0b_v30 main_while0b_v31 (broadcastInDim S4x64x1 ![0, 1] bcast_S4x64_S4x64x1_0_1 : (⟨S4x64, .f32⟩ : BufTy).Contents (Elt F) → (⟨S4x64x1, .f32⟩ : BufTy).Contents (Elt F)),
    StableHlo.unary main_while0b_v31 main_while0b_v32 (broadcastInDim S4x64x128 ![0, 1, 2] bcast_S4x64x1_S4x64x128_0_1_2 : (⟨S4x64x1, .f32⟩ : BufTy).Contents (Elt F) → (⟨S4x64x128, .f32⟩ : BufTy).Contents (Elt F)),
    StableHlo.binary main_while0b_v32 main_v13_5 main_while0b_v33 (mulf : (⟨S4x64x128, .f32⟩ : BufTy).Contents (Elt F) → (⟨S4x64x128, .f32⟩ : BufTy).Contents (Elt F) → (⟨S4x64x128, .f32⟩ : BufTy).Contents (Elt F)),
    StableHlo.binary main_while0b_v28 main_while0b_v29 main_while0b_v34 ((fun l r => Host.dotGeneral dot_S64x4x64_S64x4x128_S4x64x128_0_0_2_2_1_1 none l r) : (⟨S64x4x64, .f32⟩ : BufTy).Contents (Elt F) → (⟨S64x4x128, .f32⟩ : BufTy).Contents (Elt F) → (⟨S4x64x128, .f32⟩ : BufTy).Contents (Elt F)),
    StableHlo.binary main_while0b_v33 main_while0b_v34 main_while0b_v35 (addf : (⟨S4x64x128, .f32⟩ : BufTy).Contents (Elt F) → (⟨S4x64x128, .f32⟩ : BufTy).Contents (Elt F) → (⟨S4x64x128, .f32⟩ : BufTy).Contents (Elt F)),
    StableHlo.binary main_while0b_v35 main_while0b_v27 main_while0b_v36 ((fun l r => Host.dotGeneral dot_S4x64x128_S64x4x64_S4x128x64_1_2_2_0_0_1 none l r) : (⟨S4x64x128, .f32⟩ : BufTy).Contents (Elt F) → (⟨S64x4x64, .f32⟩ : BufTy).Contents (Elt F) → (⟨S4x128x64, .f32⟩ : BufTy).Contents (Elt F)),
    StableHlo.unary main_while0b_v36 main_while0b_v37 ((transpose S64x4x128 [2, 0, 1] · transposes_S4x128x64_S64x4x128_2_0_1) : (⟨S4x128x64, .f32⟩ : BufTy).Contents (Elt F) → (⟨S64x4x128, .f32⟩ : BufTy).Contents (Elt F)) ]
theorem fwdOps_4_sub : (fwdOps_4 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.binary_bufs_sub .., StableHlo.binary_bufs_sub .., StableHlo.unary_bufs_sub ..⟩

/-- The output put into its rows. -/
abbrev fwdOps_5 : List (HloOp τ sig (Elt F)) :=
  [ StableHlo.TRef.unary (.of main_while0b_v37 : StableHlo.TRef sig ⟨S64x4x128, .f32⟩) (.of main_while0b_call4_v0 : StableHlo.TRef sig ⟨S1x64x4x128, .f32⟩) (broadcastInDim S1x64x4x128 ![1, 2, 3] bcast_S64x4x128_S1x64x4x128_1_2_3),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.binaryIndexed (.of main_v13_6 : StableHlo.TRef sig ⟨S128x64x4x128, .f32⟩) (.of main_while0b_call4_v0 : StableHlo.TRef sig ⟨S1x64x4x128, .f32⟩) ![(.of main_v13_4 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_v38 : StableHlo.TRef sig ⟨S128x64x4x128, .f32⟩) (fun x u i => Host.dynamicUpdateSlice x u (fun k => (i k (Shape.Idx.first h_S_)).toInt) updateFits_S128x64x4x128_S1x64x4x128) ]
theorem fwdOps_5_sub : (fwdOps_5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The state before the chunk saved. -/
abbrev fwdOps_6 : List (HloOp τ sig (Elt F)) :=
  [ StableHlo.TRef.unary (.of main_v13_5 : StableHlo.TRef sig ⟨S4x64x128, .f32⟩) (.of main_while0b_call5_v0 : StableHlo.TRef sig ⟨S1x4x64x128, .f32⟩) (broadcastInDim S1x4x64x128 ![1, 2, 3] bcast_S4x64x128_S1x4x64x128_1_2_3),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.binaryIndexed (.of main_v13_7 : StableHlo.TRef sig ⟨S128x4x64x128, .f32⟩) (.of main_while0b_call5_v0 : StableHlo.TRef sig ⟨S1x4x64x128, .f32⟩) ![(.of main_v13_4 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_v39 : StableHlo.TRef sig ⟨S128x4x64x128, .f32⟩) (fun x u i => Host.dynamicUpdateSlice x u (fun k => (i k (Shape.Idx.first h_S_)).toInt) updateFits_S128x4x64x128_S1x4x64x128) ]
theorem fwdOps_6_sub : (fwdOps_6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The decays saved. -/
abbrev fwdOps_7 : List (HloOp τ sig (Elt F)) :=
  [ StableHlo.TRef.unary (.of main_while0b_v31 : StableHlo.TRef sig ⟨S4x64x1, .f32⟩) (.of main_while0b_call6_v0 : StableHlo.TRef sig ⟨S1x4x64x1, .f32⟩) (broadcastInDim S1x4x64x1 ![1, 2, 3] bcast_S4x64x1_S1x4x64x1_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v13_8 : StableHlo.TRef sig ⟨S128x4x64x1, .f32⟩) (.of main_while0b_call6_v0 : StableHlo.TRef sig ⟨S1x4x64x1, .f32⟩) ![(.of main_v13_4 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v40 : StableHlo.TRef sig ⟨S128x4x64x1, .f32⟩) (fun x u i => Host.dynamicUpdateSlice x u (fun k => (i k (Shape.Idx.first h_S_)).toInt) updateFits_S128x4x64x1_S1x4x64x1) ]
theorem fwdOps_7_sub : (fwdOps_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The state after the chunk saved. -/
abbrev fwdOps_8 : List (HloOp τ sig (Elt F)) :=
  [ StableHlo.TRef.unary (.of main_while0b_v35 : StableHlo.TRef sig ⟨S4x64x128, .f32⟩) (.of main_while0b_call7_v0 : StableHlo.TRef sig ⟨S1x4x64x128, .f32⟩) (broadcastInDim S1x4x64x128 ![1, 2, 3] bcast_S4x64x128_S1x4x64x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v13_9 : StableHlo.TRef sig ⟨S128x4x64x128, .f32⟩) (.of main_while0b_call7_v0 : StableHlo.TRef sig ⟨S1x4x64x128, .f32⟩) ![(.of main_v13_4 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v41 : StableHlo.TRef sig ⟨S128x4x64x128, .f32⟩) (fun x u i => Host.dynamicUpdateSlice x u (fun k => (i k (Shape.Idx.first h_S_)).toInt) updateFits_S128x4x64x128_S1x4x64x128) ]
theorem fwdOps_8_sub : (fwdOps_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The counter's step and the carried arrays' new contents. -/
abbrev fwdOps_9 : List (HloOp τ sig (Elt F)) :=
  [ StableHlo.nullary main_while0b_c_20 (constantI S_ 32 1#32),
    StableHlo.binary main_v13_4 main_while0b_c_20 main_while0b_v42 (addi : (⟨S_, .i32⟩ : BufTy).Contents (Elt F) → (⟨S_, .i32⟩ : BufTy).Contents (Elt F) → (⟨S_, .i32⟩ : BufTy).Contents (Elt F)),
    StableHlo.unary main_while0b_v42 main_v13_4 id,
    StableHlo.unary main_while0b_v35 main_v13_5 id,
    StableHlo.unary main_while0b_v38 main_v13_6 id,
    StableHlo.unary main_while0b_v39 main_v13_7 id,
    StableHlo.unary main_while0b_v40 main_v13_8 id,
    StableHlo.unary main_while0b_v41 main_v13_9 id ]
theorem fwdOps_9_sub : (fwdOps_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

/-- The chunk's number, from the last. -/
abbrev bwdOps : List (HloOp τ sig (Elt F)) :=
  [ StableHlo.nullary main_while1b_c_23 (constantI S_ 32 128#32),
    StableHlo.binary main_while1b_c_23 main_v22_7 main_while1b_v27 (subi : (⟨S_, .i32⟩ : BufTy).Contents (Elt F) → (⟨S_, .i32⟩ : BufTy).Contents (Elt F) → (⟨S_, .i32⟩ : BufTy).Contents (Elt F)),
    StableHlo.nullary main_while1b_c_24 (constantI S_ 32 1#32),
    StableHlo.binary main_while1b_v27 main_while1b_c_24 main_while1b_v28 (subi : (⟨S_, .i32⟩ : BufTy).Contents (Elt F) → (⟨S_, .i32⟩ : BufTy).Contents (Elt F) → (⟨S_, .i32⟩ : BufTy).Contents (Elt F)) ]
theorem bwdOps_sub : (bwdOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- The cotangent's chunk. -/
abbrev bwdOps_1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.unaryIndexed (.of main_v22_0 : StableHlo.TRef sig ⟨S128x64x4x128, .f32⟩) ![(.of main_while1b_v28 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩)] (.of main_while1b_call8_v0 : StableHlo.TRef sig ⟨S1x64x4x128, .f32⟩) (fun x i => Host.dynamicSlice S1x64x4x128 x (fun k => (i k (Shape.Idx.first h_S_)).toInt) sliceFits_S128x64x4x128_S1x64x4x128),
    StableHlo.TRef.reshape (.of main_while1b_call8_v0 : StableHlo.TRef sig ⟨S1x64x4x128, .f32⟩) (.of main_while1b_v29 : StableHlo.TRef sig ⟨S64x4x128, .f32⟩) (rfl : (.f32 : EltTy) = .f32) shapeCasts_S1x64x4x128_S64x4x128 ]
theorem bwdOps_1_sub : (bwdOps_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The state before the chunk. -/
abbrev bwdOps_2 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.unaryIndexed (.of main_v22_1 : StableHlo.TRef sig ⟨S128x4x64x128, .f32⟩) ![(.of main_while1b_v28 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_call9_v0 : StableHlo.TRef sig ⟨S1x4x64x128, .f32⟩) (fun x i => Host.dynamicSlice S1x4x64x128 x (fun k => (i k (Shape.Idx.first h_S_)).toInt) sliceFits_S128x4x64x128_S1x4x64x128),
    StableHlo.TRef.reshape (.of main_while1b_call9_v0 : StableHlo.TRef sig ⟨S1x4x64x128, .f32⟩) (.of main_while1b_v30 : StableHlo.TRef sig ⟨S4x64x128, .f32⟩) (rfl : (.f32 : EltTy) = .f32) shapeCasts_S1x4x64x128_S4x64x128 ]
theorem bwdOps_2_sub : (bwdOps_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The chunk's decays. -/
abbrev bwdOps_3 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v22_2 : StableHlo.TRef sig ⟨S128x4x64x1, .f32⟩) ![(.of main_while1b_v28 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x4x64x1, .f32⟩) (fun x i => Host.dynamicSlice S1x4x64x1 x (fun k => (i k (Shape.Idx.first h_S_)).toInt) sliceFits_S128x4x64x1_S1x4x64x1),
    StableHlo.TRef.reshape (.of main_while1b_call10_v0 : StableHlo.TRef sig ⟨S1x4x64x1, .f32⟩) (.of main_while1b_v31 : StableHlo.TRef sig ⟨S4x64x1, .f32⟩) (rfl : (.f32 : EltTy) = .f32) shapeCasts_S1x4x64x1_S4x64x1 ]
theorem bwdOps_3_sub : (bwdOps_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- v's chunk. -/
abbrev bwdOps_4 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v22_3 : StableHlo.TRef sig ⟨S128x64x4x128, .f32⟩) ![(.of main_while1b_v28 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x64x4x128, .f32⟩) (fun x i => Host.dynamicSlice S1x64x4x128 x (fun k => (i k (Shape.Idx.first h_S_)).toInt) sliceFits_S128x64x4x128_S1x64x4x128),
    StableHlo.TRef.reshape (.of main_while1b_call11_v0 : StableHlo.TRef sig ⟨S1x64x4x128, .f32⟩) (.of main_while1b_v32 : StableHlo.TRef sig ⟨S64x4x128, .f32⟩) (rfl : (.f32 : EltTy) = .f32) shapeCasts_S1x64x4x128_S64x4x128 ]
theorem bwdOps_4_sub : (bwdOps_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- k's chunk. -/
abbrev bwdOps_5 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v22_4 : StableHlo.TRef sig ⟨S128x64x4x64, .f32⟩) ![(.of main_while1b_v28 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x64x4x64, .f32⟩) (fun x i => Host.dynamicSlice S1x64x4x64 x (fun k => (i k (Shape.Idx.first h_S_)).toInt) sliceFits_S128x64x4x64_S1x64x4x64),
    StableHlo.TRef.reshape (.of main_while1b_call12_v0 : StableHlo.TRef sig ⟨S1x64x4x64, .f32⟩) (.of main_while1b_v33 : StableHlo.TRef sig ⟨S64x4x64, .f32⟩) (rfl : (.f32 : EltTy) = .f32) shapeCasts_S1x64x4x64_S64x4x64 ]
theorem bwdOps_5_sub : (bwdOps_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- q's chunk. -/
abbrev bwdOps_6 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v22_5 : StableHlo.TRef sig ⟨S128x64x4x64, .f32⟩) ![(.of main_while1b_v28 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x64x4x64, .f32⟩) (fun x i => Host.dynamicSlice S1x64x4x64 x (fun k => (i k (Shape.Idx.first h_S_)).toInt) sliceFits_S128x64x4x64_S1x64x4x64),
    StableHlo.TRef.reshape (.of main_while1b_call13_v0 : StableHlo.TRef sig ⟨S1x64x4x64, .f32⟩) (.of main_while1b_v34 : StableHlo.TRef sig ⟨S64x4x64, .f32⟩) (rfl : (.f32 : EltTy) = .f32) shapeCasts_S1x64x4x64_S64x4x64 ]
theorem bwdOps_6_sub : (bwdOps_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The state after the chunk. -/
abbrev bwdOps_7 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v22_6 : StableHlo.TRef sig ⟨S128x4x64x128, .f32⟩) ![(.of main_while1b_v28 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x4x64x128, .f32⟩) (fun x i => Host.dynamicSlice S1x4x64x128 x (fun k => (i k (Shape.Idx.first h_S_)).toInt) sliceFits_S128x4x64x128_S1x4x64x128),
    StableHlo.TRef.reshape (.of main_while1b_call14_v0 : StableHlo.TRef sig ⟨S1x4x64x128, .f32⟩) (.of main_while1b_v35 : StableHlo.TRef sig ⟨S4x64x128, .f32⟩) (rfl : (.f32 : EltTy) = .f32) shapeCasts_S1x4x64x128_S4x64x128 ]
theorem bwdOps_7_sub : (bwdOps_7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The chunk's gradients and the next gradient of the state. -/
abbrev bwdOps_8 : List (HloOp τ sig (Elt F)) :=
  [ StableHlo.unary main_while1b_v29 main_while1b_v36 ((transpose S4x128x64 [1, 2, 0] · transposes_S64x4x128_S4x128x64_1_2_0) : (⟨S64x4x128, .f32⟩ : BufTy).Contents (Elt F) → (⟨S4x128x64, .f32⟩ : BufTy).Contents (Elt F)),
    StableHlo.binary main_while1b_v36 main_while1b_v35 main_while1b_v37 ((fun l r => Host.dotGeneral dot_S4x128x64_S4x64x128_S4x64x64_1_2_2_1_0_0 none l r) : (⟨S4x128x64, .f32⟩ : BufTy).Contents (Elt F) → (⟨S4x64x128, .f32⟩ : BufTy).Contents (Elt F) → (⟨S4x64x64, .f32⟩ : BufTy).Contents (Elt F)),
    StableHlo.unary main_while1b_v37 main_while1b_v38 ((transpose S64x4x64 [1, 0, 2] · transposes_S4x64x64_S64x4x64_1_0_2) : (⟨S4x64x64, .f32⟩ : BufTy).Contents (Elt F) → (⟨S64x4x64, .f32⟩ : BufTy).Contents (Elt F)),
    StableHlo.binary main_while1b_v36 main_while1b_v34 main_while1b_v39 ((fun l r => Host.dotGeneral dot_S4x128x64_S64x4x64_S4x128x64_2_0_1_2_0_1 none l r) : (⟨S4x128x64, .f32⟩ : BufTy).Contents (Elt F) → (⟨S64x4x64, .f32⟩ : BufTy).Contents (Elt F) → (⟨S4x128x64, .f32⟩ : BufTy).Contents (Elt F)),
    StableHlo.unary main_while1b_v39 main_while1b_v40 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_v22_8 main_while1b_v40 main_while1b_v41 (addf : (⟨S4x64x128, .f32⟩ : BufTy).Contents (Elt F) → (⟨S4x64x128, .f32⟩ : BufTy).Contents (Elt F) → (⟨S4x64x128, .f32⟩ : BufTy).Contents (Elt F)),
    StableHlo.binary main_while1b_v41 main_while1b_v33 main_while1b_v42 ((fun l r => Host.dotGeneral dot_S4x64x128_S64x4x64_S4x128x64_1_2_2_0_0_1 none l r) : (⟨S4x64x128, .f32⟩ : BufTy).Contents (Elt F) → (⟨S64x4x64, .f32⟩ : BufTy).Contents (Elt F) → (⟨S4x128x64, .f32⟩ : BufTy).Contents (Elt F)),
    StableHlo.unary main_while1b_v42 main_while1b_v43 ((transpose S64x4x128 [2, 0, 1] · transposes_S4x128x64_S64x4x128_2_0_1) : (⟨S4x128x64, .f32⟩ : BufTy).Contents (Elt F) → (⟨S64x4x128, .f32⟩ : BufTy).Contents (Elt F)),
    StableHlo.binary main_while1b_v41 main_while1b_v32 main_while1b_v44 ((fun l r => Host.dotGeneral dot_S4x64x128_S64x4x128_S4x64x64_2_2_1_0_0_1 none l r) : (⟨S4x64x128, .f32⟩ : BufTy).Contents (Elt F) → (⟨S64x4x128, .f32⟩ : BufTy).Contents (Elt F) → (⟨S4x64x64, .f32⟩ : BufTy).Contents (Elt F)),
    StableHlo.unary main_while1b_v44 main_while1b_v45 ((transpose S64x4x64 [2, 0, 1] · transposes_S4x64x64_S64x4x64_2_0_1) : (⟨S4x64x64, .f32⟩ : BufTy).Contents (Elt F) → (⟨S64x4x64, .f32⟩ : BufTy).Contents (Elt F)),
    StableHlo.unary main_while1b_v31 main_while1b_v46 (broadcastInDim S4x64x128 ![0, 1, 2] bcast_S4x64x1_S4x64x128_0_1_2 : (⟨S4x64x1, .f32⟩ : BufTy).Contents (Elt F) → (⟨S4x64x128, .f32⟩ : BufTy).Contents (Elt F)),
    StableHlo.binary main_while1b_v46 main_while1b_v41 main_while1b_v47 (mulf : (⟨S4x64x128, .f32⟩ : BufTy).Contents (Elt F) → (⟨S4x64x128, .f32⟩ : BufTy).Contents (Elt F) → (⟨S4x64x128, .f32⟩ : BufTy).Contents (Elt F)),
    StableHlo.binary main_while1b_v41 main_while1b_v30 main_while1b_v48 (mulf : (⟨S4x64x128, .f32⟩ : BufTy).Contents (Elt F) → (⟨S4x64x128, .f32⟩ : BufTy).Contents (Elt F) → (⟨S4x64x128, .f32⟩ : BufTy).Contents (Elt F)),
    StableHlo.nullary main_while1b_cst_25 (constant S_ .f32 0x00000000#32),
    StableHlo.binary main_while1b_v48 main_while1b_cst_25 main_while1b_v49 ((fun x v => Host.reduceAdd x v reducesTo_S4x64x128_S4x64_d2 h_S_) : (⟨S4x64x128, .f32⟩ : BufTy).Contents (Elt F) → (⟨S_, .f32⟩ : BufTy).Contents (Elt F) → (⟨S4x64, .f32⟩ : BufTy).Contents (Elt F)),
    StableHlo.reshape main_while1b_v49 main_while1b_v50 (rfl : (.f32 : EltTy) = .f32) shapeCasts_S4x64_S4x64x1,
    StableHlo.nullary main_while1b_cst_26 (constant S_ .f32 0x00000000#32),
    StableHlo.binary main_while1b_v50 main_while1b_cst_26 main_while1b_v51 ((fun x v => Host.reduceAdd x v reducesTo_S4x64x1_S4x64_d2 h_S_) : (⟨S4x64x1, .f32⟩ : BufTy).Contents (Elt F) → (⟨S_, .f32⟩ : BufTy).Contents (Elt F) → (⟨S4x64, .f32⟩ : BufTy).Contents (Elt F)) ]
theorem bwdOps_8_sub : (bwdOps_8 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub ..⟩

/-- q's gradient put into its rows. -/
abbrev bwdOps_9 : List (HloOp τ sig (Elt F)) :=
  [ StableHlo.TRef.unary (.of main_while1b_v38 : StableHlo.TRef sig ⟨S64x4x64, .f32⟩) (.of main_while1b_call15_v0 : StableHlo.TRef sig ⟨S1x64x4x64, .f32⟩) (broadcastInDim S1x64x4x64 ![1, 2, 3] bcast_S64x4x64_S1x64x4x64_1_2_3),
    StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.binaryIndexed (.of main_v22_9 : StableHlo.TRef sig ⟨S128x64x4x64, .f32⟩) (.of main_while1b_call15_v0 : StableHlo.TRef sig ⟨S1x64x4x64, .f32⟩) ![(.of main_while1b_v28 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_v52 : StableHlo.TRef sig ⟨S128x64x4x64, .f32⟩) (fun x u i => Host.dynamicUpdateSlice x u (fun k => (i k (Shape.Idx.first h_S_)).toInt) updateFits_S128x64x4x64_S1x64x4x64) ]
theorem bwdOps_9_sub : (bwdOps_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- k's gradient put into its rows. -/
abbrev bwdOps_10 : List (HloOp τ sig (Elt F)) :=
  [ StableHlo.TRef.unary (.of main_while1b_v45 : StableHlo.TRef sig ⟨S64x4x64, .f32⟩) (.of main_while1b_call16_v0 : StableHlo.TRef sig ⟨S1x64x4x64, .f32⟩) (broadcastInDim S1x64x4x64 ![1, 2, 3] bcast_S64x4x64_S1x64x4x64_1_2_3),
    StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.binaryIndexed (.of main_v22_10 : StableHlo.TRef sig ⟨S128x64x4x64, .f32⟩) (.of main_while1b_call16_v0 : StableHlo.TRef sig ⟨S1x64x4x64, .f32⟩) ![(.of main_while1b_v28 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_v53 : StableHlo.TRef sig ⟨S128x64x4x64, .f32⟩) (fun x u i => Host.dynamicUpdateSlice x u (fun k => (i k (Shape.Idx.first h_S_)).toInt) updateFits_S128x64x4x64_S1x64x4x64) ]
theorem bwdOps_10_sub : (bwdOps_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- v's gradient put into its rows. -/
abbrev bwdOps_11 : List (HloOp τ sig (Elt F)) :=
  [ StableHlo.TRef.unary (.of main_while1b_v43 : StableHlo.TRef sig ⟨S64x4x128, .f32⟩) (.of main_while1b_call17_v0 : StableHlo.TRef sig ⟨S1x64x4x128, .f32⟩) (broadcastInDim S1x64x4x128 ![1, 2, 3] bcast_S64x4x128_S1x64x4x128_1_2_3),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.binaryIndexed (.of main_v22_11 : StableHlo.TRef sig ⟨S128x64x4x128, .f32⟩) (.of main_while1b_call17_v0 : StableHlo.TRef sig ⟨S1x64x4x128, .f32⟩) ![(.of main_while1b_v28 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_v54 : StableHlo.TRef sig ⟨S128x64x4x128, .f32⟩) (fun x u i => Host.dynamicUpdateSlice x u (fun k => (i k (Shape.Idx.first h_S_)).toInt) updateFits_S128x64x4x128_S1x64x4x128) ]
theorem bwdOps_11_sub : (bwdOps_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The decays' gradient put into its row. -/
abbrev bwdOps_12 : List (HloOp τ sig (Elt F)) :=
  [ StableHlo.TRef.unary (.of main_while1b_v51 : StableHlo.TRef sig ⟨S4x64, .f32⟩) (.of main_while1b_call18_v0 : StableHlo.TRef sig ⟨S1x4x64, .f32⟩) (broadcastInDim S1x4x64 ![1, 2] bcast_S4x64_S1x4x64_1_2),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.binaryIndexed (.of main_v22_12 : StableHlo.TRef sig ⟨S128x4x64, .f32⟩) (.of main_while1b_call18_v0 : StableHlo.TRef sig ⟨S1x4x64, .f32⟩) ![(.of main_while1b_v28 : StableHlo.TRef sig ⟨S_, .i32⟩), (.of main_while1b_call18_c : StableHlo.TRef sig ⟨S_, .i32⟩), (.of main_while1b_call18_c_0 : StableHlo.TRef sig ⟨S_, .i32⟩)] (.of main_while1b_v55 : StableHlo.TRef sig ⟨S128x4x64, .f32⟩) (fun x u i => Host.dynamicUpdateSlice x u (fun k => (i k (Shape.Idx.first h_S_)).toInt) updateFits_S128x4x64_S1x4x64) ]
theorem bwdOps_12_sub : (bwdOps_12 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- The counter's step and the carried arrays' new contents. -/
abbrev bwdOps_13 : List (HloOp τ sig (Elt F)) :=
  [ StableHlo.nullary main_while1b_c_27 (constantI S_ 32 1#32),
    StableHlo.binary main_v22_7 main_while1b_c_27 main_while1b_v56 (addi : (⟨S_, .i32⟩ : BufTy).Contents (Elt F) → (⟨S_, .i32⟩ : BufTy).Contents (Elt F) → (⟨S_, .i32⟩ : BufTy).Contents (Elt F)),
    StableHlo.unary main_while1b_v56 main_v22_7 id,
    StableHlo.unary main_while1b_v47 main_v22_8 id,
    StableHlo.unary main_while1b_v52 main_v22_9 id,
    StableHlo.unary main_while1b_v53 main_v22_10 id,
    StableHlo.unary main_while1b_v54 main_v22_11 id,
    StableHlo.unary main_while1b_v55 main_v22_12 id ]
theorem bwdOps_13_sub : (bwdOps_13 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

/-! ## The programs as chains of these lists -/

theorem part0_chain (c : Dev nD) : main_part0 (F := F) c = (Pipeline.chainK
    [StableHlo.seq preOps, HostLoop.enter 0, StableHlo.seq midOps, HostLoop.enter 1] (StableHlo.seq endOps) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem part1_chain (c : Dev nD) : main_part1 (F := F) c = (Pipeline.chain [StableHlo.seq endOps_1] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- `main` runs the five pieces in order. -/
theorem main_chain (c : Dev nD) : main (F := F) c = (Pipeline.chain
    [StableHlo.seq preOps, HostLoop.enter 0, StableHlo.seq midOps, HostLoop.enter 1, StableHlo.seq endOps, StableHlo.seq endOps_1] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

theorem fwd_body_chain : main_while0_body (F := F) = (Pipeline.chain
    [StableHlo.seq fwdOps, StableHlo.seq fwdOps_1, StableHlo.seq fwdOps_2, StableHlo.seq fwdOps_3, StableHlo.seq fwdOps_4, StableHlo.seq fwdOps_5, StableHlo.seq fwdOps_6, StableHlo.seq fwdOps_7, StableHlo.seq fwdOps_8, StableHlo.seq fwdOps_9] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem bwd_body_chain : main_while1_body (F := F) = (Pipeline.chain
    [StableHlo.seq bwdOps, StableHlo.seq bwdOps_1, StableHlo.seq bwdOps_2, StableHlo.seq bwdOps_3, StableHlo.seq bwdOps_4, StableHlo.seq bwdOps_5, StableHlo.seq bwdOps_6, StableHlo.seq bwdOps_7, StableHlo.seq bwdOps_8, StableHlo.seq bwdOps_9, StableHlo.seq bwdOps_10, StableHlo.seq bwdOps_11, StableHlo.seq bwdOps_12, StableHlo.seq bwdOps_13] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

end Cert.ReferenceIdeal.Scan

end
-- ==== Proof.RefRun.lean ====
module

public import proofs.«01_k».proof.Proof.RefOps

/-! # The reference program's run

From any memory the reference ends with every array at `fin m`: the five pieces' operations folded over the launch contents, the
two loops' bodies 128 times each. Each loop's counter goes from 0 to 128, so each condition answers as the run asks. -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

/-! ## What each list writes -/

abbrev preOps_W : List (Ref sig .tc) := [main_v0, main_v1, main_v2, main_v3, main_cst, main_v4, main_v5, main_v6, main_v7, main_v8, main_cst_0, main_v9, main_cst_1, main_v10, main_cst_2, main_v11, main_cst_3, main_v12, main_c, main_v13_0, main_v13_1, main_v13_2, main_v13_3, main_v13_4, main_v13_5, main_v13_6, main_v13_7, main_v13_8, main_v13_9]
theorem preOps_writes : (preOps : List (HloOp τ sig (Elt F))).Forall fun op => op.writes ⊆ (preOps_W.map (Proc.devRef (τ := τ) .tc)).toFinset :=
  StableHlo.forall_writes_sub_of_map rfl
theorem preOps_plain : Plain [(preOps : List (HloOp τ sig (Elt F)))] :=
  .cons preOps_sub (hf := List.forall_iff_forall_mem.mp (StableHlo.forall_fresh_of_map rfl)) .nil
/-- An array that `preOps` does not write. -/
theorem preOps_keep (V : Valuation τ sig (Elt F)) (b : Ref sig .tc) (h : b ∉ preOps_W) :
    after preOps V (no_index (Proc.devRef .tc b)) = V (Proc.devRef .tc b) :=
  after_of_writes_sub preOps V preOps_writes h

abbrev midOps_W : List (Ref sig .tc) := [main_v14, main_cst_4, main_v15, main_v16, main_cst_5, main_v17, main_cst_6, main_v18, main_cst_7, main_v19, main_cst_8, main_v20, main_cst_9, main_v21, main_c_10, main_v22_0, main_v22_1, main_v22_2, main_v22_3, main_v22_4, main_v22_5, main_v22_6, main_v22_7, main_v22_8, main_v22_9, main_v22_10, main_v22_11, main_v22_12]
theorem midOps_writes : (midOps : List (HloOp τ sig (Elt F))).Forall fun op => op.writes ⊆ (midOps_W.map (Proc.devRef (τ := τ) .tc)).toFinset :=
  StableHlo.forall_writes_sub_of_map rfl
theorem midOps_plain : Plain [(midOps : List (HloOp τ sig (Elt F)))] :=
  .cons midOps_sub (hf := List.forall_iff_forall_mem.mp (StableHlo.forall_fresh_of_map rfl)) .nil
/-- An array that `midOps` does not write. -/
theorem midOps_keep (V : Valuation τ sig (Elt F)) (b : Ref sig .tc) (h : b ∉ midOps_W) :
    after midOps V (no_index (Proc.devRef .tc b)) = V (Proc.devRef .tc b) :=
  after_of_writes_sub midOps V midOps_writes h

abbrev endOps_W : List (Ref sig .tc) := [main_v23]
theorem endOps_writes : (endOps : List (HloOp τ sig (Elt F))).Forall fun op => op.writes ⊆ (endOps_W.map (Proc.devRef (τ := τ) .tc)).toFinset :=
  StableHlo.forall_writes_sub_of_map rfl
theorem endOps_plain : Plain [(endOps : List (HloOp τ sig (Elt F)))] :=
  .cons endOps_sub (hf := List.forall_iff_forall_mem.mp (StableHlo.forall_fresh_of_map rfl)) .nil
/-- An array that `endOps` does not write. -/
theorem endOps_keep (V : Valuation τ sig (Elt F)) (b : Ref sig .tc) (h : b ∉ endOps_W) :
    after endOps V (no_index (Proc.devRef .tc b)) = V (Proc.devRef .tc b) :=
  after_of_writes_sub endOps V endOps_writes h

abbrev endOps_1_W : List (Ref sig .tc) := [main_v24, main_v25, main_v26]
theorem endOps_1_writes : (endOps_1 : List (HloOp τ sig (Elt F))).Forall fun op => op.writes ⊆ (endOps_1_W.map (Proc.devRef (τ := τ) .tc)).toFinset :=
  StableHlo.forall_writes_sub_of_map rfl
theorem endOps_1_plain : Plain [(endOps_1 : List (HloOp τ sig (Elt F)))] :=
  .cons endOps_1_sub (hf := List.forall_iff_forall_mem.mp (StableHlo.forall_fresh_of_map rfl)) .nil
/-- An array that `endOps_1` does not write. -/
theorem endOps_1_keep (V : Valuation τ sig (Elt F)) (b : Ref sig .tc) (h : b ∉ endOps_1_W) :
    after endOps_1 V (no_index (Proc.devRef .tc b)) = V (Proc.devRef .tc b) :=
  after_of_writes_sub endOps_1 V endOps_1_writes h

abbrev fwdOps_W : List (Ref sig .tc) := [main_while0b_call0_c, main_while0b_call0_c_0, main_while0b_call0_c_1, main_while0b_call0_v0, main_while0b_v27]
theorem fwdOps_writes : (fwdOps : List (HloOp τ sig (Elt F))).Forall fun op => op.writes ⊆ (fwdOps_W.map (Proc.devRef (τ := τ) .tc)).toFinset :=
  StableHlo.forall_writes_sub_of_map rfl
theorem fwdOps_plain : Plain [(fwdOps : List (HloOp τ sig (Elt F)))] :=
  .cons fwdOps_sub (hf := List.forall_iff_forall_mem.mp (StableHlo.forall_fresh_of_map rfl)) .nil
/-- An array that `fwdOps` does not write. -/
theorem fwdOps_keep (V : Valuation τ sig (Elt F)) (b : Ref sig .tc) (h : b ∉ fwdOps_W) :
    after fwdOps V (no_index (Proc.devRef .tc b)) = V (Proc.devRef .tc b) :=
  after_of_writes_sub fwdOps V fwdOps_writes h

abbrev fwdOps_1_W : List (Ref sig .tc) := [main_while0b_call1_c, main_while0b_call1_c_0, main_while0b_call1_c_1, main_while0b_call1_v0, main_while0b_v28]
theorem fwdOps_1_writes : (fwdOps_1 : List (HloOp τ sig (Elt F))).Forall fun op => op.writes ⊆ (fwdOps_1_W.map (Proc.devRef (τ := τ) .tc)).toFinset :=
  StableHlo.forall_writes_sub_of_map rfl
theorem fwdOps_1_plain : Plain [(fwdOps_1 : List (HloOp τ sig (Elt F)))] :=
  .cons fwdOps_1_sub (hf := List.forall_iff_forall_mem.mp (StableHlo.forall_fresh_of_map rfl)) .nil
/-- An array that `fwdOps_1` does not write. -/
theorem fwdOps_1_keep (V : Valuation τ sig (Elt F)) (b : Ref sig .tc) (h : b ∉ fwdOps_1_W) :
    after fwdOps_1 V (no_index (Proc.devRef .tc b)) = V (Proc.devRef .tc b) :=
  after_of_writes_sub fwdOps_1 V fwdOps_1_writes h

abbrev fwdOps_2_W : List (Ref sig .tc) := [main_while0b_call2_c, main_while0b_call2_c_0, main_while0b_call2_c_1, main_while0b_call2_v0, main_while0b_v29]
theorem fwdOps_2_writes : (fwdOps_2 : List (HloOp τ sig (Elt F))).Forall fun op => op.writes ⊆ (fwdOps_2_W.map (Proc.devRef (τ := τ) .tc)).toFinset :=
  StableHlo.forall_writes_sub_of_map rfl
theorem fwdOps_2_plain : Plain [(fwdOps_2 : List (HloOp τ sig (Elt F)))] :=
  .cons fwdOps_2_sub (hf := List.forall_iff_forall_mem.mp (StableHlo.forall_fresh_of_map rfl)) .nil
/-- An array that `fwdOps_2` does not write. -/
theorem fwdOps_2_keep (V : Valuation τ sig (Elt F)) (b : Ref sig .tc) (h : b ∉ fwdOps_2_W) :
    after fwdOps_2 V (no_index (Proc.devRef .tc b)) = V (Proc.devRef .tc b) :=
  after_of_writes_sub fwdOps_2 V fwdOps_2_writes h

abbrev fwdOps_3_W : List (Ref sig .tc) := [main_while0b_call3_c, main_while0b_call3_c_0, main_while0b_call3_v0, main_while0b_v30]
theorem fwdOps_3_writes : (fwdOps_3 : List (HloOp τ sig (Elt F))).Forall fun op => op.writes ⊆ (fwdOps_3_W.map (Proc.devRef (τ := τ) .tc)).toFinset :=
  StableHlo.forall_writes_sub_of_map rfl
theorem fwdOps_3_plain : Plain [(fwdOps_3 : List (HloOp τ sig (Elt F)))] :=
  .cons fwdOps_3_sub (hf := List.forall_iff_forall_mem.mp (StableHlo.forall_fresh_of_map rfl)) .nil
/-- An array that `fwdOps_3` does not write. -/
theorem fwdOps_3_keep (V : Valuation τ sig (Elt F)) (b : Ref sig .tc) (h : b ∉ fwdOps_3_W) :
    after fwdOps_3 V (no_index (Proc.devRef .tc b)) = V (Proc.devRef .tc b) :=
  after_of_writes_sub fwdOps_3 V fwdOps_3_writes h

abbrev fwdOps_4_W : List (Ref sig .tc) := [main_while0b_v31, main_while0b_v32, main_while0b_v33, main_while0b_v34, main_while0b_v35, main_while0b_v36, main_while0b_v37]
theorem fwdOps_4_writes : (fwdOps_4 : List (HloOp τ sig (Elt F))).Forall fun op => op.writes ⊆ (fwdOps_4_W.map (Proc.devRef (τ := τ) .tc)).toFinset :=
  StableHlo.forall_writes_sub_of_map rfl
theorem fwdOps_4_plain : Plain [(fwdOps_4 : List (HloOp τ sig (Elt F)))] :=
  .cons fwdOps_4_sub (hf := List.forall_iff_forall_mem.mp (StableHlo.forall_fresh_of_map rfl)) .nil
/-- An array that `fwdOps_4` does not write. -/
theorem fwdOps_4_keep (V : Valuation τ sig (Elt F)) (b : Ref sig .tc) (h : b ∉ fwdOps_4_W) :
    after fwdOps_4 V (no_index (Proc.devRef .tc b)) = V (Proc.devRef .tc b) :=
  after_of_writes_sub fwdOps_4 V fwdOps_4_writes h

abbrev fwdOps_5_W : List (Ref sig .tc) := [main_while0b_call4_v0, main_while0b_call4_c, main_while0b_call4_c_0, main_while0b_call4_c_1, main_while0b_v38]
theorem fwdOps_5_writes : (fwdOps_5 : List (HloOp τ sig (Elt F))).Forall fun op => op.writes ⊆ (fwdOps_5_W.map (Proc.devRef (τ := τ) .tc)).toFinset :=
  StableHlo.forall_writes_sub_of_map rfl
theorem fwdOps_5_plain : Plain [(fwdOps_5 : List (HloOp τ sig (Elt F)))] :=
  .cons fwdOps_5_sub (hf := List.forall_iff_forall_mem.mp (StableHlo.forall_fresh_of_map rfl)) .nil
/-- An array that `fwdOps_5` does not write. -/
theorem fwdOps_5_keep (V : Valuation τ sig (Elt F)) (b : Ref sig .tc) (h : b ∉ fwdOps_5_W) :
    after fwdOps_5 V (no_index (Proc.devRef .tc b)) = V (Proc.devRef .tc b) :=
  after_of_writes_sub fwdOps_5 V fwdOps_5_writes h

abbrev fwdOps_6_W : List (Ref sig .tc) := [main_while0b_call5_v0, main_while0b_call5_c, main_while0b_call5_c_0, main_while0b_call5_c_1, main_while0b_v39]
theorem fwdOps_6_writes : (fwdOps_6 : List (HloOp τ sig (Elt F))).Forall fun op => op.writes ⊆ (fwdOps_6_W.map (Proc.devRef (τ := τ) .tc)).toFinset :=
  StableHlo.forall_writes_sub_of_map rfl
theorem fwdOps_6_plain : Plain [(fwdOps_6 : List (HloOp τ sig (Elt F)))] :=
  .cons fwdOps_6_sub (hf := List.forall_iff_forall_mem.mp (StableHlo.forall_fresh_of_map rfl)) .nil
/-- An array that `fwdOps_6` does not write. -/
theorem fwdOps_6_keep (V : Valuation τ sig (Elt F)) (b : Ref sig .tc) (h : b ∉ fwdOps_6_W) :
    after fwdOps_6 V (no_index (Proc.devRef .tc b)) = V (Proc.devRef .tc b) :=
  after_of_writes_sub fwdOps_6 V fwdOps_6_writes h

abbrev fwdOps_7_W : List (Ref sig .tc) := [main_while0b_call6_v0, main_while0b_call6_c, main_while0b_call6_c_0, main_while0b_call6_c_1, main_while0b_v40]
theorem fwdOps_7_writes : (fwdOps_7 : List (HloOp τ sig (Elt F))).Forall fun op => op.writes ⊆ (fwdOps_7_W.map (Proc.devRef (τ := τ) .tc)).toFinset :=
  StableHlo.forall_writes_sub_of_map rfl
theorem fwdOps_7_plain : Plain [(fwdOps_7 : List (HloOp τ sig (Elt F)))] :=
  .cons fwdOps_7_sub (hf := List.forall_iff_forall_mem.mp (StableHlo.forall_fresh_of_map rfl)) .nil
/-- An array that `fwdOps_7` does not write. -/
theorem fwdOps_7_keep (V : Valuation τ sig (Elt F)) (b : Ref sig .tc) (h : b ∉ fwdOps_7_W) :
    after fwdOps_7 V (no_index (Proc.devRef .tc b)) = V (Proc.devRef .tc b) :=
  after_of_writes_sub fwdOps_7 V fwdOps_7_writes h

abbrev fwdOps_8_W : List (Ref sig .tc) := [main_while0b_call7_v0, main_while0b_call7_c, main_while0b_call7_c_0, main_while0b_call7_c_1, main_while0b_v41]
theorem fwdOps_8_writes : (fwdOps_8 : List (HloOp τ sig (Elt F))).Forall fun op => op.writes ⊆ (fwdOps_8_W.map (Proc.devRef (τ := τ) .tc)).toFinset :=
  StableHlo.forall_writes_sub_of_map rfl
theorem fwdOps_8_plain : Plain [(fwdOps_8 : List (HloOp τ sig (Elt F)))] :=
  .cons fwdOps_8_sub (hf := List.forall_iff_forall_mem.mp (StableHlo.forall_fresh_of_map rfl)) .nil
/-- An array that `fwdOps_8` does not write. -/
theorem fwdOps_8_keep (V : Valuation τ sig (Elt F)) (b : Ref sig .tc) (h : b ∉ fwdOps_8_W) :
    after fwdOps_8 V (no_index (Proc.devRef .tc b)) = V (Proc.devRef .tc b) :=
  after_of_writes_sub fwdOps_8 V fwdOps_8_writes h

abbrev fwdOps_9_W : List (Ref sig .tc) := [main_while0b_c_20, main_while0b_v42, main_v13_4, main_v13_5, main_v13_6, main_v13_7, main_v13_8, main_v13_9]
theorem fwdOps_9_writes : (fwdOps_9 : List (HloOp τ sig (Elt F))).Forall fun op => op.writes ⊆ (fwdOps_9_W.map (Proc.devRef (τ := τ) .tc)).toFinset :=
  StableHlo.forall_writes_sub_of_map rfl
theorem fwdOps_9_plain : Plain [(fwdOps_9 : List (HloOp τ sig (Elt F)))] :=
  .cons fwdOps_9_sub (hf := List.forall_iff_forall_mem.mp (StableHlo.forall_fresh_of_map rfl)) .nil
/-- An array that `fwdOps_9` does not write. -/
theorem fwdOps_9_keep (V : Valuation τ sig (Elt F)) (b : Ref sig .tc) (h : b ∉ fwdOps_9_W) :
    after fwdOps_9 V (no_index (Proc.devRef .tc b)) = V (Proc.devRef .tc b) :=
  after_of_writes_sub fwdOps_9 V fwdOps_9_writes h

abbrev bwdOps_W : List (Ref sig .tc) := [main_while1b_c_23, main_while1b_v27, main_while1b_c_24, main_while1b_v28]
theorem bwdOps_writes : (bwdOps : List (HloOp τ sig (Elt F))).Forall fun op => op.writes ⊆ (bwdOps_W.map (Proc.devRef (τ := τ) .tc)).toFinset :=
  StableHlo.forall_writes_sub_of_map rfl
theorem bwdOps_plain : Plain [(bwdOps : List (HloOp τ sig (Elt F)))] :=
  .cons bwdOps_sub (hf := List.forall_iff_forall_mem.mp (StableHlo.forall_fresh_of_map rfl)) .nil
/-- An array that `bwdOps` does not write. -/
theorem bwdOps_keep (V : Valuation τ sig (Elt F)) (b : Ref sig .tc) (h : b ∉ bwdOps_W) :
    after bwdOps V (no_index (Proc.devRef .tc b)) = V (Proc.devRef .tc b) :=
  after_of_writes_sub bwdOps V bwdOps_writes h

abbrev bwdOps_1_W : List (Ref sig .tc) := [main_while1b_call8_c, main_while1b_call8_c_0, main_while1b_call8_c_1, main_while1b_call8_v0, main_while1b_v29]
theorem bwdOps_1_writes : (bwdOps_1 : List (HloOp τ sig (Elt F))).Forall fun op => op.writes ⊆ (bwdOps_1_W.map (Proc.devRef (τ := τ) .tc)).toFinset :=
  StableHlo.forall_writes_sub_of_map rfl
theorem bwdOps_1_plain : Plain [(bwdOps_1 : List (HloOp τ sig (Elt F)))] :=
  .cons bwdOps_1_sub (hf := List.forall_iff_forall_mem.mp (StableHlo.forall_fresh_of_map rfl)) .nil
/-- An array that `bwdOps_1` does not write. -/
theorem bwdOps_1_keep (V : Valuation τ sig (Elt F)) (b : Ref sig .tc) (h : b ∉ bwdOps_1_W) :
    after bwdOps_1 V (no_index (Proc.devRef .tc b)) = V (Proc.devRef .tc b) :=
  after_of_writes_sub bwdOps_1 V bwdOps_1_writes h

abbrev bwdOps_2_W : List (Ref sig .tc) := [main_while1b_call9_c, main_while1b_call9_c_0, main_while1b_call9_c_1, main_while1b_call9_v0, main_while1b_v30]
theorem bwdOps_2_writes : (bwdOps_2 : List (HloOp τ sig (Elt F))).Forall fun op => op.writes ⊆ (bwdOps_2_W.map (Proc.devRef (τ := τ) .tc)).toFinset :=
  StableHlo.forall_writes_sub_of_map rfl
theorem bwdOps_2_plain : Plain [(bwdOps_2 : List (HloOp τ sig (Elt F)))] :=
  .cons bwdOps_2_sub (hf := List.forall_iff_forall_mem.mp (StableHlo.forall_fresh_of_map rfl)) .nil
/-- An array that `bwdOps_2` does not write. -/
theorem bwdOps_2_keep (V : Valuation τ sig (Elt F)) (b : Ref sig .tc) (h : b ∉ bwdOps_2_W) :
    after bwdOps_2 V (no_index (Proc.devRef .tc b)) = V (Proc.devRef .tc b) :=
  after_of_writes_sub bwdOps_2 V bwdOps_2_writes h

abbrev bwdOps_3_W : List (Ref sig .tc) := [main_while1b_call10_c, main_while1b_call10_c_0, main_while1b_call10_c_1, main_while1b_call10_v0, main_while1b_v31]
theorem bwdOps_3_writes : (bwdOps_3 : List (HloOp τ sig (Elt F))).Forall fun op => op.writes ⊆ (bwdOps_3_W.map (Proc.devRef (τ := τ) .tc)).toFinset :=
  StableHlo.forall_writes_sub_of_map rfl
theorem bwdOps_3_plain : Plain [(bwdOps_3 : List (HloOp τ sig (Elt F)))] :=
  .cons bwdOps_3_sub (hf := List.forall_iff_forall_mem.mp (StableHlo.forall_fresh_of_map rfl)) .nil
/-- An array that `bwdOps_3` does not write. -/
theorem bwdOps_3_keep (V : Valuation τ sig (Elt F)) (b : Ref sig .tc) (h : b ∉ bwdOps_3_W) :
    after bwdOps_3 V (no_index (Proc.devRef .tc b)) = V (Proc.devRef .tc b) :=
  after_of_writes_sub bwdOps_3 V bwdOps_3_writes h

abbrev bwdOps_4_W : List (Ref sig .tc) := [main_while1b_call11_c, main_while1b_call11_c_0, main_while1b_call11_c_1, main_while1b_call11_v0, main_while1b_v32]
theorem bwdOps_4_writes : (bwdOps_4 : List (HloOp τ sig (Elt F))).Forall fun op => op.writes ⊆ (bwdOps_4_W.map (Proc.devRef (τ := τ) .tc)).toFinset :=
  StableHlo.forall_writes_sub_of_map rfl
theorem bwdOps_4_plain : Plain [(bwdOps_4 : List (HloOp τ sig (Elt F)))] :=
  .cons bwdOps_4_sub (hf := List.forall_iff_forall_mem.mp (StableHlo.forall_fresh_of_map rfl)) .nil
/-- An array that `bwdOps_4` does not write. -/
theorem bwdOps_4_keep (V : Valuation τ sig (Elt F)) (b : Ref sig .tc) (h : b ∉ bwdOps_4_W) :
    after bwdOps_4 V (no_index (Proc.devRef .tc b)) = V (Proc.devRef .tc b) :=
  after_of_writes_sub bwdOps_4 V bwdOps_4_writes h

abbrev bwdOps_5_W : List (Ref sig .tc) := [main_while1b_call12_c, main_while1b_call12_c_0, main_while1b_call12_c_1, main_while1b_call12_v0, main_while1b_v33]
theorem bwdOps_5_writes : (bwdOps_5 : List (HloOp τ sig (Elt F))).Forall fun op => op.writes ⊆ (bwdOps_5_W.map (Proc.devRef (τ := τ) .tc)).toFinset :=
  StableHlo.forall_writes_sub_of_map rfl
theorem bwdOps_5_plain : Plain [(bwdOps_5 : List (HloOp τ sig (Elt F)))] :=
  .cons bwdOps_5_sub (hf := List.forall_iff_forall_mem.mp (StableHlo.forall_fresh_of_map rfl)) .nil
/-- An array that `bwdOps_5` does not write. -/
theorem bwdOps_5_keep (V : Valuation τ sig (Elt F)) (b : Ref sig .tc) (h : b ∉ bwdOps_5_W) :
    after bwdOps_5 V (no_index (Proc.devRef .tc b)) = V (Proc.devRef .tc b) :=
  after_of_writes_sub bwdOps_5 V bwdOps_5_writes h

abbrev bwdOps_6_W : List (Ref sig .tc) := [main_while1b_call13_c, main_while1b_call13_c_0, main_while1b_call13_c_1, main_while1b_call13_v0, main_while1b_v34]
theorem bwdOps_6_writes : (bwdOps_6 : List (HloOp τ sig (Elt F))).Forall fun op => op.writes ⊆ (bwdOps_6_W.map (Proc.devRef (τ := τ) .tc)).toFinset :=
  StableHlo.forall_writes_sub_of_map rfl
theorem bwdOps_6_plain : Plain [(bwdOps_6 : List (HloOp τ sig (Elt F)))] :=
  .cons bwdOps_6_sub (hf := List.forall_iff_forall_mem.mp (StableHlo.forall_fresh_of_map rfl)) .nil
/-- An array that `bwdOps_6` does not write. -/
theorem bwdOps_6_keep (V : Valuation τ sig (Elt F)) (b : Ref sig .tc) (h : b ∉ bwdOps_6_W) :
    after bwdOps_6 V (no_index (Proc.devRef .tc b)) = V (Proc.devRef .tc b) :=
  after_of_writes_sub bwdOps_6 V bwdOps_6_writes h

abbrev bwdOps_7_W : List (Ref sig .tc) := [main_while1b_call14_c, main_while1b_call14_c_0, main_while1b_call14_c_1, main_while1b_call14_v0, main_while1b_v35]
theorem bwdOps_7_writes : (bwdOps_7 : List (HloOp τ sig (Elt F))).Forall fun op => op.writes ⊆ (bwdOps_7_W.map (Proc.devRef (τ := τ) .tc)).toFinset :=
  StableHlo.forall_writes_sub_of_map rfl
theorem bwdOps_7_plain : Plain [(bwdOps_7 : List (HloOp τ sig (Elt F)))] :=
  .cons bwdOps_7_sub (hf := List.forall_iff_forall_mem.mp (StableHlo.forall_fresh_of_map rfl)) .nil
/-- An array that `bwdOps_7` does not write. -/
theorem bwdOps_7_keep (V : Valuation τ sig (Elt F)) (b : Ref sig .tc) (h : b ∉ bwdOps_7_W) :
    after bwdOps_7 V (no_index (Proc.devRef .tc b)) = V (Proc.devRef .tc b) :=
  after_of_writes_sub bwdOps_7 V bwdOps_7_writes h

abbrev bwdOps_8_W : List (Ref sig .tc) := [main_while1b_v36, main_while1b_v37, main_while1b_v38, main_while1b_v39, main_while1b_v40, main_while1b_v41, main_while1b_v42, main_while1b_v43, main_while1b_v44, main_while1b_v45, main_while1b_v46, main_while1b_v47, main_while1b_v48, main_while1b_cst_25, main_while1b_v49, main_while1b_v50, main_while1b_cst_26, main_while1b_v51]
theorem bwdOps_8_writes : (bwdOps_8 : List (HloOp τ sig (Elt F))).Forall fun op => op.writes ⊆ (bwdOps_8_W.map (Proc.devRef (τ := τ) .tc)).toFinset :=
  StableHlo.forall_writes_sub_of_map rfl
theorem bwdOps_8_plain : Plain [(bwdOps_8 : List (HloOp τ sig (Elt F)))] :=
  .cons bwdOps_8_sub (hf := List.forall_iff_forall_mem.mp (StableHlo.forall_fresh_of_map rfl)) .nil
/-- An array that `bwdOps_8` does not write. -/
theorem bwdOps_8_keep (V : Valuation τ sig (Elt F)) (b : Ref sig .tc) (h : b ∉ bwdOps_8_W) :
    after bwdOps_8 V (no_index (Proc.devRef .tc b)) = V (Proc.devRef .tc b) :=
  after_of_writes_sub bwdOps_8 V bwdOps_8_writes h

abbrev bwdOps_9_W : List (Ref sig .tc) := [main_while1b_call15_v0, main_while1b_call15_c, main_while1b_call15_c_0, main_while1b_call15_c_1, main_while1b_v52]
theorem bwdOps_9_writes : (bwdOps_9 : List (HloOp τ sig (Elt F))).Forall fun op => op.writes ⊆ (bwdOps_9_W.map (Proc.devRef (τ := τ) .tc)).toFinset :=
  StableHlo.forall_writes_sub_of_map rfl
theorem bwdOps_9_plain : Plain [(bwdOps_9 : List (HloOp τ sig (Elt F)))] :=
  .cons bwdOps_9_sub (hf := List.forall_iff_forall_mem.mp (StableHlo.forall_fresh_of_map rfl)) .nil
/-- An array that `bwdOps_9` does not write. -/
theorem bwdOps_9_keep (V : Valuation τ sig (Elt F)) (b : Ref sig .tc) (h : b ∉ bwdOps_9_W) :
    after bwdOps_9 V (no_index (Proc.devRef .tc b)) = V (Proc.devRef .tc b) :=
  after_of_writes_sub bwdOps_9 V bwdOps_9_writes h

abbrev bwdOps_10_W : List (Ref sig .tc) := [main_while1b_call16_v0, main_while1b_call16_c, main_while1b_call16_c_0, main_while1b_call16_c_1, main_while1b_v53]
theorem bwdOps_10_writes : (bwdOps_10 : List (HloOp τ sig (Elt F))).Forall fun op => op.writes ⊆ (bwdOps_10_W.map (Proc.devRef (τ := τ) .tc)).toFinset :=
  StableHlo.forall_writes_sub_of_map rfl
theorem bwdOps_10_plain : Plain [(bwdOps_10 : List (HloOp τ sig (Elt F)))] :=
  .cons bwdOps_10_sub (hf := List.forall_iff_forall_mem.mp (StableHlo.forall_fresh_of_map rfl)) .nil
/-- An array that `bwdOps_10` does not write. -/
theorem bwdOps_10_keep (V : Valuation τ sig (Elt F)) (b : Ref sig .tc) (h : b ∉ bwdOps_10_W) :
    after bwdOps_10 V (no_index (Proc.devRef .tc b)) = V (Proc.devRef .tc b) :=
  after_of_writes_sub bwdOps_10 V bwdOps_10_writes h

abbrev bwdOps_11_W : List (Ref sig .tc) := [main_while1b_call17_v0, main_while1b_call17_c, main_while1b_call17_c_0, main_while1b_call17_c_1, main_while1b_v54]
theorem bwdOps_11_writes : (bwdOps_11 : List (HloOp τ sig (Elt F))).Forall fun op => op.writes ⊆ (bwdOps_11_W.map (Proc.devRef (τ := τ) .tc)).toFinset :=
  StableHlo.forall_writes_sub_of_map rfl
theorem bwdOps_11_plain : Plain [(bwdOps_11 : List (HloOp τ sig (Elt F)))] :=
  .cons bwdOps_11_sub (hf := List.forall_iff_forall_mem.mp (StableHlo.forall_fresh_of_map rfl)) .nil
/-- An array that `bwdOps_11` does not write. -/
theorem bwdOps_11_keep (V : Valuation τ sig (Elt F)) (b : Ref sig .tc) (h : b ∉ bwdOps_11_W) :
    after bwdOps_11 V (no_index (Proc.devRef .tc b)) = V (Proc.devRef .tc b) :=
  after_of_writes_sub bwdOps_11 V bwdOps_11_writes h

abbrev bwdOps_12_W : List (Ref sig .tc) := [main_while1b_call18_v0, main_while1b_call18_c, main_while1b_call18_c_0, main_while1b_v55]
theorem bwdOps_12_writes : (bwdOps_12 : List (HloOp τ sig (Elt F))).Forall fun op => op.writes ⊆ (bwdOps_12_W.map (Proc.devRef (τ := τ) .tc)).toFinset :=
  StableHlo.forall_writes_sub_of_map rfl
theorem bwdOps_12_plain : Plain [(bwdOps_12 : List (HloOp τ sig (Elt F)))] :=
  .cons bwdOps_12_sub (hf := List.forall_iff_forall_mem.mp (StableHlo.forall_fresh_of_map rfl)) .nil
/-- An array that `bwdOps_12` does not write. -/
theorem bwdOps_12_keep (V : Valuation τ sig (Elt F)) (b : Ref sig .tc) (h : b ∉ bwdOps_12_W) :
    after bwdOps_12 V (no_index (Proc.devRef .tc b)) = V (Proc.devRef .tc b) :=
  after_of_writes_sub bwdOps_12 V bwdOps_12_writes h

abbrev bwdOps_13_W : List (Ref sig .tc) := [main_while1b_c_27, main_while1b_v56, main_v22_7, main_v22_8, main_v22_9, main_v22_10, main_v22_11, main_v22_12]
theorem bwdOps_13_writes : (bwdOps_13 : List (HloOp τ sig (Elt F))).Forall fun op => op.writes ⊆ (bwdOps_13_W.map (Proc.devRef (τ := τ) .tc)).toFinset :=
  StableHlo.forall_writes_sub_of_map rfl
theorem bwdOps_13_plain : Plain [(bwdOps_13 : List (HloOp τ sig (Elt F)))] :=
  .cons bwdOps_13_sub (hf := List.forall_iff_forall_mem.mp (StableHlo.forall_fresh_of_map rfl)) .nil
/-- An array that `bwdOps_13` does not write. -/
theorem bwdOps_13_keep (V : Valuation τ sig (Elt F)) (b : Ref sig .tc) (h : b ∉ bwdOps_13_W) :
    after bwdOps_13 V (no_index (Proc.devRef .tc b)) = V (Proc.devRef .tc b) :=
  after_of_writes_sub bwdOps_13 V bwdOps_13_writes h

/-! ## The loops -/

theorem plain_cons {ops : List (HloOp τ sig (Elt F))} {l : List (List (HloOp τ sig (Elt F)))} (h : Plain [ops]) (hl : Plain l) : Plain (ops :: l) :=
  fun o ho => (List.mem_cons.mp ho).elim (fun e => e ▸ h _ List.mem_cons_self) (hl o)

/-- The condition of the fwd loop: the bound, and the counter compared with it. -/
abbrev fwdCond : List (HloOp τ sig (Elt F)) :=
  [StableHlo.nullary main_while0c_c_20 (constantI S_ 32 128#32), StableHlo.binary main_v13_4 main_while0c_c_20 main_while0c_v27 (cmpi .slt)]
abbrev fwdCond_W : List (Ref sig .tc) := [main_while0c_c_20, main_while0c_v27]
theorem fwdCond_writes : (fwdCond : List (HloOp τ sig (Elt F))).Forall fun op => op.writes ⊆ (fwdCond_W.map (Proc.devRef (τ := τ) .tc)).toFinset :=
  StableHlo.forall_writes_sub_of_map rfl
theorem fwdCond_keep (V : Valuation τ sig (Elt F)) (b : Ref sig .tc) (h : b ∉ fwdCond_W) :
    after fwdCond V (no_index (Proc.devRef .tc b)) = V (Proc.devRef .tc b) :=
  after_of_writes_sub fwdCond V fwdCond_writes h

/-- One trip of the fwd loop. -/
abbrev fwdBody : List (List (HloOp τ sig (Elt F))) := [fwdOps, fwdOps_1, fwdOps_2, fwdOps_3, fwdOps_4, fwdOps_5, fwdOps_6, fwdOps_7, fwdOps_8, fwdOps_9]
theorem fwdBody_plain : Plain (fwdBody (F := F)) :=
  (plain_cons fwdOps_plain (plain_cons fwdOps_1_plain (plain_cons fwdOps_2_plain (plain_cons fwdOps_3_plain (plain_cons fwdOps_4_plain (plain_cons fwdOps_5_plain (plain_cons fwdOps_6_plain (plain_cons fwdOps_7_plain (plain_cons fwdOps_8_plain (plain_cons fwdOps_9_plain .nil))))))))))

/-- The condition of the bwd loop: the bound, and the counter compared with it. -/
abbrev bwdCond : List (HloOp τ sig (Elt F)) :=
  [StableHlo.nullary main_while1c_c_23 (constantI S_ 32 128#32), StableHlo.binary main_v22_7 main_while1c_c_23 main_while1c_v27 (cmpi .slt)]
abbrev bwdCond_W : List (Ref sig .tc) := [main_while1c_c_23, main_while1c_v27]
theorem bwdCond_writes : (bwdCond : List (HloOp τ sig (Elt F))).Forall fun op => op.writes ⊆ (bwdCond_W.map (Proc.devRef (τ := τ) .tc)).toFinset :=
  StableHlo.forall_writes_sub_of_map rfl
theorem bwdCond_keep (V : Valuation τ sig (Elt F)) (b : Ref sig .tc) (h : b ∉ bwdCond_W) :
    after bwdCond V (no_index (Proc.devRef .tc b)) = V (Proc.devRef .tc b) :=
  after_of_writes_sub bwdCond V bwdCond_writes h

/-- One trip of the bwd loop. -/
abbrev bwdBody : List (List (HloOp τ sig (Elt F))) := [bwdOps, bwdOps_1, bwdOps_2, bwdOps_3, bwdOps_4, bwdOps_5, bwdOps_6, bwdOps_7, bwdOps_8, bwdOps_9, bwdOps_10, bwdOps_11, bwdOps_12, bwdOps_13]
theorem bwdBody_plain : Plain (bwdBody (F := F)) :=
  (plain_cons bwdOps_plain (plain_cons bwdOps_1_plain (plain_cons bwdOps_2_plain (plain_cons bwdOps_3_plain (plain_cons bwdOps_4_plain (plain_cons bwdOps_5_plain (plain_cons bwdOps_6_plain (plain_cons bwdOps_7_plain (plain_cons bwdOps_8_plain (plain_cons bwdOps_9_plain (plain_cons bwdOps_10_plain (plain_cons bwdOps_11_plain (plain_cons bwdOps_12_plain (plain_cons bwdOps_13_plain .nil))))))))))))))

variable (m : (ℓ : Loc nD τ sig) → Buf (Elt F) ℓ) (ρ : Dev nD → PrngReg)

/-- The arrays when the first loop is entered. -/
abbrev fwdIn (c : Dev nD) : Valuation τ sig (Elt F) := after preOps (launchContents m c)
/-- The arrays before the `k`-th trip of the first loop. -/
abbrev fwdAt (k : ℕ) (c : Dev nD) : Valuation τ sig (Elt F) := atTrip fwdCond fwdBody (fwdIn m) k c
/-- The arrays when the second loop is entered. -/
abbrev bwdIn (c : Dev nD) : Valuation τ sig (Elt F) := after midOps (after fwdCond (fwdAt m 128 c))
/-- The arrays before the `k`-th trip of the second loop. -/
abbrev bwdAt (k : ℕ) (c : Dev nD) : Valuation τ sig (Elt F) := atTrip bwdCond bwdBody (bwdIn m) k c
/-- The arrays at the end. -/
abbrev fin (c : Dev nD) : Valuation τ sig (Elt F) := after endOps_1 (after endOps (after bwdCond (bwdAt m 128 c)))

set_option maxRecDepth 100000 in
theorem fwd_ctr_step (X : Valuation τ sig (Elt F)) :
    after fwdOps_9 X (Proc.devRef .tc main_v13_4) = addi (X (Proc.devRef .tc main_v13_4)) (constantI S_ 32 1#32) := by
  after_results
  rfl

theorem fwd_ctr_entry (c : Dev nD) : fwdIn m c (Proc.devRef .tc main_v13_4) = fun _ => (0#32 : BitVec 32) := by
  unfold fwdIn
  after_reads_simp
  rfl

/-- Before trip `k` the counter is `k`. -/
theorem fwd_ctr (c : Dev nD) : ∀ k, fwdAt m k c (Proc.devRef .tc main_v13_4) = fun _ => Scf.iv 0#32 1#32 k
  | 0 => by rw [show fwdAt m 0 c = fwdIn m c from rfl, fwd_ctr_entry, Scf.iv_zero]
  | k + 1 => by
    rw [show fwdAt m (k + 1) c = afterL fwdBody (after fwdCond (fwdAt m k c)) from rfl]
    simp only [afterL_cons, afterL_nil]
    rw [fwd_ctr_step, fwdOps_8_keep _ _ (by decide), fwdOps_7_keep _ _ (by decide), fwdOps_6_keep _ _ (by decide), fwdOps_5_keep _ _ (by decide), fwdOps_4_keep _ _ (by decide), fwdOps_3_keep _ _ (by decide), fwdOps_2_keep _ _ (by decide), fwdOps_1_keep _ _ (by decide), fwdOps_keep _ _ (by decide),
      fwdCond_keep _ _ (by decide), fwd_ctr c k, Scf.iv_succ]
    rfl

set_option maxRecDepth 100000 in
theorem bwd_ctr_step (X : Valuation τ sig (Elt F)) :
    after bwdOps_13 X (Proc.devRef .tc main_v22_7) = addi (X (Proc.devRef .tc main_v22_7)) (constantI S_ 32 1#32) := by
  after_results
  rfl

theorem bwd_ctr_entry (c : Dev nD) : bwdIn m c (Proc.devRef .tc main_v22_7) = fun _ => (0#32 : BitVec 32) := by
  unfold bwdIn
  after_reads_simp
  rfl

/-- Before trip `k` the counter is `k`. -/
theorem bwd_ctr (c : Dev nD) : ∀ k, bwdAt m k c (Proc.devRef .tc main_v22_7) = fun _ => Scf.iv 0#32 1#32 k
  | 0 => by rw [show bwdAt m 0 c = bwdIn m c from rfl, bwd_ctr_entry, Scf.iv_zero]
  | k + 1 => by
    rw [show bwdAt m (k + 1) c = afterL bwdBody (after bwdCond (bwdAt m k c)) from rfl]
    simp only [afterL_cons, afterL_nil]
    rw [bwd_ctr_step, bwdOps_12_keep _ _ (by decide), bwdOps_11_keep _ _ (by decide), bwdOps_10_keep _ _ (by decide), bwdOps_9_keep _ _ (by decide), bwdOps_8_keep _ _ (by decide), bwdOps_7_keep _ _ (by decide), bwdOps_6_keep _ _ (by decide), bwdOps_5_keep _ _ (by decide), bwdOps_4_keep _ _ (by decide), bwdOps_3_keep _ _ (by decide), bwdOps_2_keep _ _ (by decide), bwdOps_1_keep _ _ (by decide), bwdOps_keep _ _ (by decide),
      bwdCond_keep _ _ (by decide), bwd_ctr c k, Scf.iv_succ]
    rfl

/-! ## The run -/

local notation "𝕄" => MT nD τ sig Unit (Elt F) ℕ (Option PUnit) ℕ

/-- No kernel is launched: nothing is admitted, and there is no ticket and no level. -/
abbrev noAdm : (p : Fin 0) → ((pcfgs (F := F)) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0
theorem noCell_injective : Function.Injective (Pipeline.cellOf (nD := nD) (τ := τ) (Pipeline.pin (pcfgs (F := F)) noAdm)) := fun k => k.1.elim0
/-- Carried beside the arrays: what the core owes. -/
abbrev Rw (c : Dev nD) : sProp 𝕄 := iprop(∃ W, owes (c : Thread nD τ) (0 : CellTallies nD τ sig Unit) W)

set_option backward.isDefEq.respectTransparency.types false in
/-- The fwd loop's condition, run for the `k`-th time, says whether `k < 128`. -/
theorem fwd_cond : LoopCond (Ix := Unit) (Name := ℕ) (U := Option PUnit) (Lvl := ℕ) (pcfgs (F := F)) defs₀ Variants.none loops Rw
    (main_while0_cond (F := F)) fwdCond fwdBody (fwdIn m) 128 := by
  intro k hk c bd
  have hctr := fwd_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v13_4 HostLoop.idx0)
        (HloOp.result _ (fwdAt m k c) main_while0c_c_20 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

set_option backward.isDefEq.respectTransparency.types false in
/-- The bwd loop's condition, run for the `k`-th time, says whether `k < 128`. -/
theorem bwd_cond : LoopCond (Ix := Unit) (Name := ℕ) (U := Option PUnit) (Lvl := ℕ) (pcfgs (F := F)) defs₀ Variants.none loops Rw
    (main_while1_cond (F := F)) bwdCond bwdBody (bwdIn m) 128 := by
  intro k hk c bd
  have hctr := bwd_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v22_7 HostLoop.idx0)
        (HloOp.result _ (bwdAt m k c) main_while1c_c_23 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR

/-- The program's segments: the operations before the first loop, that loop, those between, the second loop, those after it. -/
def segs : List (CSeg (pcfgs (F := F)) noAdm defs₀ Variants.none noL noLv loops noTk) :=
  segsOf _ _ _ _ _ _ _ _ Rw [preOps] preOps_plain (launchContents m)
    ++ loopSeg _ _ _ _ _ _ _ _ 0 main_while0_cond main_while0_body rfl fwdCond fwdBody fwdBody_plain (by rw [fwd_body_chain]; rfl) 128 (fwdIn m) Rw (fwd_cond m)
      :: (segsOf _ _ _ _ _ _ _ _ Rw [midOps] midOps_plain (fun c => after fwdCond (fwdAt m 128 c))
        ++ loopSeg _ _ _ _ _ _ _ _ 1 main_while1_cond main_while1_body rfl bwdCond bwdBody bwdBody_plain (by rw [bwd_body_chain]; rfl) 128 (bwdIn m) Rw (bwd_cond m)
          :: segsOf _ _ _ _ _ _ _ _ Rw [endOps, endOps_1] (plain_cons endOps_plain endOps_1_plain) (fun c => after bwdCond (bwdAt m 128 c)))

theorem segs_prog : (segs m).map CSeg.prog
    = [StableHlo.seq preOps, HostLoop.enter 0, StableHlo.seq midOps, HostLoop.enter 1, StableHlo.seq endOps, StableHlo.seq endOps_1] := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw [preOps] preOps_plain _) ⟨fun _ => .rfl,
    CSeg.Chains.append (segsOf_chains _ _ _ _ _ _ _ _ Rw [midOps] midOps_plain _) ⟨fun _ => .rfl,
      segsOf_chains _ _ _ _ _ _ _ _ Rw [endOps, endOps_1] _ _⟩⟩

theorem no_unscoped : ∀ sm : SemLoc sig, sm.isScoped .tc = true := by decide

set_option maxRecDepth 100000 in
/-- The reference runs and ends with its arrays at `fin m` and every semaphore at zero. -/
theorem run_main : θ_run (defs (F := F)) (onTc (τ := τ) (main (F := F))) ⟨m, fun _ => 0, ρ⟩ (fun r =>
      (∀ (c : Dev nD) (b : Ref sig .tc), (Proc.devRef .tc b : DevRef τ sig).isScoped = false →
        r.2.mem (c.tc.loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell_injective defs₀ Variants.none noL noLv loops noTk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      imodintro
      iapply (pointsTo_read_all (ucRefs τ sig) (fun b => ((c : Dev nD), b)) (fin m c) s')
      isplitl [Hh] <;> iassumption)
    (hQ := fun s h hz => ⟨fun c b hb => h c _ (devRef_mem_ucRefs b hb), funext fun g => hz g (.inr (no_unscoped g.2))⟩)

/-! ## The arguments -/

/-- An array that nothing writes. -/
def Unwritten (b : Ref sig .tc) : Prop := b ∉ preOps_W ++ fwdCond_W ++ fwdOps_W ++ fwdOps_1_W ++ fwdOps_2_W ++ fwdOps_3_W ++ fwdOps_4_W ++ fwdOps_5_W ++ fwdOps_6_W ++ fwdOps_7_W ++ fwdOps_8_W ++ fwdOps_9_W ++ midOps_W ++ bwdCond_W ++ bwdOps_W ++ bwdOps_1_W ++ bwdOps_2_W ++ bwdOps_3_W ++ bwdOps_4_W ++ bwdOps_5_W ++ bwdOps_6_W ++ bwdOps_7_W ++ bwdOps_8_W ++ bwdOps_9_W ++ bwdOps_10_W ++ bwdOps_11_W ++ bwdOps_12_W ++ bwdOps_13_W ++ endOps_W ++ endOps_1_W
instance (b : Ref sig .tc) : Decidable (Unwritten b) := by unfold Unwritten; infer_instance

theorem fwdAt_keep (c : Dev nD) (b : Ref sig .tc) (hb : Unwritten b) : ∀ k, fwdAt m k c (Proc.devRef .tc b) = fwdIn m c (Proc.devRef .tc b)
  | 0 => rfl
  | k + 1 => by
    simp only [Unwritten, List.mem_append, not_or] at hb
    rw [show fwdAt m (k + 1) c = afterL fwdBody (after fwdCond (fwdAt m k c)) from rfl]
    simp only [afterL_cons, afterL_nil]
    rw [fwdOps_9_keep _ _ (by tauto), fwdOps_8_keep _ _ (by tauto), fwdOps_7_keep _ _ (by tauto), fwdOps_6_keep _ _ (by tauto), fwdOps_5_keep _ _ (by tauto), fwdOps_4_keep _ _ (by tauto), fwdOps_3_keep _ _ (by tauto), fwdOps_2_keep _ _ (by tauto), fwdOps_1_keep _ _ (by tauto), fwdOps_keep _ _ (by tauto), fwdCond_keep _ _ (by tauto),
      fwdAt_keep c b (by simpa only [Unwritten, List.mem_append, not_or] using hb) k]

theorem bwdAt_keep (c : Dev nD) (b : Ref sig .tc) (hb : Unwritten b) : ∀ k, bwdAt m k c (Proc.devRef .tc b) = bwdIn m c (Proc.devRef .tc b)
  | 0 => rfl
  | k + 1 => by
    simp only [Unwritten, List.mem_append, not_or] at hb
    rw [show bwdAt m (k + 1) c = afterL bwdBody (after bwdCond (bwdAt m k c)) from rfl]
    simp only [afterL_cons, afterL_nil]
    rw [bwdOps_13_keep _ _ (by tauto), bwdOps_12_keep _ _ (by tauto), bwdOps_11_keep _ _ (by tauto), bwdOps_10_keep _ _ (by tauto), bwdOps_9_keep _ _ (by tauto), bwdOps_8_keep _ _ (by tauto), bwdOps_7_keep _ _ (by tauto), bwdOps_6_keep _ _ (by tauto), bwdOps_5_keep _ _ (by tauto), bwdOps_4_keep _ _ (by tauto), bwdOps_3_keep _ _ (by tauto), bwdOps_2_keep _ _ (by tauto), bwdOps_1_keep _ _ (by tauto), bwdOps_keep _ _ (by tauto), bwdCond_keep _ _ (by tauto),
      bwdAt_keep c b (by simpa only [Unwritten, List.mem_append, not_or] using hb) k]

theorem fin_keep (c : Dev nD) (b : Ref sig .tc) (hb : Unwritten b) : fin m c (Proc.devRef .tc b) = m (c.tc.loc b) := by
  have hb' := hb
  simp only [Unwritten, List.mem_append, not_or] at hb'
  show after endOps_1 (after endOps (after bwdCond (bwdAt m 128 c))) (Proc.devRef .tc b) = _
  rw [endOps_1_keep _ _ (by tauto), endOps_keep _ _ (by tauto), bwdCond_keep _ _ (by tauto), bwdAt_keep m c b hb,
    show bwdIn m c = after midOps (after fwdCond (fwdAt m 128 c)) from rfl, midOps_keep _ _ (by tauto), fwdCond_keep _ _ (by tauto), fwdAt_keep m c b hb,
    show fwdIn m c = after preOps (launchContents m c) from rfl, preOps_keep _ _ (by tauto)]

/-- The arguments end as launched. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c =>
    have k (a : Ref sig .tc) (hs : (Proc.devRef .tc a : DevRef τ sig).isScoped = false) (ha : Unwritten a) :
        r.2.mem (c.tc.loc a) = m (c.tc.loc a) := (h.1 c a hs).trans (fin_keep m c a ha)
    ⟨k main_arg0 (by decide) (by decide), k main_arg1 (by decide) (by decide), k main_arg2 (by decide) (by decide),
      k main_arg3 (by decide) (by decide), k main_arg4 (by decide) (by decide)⟩, h.2⟩) (run_main m ρ)

end Cert.ReferenceIdeal.Scan

end
-- ==== Proof.RefTrip.lean ====
module

public import proofs.«01_k».proof.Proof.RefRun

/-! # One trip of each of the reference's loops

What one trip does to the carried arrays, as functions of the carried arrays: the chunk's rows are taken out of the chunked arrays
(`take…`), the chunk's mathematics is done on them, and the results are put back at the chunk's number (`put…`). -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- An array of 32-bit floats of the shape `s`, and a whole number. -/
abbrev Arr (F : FTy → Type) (s : Shape) : Type := (⟨s, .f32⟩ : BufTy).Contents (Elt F)
abbrev Num (F : FTy → Type) : Type := (⟨S_, .i32⟩ : BufTy).Contents (Elt F)

/-- The start `(i, 0, …)` of a chunk's place. -/
abbrev at4 (i : Num F) : Fin 4 → Int := fun k =>
  (((![i, constantI S_ 32 0#32, constantI S_ 32 0#32, constantI S_ 32 0#32] : Fin 4 → Num F)) k (Shape.Idx.first h_S_)).toInt
abbrev at3 (i : Num F) : Fin 3 → Int := fun k =>
  (((![i, constantI S_ 32 0#32, constantI S_ 32 0#32] : Fin 3 → Num F)) k (Shape.Idx.first h_S_)).toInt

def takeK (x : Arr F S128x64x4x64) (i : Num F) : Arr F S64x4x64 :=
  shapeCast S64x4x64 (Host.dynamicSlice S1x64x4x64 x (at4 i) sliceFits_S128x64x4x64_S1x64x4x64) shapeCasts_S1x64x4x64_S64x4x64
def takeV (x : Arr F S128x64x4x128) (i : Num F) : Arr F S64x4x128 :=
  shapeCast S64x4x128 (Host.dynamicSlice S1x64x4x128 x (at4 i) sliceFits_S128x64x4x128_S1x64x4x128) shapeCasts_S1x64x4x128_S64x4x128
def takeL (x : Arr F S128x4x64) (i : Num F) : Arr F S4x64 :=
  shapeCast S4x64 (Host.dynamicSlice S1x4x64 x (at3 i) sliceFits_S128x4x64_S1x4x64) shapeCasts_S1x4x64_S4x64
def takeS (x : Arr F S128x4x64x128) (i : Num F) : Arr F S4x64x128 :=
  shapeCast S4x64x128 (Host.dynamicSlice S1x4x64x128 x (at4 i) sliceFits_S128x4x64x128_S1x4x64x128) shapeCasts_S1x4x64x128_S4x64x128
def takeL1 (x : Arr F S128x4x64x1) (i : Num F) : Arr F S4x64x1 :=
  shapeCast S4x64x1 (Host.dynamicSlice S1x4x64x1 x (at4 i) sliceFits_S128x4x64x1_S1x4x64x1) shapeCasts_S1x4x64x1_S4x64x1
def putV (x : Arr F S128x64x4x128) (u : Arr F S64x4x128) (i : Num F) : Arr F S128x64x4x128 :=
  Host.dynamicUpdateSlice x (broadcastInDim S1x64x4x128 ![1, 2, 3] bcast_S64x4x128_S1x64x4x128_1_2_3 u) (at4 i) updateFits_S128x64x4x128_S1x64x4x128
def putS (x : Arr F S128x4x64x128) (u : Arr F S4x64x128) (i : Num F) : Arr F S128x4x64x128 :=
  Host.dynamicUpdateSlice x (broadcastInDim S1x4x64x128 ![1, 2, 3] bcast_S4x64x128_S1x4x64x128_1_2_3 u) (at4 i) updateFits_S128x4x64x128_S1x4x64x128
def putL1 (x : Arr F S128x4x64x1) (u : Arr F S4x64x1) (i : Num F) : Arr F S128x4x64x1 :=
  Host.dynamicUpdateSlice x (broadcastInDim S1x4x64x1 ![1, 2, 3] bcast_S4x64x1_S1x4x64x1_1_2_3 u) (at4 i) updateFits_S128x4x64x1_S1x4x64x1
def putK (x : Arr F S128x64x4x64) (u : Arr F S64x4x64) (i : Num F) : Arr F S128x64x4x64 :=
  Host.dynamicUpdateSlice x (broadcastInDim S1x64x4x64 ![1, 2, 3] bcast_S64x4x64_S1x64x4x64_1_2_3 u) (at4 i) updateFits_S128x64x4x64_S1x64x4x64
def putL (x : Arr F S128x4x64) (u : Arr F S4x64) (i : Num F) : Arr F S128x4x64 :=
  Host.dynamicUpdateSlice x (broadcastInDim S1x4x64 ![1, 2] bcast_S4x64_S1x4x64_1_2 u) (at3 i) updateFits_S128x4x64_S1x4x64

/-! ## The mathematics of a chunk -/

/-- The decays over the values' axis. -/
def decay1 (lam : Arr F S4x64) : Arr F S4x64x1 := broadcastInDim S4x64x1 ![0, 1] bcast_S4x64_S4x64x1_0_1 lam
def decay (lam : Arr F S4x64x1) : Arr F S4x64x128 := broadcastInDim S4x64x128 ![0, 1, 2] bcast_S4x64x1_S4x64x128_0_1_2 lam
/-- The state after a chunk. -/
def newState (lam : Arr F S4x64) (st : Arr F S4x64x128) (k : Arr F S64x4x64) (v : Arr F S64x4x128) : Arr F S4x64x128 :=
  addf (mulf (decay (decay1 lam)) st) (Host.dotGeneral dot_S64x4x64_S64x4x128_S4x64x128_0_0_2_2_1_1 none k v)
/-- The output of a chunk from the state after it. -/
def output (st : Arr F S4x64x128) (q : Arr F S64x4x64) : Arr F S64x4x128 :=
  transpose S64x4x128 [2, 0, 1] (Host.dotGeneral dot_S4x64x128_S64x4x64_S4x128x64_1_2_2_0_0_1 none st q) transposes_S4x128x64_S64x4x128_2_0_1
/-- The cotangent with its rows last. -/
def rowsLast (d : Arr F S64x4x128) : Arr F S4x128x64 := transpose S4x128x64 [1, 2, 0] d transposes_S64x4x128_S4x128x64_1_2_0
/-- The gradient with respect to q. -/
def gradQ (d : Arr F S64x4x128) (after : Arr F S4x64x128) : Arr F S64x4x64 :=
  transpose S64x4x64 [1, 0, 2] (Host.dotGeneral dot_S4x128x64_S4x64x128_S4x64x64_1_2_2_1_0_0 none (rowsLast d) after) transposes_S4x64x64_S64x4x64_1_0_2
/-- The gradient with respect to the state after the chunk. -/
def gradState (c : Arr F S4x64x128) (d : Arr F S64x4x128) (q : Arr F S64x4x64) : Arr F S4x64x128 :=
  addf c (transpose S4x64x128 [0, 2, 1] (Host.dotGeneral dot_S4x128x64_S64x4x64_S4x128x64_2_0_1_2_0_1 none (rowsLast d) q) transposes_S4x128x64_S4x64x128_0_2_1)
/-- The gradient with respect to v. -/
def gradV (g : Arr F S4x64x128) (k : Arr F S64x4x64) : Arr F S64x4x128 :=
  transpose S64x4x128 [2, 0, 1] (Host.dotGeneral dot_S4x64x128_S64x4x64_S4x128x64_1_2_2_0_0_1 none g k) transposes_S4x128x64_S64x4x128_2_0_1
/-- The gradient with respect to k. -/
def gradK (g : Arr F S4x64x128) (v : Arr F S64x4x128) : Arr F S64x4x64 :=
  transpose S64x4x64 [2, 0, 1] (Host.dotGeneral dot_S4x64x128_S64x4x128_S4x64x64_2_2_1_0_0_1 none g v) transposes_S4x64x64_S64x4x64_2_0_1
/-- The gradient with respect to the decays. -/
def gradL (g : Arr F S4x64x128) (before : Arr F S4x64x128) : Arr F S4x64 :=
  Host.reduceAdd (shapeCast S4x64x1 (Host.reduceAdd (mulf g before) (constant S_ .f32 0x00000000#32) reducesTo_S4x64x128_S4x64_d2 h_S_) shapeCasts_S4x64_S4x64x1)
    (constant S_ .f32 0x00000000#32) reducesTo_S4x64x1_S4x64_d2 h_S_

/-! ## The lists -/

theorem fwdOps_main_while0b_v27 (X : Valuation τ sig (Elt F)) : after fwdOps X (no_index (Proc.devRef .tc main_while0b_v27)) = takeK (X (Proc.devRef .tc main_v13_0)) (X (Proc.devRef .tc main_v13_4)) := by
  unfold takeK
  simp only [fwdOps]
  after_results_entrywise [cast_eq]
theorem fwdOps_1_main_while0b_v28 (X : Valuation τ sig (Elt F)) : after fwdOps_1 X (no_index (Proc.devRef .tc main_while0b_v28)) = takeK (X (Proc.devRef .tc main_v13_1)) (X (Proc.devRef .tc main_v13_4)) := by
  unfold takeK
  simp only [fwdOps_1]
  after_results_entrywise [cast_eq]
theorem fwdOps_2_main_while0b_v29 (X : Valuation τ sig (Elt F)) : after fwdOps_2 X (no_index (Proc.devRef .tc main_while0b_v29)) = takeV (X (Proc.devRef .tc main_v13_2)) (X (Proc.devRef .tc main_v13_4)) := by
  unfold takeV
  simp only [fwdOps_2]
  after_results_entrywise [cast_eq]
theorem fwdOps_3_main_while0b_v30 (X : Valuation τ sig (Elt F)) : after fwdOps_3 X (no_index (Proc.devRef .tc main_while0b_v30)) = takeL (X (Proc.devRef .tc main_v13_3)) (X (Proc.devRef .tc main_v13_4)) := by
  unfold takeL
  simp only [fwdOps_3]
  after_results_entrywise [cast_eq]
set_option maxRecDepth 100000 in
theorem fwdOps_4_main_while0b_v31 (X : Valuation τ sig (Elt F)) : after fwdOps_4 X (no_index (Proc.devRef .tc main_while0b_v31)) = decay1 (X (Proc.devRef .tc main_while0b_v30)) := by
  after_results
  all_goals rfl
set_option maxRecDepth 100000 in
theorem fwdOps_4_main_while0b_v35 (X : Valuation τ sig (Elt F)) : after fwdOps_4 X (no_index (Proc.devRef .tc main_while0b_v35)) = newState (X (Proc.devRef .tc main_while0b_v30)) (X (Proc.devRef .tc main_v13_5)) (X (Proc.devRef .tc main_while0b_v28)) (X (Proc.devRef .tc main_while0b_v29)) := by
  after_results
  all_goals rfl
set_option maxRecDepth 100000 in
theorem fwdOps_4_main_while0b_v37 (X : Valuation τ sig (Elt F)) : after fwdOps_4 X (no_index (Proc.devRef .tc main_while0b_v37)) = output (newState (X (Proc.devRef .tc main_while0b_v30)) (X (Proc.devRef .tc main_v13_5)) (X (Proc.devRef .tc main_while0b_v28)) (X (Proc.devRef .tc main_while0b_v29))) (X (Proc.devRef .tc main_while0b_v27)) := by
  after_results
  all_goals rfl
theorem fwdOps_5_main_while0b_v38 (X : Valuation τ sig (Elt F)) : after fwdOps_5 X (no_index (Proc.devRef .tc main_while0b_v38)) = putV (X (Proc.devRef .tc main_v13_6)) (X (Proc.devRef .tc main_while0b_v37)) (X (Proc.devRef .tc main_v13_4)) := by
  unfold putV
  simp only [fwdOps_5]
  after_results_entrywise [cast_eq]
theorem fwdOps_6_main_while0b_v39 (X : Valuation τ sig (Elt F)) : after fwdOps_6 X (no_index (Proc.devRef .tc main_while0b_v39)) = putS (X (Proc.devRef .tc main_v13_7)) (X (Proc.devRef .tc main_v13_5)) (X (Proc.devRef .tc main_v13_4)) := by
  unfold putS
  simp only [fwdOps_6]
  after_results_entrywise [cast_eq]
theorem fwdOps_7_main_while0b_v40 (X : Valuation τ sig (Elt F)) : after fwdOps_7 X (no_index (Proc.devRef .tc main_while0b_v40)) = putL1 (X (Proc.devRef .tc main_v13_8)) (X (Proc.devRef .tc main_while0b_v31)) (X (Proc.devRef .tc main_v13_4)) := by
  unfold putL1
  simp only [fwdOps_7]
  after_results_entrywise [cast_eq]
theorem fwdOps_8_main_while0b_v41 (X : Valuation τ sig (Elt F)) : after fwdOps_8 X (no_index (Proc.devRef .tc main_while0b_v41)) = putS (X (Proc.devRef .tc main_v13_9)) (X (Proc.devRef .tc main_while0b_v35)) (X (Proc.devRef .tc main_v13_4)) := by
  unfold putS
  simp only [fwdOps_8]
  after_results_entrywise [cast_eq]
set_option maxRecDepth 100000 in
theorem fwdOps_9_main_v13_5 (X : Valuation τ sig (Elt F)) : after fwdOps_9 X (no_index (Proc.devRef .tc main_v13_5)) = (X (Proc.devRef .tc main_while0b_v35)) := by
  after_results
  all_goals rfl
set_option maxRecDepth 100000 in
theorem fwdOps_9_main_v13_6 (X : Valuation τ sig (Elt F)) : after fwdOps_9 X (no_index (Proc.devRef .tc main_v13_6)) = (X (Proc.devRef .tc main_while0b_v38)) := by
  after_results
  all_goals rfl
set_option maxRecDepth 100000 in
theorem fwdOps_9_main_v13_7 (X : Valuation τ sig (Elt F)) : after fwdOps_9 X (no_index (Proc.devRef .tc main_v13_7)) = (X (Proc.devRef .tc main_while0b_v39)) := by
  after_results
  all_goals rfl
set_option maxRecDepth 100000 in
theorem fwdOps_9_main_v13_8 (X : Valuation τ sig (Elt F)) : after fwdOps_9 X (no_index (Proc.devRef .tc main_v13_8)) = (X (Proc.devRef .tc main_while0b_v40)) := by
  after_results
  all_goals rfl
set_option maxRecDepth 100000 in
theorem fwdOps_9_main_v13_9 (X : Valuation τ sig (Elt F)) : after fwdOps_9 X (no_index (Proc.devRef .tc main_v13_9)) = (X (Proc.devRef .tc main_while0b_v41)) := by
  after_results
  all_goals rfl

set_option maxRecDepth 100000 in
theorem bwdOps_main_while1b_v28 (X : Valuation τ sig (Elt F)) : after bwdOps X (no_index (Proc.devRef .tc main_while1b_v28)) = subi (subi (constantI S_ 32 128#32) (X (Proc.devRef .tc main_v22_7))) (constantI S_ 32 1#32) := by
  after_results
  all_goals rfl
theorem bwdOps_1_main_while1b_v29 (X : Valuation τ sig (Elt F)) : after bwdOps_1 X (no_index (Proc.devRef .tc main_while1b_v29)) = takeV (X (Proc.devRef .tc main_v22_0)) (X (Proc.devRef .tc main_while1b_v28)) := by
  unfold takeV
  simp only [bwdOps_1]
  after_results_entrywise [cast_eq]
theorem bwdOps_2_main_while1b_v30 (X : Valuation τ sig (Elt F)) : after bwdOps_2 X (no_index (Proc.devRef .tc main_while1b_v30)) = takeS (X (Proc.devRef .tc main_v22_1)) (X (Proc.devRef .tc main_while1b_v28)) := by
  unfold takeS
  simp only [bwdOps_2]
  after_results_entrywise [cast_eq]
theorem bwdOps_3_main_while1b_v31 (X : Valuation τ sig (Elt F)) : after bwdOps_3 X (no_index (Proc.devRef .tc main_while1b_v31)) = takeL1 (X (Proc.devRef .tc main_v22_2)) (X (Proc.devRef .tc main_while1b_v28)) := by
  unfold takeL1
  simp only [bwdOps_3]
  after_results_entrywise [cast_eq]
theorem bwdOps_4_main_while1b_v32 (X : Valuation τ sig (Elt F)) : after bwdOps_4 X (no_index (Proc.devRef .tc main_while1b_v32)) = takeV (X (Proc.devRef .tc main_v22_3)) (X (Proc.devRef .tc main_while1b_v28)) := by
  unfold takeV
  simp only [bwdOps_4]
  after_results_entrywise [cast_eq]
theorem bwdOps_5_main_while1b_v33 (X : Valuation τ sig (Elt F)) : after bwdOps_5 X (no_index (Proc.devRef .tc main_while1b_v33)) = takeK (X (Proc.devRef .tc main_v22_4)) (X (Proc.devRef .tc main_while1b_v28)) := by
  unfold takeK
  simp only [bwdOps_5]
  after_results_entrywise [cast_eq]
theorem bwdOps_6_main_while1b_v34 (X : Valuation τ sig (Elt F)) : after bwdOps_6 X (no_index (Proc.devRef .tc main_while1b_v34)) = takeK (X (Proc.devRef .tc main_v22_5)) (X (Proc.devRef .tc main_while1b_v28)) := by
  unfold takeK
  simp only [bwdOps_6]
  after_results_entrywise [cast_eq]
theorem bwdOps_7_main_while1b_v35 (X : Valuation τ sig (Elt F)) : after bwdOps_7 X (no_index (Proc.devRef .tc main_while1b_v35)) = takeS (X (Proc.devRef .tc main_v22_6)) (X (Proc.devRef .tc main_while1b_v28)) := by
  unfold takeS
  simp only [bwdOps_7]
  after_results_entrywise [cast_eq]
set_option maxRecDepth 100000 in
theorem bwdOps_8_main_while1b_v38 (X : Valuation τ sig (Elt F)) : after bwdOps_8 X (no_index (Proc.devRef .tc main_while1b_v38)) = gradQ (X (Proc.devRef .tc main_while1b_v29)) (X (Proc.devRef .tc main_while1b_v35)) := by
  after_results
  all_goals rfl
set_option maxRecDepth 100000 in
theorem bwdOps_8_main_while1b_v43 (X : Valuation τ sig (Elt F)) : after bwdOps_8 X (no_index (Proc.devRef .tc main_while1b_v43)) = gradV (gradState (X (Proc.devRef .tc main_v22_8)) (X (Proc.devRef .tc main_while1b_v29)) (X (Proc.devRef .tc main_while1b_v34))) (X (Proc.devRef .tc main_while1b_v33)) := by
  after_results
  all_goals rfl
set_option maxRecDepth 100000 in
theorem bwdOps_8_main_while1b_v45 (X : Valuation τ sig (Elt F)) : after bwdOps_8 X (no_index (Proc.devRef .tc main_while1b_v45)) = gradK (gradState (X (Proc.devRef .tc main_v22_8)) (X (Proc.devRef .tc main_while1b_v29)) (X (Proc.devRef .tc main_while1b_v34))) (X (Proc.devRef .tc main_while1b_v32)) := by
  after_results
  all_goals rfl
set_option maxRecDepth 100000 in
theorem bwdOps_8_main_while1b_v47 (X : Valuation τ sig (Elt F)) : after bwdOps_8 X (no_index (Proc.devRef .tc main_while1b_v47)) = mulf (decay (X (Proc.devRef .tc main_while1b_v31))) (gradState (X (Proc.devRef .tc main_v22_8)) (X (Proc.devRef .tc main_while1b_v29)) (X (Proc.devRef .tc main_while1b_v34))) := by
  after_results
  all_goals rfl
set_option maxRecDepth 100000 in
theorem bwdOps_8_main_while1b_v51 (X : Valuation τ sig (Elt F)) : after bwdOps_8 X (no_index (Proc.devRef .tc main_while1b_v51)) = gradL (gradState (X (Proc.devRef .tc main_v22_8)) (X (Proc.devRef .tc main_while1b_v29)) (X (Proc.devRef .tc main_while1b_v34))) (X (Proc.devRef .tc main_while1b_v30)) := by
  after_results
  all_goals rfl
theorem bwdOps_9_main_while1b_v52 (X : Valuation τ sig (Elt F)) : after bwdOps_9 X (no_index (Proc.devRef .tc main_while1b_v52)) = putK (X (Proc.devRef .tc main_v22_9)) (X (Proc.devRef .tc main_while1b_v38)) (X (Proc.devRef .tc main_while1b_v28)) := by
  unfold putK
  simp only [bwdOps_9]
  after_results_entrywise [cast_eq]
theorem bwdOps_10_main_while1b_v53 (X : Valuation τ sig (Elt F)) : after bwdOps_10 X (no_index (Proc.devRef .tc main_while1b_v53)) = putK (X (Proc.devRef .tc main_v22_10)) (X (Proc.devRef .tc main_while1b_v45)) (X (Proc.devRef .tc main_while1b_v28)) := by
  unfold putK
  simp only [bwdOps_10]
  after_results_entrywise [cast_eq]
theorem bwdOps_11_main_while1b_v54 (X : Valuation τ sig (Elt F)) : after bwdOps_11 X (no_index (Proc.devRef .tc main_while1b_v54)) = putV (X (Proc.devRef .tc main_v22_11)) (X (Proc.devRef .tc main_while1b_v43)) (X (Proc.devRef .tc main_while1b_v28)) := by
  unfold putV
  simp only [bwdOps_11]
  after_results_entrywise [cast_eq]
theorem bwdOps_12_main_while1b_v55 (X : Valuation τ sig (Elt F)) : after bwdOps_12 X (no_index (Proc.devRef .tc main_while1b_v55)) = putL (X (Proc.devRef .tc main_v22_12)) (X (Proc.devRef .tc main_while1b_v51)) (X (Proc.devRef .tc main_while1b_v28)) := by
  unfold putL
  simp only [bwdOps_12]
  after_results_entrywise [cast_eq]
set_option maxRecDepth 100000 in
theorem bwdOps_13_main_v22_8 (X : Valuation τ sig (Elt F)) : after bwdOps_13 X (no_index (Proc.devRef .tc main_v22_8)) = (X (Proc.devRef .tc main_while1b_v47)) := by
  after_results
  all_goals rfl
set_option maxRecDepth 100000 in
theorem bwdOps_13_main_v22_9 (X : Valuation τ sig (Elt F)) : after bwdOps_13 X (no_index (Proc.devRef .tc main_v22_9)) = (X (Proc.devRef .tc main_while1b_v52)) := by
  after_results
  all_goals rfl
set_option maxRecDepth 100000 in
theorem bwdOps_13_main_v22_10 (X : Valuation τ sig (Elt F)) : after bwdOps_13 X (no_index (Proc.devRef .tc main_v22_10)) = (X (Proc.devRef .tc main_while1b_v53)) := by
  after_results
  all_goals rfl
set_option maxRecDepth 100000 in
theorem bwdOps_13_main_v22_11 (X : Valuation τ sig (Elt F)) : after bwdOps_13 X (no_index (Proc.devRef .tc main_v22_11)) = (X (Proc.devRef .tc main_while1b_v54)) := by
  after_results
  all_goals rfl
set_option maxRecDepth 100000 in
theorem bwdOps_13_main_v22_12 (X : Valuation τ sig (Elt F)) : after bwdOps_13 X (no_index (Proc.devRef .tc main_v22_12)) = (X (Proc.devRef .tc main_while1b_v55)) := by
  after_results
  all_goals rfl
/-! ## A trip of the fwd loop -/

theorem fwd_trip_0 (X : Valuation τ sig (Elt F)) : afterL fwdBody X (Proc.devRef .tc main_v13_0) = (X (Proc.devRef .tc main_v13_0)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_1 (X : Valuation τ sig (Elt F)) : afterL fwdBody X (Proc.devRef .tc main_v13_1) = (X (Proc.devRef .tc main_v13_1)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_2 (X : Valuation τ sig (Elt F)) : afterL fwdBody X (Proc.devRef .tc main_v13_2) = (X (Proc.devRef .tc main_v13_2)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_3 (X : Valuation τ sig (Elt F)) : afterL fwdBody X (Proc.devRef .tc main_v13_3) = (X (Proc.devRef .tc main_v13_3)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_5 (X : Valuation τ sig (Elt F)) : afterL fwdBody X (Proc.devRef .tc main_v13_5) = (newState (takeL (X (Proc.devRef .tc main_v13_3)) (X (Proc.devRef .tc main_v13_4))) (X (Proc.devRef .tc main_v13_5)) (takeK (X (Proc.devRef .tc main_v13_1)) (X (Proc.devRef .tc main_v13_4))) (takeV (X (Proc.devRef .tc main_v13_2)) (X (Proc.devRef .tc main_v13_4)))) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_6 (X : Valuation τ sig (Elt F)) : afterL fwdBody X (Proc.devRef .tc main_v13_6) = putV (X (Proc.devRef .tc main_v13_6)) (output (newState (takeL (X (Proc.devRef .tc main_v13_3)) (X (Proc.devRef .tc main_v13_4))) (X (Proc.devRef .tc main_v13_5)) (takeK (X (Proc.devRef .tc main_v13_1)) (X (Proc.devRef .tc main_v13_4))) (takeV (X (Proc.devRef .tc main_v13_2)) (X (Proc.devRef .tc main_v13_4)))) (takeK (X (Proc.devRef .tc main_v13_0)) (X (Proc.devRef .tc main_v13_4)))) (X (Proc.devRef .tc main_v13_4)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_7 (X : Valuation τ sig (Elt F)) : afterL fwdBody X (Proc.devRef .tc main_v13_7) = putS (X (Proc.devRef .tc main_v13_7)) (X (Proc.devRef .tc main_v13_5)) (X (Proc.devRef .tc main_v13_4)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_8 (X : Valuation τ sig (Elt F)) : afterL fwdBody X (Proc.devRef .tc main_v13_8) = putL1 (X (Proc.devRef .tc main_v13_8)) (decay1 (takeL (X (Proc.devRef .tc main_v13_3)) (X (Proc.devRef .tc main_v13_4)))) (X (Proc.devRef .tc main_v13_4)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]
theorem fwd_trip_9 (X : Valuation τ sig (Elt F)) : afterL fwdBody X (Proc.devRef .tc main_v13_9) = putS (X (Proc.devRef .tc main_v13_9)) (newState (takeL (X (Proc.devRef .tc main_v13_3)) (X (Proc.devRef .tc main_v13_4))) (X (Proc.devRef .tc main_v13_5)) (takeK (X (Proc.devRef .tc main_v13_1)) (X (Proc.devRef .tc main_v13_4))) (takeV (X (Proc.devRef .tc main_v13_2)) (X (Proc.devRef .tc main_v13_4)))) (X (Proc.devRef .tc main_v13_4)) := by
  simp (disch := decide) only [fwdBody, afterL_cons, afterL_nil, fwdOps_main_while0b_v27, fwdOps_1_main_while0b_v28, fwdOps_2_main_while0b_v29, fwdOps_3_main_while0b_v30, fwdOps_4_main_while0b_v31, fwdOps_4_main_while0b_v35, fwdOps_4_main_while0b_v37, fwdOps_5_main_while0b_v38, fwdOps_6_main_while0b_v39, fwdOps_7_main_while0b_v40, fwdOps_8_main_while0b_v41, fwdOps_9_main_v13_5, fwdOps_9_main_v13_6, fwdOps_9_main_v13_7, fwdOps_9_main_v13_8, fwdOps_9_main_v13_9, fwdOps_keep, fwdOps_1_keep, fwdOps_2_keep, fwdOps_3_keep, fwdOps_4_keep, fwdOps_5_keep, fwdOps_6_keep, fwdOps_7_keep, fwdOps_8_keep, fwdOps_9_keep]

/-- The number of the chunk that trip `i` of the second loop treats: the last first. -/
abbrev chunkOf (i : Num F) : Num F := subi (subi (constantI S_ 32 128#32) i) (constantI S_ 32 1#32)

/-! ## A trip of the bwd loop -/

theorem bwd_trip_0 (X : Valuation τ sig (Elt F)) : afterL bwdBody X (Proc.devRef .tc main_v22_0) = (X (Proc.devRef .tc main_v22_0)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_1 (X : Valuation τ sig (Elt F)) : afterL bwdBody X (Proc.devRef .tc main_v22_1) = (X (Proc.devRef .tc main_v22_1)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_2 (X : Valuation τ sig (Elt F)) : afterL bwdBody X (Proc.devRef .tc main_v22_2) = (X (Proc.devRef .tc main_v22_2)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_3 (X : Valuation τ sig (Elt F)) : afterL bwdBody X (Proc.devRef .tc main_v22_3) = (X (Proc.devRef .tc main_v22_3)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_4 (X : Valuation τ sig (Elt F)) : afterL bwdBody X (Proc.devRef .tc main_v22_4) = (X (Proc.devRef .tc main_v22_4)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_5 (X : Valuation τ sig (Elt F)) : afterL bwdBody X (Proc.devRef .tc main_v22_5) = (X (Proc.devRef .tc main_v22_5)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_6 (X : Valuation τ sig (Elt F)) : afterL bwdBody X (Proc.devRef .tc main_v22_6) = (X (Proc.devRef .tc main_v22_6)) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_8 (X : Valuation τ sig (Elt F)) : afterL bwdBody X (Proc.devRef .tc main_v22_8) = mulf (decay (takeL1 (X (Proc.devRef .tc main_v22_2)) (chunkOf (X (Proc.devRef .tc main_v22_7))))) (gradState (X (Proc.devRef .tc main_v22_8)) (takeV (X (Proc.devRef .tc main_v22_0)) (chunkOf (X (Proc.devRef .tc main_v22_7)))) (takeK (X (Proc.devRef .tc main_v22_5)) (chunkOf (X (Proc.devRef .tc main_v22_7))))) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_9 (X : Valuation τ sig (Elt F)) : afterL bwdBody X (Proc.devRef .tc main_v22_9) = putK (X (Proc.devRef .tc main_v22_9)) (gradQ (takeV (X (Proc.devRef .tc main_v22_0)) (chunkOf (X (Proc.devRef .tc main_v22_7)))) (takeS (X (Proc.devRef .tc main_v22_6)) (chunkOf (X (Proc.devRef .tc main_v22_7))))) (chunkOf (X (Proc.devRef .tc main_v22_7))) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_10 (X : Valuation τ sig (Elt F)) : afterL bwdBody X (Proc.devRef .tc main_v22_10) = putK (X (Proc.devRef .tc main_v22_10)) (gradK (gradState (X (Proc.devRef .tc main_v22_8)) (takeV (X (Proc.devRef .tc main_v22_0)) (chunkOf (X (Proc.devRef .tc main_v22_7)))) (takeK (X (Proc.devRef .tc main_v22_5)) (chunkOf (X (Proc.devRef .tc main_v22_7))))) (takeV (X (Proc.devRef .tc main_v22_3)) (chunkOf (X (Proc.devRef .tc main_v22_7))))) (chunkOf (X (Proc.devRef .tc main_v22_7))) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_11 (X : Valuation τ sig (Elt F)) : afterL bwdBody X (Proc.devRef .tc main_v22_11) = putV (X (Proc.devRef .tc main_v22_11)) (gradV (gradState (X (Proc.devRef .tc main_v22_8)) (takeV (X (Proc.devRef .tc main_v22_0)) (chunkOf (X (Proc.devRef .tc main_v22_7)))) (takeK (X (Proc.devRef .tc main_v22_5)) (chunkOf (X (Proc.devRef .tc main_v22_7))))) (takeK (X (Proc.devRef .tc main_v22_4)) (chunkOf (X (Proc.devRef .tc main_v22_7))))) (chunkOf (X (Proc.devRef .tc main_v22_7))) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]
theorem bwd_trip_12 (X : Valuation τ sig (Elt F)) : afterL bwdBody X (Proc.devRef .tc main_v22_12) = putL (X (Proc.devRef .tc main_v22_12)) (gradL (gradState (X (Proc.devRef .tc main_v22_8)) (takeV (X (Proc.devRef .tc main_v22_0)) (chunkOf (X (Proc.devRef .tc main_v22_7)))) (takeK (X (Proc.devRef .tc main_v22_5)) (chunkOf (X (Proc.devRef .tc main_v22_7))))) (takeS (X (Proc.devRef .tc main_v22_1)) (chunkOf (X (Proc.devRef .tc main_v22_7))))) (chunkOf (X (Proc.devRef .tc main_v22_7))) := by
  simp (disch := decide) only [bwdBody, afterL_cons, afterL_nil, bwdOps_main_while1b_v28, bwdOps_1_main_while1b_v29, bwdOps_2_main_while1b_v30, bwdOps_3_main_while1b_v31, bwdOps_4_main_while1b_v32, bwdOps_5_main_while1b_v33, bwdOps_6_main_while1b_v34, bwdOps_7_main_while1b_v35, bwdOps_8_main_while1b_v38, bwdOps_8_main_while1b_v43, bwdOps_8_main_while1b_v45, bwdOps_8_main_while1b_v47, bwdOps_8_main_while1b_v51, bwdOps_9_main_while1b_v52, bwdOps_10_main_while1b_v53, bwdOps_11_main_while1b_v54, bwdOps_12_main_while1b_v55, bwdOps_13_main_v22_8, bwdOps_13_main_v22_9, bwdOps_13_main_v22_10, bwdOps_13_main_v22_11, bwdOps_13_main_v22_12, bwdOps_keep, bwdOps_1_keep, bwdOps_2_keep, bwdOps_3_keep, bwdOps_4_keep, bwdOps_5_keep, bwdOps_6_keep, bwdOps_7_keep, bwdOps_8_keep, bwdOps_9_keep, bwdOps_10_keep, bwdOps_11_keep, bwdOps_12_keep, bwdOps_13_keep]

end Cert.ReferenceIdeal.Scan

end
-- ==== Proof.RefEntry.lean ====
module

public import proofs.«01_k».proof.Proof.RefTrip
public import proofs.«01_k».proof.Proof.Spec
public import Idealize.ShloMosaic.Lib.Pointwise
public import Idealize.ShloMosaic.Lib.DynamicIndex

/-! # The reference's pieces at an index, on extended reals -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.ShloMosaic.StableHlo

variable {α : Type}

/-! ## Taking and putting a chunk -/

theorem slice4 {a b c d : ℕ} (x : (⟨4, ![a, b, c, d]⟩ : Shape).Idx → α) (s : Fin 4 → Int) (h : (⟨4, ![a, b, c, d]⟩ : Shape).Slices (fun _ => 0) ⟨4, ![1, b, c, d]⟩)
    (n : Fin a) (h0 : s 0 = n.val) (h1 : s 1 = 0) (h2 : s 2 = 0) (h3 : s 3 = 0) (i0 : Fin 1) (i : Fin b) (j : Fin c) (k : Fin d) :
    Host.dynamicSlice ⟨4, ![1, b, c, d]⟩ x s h (ix4 i0 i j k) = x (ix4 n i j k) := by
  have hn := n.isLt
  have hi0 : i0 = 0 := Subsingleton.elim _ _
  subst hi0
  show x _ = _
  congr 1
  funext e
  fin_cases e <;> apply Fin.ext <;> simp [Host.clampedStart, h0, h1, h2, h3, ix4] <;> omega

theorem update4 {a b c d : ℕ} (x : (⟨4, ![a, b, c, d]⟩ : Shape).Idx → α) (u : (⟨4, ![1, b, c, d]⟩ : Shape).Idx → α) (s : Fin 4 → Int)
    (h : (⟨4, ![a, b, c, d]⟩ : Shape).Slices (fun _ => 0) ⟨4, ![1, b, c, d]⟩) (n : Fin a) (h0 : s 0 = n.val) (h1 : s 1 = 0) (h2 : s 2 = 0) (h3 : s 3 = 0) (N : Fin a) (i : Fin b) (j : Fin c) (k : Fin d) :
    Host.dynamicUpdateSlice x u s h (ix4 N i j k) = if N.val = n.val then u (ix4 0 i j k) else x (ix4 N i j k) := by
  have hn := n.isLt
  have hN := N.isLt
  have c0 : Host.clampedStart (⟨4, ![a, b, c, d]⟩ : Shape) ⟨4, ![1, b, c, d]⟩ h.1 s 0 = n.val := by simp [Host.clampedStart, h0]; omega
  have c1 : Host.clampedStart (⟨4, ![a, b, c, d]⟩ : Shape) ⟨4, ![1, b, c, d]⟩ h.1 s 1 = 0 := by simp [Host.clampedStart, h1]
  have c2 : Host.clampedStart (⟨4, ![a, b, c, d]⟩ : Shape) ⟨4, ![1, b, c, d]⟩ h.1 s 2 = 0 := by simp [Host.clampedStart, h2]
  have c3 : Host.clampedStart (⟨4, ![a, b, c, d]⟩ : Shape) ⟨4, ![1, b, c, d]⟩ h.1 s 3 = 0 := by simp [Host.clampedStart, h3]
  rw [Host.dynamicUpdateSlice_apply]
  have hiff : (∀ e : Fin 4, Host.clampedStart (⟨4, ![a, b, c, d]⟩ : Shape) ⟨4, ![1, b, c, d]⟩ h.1 s e ≤ (ix4 N i j k e).val
      ∧ (ix4 N i j k e).val < Host.clampedStart (⟨4, ![a, b, c, d]⟩ : Shape) ⟨4, ![1, b, c, d]⟩ h.1 s e + (![1, b, c, d] : Fin 4 → ℕ) e) ↔ N.val = n.val := by
    constructor
    · intro hall
      have := hall 0
      rw [c0] at this
      simp [ix4] at this
      omega
    · intro hNn e
      fin_cases e
      · show _ ≤ N.val ∧ N.val < _
        simp only [Fin.zero_eta, c0, Matrix.cons_val_zero]; omega
      · change Host.clampedStart (⟨4, ![a, b, c, d]⟩ : Shape) ⟨4, ![1, b, c, d]⟩ h.1 s 1 ≤ i.val ∧ i.val < Host.clampedStart (⟨4, ![a, b, c, d]⟩ : Shape) ⟨4, ![1, b, c, d]⟩ h.1 s 1 + b
        rw [c1]; have := i.isLt; omega
      · change Host.clampedStart (⟨4, ![a, b, c, d]⟩ : Shape) ⟨4, ![1, b, c, d]⟩ h.1 s 2 ≤ j.val ∧ j.val < Host.clampedStart (⟨4, ![a, b, c, d]⟩ : Shape) ⟨4, ![1, b, c, d]⟩ h.1 s 2 + c
        rw [c2]; have := j.isLt; omega
      · change Host.clampedStart (⟨4, ![a, b, c, d]⟩ : Shape) ⟨4, ![1, b, c, d]⟩ h.1 s 3 ≤ k.val ∧ k.val < Host.clampedStart (⟨4, ![a, b, c, d]⟩ : Shape) ⟨4, ![1, b, c, d]⟩ h.1 s 3 + d
        rw [c3]; have := k.isLt; omega
  split
  · rename_i hin
    rw [if_pos (hiff.mp hin)]
    congr 1
    funext e
    fin_cases e
    · exact Subsingleton.elim (α := Fin 1) _ _
    · apply Fin.ext; show i.val - Host.clampedStart (⟨4, ![a, b, c, d]⟩ : Shape) ⟨4, ![1, b, c, d]⟩ h.1 s 1 = i.val; rw [c1]; omega
    · apply Fin.ext; show j.val - Host.clampedStart (⟨4, ![a, b, c, d]⟩ : Shape) ⟨4, ![1, b, c, d]⟩ h.1 s 2 = j.val; rw [c2]; omega
    · apply Fin.ext; show k.val - Host.clampedStart (⟨4, ![a, b, c, d]⟩ : Shape) ⟨4, ![1, b, c, d]⟩ h.1 s 3 = k.val; rw [c3]; omega
  · rename_i hin
    rw [if_neg fun hNn => hin (hiff.mpr hNn)]

theorem slice3 {a b c : ℕ} (x : (⟨3, ![a, b, c]⟩ : Shape).Idx → α) (s : Fin 3 → Int) (h : (⟨3, ![a, b, c]⟩ : Shape).Slices (fun _ => 0) ⟨3, ![1, b, c]⟩)
    (n : Fin a) (h0 : s 0 = n.val) (h1 : s 1 = 0) (h2 : s 2 = 0) (i0 : Fin 1) (i : Fin b) (j : Fin c) :
    Host.dynamicSlice ⟨3, ![1, b, c]⟩ x s h (ix3 i0 i j) = x (ix3 n i j) := by
  have hn := n.isLt
  have hi0 : i0 = 0 := Subsingleton.elim _ _
  subst hi0
  show x _ = _
  congr 1
  funext e
  fin_cases e <;> apply Fin.ext <;> simp [Host.clampedStart, h0, h1, h2, ix3] <;> omega

theorem update3 {a b c : ℕ} (x : (⟨3, ![a, b, c]⟩ : Shape).Idx → α) (u : (⟨3, ![1, b, c]⟩ : Shape).Idx → α) (s : Fin 3 → Int)
    (h : (⟨3, ![a, b, c]⟩ : Shape).Slices (fun _ => 0) ⟨3, ![1, b, c]⟩) (n : Fin a) (h0 : s 0 = n.val) (h1 : s 1 = 0) (h2 : s 2 = 0) (N : Fin a) (i : Fin b) (j : Fin c) :
    Host.dynamicUpdateSlice x u s h (ix3 N i j) = if N.val = n.val then u (ix3 0 i j) else x (ix3 N i j) := by
  have hn := n.isLt
  have hN := N.isLt
  have c0 : Host.clampedStart (⟨3, ![a, b, c]⟩ : Shape) ⟨3, ![1, b, c]⟩ h.1 s 0 = n.val := by simp [Host.clampedStart, h0]; omega
  have c1 : Host.clampedStart (⟨3, ![a, b, c]⟩ : Shape) ⟨3, ![1, b, c]⟩ h.1 s 1 = 0 := by simp [Host.clampedStart, h1]
  have c2 : Host.clampedStart (⟨3, ![a, b, c]⟩ : Shape) ⟨3, ![1, b, c]⟩ h.1 s 2 = 0 := by simp [Host.clampedStart, h2]
  rw [Host.dynamicUpdateSlice_apply]
  have hiff : (∀ e : Fin 3, Host.clampedStart (⟨3, ![a, b, c]⟩ : Shape) ⟨3, ![1, b, c]⟩ h.1 s e ≤ (ix3 N i j e).val
      ∧ (ix3 N i j e).val < Host.clampedStart (⟨3, ![a, b, c]⟩ : Shape) ⟨3, ![1, b, c]⟩ h.1 s e + (![1, b, c] : Fin 3 → ℕ) e) ↔ N.val = n.val := by
    constructor
    · intro hall
      have := hall 0
      rw [c0] at this
      simp [ix3] at this
      omega
    · intro hNn e
      fin_cases e
      · show _ ≤ N.val ∧ N.val < _
        simp only [Fin.zero_eta, c0, Matrix.cons_val_zero]; omega
      · change Host.clampedStart (⟨3, ![a, b, c]⟩ : Shape) ⟨3, ![1, b, c]⟩ h.1 s 1 ≤ i.val ∧ i.val < Host.clampedStart (⟨3, ![a, b, c]⟩ : Shape) ⟨3, ![1, b, c]⟩ h.1 s 1 + b
        rw [c1]; have := i.isLt; omega
      · change Host.clampedStart (⟨3, ![a, b, c]⟩ : Shape) ⟨3, ![1, b, c]⟩ h.1 s 2 ≤ j.val ∧ j.val < Host.clampedStart (⟨3, ![a, b, c]⟩ : Shape) ⟨3, ![1, b, c]⟩ h.1 s 2 + c
        rw [c2]; have := j.isLt; omega
  split
  · rename_i hin
    rw [if_pos (hiff.mp hin)]
    congr 1
    funext e
    fin_cases e
    · exact Subsingleton.elim (α := Fin 1) _ _
    · apply Fin.ext; show i.val - Host.clampedStart (⟨3, ![a, b, c]⟩ : Shape) ⟨3, ![1, b, c]⟩ h.1 s 1 = i.val; rw [c1]; omega
    · apply Fin.ext; show j.val - Host.clampedStart (⟨3, ![a, b, c]⟩ : Shape) ⟨3, ![1, b, c]⟩ h.1 s 2 = j.val; rw [c2]; omega
  · rename_i hin
    rw [if_neg fun hNn => hin (hiff.mpr hNn)]

/-- `i` is the chunk number `n`. -/
def Is (i : Num Ideal) (n : ℕ) : Prop := (i (Shape.Idx.first h_S_)).toInt = n

theorem takeK_apply (x : Arr Ideal S128x64x4x64) (c : Num Ideal) (n : Fin 128) (hc : Is c n) (i : Fin 64) (j : Fin 4) (k : Fin 64) :
    takeK x c (ix3 i j k) = x (ix4 n i j k) := by
  rw [← slice4 x (at4 c) sliceFits_S128x64x4x64_S1x64x4x64 n hc rfl rfl rfl 0]
  unfold takeK
  generalize Host.dynamicSlice _ x _ _ = y
  pointwise

theorem putK_apply (x : Arr Ideal S128x64x4x64) (u : Arr Ideal S64x4x64) (c : Num Ideal) (n : Fin 128) (hc : Is c n) (N : Fin 128) (i : Fin 64) (j : Fin 4) (k : Fin 64) :
    putK x u c (ix4 N i j k) = if N.val = n.val then u (ix3 i j k) else x (ix4 N i j k) := by
  unfold putK
  refine (update4 x _ (at4 c) updateFits_S128x64x4x64_S1x64x4x64 n hc rfl rfl rfl N i j k).trans ?_
  pointwise

theorem takeV_apply (x : Arr Ideal S128x64x4x128) (c : Num Ideal) (n : Fin 128) (hc : Is c n) (i : Fin 64) (j : Fin 4) (k : Fin 128) :
    takeV x c (ix3 i j k) = x (ix4 n i j k) := by
  rw [← slice4 x (at4 c) sliceFits_S128x64x4x128_S1x64x4x128 n hc rfl rfl rfl 0]
  unfold takeV
  generalize Host.dynamicSlice _ x _ _ = y
  pointwise

theorem putV_apply (x : Arr Ideal S128x64x4x128) (u : Arr Ideal S64x4x128) (c : Num Ideal) (n : Fin 128) (hc : Is c n) (N : Fin 128) (i : Fin 64) (j : Fin 4) (k : Fin 128) :
    putV x u c (ix4 N i j k) = if N.val = n.val then u (ix3 i j k) else x (ix4 N i j k) := by
  unfold putV
  refine (update4 x _ (at4 c) updateFits_S128x64x4x128_S1x64x4x128 n hc rfl rfl rfl N i j k).trans ?_
  pointwise

theorem takeL_apply (x : Arr Ideal S128x4x64) (c : Num Ideal) (n : Fin 128) (hc : Is c n) (i : Fin 4) (j : Fin 64) :
    takeL x c (ix2 i j) = x (ix3 n i j) := by
  rw [← slice3 x (at3 c) sliceFits_S128x4x64_S1x4x64 n hc rfl rfl 0]
  unfold takeL
  generalize Host.dynamicSlice _ x _ _ = y
  pointwise

theorem putL_apply (x : Arr Ideal S128x4x64) (u : Arr Ideal S4x64) (c : Num Ideal) (n : Fin 128) (hc : Is c n) (N : Fin 128) (i : Fin 4) (j : Fin 64) :
    putL x u c (ix3 N i j) = if N.val = n.val then u (ix2 i j) else x (ix3 N i j) := by
  unfold putL
  refine (update3 x _ (at3 c) updateFits_S128x4x64_S1x4x64 n hc rfl rfl N i j).trans ?_
  pointwise

theorem takeS_apply (x : Arr Ideal S128x4x64x128) (c : Num Ideal) (n : Fin 128) (hc : Is c n) (i : Fin 4) (j : Fin 64) (k : Fin 128) :
    takeS x c (ix3 i j k) = x (ix4 n i j k) := by
  rw [← slice4 x (at4 c) sliceFits_S128x4x64x128_S1x4x64x128 n hc rfl rfl rfl 0]
  unfold takeS
  generalize Host.dynamicSlice _ x _ _ = y
  pointwise

theorem putS_apply (x : Arr Ideal S128x4x64x128) (u : Arr Ideal S4x64x128) (c : Num Ideal) (n : Fin 128) (hc : Is c n) (N : Fin 128) (i : Fin 4) (j : Fin 64) (k : Fin 128) :
    putS x u c (ix4 N i j k) = if N.val = n.val then u (ix3 i j k) else x (ix4 N i j k) := by
  unfold putS
  refine (update4 x _ (at4 c) updateFits_S128x4x64x128_S1x4x64x128 n hc rfl rfl rfl N i j k).trans ?_
  pointwise

theorem takeL1_apply (x : Arr Ideal S128x4x64x1) (c : Num Ideal) (n : Fin 128) (hc : Is c n) (i : Fin 4) (j : Fin 64) (k : Fin 1) :
    takeL1 x c (ix3 i j k) = x (ix4 n i j k) := by
  obtain rfl : k = 0 := Subsingleton.elim _ _
  rw [← slice4 x (at4 c) sliceFits_S128x4x64x1_S1x4x64x1 n hc rfl rfl rfl 0]
  unfold takeL1
  generalize Host.dynamicSlice _ x _ _ = y
  pointwise

theorem putL1_apply (x : Arr Ideal S128x4x64x1) (u : Arr Ideal S4x64x1) (c : Num Ideal) (n : Fin 128) (hc : Is c n) (N : Fin 128) (i : Fin 4) (j : Fin 64) (k : Fin 1) :
    putL1 x u c (ix4 N i j k) = if N.val = n.val then u (ix3 i j k) else x (ix4 N i j k) := by
  unfold putL1
  refine (update4 x _ (at4 c) updateFits_S128x4x64x1_S1x4x64x1 n hc rfl rfl rfl N i j k).trans ?_
  obtain rfl : k = 0 := Subsingleton.elim _ _
  pointwise

/-! ## The mathematics of a chunk -/

theorem decay1_apply (lam : Arr Ideal S4x64) (h : Fin 4) (x : Fin 64) (z : Fin 1) : decay1 lam (ix3 h x z) = lam (ix2 h x) := by
  unfold decay1; pointwise
theorem decay_apply (lam : Arr Ideal S4x64x1) (h : Fin 4) (x : Fin 64) (a : Fin 128) : decay lam (ix3 h x a) = lam (ix3 h x 0) := by
  unfold decay; pointwise
theorem newState_apply (lam : Arr Ideal S4x64) (st : Arr Ideal S4x64x128) (k : Arr Ideal S64x4x64) (v : Arr Ideal S64x4x128) (h : Fin 4) (x : Fin 64) (a : Fin 128) :
    (newState lam st k v (ix3 h x a) : EReal) = st (ix3 h x a) * lam (ix2 h x) + ∑ r : Fin 64, v (ix3 r h a) * k (ix3 r h x) := by
  unfold newState decay decay1; pointwise
  rw [mul_comm]; congr 1; exact Finset.sum_congr rfl fun r _ => mul_comm _ _
theorem output_apply (st : Arr Ideal S4x64x128) (q : Arr Ideal S64x4x64) (r : Fin 64) (h : Fin 4) (a : Fin 128) :
    (output st q (ix3 r h a) : EReal) = ∑ x : Fin 64, q (ix3 r h x) * st (ix3 h x a) := by
  unfold output; pointwise
  exact Finset.sum_congr rfl fun r _ => mul_comm _ _
theorem gradQ_apply (d : Arr Ideal S64x4x128) (st : Arr Ideal S4x64x128) (r : Fin 64) (h : Fin 4) (x : Fin 64) :
    (gradQ d st (ix3 r h x) : EReal) = ∑ a : Fin 128, d (ix3 r h a) * st (ix3 h x a) := by
  unfold gradQ rowsLast; pointwise
theorem gradState_apply (c : Arr Ideal S4x64x128) (d : Arr Ideal S64x4x128) (q : Arr Ideal S64x4x64) (h : Fin 4) (x : Fin 64) (a : Fin 128) :
    (gradState c d q (ix3 h x a) : EReal) = c (ix3 h x a) + ∑ r : Fin 64, d (ix3 r h a) * q (ix3 r h x) := by
  unfold gradState rowsLast; pointwise
theorem gradV_apply (g : Arr Ideal S4x64x128) (k : Arr Ideal S64x4x64) (r : Fin 64) (h : Fin 4) (a : Fin 128) :
    (gradV g k (ix3 r h a) : EReal) = ∑ x : Fin 64, k (ix3 r h x) * g (ix3 h x a) := by
  unfold gradV; pointwise
  exact Finset.sum_congr rfl fun r _ => mul_comm _ _
theorem gradK_apply (g : Arr Ideal S4x64x128) (v : Arr Ideal S64x4x128) (r : Fin 64) (h : Fin 4) (x : Fin 64) :
    (gradK g v (ix3 r h x) : EReal) = ∑ a : Fin 128, v (ix3 r h a) * g (ix3 h x a) := by
  unfold gradK; pointwise
  exact Finset.sum_congr rfl fun r _ => mul_comm _ _
theorem gradL_apply (g b : Arr Ideal S4x64x128) (h : Fin 4) (x : Fin 64) :
    (gradL g b (ix2 h x) : EReal) = ∑ a : Fin 128, g (ix3 h x a) * b (ix3 h x a) := by
  unfold gradL; pointwise
  exact Fin.sum_univ_one _

end Cert.ReferenceIdeal.Scan

end
-- ==== Proof.RefFwd.lean ====
module

public import proofs.«01_k».proof.Proof.RefEntry
public import proofs.«01_k».proof.Proof.Args
public import Idealize.ShloMosaic.Lib.Pipeline.Value

/-! # The reference's first loop: what its arrays hold -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-- The arguments on a device. -/
def argD : Gla.Data :=
  Gla.data (m (c.tc.loc main_arg0)) (m (c.tc.loc main_arg1)) (m (c.tc.loc main_arg2))
    (m (c.tc.loc main_arg3)) (m (c.tc.loc main_arg4))

/-- Splitting the rows into chunks and the columns into heads. -/
theorem chunks_apply {w : ℕ} (X : (⟨2, ![8192, 4 * w]⟩ : Shape).Idx → EReal) (h : (⟨2, ![8192, 4 * w]⟩ : Shape).ShapeCasts ⟨4, ![128, 64, 4, w]⟩)
    (n : Fin 128) (r : Fin 64) (g : Fin 4) (x : Fin w) :
    shapeCast ⟨4, ![128, 64, 4, w]⟩ X h (ix4 n r g x) = Gla.rd X (64 * n + r) (w * g + x) := by
  have hx : w * g.val + x.val < 4 * w := by have := g.isLt; have := x.isLt; nlinarith
  rw [Gla.rd_of X _ _ (by omega) hx]
  refine shapeCast_apply X h _ _ ?_
  rw [Shape.rowMajor_val_two, Shape.rowMajor_val_four]
  show (64 * n.val + r.val) * (4 * w) + (w * g.val + x.val) = ((n.val * 64 + r.val) * 4 + g.val) * w + x.val
  ring

theorem in_q (n : Fin 128) (r : Fin 64) (g : Fin 4) (x : Fin 64) :
    (fwdIn m c (Proc.devRef .tc main_v13_0) : Arr Ideal S128x64x4x64) (ix4 n r g x) = (argD m c).q (64 * n + r) (64 * g + x) := by
  refine Eq.trans (congrFun ?_ _) (chunks_apply (w := 64) (m (c.tc.loc main_arg0)) shapeCasts_S8192x256_S128x64x4x64 n r g x)
  unfold fwdIn
  after_reads_simp
  rfl

theorem in_k (n : Fin 128) (r : Fin 64) (g : Fin 4) (x : Fin 64) :
    (fwdIn m c (Proc.devRef .tc main_v13_1) : Arr Ideal S128x64x4x64) (ix4 n r g x) = (argD m c).k (64 * n + r) (64 * g + x) := by
  refine Eq.trans (congrFun ?_ _) (chunks_apply (w := 64) (m (c.tc.loc main_arg1)) shapeCasts_S8192x256_S128x64x4x64 n r g x)
  unfold fwdIn
  after_reads_simp
  rfl

theorem in_v (n : Fin 128) (r : Fin 64) (g : Fin 4) (x : Fin 128) :
    (fwdIn m c (Proc.devRef .tc main_v13_2) : Arr Ideal S128x64x4x128) (ix4 n r g x) = (argD m c).v (64 * n + r) (128 * g + x) := by
  have e : fwdIn m c (Proc.devRef .tc main_v13_2) = shapeCast S128x64x4x128
      (extractStridedSlice S8192x512 ![0, 512] (m (c.tc.loc main_arg2)) slices_S8192x1536_S8192x512_0_512 : S8192x512.Idx → EReal) shapeCasts_S8192x512_S128x64x4x128 := by
    unfold fwdIn
    after_reads_simp
    rfl
  rw [e]
  refine (chunks_apply (w := 128) _ shapeCasts_S8192x512_S128x64x4x128 n r g x).trans ?_
  have hx : 128 * g.val + x.val < 4 * 128 := by have := g.isLt; have := x.isLt; omega
  rw [Gla.rd_of _ _ _ (by omega) hx]
  show _ = Gla.rd (m (c.tc.loc main_arg2) : S8192x1536.Idx → EReal) _ _
  rw [Gla.rd_of _ _ _ (by omega) (by omega)]
  pointwise

theorem in_lam (n : Fin 128) (g : Fin 4) (x : Fin 64) :
    (fwdIn m c (Proc.devRef .tc main_v13_3) : Arr Ideal S128x4x64) (ix3 n g x) = (argD m c).lam n (64 * g + x) := by
  have e : fwdIn m c (Proc.devRef .tc main_v13_3) = shapeCast S128x4x64 (m (c.tc.loc main_arg3) : S128x256.Idx → EReal) shapeCasts_S128x256_S128x4x64 := by
    unfold fwdIn
    after_reads_simp
    rfl
  have hx : 64 * g.val + x.val < 256 := by have := g.isLt; have := x.isLt; omega
  rw [e]
  show _ = Gla.rd (m (c.tc.loc main_arg3) : S128x256.Idx → EReal) _ _
  rw [Gla.rd_of _ _ _ (by omega) hx]
  refine shapeCast_apply (s := S128x256) (t := S128x4x64) (m (c.tc.loc main_arg3) : S128x256.Idx → EReal) _ _ _ ?_
  rw [Shape.rowMajor_val_two, Shape.rowMajor_val_three]
  show n.val * 256 + (64 * g.val + x.val) = (n.val * 4 + g.val) * 64 + x.val
  ring

theorem in_zero (g : Fin 4) (x : Fin 64) (a : Fin 128) : (fwdIn m c (Proc.devRef .tc main_v13_5) : Arr Ideal S4x64x128) (ix3 g x a) = (0 : EReal) := by
  have e : fwdIn m c (Proc.devRef .tc main_v13_5) = broadcastInDim S4x64x128 ![] bcast_S_S4x64x128 (constant S_ .f32 0x00000000#32 : FVec Ideal S_ .f32) := by
    unfold fwdIn
    after_reads_simp
    rfl
  rw [e]
  pointwise

/-! ## What no trip changes -/

theorem fwd_hold_0 : ∀ k, fwdAt m k c (Proc.devRef .tc main_v13_0) = fwdIn m c (Proc.devRef .tc main_v13_0)
  | 0 => rfl
  | k + 1 => by rw [show fwdAt m (k + 1) c = afterL fwdBody (after fwdCond (fwdAt m k c)) from rfl, fwd_trip_0, fwdCond_keep _ _ (by decide), fwd_hold_0 k]
theorem fwd_hold_1 : ∀ k, fwdAt m k c (Proc.devRef .tc main_v13_1) = fwdIn m c (Proc.devRef .tc main_v13_1)
  | 0 => rfl
  | k + 1 => by rw [show fwdAt m (k + 1) c = afterL fwdBody (after fwdCond (fwdAt m k c)) from rfl, fwd_trip_1, fwdCond_keep _ _ (by decide), fwd_hold_1 k]
theorem fwd_hold_2 : ∀ k, fwdAt m k c (Proc.devRef .tc main_v13_2) = fwdIn m c (Proc.devRef .tc main_v13_2)
  | 0 => rfl
  | k + 1 => by rw [show fwdAt m (k + 1) c = afterL fwdBody (after fwdCond (fwdAt m k c)) from rfl, fwd_trip_2, fwdCond_keep _ _ (by decide), fwd_hold_2 k]
theorem fwd_hold_3 : ∀ k, fwdAt m k c (Proc.devRef .tc main_v13_3) = fwdIn m c (Proc.devRef .tc main_v13_3)
  | 0 => rfl
  | k + 1 => by rw [show fwdAt m (k + 1) c = afterL fwdBody (after fwdCond (fwdAt m k c)) from rfl, fwd_trip_3, fwdCond_keep _ _ (by decide), fwd_hold_3 k]

theorem iv_toInt (k : ℕ) (hk : k ≤ 128) : (Scf.iv 0#32 1#32 k).toInt = k := by
  rw [show Scf.iv 0#32 1#32 k = BitVec.ofNat 32 k by simp [Scf.iv]]
  exact toInt_ofNat_of_lt (by omega)

theorem fwd_num (k : ℕ) (hk : k < 128) : Is (fwdAt m k c (Proc.devRef .tc main_v13_4)) k := by
  unfold Is
  rw [fwd_ctr]
  exact iv_toInt k (by omega)

/-! ## One trip -/

/-- The state after trip `k`. -/
def nextState (k : ℕ) : Arr Ideal S4x64x128 :=
  newState (takeL (fwdAt m k c (Proc.devRef .tc main_v13_3)) (fwdAt m k c (Proc.devRef .tc main_v13_4))) (fwdAt m k c (Proc.devRef .tc main_v13_5)) (takeK (fwdAt m k c (Proc.devRef .tc main_v13_1)) (fwdAt m k c (Proc.devRef .tc main_v13_4))) (takeV (fwdAt m k c (Proc.devRef .tc main_v13_2)) (fwdAt m k c (Proc.devRef .tc main_v13_4)))

theorem fwd_next_5 (k : ℕ) : fwdAt m (k + 1) c (Proc.devRef .tc main_v13_5) = nextState m c k := by
  rw [show fwdAt m (k + 1) c = afterL fwdBody (after fwdCond (fwdAt m k c)) from rfl, fwd_trip_5]
  simp (disch := decide) only [fwdCond_keep, nextState]
theorem fwd_next_6 (k : ℕ) : fwdAt m (k + 1) c (Proc.devRef .tc main_v13_6) = putV (fwdAt m k c (Proc.devRef .tc main_v13_6)) (output (nextState m c k) (takeK (fwdAt m k c (Proc.devRef .tc main_v13_0)) (fwdAt m k c (Proc.devRef .tc main_v13_4)))) (fwdAt m k c (Proc.devRef .tc main_v13_4)) := by
  rw [show fwdAt m (k + 1) c = afterL fwdBody (after fwdCond (fwdAt m k c)) from rfl, fwd_trip_6]
  simp (disch := decide) only [fwdCond_keep, nextState]
theorem fwd_next_7 (k : ℕ) : fwdAt m (k + 1) c (Proc.devRef .tc main_v13_7) = putS (fwdAt m k c (Proc.devRef .tc main_v13_7)) (fwdAt m k c (Proc.devRef .tc main_v13_5)) (fwdAt m k c (Proc.devRef .tc main_v13_4)) := by
  rw [show fwdAt m (k + 1) c = afterL fwdBody (after fwdCond (fwdAt m k c)) from rfl, fwd_trip_7]
  simp (disch := decide) only [fwdCond_keep, nextState]
theorem fwd_next_8 (k : ℕ) : fwdAt m (k + 1) c (Proc.devRef .tc main_v13_8) = putL1 (fwdAt m k c (Proc.devRef .tc main_v13_8)) (decay1 (takeL (fwdAt m k c (Proc.devRef .tc main_v13_3)) (fwdAt m k c (Proc.devRef .tc main_v13_4)))) (fwdAt m k c (Proc.devRef .tc main_v13_4)) := by
  rw [show fwdAt m (k + 1) c = afterL fwdBody (after fwdCond (fwdAt m k c)) from rfl, fwd_trip_8]
  simp (disch := decide) only [fwdCond_keep, nextState]
theorem fwd_next_9 (k : ℕ) : fwdAt m (k + 1) c (Proc.devRef .tc main_v13_9) = putS (fwdAt m k c (Proc.devRef .tc main_v13_9)) (nextState m c k) (fwdAt m k c (Proc.devRef .tc main_v13_4)) := by
  rw [show fwdAt m (k + 1) c = afterL fwdBody (after fwdCond (fwdAt m k c)) from rfl, fwd_trip_9]
  simp (disch := decide) only [fwdCond_keep, nextState]

theorem nextState_apply (k : ℕ) (hk : k < 128) (ih : ∀ (g : Fin 4) (x : Fin 64) (a : Fin 128), (fwdAt m k c (Proc.devRef .tc main_v13_5) : Arr Ideal S4x64x128) (ix3 g x a) = Gla.St (argD m c) k a (64 * g + x))
    (g : Fin 4) (x : Fin 64) (a : Fin 128) : nextState m c k (ix3 g x a) = Gla.St (argD m c) (k + 1) a (64 * g + x) := by
  have hn := fwd_num m c k hk
  unfold nextState
  rw [newState_apply, ih, takeL_apply _ _ ⟨k, hk⟩ hn, fwd_hold_3, in_lam, Gla.St]
  congr 1
  refine Finset.sum_congr rfl fun r _ => ?_
  rw [takeK_apply _ _ ⟨k, hk⟩ hn, takeV_apply _ _ ⟨k, hk⟩ hn, fwd_hold_1, fwd_hold_2, in_k, in_v, show (64 * g.val + x.val) / 64 = g.val by omega]

/-- Before trip `k` the state is that before chunk `k`. -/
theorem fwd_state : ∀ k, k ≤ 128 → ∀ (g : Fin 4) (x : Fin 64) (a : Fin 128),
    (fwdAt m k c (Proc.devRef .tc main_v13_5) : Arr Ideal S4x64x128) (ix3 g x a) = Gla.St (argD m c) k a (64 * g + x)
  | 0, _, g, x, a => in_zero m c g x a
  | k + 1, hk, g, x, a => by
    rw [fwd_next_5]
    exact nextState_apply m c k (by omega) (fwd_state k (by omega)) g x a

/-- Before trip `k` the outputs of the chunks before `k` are there, -/
theorem fwd_out : ∀ k, k ≤ 128 → ∀ (n : Fin 128), n.val < k → ∀ (r : Fin 64) (g : Fin 4) (a : Fin 128),
    (fwdAt m k c (Proc.devRef .tc main_v13_6) : Arr Ideal S128x64x4x128) (ix4 n r g a) = Gla.out (argD m c) (64 * n + r) (128 * g + a)
  | k + 1, hk, n, hn, r, g, a => by
    have hi := fwd_num m c k (by omega)
    rw [fwd_next_6, putV_apply _ _ _ ⟨k, by omega⟩ hi]
    split
    · rename_i h
      refine Eq.trans (α := EReal) (output_apply _ _ r g a) ?_
      rw [Gla.out, show (64 * n.val + r.val) / 64 = n.val by omega, show (128 * g.val + a.val) / 128 = g.val by omega,
        show (128 * g.val + a.val) % 128 = a.val by omega]
      refine Finset.sum_congr rfl fun x _ => ?_
      rw [takeK_apply _ _ ⟨k, by omega⟩ hi, fwd_hold_0, in_q, nextState_apply m c k (by omega) (fwd_state m c k (by omega)), h]
    · rename_i h
      exact fwd_out k (by omega) n (by have : n.val ≠ k := h; omega) r g a

/-- and the states before them, -/
theorem fwd_before : ∀ k, k ≤ 128 → ∀ (n : Fin 128), n.val < k → ∀ (g : Fin 4) (x : Fin 64) (a : Fin 128),
    (fwdAt m k c (Proc.devRef .tc main_v13_7) : Arr Ideal S128x4x64x128) (ix4 n g x a) = Gla.St (argD m c) n a (64 * g + x)
  | k + 1, hk, n, hn, g, x, a => by
    have hi := fwd_num m c k (by omega)
    rw [fwd_next_7, putS_apply _ _ _ ⟨k, by omega⟩ hi]
    split
    · rename_i h
      rw [fwd_state m c k (by omega), h]
    · rename_i h
      exact fwd_before k (by omega) n (by have : n.val ≠ k := h; omega) g x a

/-- and their decays, -/
theorem fwd_decay : ∀ k, k ≤ 128 → ∀ (n : Fin 128), n.val < k → ∀ (g : Fin 4) (x : Fin 64) (z : Fin 1),
    (fwdAt m k c (Proc.devRef .tc main_v13_8) : Arr Ideal S128x4x64x1) (ix4 n g x z) = (argD m c).lam n (64 * g + x)
  | k + 1, hk, n, hn, g, x, z => by
    have hi := fwd_num m c k (by omega)
    rw [fwd_next_8, putL1_apply _ _ _ ⟨k, by omega⟩ hi]
    split
    · rename_i h
      rw [decay1_apply, takeL_apply _ _ ⟨k, by omega⟩ hi, fwd_hold_3, in_lam, h]
    · rename_i h
      exact fwd_decay k (by omega) n (by have : n.val ≠ k := h; omega) g x z

/-- and the states after them. -/
theorem fwd_after : ∀ k, k ≤ 128 → ∀ (n : Fin 128), n.val < k → ∀ (g : Fin 4) (x : Fin 64) (a : Fin 128),
    (fwdAt m k c (Proc.devRef .tc main_v13_9) : Arr Ideal S128x4x64x128) (ix4 n g x a) = Gla.St (argD m c) (n + 1) a (64 * g + x)
  | k + 1, hk, n, hn, g, x, a => by
    have hi := fwd_num m c k (by omega)
    rw [fwd_next_9, putS_apply _ _ _ ⟨k, by omega⟩ hi]
    split
    · rename_i h
      rw [nextState_apply m c k (by omega) (fwd_state m c k (by omega)), h]
    · rename_i h
      exact fwd_after k (by omega) n (by have : n.val ≠ k := h; omega) g x a

end Cert.ReferenceIdeal.Scan

end
-- ==== Proof.RefBwd.lean ====
module

public import proofs.«01_k».proof.Proof.RefFwd

/-! # The reference's second loop, and its five results -/

@[expose] public section

noncomputable section

namespace Cert.ReferenceIdeal.Scan

open Cert.ReferenceIdeal Cert.ReferenceIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-! ## What the second loop takes from the first -/

/-- An array that neither the first loop nor the stretch after it writes. -/
def Past (b : Ref sig .tc) : Prop := b ∉ fwdCond_W ++ fwdOps_W ++ fwdOps_1_W ++ fwdOps_2_W ++ fwdOps_3_W ++ fwdOps_4_W ++ fwdOps_5_W ++ fwdOps_6_W ++ fwdOps_7_W ++ fwdOps_8_W ++ fwdOps_9_W
instance (b : Ref sig .tc) : Decidable (Past b) := by unfold Past; infer_instance

theorem fwdAt_past (b : Ref sig .tc) (hb : Past b) : ∀ k, fwdAt m k c (Proc.devRef .tc b) = fwdIn m c (Proc.devRef .tc b)
  | 0 => rfl
  | k + 1 => by
    simp only [Past, List.mem_append, not_or] at hb
    rw [show fwdAt m (k + 1) c = afterL fwdBody (after fwdCond (fwdAt m k c)) from rfl]
    simp only [afterL_cons, afterL_nil]
    rw [fwdOps_9_keep _ _ (by tauto), fwdOps_8_keep _ _ (by tauto), fwdOps_7_keep _ _ (by tauto), fwdOps_6_keep _ _ (by tauto), fwdOps_5_keep _ _ (by tauto), fwdOps_4_keep _ _ (by tauto), fwdOps_3_keep _ _ (by tauto), fwdOps_2_keep _ _ (by tauto), fwdOps_1_keep _ _ (by tauto), fwdOps_keep _ _ (by tauto), fwdCond_keep _ _ (by tauto),
      fwdAt_past b (by simpa only [Past, List.mem_append, not_or] using hb) k]

/-- The arrays after the first loop. -/
abbrev mid : Valuation τ sig (Elt Ideal) := after fwdCond (fwdAt m 128 c)

theorem mid_1 : bwdIn m c (Proc.devRef .tc main_v22_1) = fwdAt m 128 c (Proc.devRef .tc main_v13_7) := by
  have e : ∀ X : Valuation τ sig (Elt Ideal), after midOps X (Proc.devRef .tc main_v22_1) = X (Proc.devRef .tc main_v13_7) := fun X => by
    after_reads_simp
    rfl
  rw [show bwdIn m c = after midOps (after fwdCond (fwdAt m 128 c)) from rfl, e, fwdCond_keep _ _ (by decide)]
theorem mid_2 : bwdIn m c (Proc.devRef .tc main_v22_2) = fwdAt m 128 c (Proc.devRef .tc main_v13_8) := by
  have e : ∀ X : Valuation τ sig (Elt Ideal), after midOps X (Proc.devRef .tc main_v22_2) = X (Proc.devRef .tc main_v13_8) := fun X => by
    after_reads_simp
    rfl
  rw [show bwdIn m c = after midOps (after fwdCond (fwdAt m 128 c)) from rfl, e, fwdCond_keep _ _ (by decide)]
theorem mid_3 : bwdIn m c (Proc.devRef .tc main_v22_3) = fwdAt m 128 c (Proc.devRef .tc main_v7) := by
  have e : ∀ X : Valuation τ sig (Elt Ideal), after midOps X (Proc.devRef .tc main_v22_3) = X (Proc.devRef .tc main_v7) := fun X => by
    after_reads_simp
    rfl
  rw [show bwdIn m c = after midOps (after fwdCond (fwdAt m 128 c)) from rfl, e, fwdCond_keep _ _ (by decide)]
theorem mid_4 : bwdIn m c (Proc.devRef .tc main_v22_4) = fwdAt m 128 c (Proc.devRef .tc main_v6) := by
  have e : ∀ X : Valuation τ sig (Elt Ideal), after midOps X (Proc.devRef .tc main_v22_4) = X (Proc.devRef .tc main_v6) := fun X => by
    after_reads_simp
    rfl
  rw [show bwdIn m c = after midOps (after fwdCond (fwdAt m 128 c)) from rfl, e, fwdCond_keep _ _ (by decide)]
theorem mid_5 : bwdIn m c (Proc.devRef .tc main_v22_5) = fwdAt m 128 c (Proc.devRef .tc main_v5) := by
  have e : ∀ X : Valuation τ sig (Elt Ideal), after midOps X (Proc.devRef .tc main_v22_5) = X (Proc.devRef .tc main_v5) := fun X => by
    after_reads_simp
    rfl
  rw [show bwdIn m c = after midOps (after fwdCond (fwdAt m 128 c)) from rfl, e, fwdCond_keep _ _ (by decide)]
theorem mid_6 : bwdIn m c (Proc.devRef .tc main_v22_6) = fwdAt m 128 c (Proc.devRef .tc main_v13_9) := by
  have e : ∀ X : Valuation τ sig (Elt Ideal), after midOps X (Proc.devRef .tc main_v22_6) = X (Proc.devRef .tc main_v13_9) := fun X => by
    after_reads_simp
    rfl
  rw [show bwdIn m c = after midOps (after fwdCond (fwdAt m 128 c)) from rfl, e, fwdCond_keep _ _ (by decide)]
theorem mid_3' : bwdIn m c (Proc.devRef .tc main_v22_3) = fwdIn m c (Proc.devRef .tc main_v13_2) := by
  rw [mid_3, fwdAt_past _ _ _ (by decide)]
  have e : ∀ X : Valuation τ sig (Elt Ideal), after preOps X (Proc.devRef .tc main_v7) = after preOps X (Proc.devRef .tc main_v13_2) := fun X => by
    after_reads_simp
    rfl
  exact e _
theorem mid_4' : bwdIn m c (Proc.devRef .tc main_v22_4) = fwdIn m c (Proc.devRef .tc main_v13_1) := by
  rw [mid_4, fwdAt_past _ _ _ (by decide)]
  have e : ∀ X : Valuation τ sig (Elt Ideal), after preOps X (Proc.devRef .tc main_v6) = after preOps X (Proc.devRef .tc main_v13_1) := fun X => by
    after_reads_simp
    rfl
  exact e _
theorem mid_5' : bwdIn m c (Proc.devRef .tc main_v22_5) = fwdIn m c (Proc.devRef .tc main_v13_0) := by
  rw [mid_5, fwdAt_past _ _ _ (by decide)]
  have e : ∀ X : Valuation τ sig (Elt Ideal), after preOps X (Proc.devRef .tc main_v5) = after preOps X (Proc.devRef .tc main_v13_0) := fun X => by
    after_reads_simp
    rfl
  exact e _

theorem bin_d (n : Fin 128) (r : Fin 64) (g : Fin 4) (x : Fin 128) :
    (bwdIn m c (Proc.devRef .tc main_v22_0) : Arr Ideal S128x64x4x128) (ix4 n r g x) = (argD m c).d (64 * n + r) (128 * g + x) := by
  refine Eq.trans (congrFun ?_ _) (chunks_apply (w := 128) (m (c.tc.loc main_arg4)) shapeCasts_S8192x512_S128x64x4x128 n r g x)
  have e : ∀ X : Valuation τ sig (Elt Ideal), after midOps X (Proc.devRef .tc main_v22_0) = shapeCast S128x64x4x128 (X (Proc.devRef .tc main_arg4) : S8192x512.Idx → EReal) shapeCasts_S8192x512_S128x64x4x128 := fun X => by
    after_reads_simp
    rfl
  rw [show bwdIn m c = after midOps (after fwdCond (fwdAt m 128 c)) from rfl, e, fwdCond_keep _ _ (by decide), fwdAt_past _ _ _ (by decide),
    show fwdIn m c = after preOps (launchContents m c) from rfl, preOps_keep _ _ (by decide)]

theorem bin_zero (g : Fin 4) (x : Fin 64) (a : Fin 128) : (bwdIn m c (Proc.devRef .tc main_v22_8) : Arr Ideal S4x64x128) (ix3 g x a) = (0 : EReal) := by
  have e : ∀ X : Valuation τ sig (Elt Ideal), after midOps X (Proc.devRef .tc main_v22_8) = broadcastInDim S4x64x128 ![] bcast_S_S4x64x128 (constant S_ .f32 0x00000000#32 : FVec Ideal S_ .f32) := fun X => by
    after_reads_simp
    rfl
  rw [show bwdIn m c = after midOps (after fwdCond (fwdAt m 128 c)) from rfl, e]
  pointwise

/-! ## What no trip changes -/

theorem bwd_hold_0 : ∀ k, bwdAt m k c (Proc.devRef .tc main_v22_0) = bwdIn m c (Proc.devRef .tc main_v22_0)
  | 0 => rfl
  | k + 1 => by rw [show bwdAt m (k + 1) c = afterL bwdBody (after bwdCond (bwdAt m k c)) from rfl, bwd_trip_0, bwdCond_keep _ _ (by decide), bwd_hold_0 k]
theorem bwd_hold_1 : ∀ k, bwdAt m k c (Proc.devRef .tc main_v22_1) = bwdIn m c (Proc.devRef .tc main_v22_1)
  | 0 => rfl
  | k + 1 => by rw [show bwdAt m (k + 1) c = afterL bwdBody (after bwdCond (bwdAt m k c)) from rfl, bwd_trip_1, bwdCond_keep _ _ (by decide), bwd_hold_1 k]
theorem bwd_hold_2 : ∀ k, bwdAt m k c (Proc.devRef .tc main_v22_2) = bwdIn m c (Proc.devRef .tc main_v22_2)
  | 0 => rfl
  | k + 1 => by rw [show bwdAt m (k + 1) c = afterL bwdBody (after bwdCond (bwdAt m k c)) from rfl, bwd_trip_2, bwdCond_keep _ _ (by decide), bwd_hold_2 k]
theorem bwd_hold_3 : ∀ k, bwdAt m k c (Proc.devRef .tc main_v22_3) = bwdIn m c (Proc.devRef .tc main_v22_3)
  | 0 => rfl
  | k + 1 => by rw [show bwdAt m (k + 1) c = afterL bwdBody (after bwdCond (bwdAt m k c)) from rfl, bwd_trip_3, bwdCond_keep _ _ (by decide), bwd_hold_3 k]
theorem bwd_hold_4 : ∀ k, bwdAt m k c (Proc.devRef .tc main_v22_4) = bwdIn m c (Proc.devRef .tc main_v22_4)
  | 0 => rfl
  | k + 1 => by rw [show bwdAt m (k + 1) c = afterL bwdBody (after bwdCond (bwdAt m k c)) from rfl, bwd_trip_4, bwdCond_keep _ _ (by decide), bwd_hold_4 k]
theorem bwd_hold_5 : ∀ k, bwdAt m k c (Proc.devRef .tc main_v22_5) = bwdIn m c (Proc.devRef .tc main_v22_5)
  | 0 => rfl
  | k + 1 => by rw [show bwdAt m (k + 1) c = afterL bwdBody (after bwdCond (bwdAt m k c)) from rfl, bwd_trip_5, bwdCond_keep _ _ (by decide), bwd_hold_5 k]
theorem bwd_hold_6 : ∀ k, bwdAt m k c (Proc.devRef .tc main_v22_6) = bwdIn m c (Proc.devRef .tc main_v22_6)
  | 0 => rfl
  | k + 1 => by rw [show bwdAt m (k + 1) c = afterL bwdBody (after bwdCond (bwdAt m k c)) from rfl, bwd_trip_6, bwdCond_keep _ _ (by decide), bwd_hold_6 k]

/-- Trip `k` treats chunk `127 - k`. -/
theorem bwd_num (k : ℕ) (hk : k < 128) : Is (chunkOf (bwdAt m k c (Proc.devRef .tc main_v22_7))) (127 - k) := by
  unfold Is
  rw [bwd_ctr]
  have e : ((128#32 - Scf.iv 0#32 1#32 k) - 1#32 : BitVec 32) = BitVec.ofNat 32 (127 - k) := by
    rw [show Scf.iv 0#32 1#32 k = BitVec.ofNat 32 k by simp [Scf.iv]]
    interval_cases k <;> decide
  show ((128#32 - Scf.iv 0#32 1#32 k) - 1#32 : BitVec 32).toInt = _
  rw [e]
  exact toInt_ofNat_of_lt (by omega)

/-! ## One trip -/

/-- The gradient of the state after the chunk of trip `k`. -/
def stateGrad (k : ℕ) : Arr Ideal S4x64x128 :=
  gradState (bwdAt m k c (Proc.devRef .tc main_v22_8)) (takeV (bwdAt m k c (Proc.devRef .tc main_v22_0)) (chunkOf (bwdAt m k c (Proc.devRef .tc main_v22_7)))) (takeK (bwdAt m k c (Proc.devRef .tc main_v22_5)) (chunkOf (bwdAt m k c (Proc.devRef .tc main_v22_7))))

theorem bwd_next_8 (k : ℕ) : bwdAt m (k + 1) c (Proc.devRef .tc main_v22_8) = mulf (decay (takeL1 (bwdAt m k c (Proc.devRef .tc main_v22_2)) (chunkOf (bwdAt m k c (Proc.devRef .tc main_v22_7))))) (stateGrad m c k) := by
  rw [show bwdAt m (k + 1) c = afterL bwdBody (after bwdCond (bwdAt m k c)) from rfl, bwd_trip_8]
  simp (disch := decide) only [bwdCond_keep, stateGrad]
theorem bwd_next_9 (k : ℕ) : bwdAt m (k + 1) c (Proc.devRef .tc main_v22_9) = putK (bwdAt m k c (Proc.devRef .tc main_v22_9)) (gradQ (takeV (bwdAt m k c (Proc.devRef .tc main_v22_0)) (chunkOf (bwdAt m k c (Proc.devRef .tc main_v22_7)))) (takeS (bwdAt m k c (Proc.devRef .tc main_v22_6)) (chunkOf (bwdAt m k c (Proc.devRef .tc main_v22_7))))) (chunkOf (bwdAt m k c (Proc.devRef .tc main_v22_7))) := by
  rw [show bwdAt m (k + 1) c = afterL bwdBody (after bwdCond (bwdAt m k c)) from rfl, bwd_trip_9]
  simp (disch := decide) only [bwdCond_keep, stateGrad]
theorem bwd_next_10 (k : ℕ) : bwdAt m (k + 1) c (Proc.devRef .tc main_v22_10) = putK (bwdAt m k c (Proc.devRef .tc main_v22_10)) (gradK (stateGrad m c k) (takeV (bwdAt m k c (Proc.devRef .tc main_v22_3)) (chunkOf (bwdAt m k c (Proc.devRef .tc main_v22_7))))) (chunkOf (bwdAt m k c (Proc.devRef .tc main_v22_7))) := by
  rw [show bwdAt m (k + 1) c = afterL bwdBody (after bwdCond (bwdAt m k c)) from rfl, bwd_trip_10]
  simp (disch := decide) only [bwdCond_keep, stateGrad]
theorem bwd_next_11 (k : ℕ) : bwdAt m (k + 1) c (Proc.devRef .tc main_v22_11) = putV (bwdAt m k c (Proc.devRef .tc main_v22_11)) (gradV (stateGrad m c k) (takeK (bwdAt m k c (Proc.devRef .tc main_v22_4)) (chunkOf (bwdAt m k c (Proc.devRef .tc main_v22_7))))) (chunkOf (bwdAt m k c (Proc.devRef .tc main_v22_7))) := by
  rw [show bwdAt m (k + 1) c = afterL bwdBody (after bwdCond (bwdAt m k c)) from rfl, bwd_trip_11]
  simp (disch := decide) only [bwdCond_keep, stateGrad]
theorem bwd_next_12 (k : ℕ) : bwdAt m (k + 1) c (Proc.devRef .tc main_v22_12) = putL (bwdAt m k c (Proc.devRef .tc main_v22_12)) (gradL (stateGrad m c k) (takeS (bwdAt m k c (Proc.devRef .tc main_v22_1)) (chunkOf (bwdAt m k c (Proc.devRef .tc main_v22_7))))) (chunkOf (bwdAt m k c (Proc.devRef .tc main_v22_7))) := by
  rw [show bwdAt m (k + 1) c = afterL bwdBody (after bwdCond (bwdAt m k c)) from rfl, bwd_trip_12]
  simp (disch := decide) only [bwdCond_keep, stateGrad]

theorem stateGrad_apply (k : ℕ) (hk : k < 128) (ih : ∀ (g : Fin 4) (x : Fin 64) (a : Fin 128), (bwdAt m k c (Proc.devRef .tc main_v22_8) : Arr Ideal S4x64x128) (ix3 g x a) = Gla.Ca (argD m c) k a (64 * g + x))
    (g : Fin 4) (x : Fin 64) (a : Fin 128) : stateGrad m c k (ix3 g x a) = Gla.Gs (argD m c) k a (64 * g + x) := by
  have hn := bwd_num m c k hk
  unfold stateGrad
  rw [gradState_apply, ih, Gla.Gs]
  congr 1
  refine Finset.sum_congr rfl fun r _ => ?_
  rw [takeV_apply _ _ ⟨127 - k, by omega⟩ hn, takeK_apply _ _ ⟨127 - k, by omega⟩ hn, bwd_hold_0, bwd_hold_5, bin_d, mid_5', in_q, show (64 * g.val + x.val) / 64 = g.val by omega]

theorem mulf_at (A B : FVec Ideal S4x64x128 .f32) (i : S4x64x128.Idx) : (mulf A B i : EReal) = B i * A i := by
  pointwise
  exact mul_comm _ _

/-- Before trip `k` the carried gradient is that of the chunks treated. -/
theorem bwd_carry : ∀ k, k ≤ 128 → ∀ (g : Fin 4) (x : Fin 64) (a : Fin 128),
    (bwdAt m k c (Proc.devRef .tc main_v22_8) : Arr Ideal S4x64x128) (ix3 g x a) = Gla.Ca (argD m c) k a (64 * g + x)
  | 0, _, g, x, a => bin_zero m c g x a
  | k + 1, hk, g, x, a => by
    have hn := bwd_num m c k (by omega)
    rw [bwd_next_8]
    refine Eq.trans (α := EReal) (mulf_at _ _ _) ?_
    rw [decay_apply, takeL1_apply _ _ ⟨127 - k, by omega⟩ hn, bwd_hold_2, mid_2, fwd_decay m c 128 le_rfl _ (by show 127 - k < 128; omega),
      stateGrad_apply m c k (by omega) (bwd_carry k (by omega)), Gla.Ca_succ]

/-- Before trip `k` the gradients of the chunks from `128 - k` on are there: of the queries, -/
theorem bwd_dq : ∀ k, k ≤ 128 → ∀ (n : Fin 128), 128 - k ≤ n.val → ∀ (r : Fin 64) (g : Fin 4) (x : Fin 64),
    (bwdAt m k c (Proc.devRef .tc main_v22_9) : Arr Ideal S128x64x4x64) (ix4 n r g x) = Gla.dq (argD m c) (64 * n + r) (64 * g + x)
  | 0, _, n, hn, r, g, x => absurd n.isLt (by omega)
  | k + 1, hk, n, hn, r, g, x => by
    have hi := bwd_num m c k (by omega)
    rw [bwd_next_9, putK_apply _ _ _ ⟨127 - k, by omega⟩ hi]
    split
    · rename_i h
      have h : n.val = 127 - k := h
      refine Eq.trans (α := EReal) (gradQ_apply _ _ r g x) ?_
      rw [Gla.dq, show (64 * n.val + r.val) / 64 = n.val by omega, show (64 * g.val + x.val) / 64 = g.val by omega]
      refine Finset.sum_congr rfl fun a _ => ?_
      rw [takeV_apply _ _ ⟨127 - k, by omega⟩ hi, bwd_hold_0, bin_d, takeS_apply _ _ ⟨127 - k, by omega⟩ hi, bwd_hold_6, mid_6, fwd_after m c 128 le_rfl _ (by show 127 - k < 128; omega), h]
    · rename_i h
      exact bwd_dq k (by omega) n (by have : n.val ≠ 127 - k := h; omega) r g x

/-- of the keys, -/
theorem bwd_dk : ∀ k, k ≤ 128 → ∀ (n : Fin 128), 128 - k ≤ n.val → ∀ (r : Fin 64) (g : Fin 4) (x : Fin 64),
    (bwdAt m k c (Proc.devRef .tc main_v22_10) : Arr Ideal S128x64x4x64) (ix4 n r g x) = Gla.dk (argD m c) (64 * n + r) (64 * g + x)
  | 0, _, n, hn, r, g, x => absurd n.isLt (by omega)
  | k + 1, hk, n, hn, r, g, x => by
    have hi := bwd_num m c k (by omega)
    rw [bwd_next_10, putK_apply _ _ _ ⟨127 - k, by omega⟩ hi]
    split
    · rename_i h
      have h : n.val = 127 - k := h
      refine Eq.trans (α := EReal) (gradK_apply _ _ r g x) ?_
      rw [Gla.dk, show (64 * n.val + r.val) / 64 = n.val by omega, show (64 * g.val + x.val) / 64 = g.val by omega, show 127 - n.val = k by omega]
      refine Finset.sum_congr rfl fun a _ => ?_
      rw [takeV_apply _ _ ⟨127 - k, by omega⟩ hi, bwd_hold_3, mid_3', in_v, stateGrad_apply m c k (by omega) (bwd_carry m c k (by omega)), h]
    · rename_i h
      exact bwd_dk k (by omega) n (by have : n.val ≠ 127 - k := h; omega) r g x

/-- of the values, -/
theorem bwd_dv : ∀ k, k ≤ 128 → ∀ (n : Fin 128), 128 - k ≤ n.val → ∀ (r : Fin 64) (g : Fin 4) (x : Fin 128),
    (bwdAt m k c (Proc.devRef .tc main_v22_11) : Arr Ideal S128x64x4x128) (ix4 n r g x) = Gla.dv (argD m c) (64 * n + r) (128 * g + x)
  | 0, _, n, hn, r, g, x => absurd n.isLt (by omega)
  | k + 1, hk, n, hn, r, g, x => by
    have hi := bwd_num m c k (by omega)
    rw [bwd_next_11, putV_apply _ _ _ ⟨127 - k, by omega⟩ hi]
    split
    · rename_i h
      have h : n.val = 127 - k := h
      refine Eq.trans (α := EReal) (gradV_apply _ _ r g x) ?_
      rw [Gla.dv, show (64 * n.val + r.val) / 64 = n.val by omega, show (128 * g.val + x.val) / 128 = g.val by omega, show (128 * g.val + x.val) % 128 = x.val by omega, show 127 - n.val = k by omega]
      refine Finset.sum_congr rfl fun a _ => ?_
      rw [takeK_apply _ _ ⟨127 - k, by omega⟩ hi, bwd_hold_4, mid_4', in_k, stateGrad_apply m c k (by omega) (bwd_carry m c k (by omega)), h]
    · rename_i h
      exact bwd_dv k (by omega) n (by have : n.val ≠ 127 - k := h; omega) r g x

/-- and of the decays. -/
theorem bwd_dlam : ∀ k, k ≤ 128 → ∀ (n : Fin 128), 128 - k ≤ n.val → ∀ (g : Fin 4) (x : Fin 64),
    (bwdAt m k c (Proc.devRef .tc main_v22_12) : Arr Ideal S128x4x64) (ix3 n g x) = Gla.dlam (argD m c) n (64 * g + x)
  | 0, _, n, hn, g, x => absurd n.isLt (by omega)
  | k + 1, hk, n, hn, g, x => by
    have hi := bwd_num m c k (by omega)
    rw [bwd_next_12, putL_apply _ _ _ ⟨127 - k, by omega⟩ hi]
    split
    · rename_i h
      have h : n.val = 127 - k := h
      refine Eq.trans (α := EReal) (gradL_apply _ _ g x) ?_
      rw [Gla.dlam, show 127 - n.val = k by omega]
      refine Finset.sum_congr rfl fun a _ => ?_
      rw [stateGrad_apply m c k (by omega) (bwd_carry m c k (by omega)), takeS_apply _ _ ⟨127 - k, by omega⟩ hi, bwd_hold_1, mid_1, fwd_before m c 128 le_rfl _ (by show 127 - k < 128; omega), h]
    · rename_i h
      exact bwd_dlam k (by omega) n (by have : n.val ≠ 127 - k := h; omega) g x

/-! ## The results -/

/-- An array that the second loop doesn't write. -/
def Last (b : Ref sig .tc) : Prop := b ∉ bwdCond_W ++ bwdOps_W ++ bwdOps_1_W ++ bwdOps_2_W ++ bwdOps_3_W ++ bwdOps_4_W ++ bwdOps_5_W ++ bwdOps_6_W ++ bwdOps_7_W ++ bwdOps_8_W ++ bwdOps_9_W ++ bwdOps_10_W ++ bwdOps_11_W ++ bwdOps_12_W ++ bwdOps_13_W
instance (b : Ref sig .tc) : Decidable (Last b) := by unfold Last; infer_instance

theorem bwdAt_past (b : Ref sig .tc) (hb : Last b) : ∀ k, bwdAt m k c (Proc.devRef .tc b) = bwdIn m c (Proc.devRef .tc b)
  | 0 => rfl
  | k + 1 => by
    simp only [Last, List.mem_append, not_or] at hb
    rw [show bwdAt m (k + 1) c = afterL bwdBody (after bwdCond (bwdAt m k c)) from rfl]
    simp only [afterL_cons, afterL_nil]
    rw [bwdOps_13_keep _ _ (by tauto), bwdOps_12_keep _ _ (by tauto), bwdOps_11_keep _ _ (by tauto), bwdOps_10_keep _ _ (by tauto), bwdOps_9_keep _ _ (by tauto), bwdOps_8_keep _ _ (by tauto), bwdOps_7_keep _ _ (by tauto), bwdOps_6_keep _ _ (by tauto), bwdOps_5_keep _ _ (by tauto), bwdOps_4_keep _ _ (by tauto), bwdOps_3_keep _ _ (by tauto), bwdOps_2_keep _ _ (by tauto), bwdOps_1_keep _ _ (by tauto), bwdOps_keep _ _ (by tauto), bwdCond_keep _ _ (by tauto),
      bwdAt_past b (by simpa only [Last, List.mem_append, not_or] using hb) k]

/-- Putting the chunks' rows and the heads' columns back together. -/
theorem whole_apply {w : ℕ} (hw : 0 < w) (X : (⟨4, ![128, 64, 4, w]⟩ : Shape).Idx → EReal) (h : (⟨4, ![128, 64, 4, w]⟩ : Shape).ShapeCasts ⟨2, ![8192, 4 * w]⟩)
    (f : ℕ → ℕ → EReal) (hf : ∀ n r g x, X (ix4 n r g x) = f (64 * n + r) (w * g + x)) (i : Fin 8192) (j : Fin (4 * w)) :
    shapeCast ⟨2, ![8192, 4 * w]⟩ X h (ix2 i j) = f i j := by
  have hj : j.val / w < 4 := Nat.div_lt_of_lt_mul (by have := j.isLt; linarith)
  have e := hf ⟨i.val / 64, by omega⟩ ⟨i.val % 64, by omega⟩ ⟨j.val / w, hj⟩ ⟨j.val % w, Nat.mod_lt _ hw⟩
  rw [show 64 * (⟨i.val / 64, by omega⟩ : Fin 128).val + (⟨i.val % 64, by omega⟩ : Fin 64).val = i.val from Nat.div_add_mod ..,
    show w * (⟨j.val / w, hj⟩ : Fin 4).val + (⟨j.val % w, Nat.mod_lt _ hw⟩ : Fin w).val = j.val from Nat.div_add_mod ..] at e
  rw [← e]
  refine shapeCast_apply X h _ _ ?_
  rw [Shape.rowMajor_val_two, Shape.rowMajor_val_four]
  show ((i.val / 64 * 64 + i.val % 64) * 4 + j.val / w) * w + j.val % w = i.val * (4 * w) + j.val
  have h1 : i.val / 64 * 64 + i.val % 64 = i.val := Nat.div_add_mod' ..
  have h2 : j.val / w * w + j.val % w = j.val := Nat.div_add_mod' ..
  rw [h1]
  linear_combination h2

theorem fin_dv (i : Fin 8192) (j : Fin 512) : (fin m c (Proc.devRef .tc main_v24) : Arr Ideal S8192x512) (ix2 i j) = Gla.dv (argD m c) i j := by
  have e : fin m c (Proc.devRef .tc main_v24) = shapeCast S8192x512 (bwdAt m 128 c (Proc.devRef .tc main_v22_11) : Arr Ideal S128x64x4x128) shapeCasts_S128x64x4x128_S8192x512 := by
    have e' : ∀ X : Valuation τ sig (Elt Ideal), after endOps_1 X (Proc.devRef .tc main_v24) = shapeCast S8192x512 (X (Proc.devRef .tc main_v22_11) : Arr Ideal S128x64x4x128) shapeCasts_S128x64x4x128_S8192x512 := fun X => by
      after_reads_simp
      rfl
    rw [show fin m c = after endOps_1 (after endOps (after bwdCond (bwdAt m 128 c))) from rfl, e', endOps_keep _ _ (by decide), bwdCond_keep _ _ (by decide)]
  rw [e]
  exact whole_apply (w := 128) (by omega) _ _ _ (fun n r g x => bwd_dv m c 128 le_rfl n (by omega) r g x) i j

theorem fin_dk (i : Fin 8192) (j : Fin 256) : (fin m c (Proc.devRef .tc main_v25) : Arr Ideal S8192x256) (ix2 i j) = Gla.dk (argD m c) i j := by
  have e : fin m c (Proc.devRef .tc main_v25) = shapeCast S8192x256 (bwdAt m 128 c (Proc.devRef .tc main_v22_10) : Arr Ideal S128x64x4x64) shapeCasts_S128x64x4x64_S8192x256 := by
    have e' : ∀ X : Valuation τ sig (Elt Ideal), after endOps_1 X (Proc.devRef .tc main_v25) = shapeCast S8192x256 (X (Proc.devRef .tc main_v22_10) : Arr Ideal S128x64x4x64) shapeCasts_S128x64x4x64_S8192x256 := fun X => by
      after_reads_simp
      rfl
    rw [show fin m c = after endOps_1 (after endOps (after bwdCond (bwdAt m 128 c))) from rfl, e', endOps_keep _ _ (by decide), bwdCond_keep _ _ (by decide)]
  rw [e]
  exact whole_apply (w := 64) (by omega) _ _ _ (fun n r g x => bwd_dk m c 128 le_rfl n (by omega) r g x) i j

theorem fin_dq (i : Fin 8192) (j : Fin 256) : (fin m c (Proc.devRef .tc main_v26) : Arr Ideal S8192x256) (ix2 i j) = Gla.dq (argD m c) i j := by
  have e : fin m c (Proc.devRef .tc main_v26) = shapeCast S8192x256 (bwdAt m 128 c (Proc.devRef .tc main_v22_9) : Arr Ideal S128x64x4x64) shapeCasts_S128x64x4x64_S8192x256 := by
    have e' : ∀ X : Valuation τ sig (Elt Ideal), after endOps_1 X (Proc.devRef .tc main_v26) = shapeCast S8192x256 (X (Proc.devRef .tc main_v22_9) : Arr Ideal S128x64x4x64) shapeCasts_S128x64x4x64_S8192x256 := fun X => by
      after_reads_simp
      rfl
    rw [show fin m c = after endOps_1 (after endOps (after bwdCond (bwdAt m 128 c))) from rfl, e', endOps_keep _ _ (by decide), bwdCond_keep _ _ (by decide)]
  rw [e]
  exact whole_apply (w := 64) (by omega) _ _ _ (fun n r g x => bwd_dq m c 128 le_rfl n (by omega) r g x) i j

theorem fin_dlam (n : Fin 128) (j : Fin 256) : (fin m c (Proc.devRef .tc main_v23) : Arr Ideal S128x256) (ix2 n j) = Gla.dlam (argD m c) n j := by
  have e : fin m c (Proc.devRef .tc main_v23) = shapeCast S128x256 (bwdAt m 128 c (Proc.devRef .tc main_v22_12) : Arr Ideal S128x4x64) shapeCasts_S128x4x64_S128x256 := by
    have e' : ∀ X : Valuation τ sig (Elt Ideal), after endOps X (Proc.devRef .tc main_v23) = shapeCast S128x256 (X (Proc.devRef .tc main_v22_12) : Arr Ideal S128x4x64) shapeCasts_S128x4x64_S128x256 := fun X => by
      after_reads_simp
      rfl
    rw [show fin m c = after endOps_1 (after endOps (after bwdCond (bwdAt m 128 c))) from rfl, endOps_1_keep _ _ (by decide), e', bwdCond_keep _ _ (by decide)]
  have hb := bwd_dlam m c 128 le_rfl n (by omega) ⟨j.val / 64, by omega⟩ ⟨j.val % 64, by omega⟩
  rw [show 64 * (⟨j.val / 64, by omega⟩ : Fin 4).val + (⟨j.val % 64, by omega⟩ : Fin 64).val = j.val from Nat.div_add_mod ..] at hb
  rw [e, ← hb]
  refine shapeCast_apply (s := S128x4x64) (t := S128x256) (bwdAt m 128 c (Proc.devRef .tc main_v22_12) : S128x4x64.Idx → EReal) _ _ _ ?_
  rw [Shape.rowMajor_val_two, Shape.rowMajor_val_three]
  show (n.val * 4 + j.val / 64) * 64 + j.val % 64 = n.val * 256 + j.val
  omega

theorem fin_out (i : Fin 8192) (j : Fin 512) : (fin m c (Proc.devRef .tc main_v14) : Arr Ideal S8192x512) (ix2 i j) = Gla.out (argD m c) i j := by
  have e : fin m c (Proc.devRef .tc main_v14) = shapeCast S8192x512 (fwdAt m 128 c (Proc.devRef .tc main_v13_6) : Arr Ideal S128x64x4x128) shapeCasts_S128x64x4x128_S8192x512 := by
    have e' : ∀ X : Valuation τ sig (Elt Ideal), after midOps X (Proc.devRef .tc main_v14) = shapeCast S8192x512 (X (Proc.devRef .tc main_v13_6) : Arr Ideal S128x64x4x128) shapeCasts_S128x64x4x128_S8192x512 := fun X => by
      after_reads_simp
      rfl
    rw [show fin m c = after endOps_1 (after endOps (after bwdCond (bwdAt m 128 c))) from rfl, endOps_1_keep _ _ (by decide), endOps_keep _ _ (by decide), bwdCond_keep _ _ (by decide),
      bwdAt_past _ _ _ (by decide), show bwdIn m c = after midOps (after fwdCond (fwdAt m 128 c)) from rfl, e', fwdCond_keep _ _ (by decide)]
  rw [e]
  exact whole_apply (w := 128) (by omega) _ _ _ (fun n r g x => fwd_out m c 128 le_rfl n n.isLt r g x) i j

end Cert.ReferenceIdeal.Scan

end
-- ==== Proof.RefValue.lean ====
module

public import proofs.«01_k».proof.Proof.RefBwd

/-! # The reference ends with the five values -/

@[expose] public section

set_option maxRecDepth 16384

noncomputable section

namespace Cert.ReferenceIdeal.Scan

open Idealize.ShloMosaic Idealize.SL.Sem Cert.Gla Cert.ReferenceIdeal.Gen
open Cert.ReferenceIdeal

variable (m : (ℓ : Loc nD τ sig) → Buf (Elt Ideal) ℓ) (ρ : Dev nD → PrngReg) (c : Dev nD)

/-- A matrix is its entries. -/
theorem matrix {a b : ℕ} {X : (⟨2, ![a, b]⟩ : Shape).Idx → EReal} {f : ℕ → ℕ → EReal} (h : ∀ i j, X (ix2 i j) = f i j) :
    X = fun y => f (y 0) (y 1) := by
  funext y
  exact (congrArg X (eq_ix2 y)).trans (h (y 0) (y 1))

/-- A run ends with the five values, and with the arguments as they were. -/
theorem values : θ_run (defs (F := Ideal)) (onTc (τ := τ) (main (F := Ideal))) ⟨m, fun _ => 0, ρ⟩ (fun r => ∀ c : Dev nD,
      r.2.mem (c.tc.loc main_v14) = (fun y : S8192x512.Idx => (out (argD m c) (y 0) (y 1) : EReal))
      ∧ r.2.mem (c.tc.loc main_v26) = (fun y : S8192x256.Idx => (dq (argD m c) (y 0) (y 1) : EReal))
      ∧ r.2.mem (c.tc.loc main_v25) = (fun y : S8192x256.Idx => (dk (argD m c) (y 0) (y 1) : EReal))
      ∧ r.2.mem (c.tc.loc main_v24) = (fun y : S8192x512.Idx => (dv (argD m c) (y 0) (y 1) : EReal))
      ∧ r.2.mem (c.tc.loc main_v23) = (fun y : S128x256.Idx => (dlam (argD m c) (y 0) (y 1) : EReal))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c =>
    have k (a : Ref sig .tc) (hs : (Proc.devRef .tc a : DevRef τ sig).isScoped = false) (ha : Unwritten a) :
        r.2.mem (c.tc.loc a) = m (c.tc.loc a) := (h.1 c a hs).trans (fin_keep m c a ha)
    ⟨(h.1 c main_v14 (by decide)).trans (matrix (fin_out m c)), (h.1 c main_v26 (by decide)).trans (matrix (fin_dq m c)),
      (h.1 c main_v25 (by decide)).trans (matrix (fin_dk m c)), (h.1 c main_v24 (by decide)).trans (matrix (fin_dv m c)),
      (h.1 c main_v23 (by decide)).trans (matrix (fin_dlam m c)),
      k main_arg0 (by decide) (by decide), k main_arg1 (by decide) (by decide), k main_arg2 (by decide) (by decide),
      k main_arg3 (by decide) (by decide), k main_arg4 (by decide) (by decide)⟩) (run_main m ρ)

end Cert.ReferenceIdeal.Scan

end
-- ==== Proof.ScanSame.lean ====
module

public import proofs.«01_k».proof.Proof.ScanRun
public import proofs.«01_k».proof.Proof.Gen.Kernel

/-! # The kernel and its idealised program run the same code

Nothing was rewritten, so that the two have the same tables of bodies at every reading of the floats. -/

@[expose] public section

set_option maxRecDepth 16384

noncomputable section

namespace Cert.Scan

open Idealize.ShloMosaic Idealize.SL.Sem

attribute [local instance] Cert.Kernel.Gen.facts Cert.KernelIdeal.Gen.facts
variable {F : FTy → Type} [FloatOps F]

set_option maxHeartbeats 0 in
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | 1, (t, s) => rfl

theorem defs_eq : Cert.Kernel.defs (F := F) = Cert.KernelIdeal.defs (F := F) :=
  congrArg (Pipeline.defs Cert.KernelIdeal.pcfgs) defs₀_eq

end Cert.Scan

end
-- ==== Proof.lean ====
/- The calls of the kernel, one program each: their frames, and the equality of their results with the reference's over
   the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Ffn.Claims2
public import proofs.«01_k».proof.Proof.Ffn.Claims3
public import proofs.«01_k».proof.Proof.Ffn.Claims4
public import proofs.«01_k».proof.Proof.Ffn.Claims5
public import proofs.«01_k».proof.Proof.Ffn.Claims6
public import proofs.«01_k».proof.Proof.Ffn.Claims7
public import proofs.«01_k».proof.Proof.Mixer.ClaimsForward
public import proofs.«01_k».proof.Proof.Mixer.ClaimsInputs
public import proofs.«01_k».proof.Proof.Mixer.ClaimsWeights
public import proofs.«01_k».proof.Proof.Mixer.ClaimsJoined
public import proofs.«01_k».proof.Proof.Adam.FeedForward
public import proofs.«01_k».proof.Proof.Adam.Mixer
public import proofs.«01_k».proof.Proof.Adam.Small
public import proofs.«01_k».proof.Proof.Loss.Value
public import proofs.«01_k».proof.Proof.ScanValue
public import proofs.«01_k».proof.Proof.RefValue
public import proofs.«01_k».proof.Proof.ScanSame
public import Idealize.ShloMosaic.Adequacy
public import Idealize.ShloMosaic.Init

@[expose] public section

set_option maxRecDepth 16384

noncomputable section

namespace Cert.Proof

open Idealize.ShloMosaic Idealize.SL.Sem Cert.Kernel

/-- The kernel's frame: the run is the one of the idealised program, over bits. -/
theorem frame_kernel : Cert.quiescent_Kernel := fun m ρ _ => by
  have h := Cert.KernelIdeal.Scan.frame (F := Bits) m ρ
  rw [← Cert.Scan.defs_eq] at h
  exact h
theorem frame_kernelIdeal : Cert.quiescent_KernelIdeal := fun m ρ _ => Cert.KernelIdeal.Scan.frame (F := Ideal) m ρ
theorem frame_reference : Cert.quiescent_ReferenceIdeal := fun m ρ _ => Cert.ReferenceIdeal.Scan.frame (F := Ideal) m ρ

/-- Equal arguments are the same data. -/
theorem data_congr {q q' k k' gl gl' l l' d d'} (hq : q' = q) (hk : k' = k) (hg : gl' = gl) (hl : l' = l) (hd : d' = d) :
    Gla.data q' k' gl' l' d' = Gla.data q k gl l d := by
  subst hq hk hg hl hd; rfl

/-- Kernel and reference end with the same five values. -/
theorem algebraic : Cert.algebraic_KernelIdeal_ReferenceIdeal := fun m g m' g' _ h => by
  have e : ∀ c, Cert.ReferenceIdeal.Scan.argD m' c = Cert.KernelIdeal.Scan.argD m c := fun c =>
    data_congr (h c).1 (h c).2.1 (h c).2.2.1 (h c).2.2.2.1 (h c).2.2.2.2
  refine ⟨_, _, _, _, _, Cert.KernelIdeal.Scan.values m g, ?_⟩
  refine (θ_run _ _ _).mono (fun r hr c => ?_) (Cert.ReferenceIdeal.Scan.values m' g')
  have := hr c
  rw [e c] at this
  exact this

theorem claim : Cert.Claim := ⟨Cert.Kernel.Gen.facts, Cert.KernelIdeal.Gen.facts, Cert.ReferenceIdeal.Gen.facts,
  Cert.Ffn2.facts, Cert.Kernel2Ideal.Gen.facts, Cert.Reference2Ideal.Gen.facts,
  Cert.Ffn3.facts, Cert.Kernel3Ideal.Gen.facts, Cert.Reference3Ideal.Gen.facts,
  Cert.Ffn4.facts, Cert.Kernel4Ideal.Gen.facts, Cert.Reference4Ideal.Gen.facts,
  Cert.Ffn5.facts, Cert.Kernel5Ideal.Gen.facts, Cert.Reference5Ideal.Gen.facts,
  Cert.Ffn6.facts, Cert.Kernel6Ideal.Gen.facts, Cert.Reference6Ideal.Gen.facts,
  Cert.Ffn7.facts, Cert.Kernel7Ideal.Gen.facts, Cert.Reference7Ideal.Gen.facts,
  Cert.Mixer8.facts, Cert.Kernel8Ideal.Gen.facts, Cert.Reference8Ideal.Gen.facts,
  Cert.Mixer9.facts, Cert.Kernel9Ideal.Gen.facts, Cert.Reference9Ideal.Gen.facts,
  Cert.Mixer10.facts, Cert.Kernel10Ideal.Gen.facts, Cert.Reference10Ideal.Gen.facts,
  Cert.Mixer11.facts, Cert.Kernel11Ideal.Gen.facts, Cert.Reference11Ideal.Gen.facts,
  Cert.Mixer12.facts, Cert.Kernel12Ideal.Gen.facts, Cert.Reference12Ideal.Gen.facts,
  Cert.Mixer13.facts, Cert.Kernel13Ideal.Gen.facts, Cert.Reference13Ideal.Gen.facts,
  Cert.Mixer14.facts, Cert.Kernel14Ideal.Gen.facts, Cert.Reference14Ideal.Gen.facts,
  Cert.Mixer15.facts, Cert.Kernel15Ideal.Gen.facts, Cert.Reference15Ideal.Gen.facts,
  Cert.Mixer16.facts, Cert.Kernel16Ideal.Gen.facts, Cert.Reference16Ideal.Gen.facts,
  Cert.Mixer17.facts, Cert.Kernel17Ideal.Gen.facts, Cert.Reference17Ideal.Gen.facts,
  Cert.Mixer18.facts, Cert.Kernel18Ideal.Gen.facts, Cert.Reference18Ideal.Gen.facts,
  Cert.Mixer19.facts, Cert.Kernel19Ideal.Gen.facts, Cert.Reference19Ideal.Gen.facts,
  Cert.Adam20.facts, Cert.Kernel20Ideal.Gen.facts, Cert.Reference20Ideal.Gen.facts,
  Cert.Adam21.facts, Cert.Kernel21Ideal.Gen.facts, Cert.Reference21Ideal.Gen.facts,
  Cert.Adam22.facts, Cert.Kernel22Ideal.Gen.facts, Cert.Reference22Ideal.Gen.facts,
  Cert.Adam23.facts, Cert.Kernel23Ideal.Gen.facts, Cert.Reference23Ideal.Gen.facts,
  Cert.Adam24.facts, Cert.Kernel24Ideal.Gen.facts, Cert.Reference24Ideal.Gen.facts,
  Cert.Adam25.facts, Cert.Kernel25Ideal.Gen.facts, Cert.Reference25Ideal.Gen.facts,
  Cert.Adam26.facts, Cert.Kernel26Ideal.Gen.facts, Cert.Reference26Ideal.Gen.facts,
  Cert.Adam27.facts, Cert.Kernel27Ideal.Gen.facts, Cert.Reference27Ideal.Gen.facts,
  Cert.Adam28.facts, Cert.Kernel28Ideal.Gen.facts, Cert.Reference28Ideal.Gen.facts,
  Cert.Adam29.facts, Cert.Kernel29Ideal.Gen.facts, Cert.Reference29Ideal.Gen.facts,
  Cert.Loss30.facts, Cert.Kernel30Ideal.Gen.facts, Cert.Reference30Ideal.Gen.facts,
  frame_kernel, frame_kernelIdeal, frame_reference,
  Cert.Ffn2.frame, Cert.Ffn2.frameIdeal, Cert.Ffn2.frameReference,
  Cert.Ffn3.frame, Cert.Ffn3.frameIdeal, Cert.Ffn3.frameReference,
  Cert.Ffn4.frame, Cert.Ffn4.frameIdeal, Cert.Ffn4.frameReference,
  Cert.Ffn5.frame, Cert.Ffn5.frameIdeal, Cert.Ffn5.frameReference,
  Cert.Ffn6.frame, Cert.Ffn6.frameIdeal, Cert.Ffn6.frameReference,
  Cert.Ffn7.frame, Cert.Ffn7.frameIdeal, Cert.Ffn7.frameReference,
  Cert.Mixer8.frame, Cert.Mixer8.frameIdeal, Cert.Mixer8.frameReference,
  Cert.Mixer9.frame, Cert.Mixer9.frameIdeal, Cert.Mixer9.frameReference,
  Cert.Mixer10.frame, Cert.Mixer10.frameIdeal, Cert.Mixer10.frameReference,
  Cert.Mixer11.frame, Cert.Mixer11.frameIdeal, Cert.Mixer11.frameReference,
  Cert.Mixer12.frame, Cert.Mixer12.frameIdeal, Cert.Mixer12.frameReference,
  Cert.Mixer13.frame, Cert.Mixer13.frameIdeal, Cert.Mixer13.frameReference,
  Cert.Mixer14.frame, Cert.Mixer14.frameIdeal, Cert.Mixer14.frameReference,
  Cert.Mixer15.frame, Cert.Mixer15.frameIdeal, Cert.Mixer15.frameReference,
  Cert.Mixer16.frame, Cert.Mixer16.frameIdeal, Cert.Mixer16.frameReference,
  Cert.Mixer17.frame, Cert.Mixer17.frameIdeal, Cert.Mixer17.frameReference,
  Cert.Mixer18.frame, Cert.Mixer18.frameIdeal, Cert.Mixer18.frameReference,
  Cert.Mixer19.frame, Cert.Mixer19.frameIdeal, Cert.Mixer19.frameReference,
  Cert.Adam20.frame, Cert.Adam20.frameIdeal, Cert.Adam20.frameReference,
  Cert.Adam21.frame, Cert.Adam21.frameIdeal, Cert.Adam21.frameReference,
  Cert.Adam22.frame, Cert.Adam22.frameIdeal, Cert.Adam22.frameReference,
  Cert.Adam23.frame, Cert.Adam23.frameIdeal, Cert.Adam23.frameReference,
  Cert.Adam24.frame, Cert.Adam24.frameIdeal, Cert.Adam24.frameReference,
  Cert.Adam25.frame, Cert.Adam25.frameIdeal, Cert.Adam25.frameReference,
  Cert.Adam26.frame, Cert.Adam26.frameIdeal, Cert.Adam26.frameReference,
  Cert.Adam27.frame, Cert.Adam27.frameIdeal, Cert.Adam27.frameReference,
  Cert.Adam28.frame, Cert.Adam28.frameIdeal, Cert.Adam28.frameReference,
  Cert.Adam29.frame, Cert.Adam29.frameIdeal, Cert.Adam29.frameReference,
  Cert.Loss30.frame, Cert.Loss30.frameIdeal, Cert.Loss30.frameReference,
  trivial, algebraic, trivial,
  Cert.Ffn2.algebraic, trivial, Cert.Ffn3.algebraic,
  trivial, Cert.Ffn4.algebraic, trivial,
  Cert.Ffn5.algebraic, trivial, Cert.Ffn6.algebraic,
  trivial, Cert.Ffn7.algebraic, trivial,
  Cert.Mixer8.algebraic, trivial, Cert.Mixer9.algebraic,
  trivial, Cert.Mixer10.algebraic, trivial,
  Cert.Mixer11.algebraic, trivial, Cert.Mixer12.algebraic,
  trivial, Cert.Mixer13.algebraic, trivial,
  Cert.Mixer14.algebraic, trivial, Cert.Mixer15.algebraic,
  trivial, Cert.Mixer16.algebraic, trivial,
  Cert.Mixer17.algebraic, trivial, Cert.Mixer18.algebraic,
  trivial, Cert.Mixer19.algebraic, trivial,
  Cert.Adam20.algebraic, trivial, Cert.Adam21.algebraic,
  trivial, Cert.Adam22.algebraic, trivial,
  Cert.Adam23.algebraic, trivial, Cert.Adam24.algebraic,
  trivial, Cert.Adam25.algebraic, trivial,
  Cert.Adam26.algebraic, trivial, Cert.Adam27.algebraic,
  trivial, Cert.Adam28.algebraic, trivial,
  Cert.Adam29.algebraic, trivial, Cert.Loss30.algebraic⟩

end Cert.Proof

end
